-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Chunks (m : (ℓ : Loc Cert.Chunks.nD Cert.Chunks.τ Cert.Chunks.sig) → Buf (Elt Bits) ℓ) : Prop :=
  True

def Pre_ChunksIdeal (m : (ℓ : Loc Cert.ChunksIdeal.nD Cert.ChunksIdeal.τ Cert.ChunksIdeal.sig) → Buf (Elt Ideal) ℓ) : Prop :=
  True

def Pre_ChunksReferenceIdeal (m : (ℓ : Loc Cert.ChunksReferenceIdeal.nD Cert.ChunksReferenceIdeal.τ Cert.ChunksReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaReferenceIdeal (m : (ℓ : Loc Cert.MobaReferenceIdeal.nD Cert.MobaReferenceIdeal.τ Cert.MobaReferenceIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampReferenceIdeal (m : (ℓ : Loc Cert.SampReferenceIdeal.nD Cert.SampReferenceIdeal.τ Cert.SampReferenceIdeal.sig) → Buf (Elt Ideal) ℓ) : Prop :=
  True

def Pre_Late (m : (ℓ : Loc Cert.Late.nD Cert.Late.τ Cert.Late.sig) → Buf (Elt Bits) ℓ) : Prop :=
  True

def Pre_LateIdeal (m : (ℓ : Loc Cert.LateIdeal.nD Cert.LateIdeal.τ Cert.LateIdeal.sig) → Buf (Elt Ideal) ℓ) : Prop :=
  True

def Pre_LateReferenceIdeal (m : (ℓ : Loc Cert.LateReferenceIdeal.nD Cert.LateReferenceIdeal.τ Cert.LateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Chunks [hChunks : Cert.Chunks.Facts] : Prop :=
  ∀ (m : (ℓ : Loc Cert.Chunks.nD Cert.Chunks.τ Cert.Chunks.sig) → Buf (Elt Bits) ℓ) (g : Dev Cert.Chunks.nD → PrngReg), Pre_Chunks m →
    θ_run (Cert.Chunks.defs (F := Bits)) (onTc (τ := Cert.Chunks.τ) (Cert.Chunks.main (F := Bits))) ⟨m, fun _ => 0, g⟩ (fun r => (∀ c : Dev Cert.Chunks.nD,
      r.2.mem ((c.tc : Thread Cert.Chunks.nD Cert.Chunks.τ).loc Cert.Chunks.main_arg0) = m ((c.tc : Thread Cert.Chunks.nD Cert.Chunks.τ).loc Cert.Chunks.main_arg0))
      ∧ r.2.sem = fun _ => 0)

def quiescent_ChunksIdeal [hChunksIdeal : Cert.ChunksIdeal.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal m →
    θ_run (Cert.ChunksIdeal.defs (F := Ideal)) (onTc (τ := Cert.ChunksIdeal.τ) (Cert.ChunksIdeal.main (F := Ideal))) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0))
      ∧ r.2.sem = fun _ => 0)

def quiescent_ChunksReferenceIdeal [hChunksReferenceIdeal : Cert.ChunksReferenceIdeal.Facts] : Prop :=
  ∀ (m : (ℓ : Loc Cert.ChunksReferenceIdeal.nD Cert.ChunksReferenceIdeal.τ Cert.ChunksReferenceIdeal.sig) → Buf (Elt Ideal) ℓ) (g : Dev Cert.ChunksReferenceIdeal.nD → PrngReg), Pre_ChunksReferenceIdeal m →
    θ_run (Cert.ChunksReferenceIdeal.defs (F := Ideal)) (onTc (τ := Cert.ChunksReferenceIdeal.τ) (Cert.ChunksReferenceIdeal.main (F := Ideal))) ⟨m, fun _ => 0, g⟩ (fun r => (∀ c : Dev Cert.ChunksReferenceIdeal.nD,
      r.2.mem ((c.tc : Thread Cert.ChunksReferenceIdeal.nD Cert.ChunksReferenceIdeal.τ).loc Cert.ChunksReferenceIdeal.main_arg0) = m ((c.tc : Thread Cert.ChunksReferenceIdeal.nD Cert.ChunksReferenceIdeal.τ).loc Cert.ChunksReferenceIdeal.main_arg0))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaReferenceIdeal [hMobaReferenceIdeal : Cert.MobaReferenceIdeal.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1)
      ∧ r.2.mem ((c.tc : Thread Cert.Samp.nD Cert.Samp.τ).loc Cert.Samp.main_arg2) = m ((c.tc : Thread Cert.Samp.nD Cert.Samp.τ).loc Cert.Samp.main_arg2)
      ∧ r.2.mem ((c.tc : Thread Cert.Samp.nD Cert.Samp.τ).loc Cert.Samp.main_arg3) = m ((c.tc : Thread Cert.Samp.nD Cert.Samp.τ).loc Cert.Samp.main_arg3))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
      ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
      ∧ r.2.mem ((c.tc : Thread Cert.SampIdeal.nD Cert.SampIdeal.τ).loc Cert.SampIdeal.main_arg3) = m ((c.tc : Thread Cert.SampIdeal.nD Cert.SampIdeal.τ).loc Cert.SampIdeal.main_arg3))
      ∧ r.2.sem = fun _ => 0)

def quiescent_SampReferenceIdeal [hSampReferenceIdeal : Cert.SampReferenceIdeal.Facts] : Prop :=
  ∀ (m : (ℓ : Loc Cert.SampReferenceIdeal.nD Cert.SampReferenceIdeal.τ Cert.SampReferenceIdeal.sig) → Buf (Elt Ideal) ℓ) (g : Dev Cert.SampReferenceIdeal.nD → PrngReg), Pre_SampReferenceIdeal m →
    θ_run (Cert.SampReferenceIdeal.defs (F := Ideal)) (onTc (τ := Cert.SampReferenceIdeal.τ) (Cert.SampReferenceIdeal.main (F := Ideal))) ⟨m, fun _ => 0, g⟩ (fun r => (∀ c : Dev Cert.SampReferenceIdeal.nD,
      r.2.mem ((c.tc : Thread Cert.SampReferenceIdeal.nD Cert.SampReferenceIdeal.τ).loc Cert.SampReferenceIdeal.main_arg0) = m ((c.tc : Thread Cert.SampReferenceIdeal.nD Cert.SampReferenceIdeal.τ).loc Cert.SampReferenceIdeal.main_arg0)
      ∧ r.2.mem ((c.tc : Thread Cert.SampReferenceIdeal.nD Cert.SampReferenceIdeal.τ).loc Cert.SampReferenceIdeal.main_arg1) = m ((c.tc : Thread Cert.SampReferenceIdeal.nD Cert.SampReferenceIdeal.τ).loc Cert.SampReferenceIdeal.main_arg1)
      ∧ r.2.mem ((c.tc : Thread Cert.SampReferenceIdeal.nD Cert.SampReferenceIdeal.τ).loc Cert.SampReferenceIdeal.main_arg2) = m ((c.tc : Thread Cert.SampReferenceIdeal.nD Cert.SampReferenceIdeal.τ).loc Cert.SampReferenceIdeal.main_arg2)
      ∧ r.2.mem ((c.tc : Thread Cert.SampReferenceIdeal.nD Cert.SampReferenceIdeal.τ).loc Cert.SampReferenceIdeal.main_arg3) = m ((c.tc : Thread Cert.SampReferenceIdeal.nD Cert.SampReferenceIdeal.τ).loc Cert.SampReferenceIdeal.main_arg3))
      ∧ r.2.sem = fun _ => 0)

def quiescent_Late [hLate : Cert.Late.Facts] : Prop :=
  ∀ (m : (ℓ : Loc Cert.Late.nD Cert.Late.τ Cert.Late.sig) → Buf (Elt Bits) ℓ) (g : Dev Cert.Late.nD → PrngReg), Pre_Late m →
    θ_run (Cert.Late.defs (F := Bits)) (onTc (τ := Cert.Late.τ) (Cert.Late.main (F := Bits))) ⟨m, fun _ => 0, g⟩ (fun r => (∀ c : Dev Cert.Late.nD,
      r.2.mem ((c.tc : Thread Cert.Late.nD Cert.Late.τ).loc Cert.Late.main_arg0) = m ((c.tc : Thread Cert.Late.nD Cert.Late.τ).loc Cert.Late.main_arg0)
      ∧ r.2.mem ((c.tc : Thread Cert.Late.nD Cert.Late.τ).loc Cert.Late.main_arg1) = m ((c.tc : Thread Cert.Late.nD Cert.Late.τ).loc Cert.Late.main_arg1)
      ∧ r.2.mem ((c.tc : Thread Cert.Late.nD Cert.Late.τ).loc Cert.Late.main_arg2) = m ((c.tc : Thread Cert.Late.nD Cert.Late.τ).loc Cert.Late.main_arg2)
      ∧ r.2.mem ((c.tc : Thread Cert.Late.nD Cert.Late.τ).loc Cert.Late.main_arg3) = m ((c.tc : Thread Cert.Late.nD Cert.Late.τ).loc Cert.Late.main_arg3)
      ∧ r.2.mem ((c.tc : Thread Cert.Late.nD Cert.Late.τ).loc Cert.Late.main_arg4) = m ((c.tc : Thread Cert.Late.nD Cert.Late.τ).loc Cert.Late.main_arg4)
      ∧ r.2.mem ((c.tc : Thread Cert.Late.nD Cert.Late.τ).loc Cert.Late.main_arg5) = m ((c.tc : Thread Cert.Late.nD Cert.Late.τ).loc Cert.Late.main_arg5)
      ∧ r.2.mem ((c.tc : Thread Cert.Late.nD Cert.Late.τ).loc Cert.Late.main_arg6) = m ((c.tc : Thread Cert.Late.nD Cert.Late.τ).loc Cert.Late.main_arg6)
      ∧ r.2.mem ((c.tc : Thread Cert.Late.nD Cert.Late.τ).loc Cert.Late.main_arg7) = m ((c.tc : Thread Cert.Late.nD Cert.Late.τ).loc Cert.Late.main_arg7))
      ∧ r.2.sem = fun _ => 0)

def quiescent_LateIdeal [hLateIdeal : Cert.LateIdeal.Facts] : Prop :=
  ∀ (m : (ℓ : Loc Cert.LateIdeal.nD Cert.LateIdeal.τ Cert.LateIdeal.sig) → Buf (Elt Ideal) ℓ) (g : Dev Cert.LateIdeal.nD → PrngReg), Pre_LateIdeal m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
      ∧ r.2.mem ((c.tc : Thread Cert.LateIdeal.nD Cert.LateIdeal.τ).loc Cert.LateIdeal.main_arg7) = m ((c.tc : Thread Cert.LateIdeal.nD Cert.LateIdeal.τ).loc Cert.LateIdeal.main_arg7))
      ∧ r.2.sem = fun _ => 0)

def quiescent_LateReferenceIdeal [hLateReferenceIdeal : Cert.LateReferenceIdeal.Facts] : Prop :=
  ∀ (m : (ℓ : Loc Cert.LateReferenceIdeal.nD Cert.LateReferenceIdeal.τ Cert.LateReferenceIdeal.sig) → Buf (Elt Ideal) ℓ) (g : Dev Cert.LateReferenceIdeal.nD → PrngReg), Pre_LateReferenceIdeal m →
    θ_run (Cert.LateReferenceIdeal.defs (F := Ideal)) (onTc (τ := Cert.LateReferenceIdeal.τ) (Cert.LateReferenceIdeal.main (F := Ideal))) ⟨m, fun _ => 0, g⟩ (fun r => (∀ c : Dev Cert.LateReferenceIdeal.nD,
      r.2.mem ((c.tc : Thread Cert.LateReferenceIdeal.nD Cert.LateReferenceIdeal.τ).loc Cert.LateReferenceIdeal.main_arg0) = m ((c.tc : Thread Cert.LateReferenceIdeal.nD Cert.LateReferenceIdeal.τ).loc Cert.LateReferenceIdeal.main_arg0)
      ∧ r.2.mem ((c.tc : Thread Cert.LateReferenceIdeal.nD Cert.LateReferenceIdeal.τ).loc Cert.LateReferenceIdeal.main_arg1) = m ((c.tc : Thread Cert.LateReferenceIdeal.nD Cert.LateReferenceIdeal.τ).loc Cert.LateReferenceIdeal.main_arg1)
      ∧ r.2.mem ((c.tc : Thread Cert.LateReferenceIdeal.nD Cert.LateReferenceIdeal.τ).loc Cert.LateReferenceIdeal.main_arg2) = m ((c.tc : Thread Cert.LateReferenceIdeal.nD Cert.LateReferenceIdeal.τ).loc Cert.LateReferenceIdeal.main_arg2)
      ∧ r.2.mem ((c.tc : Thread Cert.LateReferenceIdeal.nD Cert.LateReferenceIdeal.τ).loc Cert.LateReferenceIdeal.main_arg3) = m ((c.tc : Thread Cert.LateReferenceIdeal.nD Cert.LateReferenceIdeal.τ).loc Cert.LateReferenceIdeal.main_arg3)
      ∧ r.2.mem ((c.tc : Thread Cert.LateReferenceIdeal.nD Cert.LateReferenceIdeal.τ).loc Cert.LateReferenceIdeal.main_arg4) = m ((c.tc : Thread Cert.LateReferenceIdeal.nD Cert.LateReferenceIdeal.τ).loc Cert.LateReferenceIdeal.main_arg4)
      ∧ r.2.mem ((c.tc : Thread Cert.LateReferenceIdeal.nD Cert.LateReferenceIdeal.τ).loc Cert.LateReferenceIdeal.main_arg5) = m ((c.tc : Thread Cert.LateReferenceIdeal.nD Cert.LateReferenceIdeal.τ).loc Cert.LateReferenceIdeal.main_arg5)
      ∧ r.2.mem ((c.tc : Thread Cert.LateReferenceIdeal.nD Cert.LateReferenceIdeal.τ).loc Cert.LateReferenceIdeal.main_arg6) = m ((c.tc : Thread Cert.LateReferenceIdeal.nD Cert.LateReferenceIdeal.τ).loc Cert.LateReferenceIdeal.main_arg6)
      ∧ r.2.mem ((c.tc : Thread Cert.LateReferenceIdeal.nD Cert.LateReferenceIdeal.τ).loc Cert.LateReferenceIdeal.main_arg7) = m ((c.tc : Thread Cert.LateReferenceIdeal.nD Cert.LateReferenceIdeal.τ).loc Cert.LateReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Chunks_ChunksIdeal : Prop :=
  True

def algebraic_ChunksIdeal_ChunksReferenceIdeal [hChunksIdeal : Cert.ChunksIdeal.Facts] [hChunksReferenceIdeal : Cert.ChunksReferenceIdeal.Facts] : Prop :=
  ∀ (m : (ℓ : Loc Cert.ChunksIdeal.nD Cert.ChunksIdeal.τ Cert.ChunksIdeal.sig) → Buf (Elt Ideal) ℓ) (g : Dev Cert.ChunksIdeal.nD → PrngReg)
    (m' : (ℓ : Loc Cert.ChunksReferenceIdeal.nD Cert.ChunksReferenceIdeal.τ Cert.ChunksReferenceIdeal.sig) → Buf (Elt Ideal) ℓ) (g' : Dev Cert.ChunksReferenceIdeal.nD → PrngReg), Pre_ChunksIdeal m →
    (∀ c : Dev Cert.ChunksIdeal.nD,
      m' ((c.tc : Thread Cert.ChunksReferenceIdeal.nD Cert.ChunksReferenceIdeal.τ).loc Cert.ChunksReferenceIdeal.main_arg0) = m ((c.tc : Thread Cert.ChunksIdeal.nD Cert.ChunksIdeal.τ).loc Cert.ChunksIdeal.main_arg0)) →
    ∃ (v0 : (c : Dev Cert.ChunksIdeal.nD) → Buf (Elt Ideal) ((c.tc : Thread Cert.ChunksIdeal.nD Cert.ChunksIdeal.τ).loc Cert.ChunksIdeal.main_v49_0)) (v1 : (c : Dev Cert.ChunksIdeal.nD) → Buf (Elt Ideal) ((c.tc : Thread Cert.ChunksIdeal.nD Cert.ChunksIdeal.τ).loc Cert.ChunksIdeal.main_v49_1)),
      θ_run (Cert.ChunksIdeal.defs (F := Ideal)) (onTc (τ := Cert.ChunksIdeal.τ) (Cert.ChunksIdeal.main (F := Ideal))) ⟨m, fun _ => 0, g⟩ (fun r => ∀ c : Dev Cert.ChunksIdeal.nD,
          r.2.mem ((c.tc : Thread Cert.ChunksIdeal.nD Cert.ChunksIdeal.τ).loc Cert.ChunksIdeal.main_v49_0) = v0 c
          ∧ r.2.mem ((c.tc : Thread Cert.ChunksIdeal.nD Cert.ChunksIdeal.τ).loc Cert.ChunksIdeal.main_v49_1) = v1 c
          ∧ r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0))
      ∧ θ_run (Cert.ChunksReferenceIdeal.defs (F := Ideal)) (onTc (τ := Cert.ChunksReferenceIdeal.τ) (Cert.ChunksReferenceIdeal.main (F := Ideal))) ⟨m', fun _ => 0, g'⟩ (fun r => ∀ c : Dev Cert.ChunksReferenceIdeal.nD,
          r.2.mem ((c.tc : Thread Cert.ChunksReferenceIdeal.nD Cert.ChunksReferenceIdeal.τ).loc Cert.ChunksReferenceIdeal.main_v16) = v0 c
          ∧ r.2.mem ((c.tc : Thread Cert.ChunksReferenceIdeal.nD Cert.ChunksReferenceIdeal.τ).loc Cert.ChunksReferenceIdeal.main_v14_4) = v1 c
          ∧ r.2.mem ((c.tc : Thread Cert.ChunksReferenceIdeal.nD Cert.ChunksReferenceIdeal.τ).loc Cert.ChunksReferenceIdeal.main_arg0) = m' ((c.tc : Thread Cert.ChunksReferenceIdeal.nD Cert.ChunksReferenceIdeal.τ).loc Cert.ChunksReferenceIdeal.main_arg0))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)) →
    ∃ (v0 : (c : Dev Cert.StepIdeal.nD) → Buf (Elt Ideal) ((c.tc : Thread Cert.StepIdeal.nD Cert.StepIdeal.τ).loc Cert.StepIdeal.main_v55_0)) (v1 : (c : Dev Cert.StepIdeal.nD) → Buf (Elt Ideal) ((c.tc : Thread Cert.StepIdeal.nD Cert.StepIdeal.τ).loc Cert.StepIdeal.main_v55_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v55_0) = v0 c
          ∧ r.2.mem ((c.tc : Thread Cert.StepIdeal.nD Cert.StepIdeal.τ).loc Cert.StepIdeal.main_v55_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v65) = v0 c
          ∧ r.2.mem ((c.tc : Thread Cert.StepReferenceIdeal.nD Cert.StepReferenceIdeal.τ).loc Cert.StepReferenceIdeal.main_v64) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v34)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v34) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v78) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Moba_MobaIdeal : Prop :=
  True

def algebraic_MobaIdeal_MobaReferenceIdeal [hMobaIdeal : Cert.MobaIdeal.Facts] [hMobaReferenceIdeal : Cert.MobaReferenceIdeal.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaReferenceIdeal.nD Cert.MobaReferenceIdeal.τ Cert.MobaReferenceIdeal.sig) → Buf (Elt Ideal) ℓ) (g' : Dev Cert.MobaReferenceIdeal.nD → PrngReg), Pre_MobaIdeal m →
    (∀ c : Dev Cert.MobaIdeal.nD,
      m' ((c.tc : Thread Cert.MobaReferenceIdeal.nD Cert.MobaReferenceIdeal.τ).loc Cert.MobaReferenceIdeal.main_arg0) = m ((c.tc : Thread Cert.MobaIdeal.nD Cert.MobaIdeal.τ).loc Cert.MobaIdeal.main_arg0)
      ∧ m' ((c.tc : Thread Cert.MobaReferenceIdeal.nD Cert.MobaReferenceIdeal.τ).loc Cert.MobaReferenceIdeal.main_arg1) = m ((c.tc : Thread Cert.MobaIdeal.nD Cert.MobaIdeal.τ).loc Cert.MobaIdeal.main_arg1)
      ∧ m' ((c.tc : Thread Cert.MobaReferenceIdeal.nD Cert.MobaReferenceIdeal.τ).loc Cert.MobaReferenceIdeal.main_arg2) = m ((c.tc : Thread Cert.MobaIdeal.nD Cert.MobaIdeal.τ).loc Cert.MobaIdeal.main_arg2)
      ∧ m' ((c.tc : Thread Cert.MobaReferenceIdeal.nD Cert.MobaReferenceIdeal.τ).loc Cert.MobaReferenceIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v34_0)) (v1 : (c : Dev Cert.MobaIdeal.nD) → Buf (Elt Ideal) ((c.tc : Thread Cert.MobaIdeal.nD Cert.MobaIdeal.τ).loc Cert.MobaIdeal.main_v34_1)) (v2 : (c : Dev Cert.MobaIdeal.nD) → Buf (Elt Ideal) ((c.tc : Thread Cert.MobaIdeal.nD Cert.MobaIdeal.τ).loc Cert.MobaIdeal.main_v34_2)) (v3 : (c : Dev Cert.MobaIdeal.nD) → Buf (Elt Ideal) ((c.tc : Thread Cert.MobaIdeal.nD Cert.MobaIdeal.τ).loc Cert.MobaIdeal.main_v34_3)) (v4 : (c : Dev Cert.MobaIdeal.nD) → Buf (Elt Ideal) ((c.tc : Thread Cert.MobaIdeal.nD Cert.MobaIdeal.τ).loc Cert.MobaIdeal.main_v34_4)) (v5 : (c : Dev Cert.MobaIdeal.nD) → Buf (Elt Ideal) ((c.tc : Thread Cert.MobaIdeal.nD Cert.MobaIdeal.τ).loc Cert.MobaIdeal.main_v34_5)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v34_0) = v0 c
          ∧ r.2.mem ((c.tc : Thread Cert.MobaIdeal.nD Cert.MobaIdeal.τ).loc Cert.MobaIdeal.main_v34_1) = v1 c
          ∧ r.2.mem ((c.tc : Thread Cert.MobaIdeal.nD Cert.MobaIdeal.τ).loc Cert.MobaIdeal.main_v34_2) = v2 c
          ∧ r.2.mem ((c.tc : Thread Cert.MobaIdeal.nD Cert.MobaIdeal.τ).loc Cert.MobaIdeal.main_v34_3) = v3 c
          ∧ r.2.mem ((c.tc : Thread Cert.MobaIdeal.nD Cert.MobaIdeal.τ).loc Cert.MobaIdeal.main_v34_4) = v4 c
          ∧ r.2.mem ((c.tc : Thread Cert.MobaIdeal.nD Cert.MobaIdeal.τ).loc Cert.MobaIdeal.main_v34_5) = v5 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaReferenceIdeal.defs (F := Ideal)) (onTc (τ := Cert.MobaReferenceIdeal.τ) (Cert.MobaReferenceIdeal.main (F := Ideal))) ⟨m', fun _ => 0, g'⟩ (fun r => ∀ c : Dev Cert.MobaReferenceIdeal.nD,
          r.2.mem ((c.tc : Thread Cert.MobaReferenceIdeal.nD Cert.MobaReferenceIdeal.τ).loc Cert.MobaReferenceIdeal.main_v83) = v0 c
          ∧ r.2.mem ((c.tc : Thread Cert.MobaReferenceIdeal.nD Cert.MobaReferenceIdeal.τ).loc Cert.MobaReferenceIdeal.main_v80) = v1 c
          ∧ r.2.mem ((c.tc : Thread Cert.MobaReferenceIdeal.nD Cert.MobaReferenceIdeal.τ).loc Cert.MobaReferenceIdeal.main_v81) = v2 c
          ∧ r.2.mem ((c.tc : Thread Cert.MobaReferenceIdeal.nD Cert.MobaReferenceIdeal.τ).loc Cert.MobaReferenceIdeal.main_v84) = v3 c
          ∧ r.2.mem ((c.tc : Thread Cert.MobaReferenceIdeal.nD Cert.MobaReferenceIdeal.τ).loc Cert.MobaReferenceIdeal.main_v86) = v4 c
          ∧ r.2.mem ((c.tc : Thread Cert.MobaReferenceIdeal.nD Cert.MobaReferenceIdeal.τ).loc Cert.MobaReferenceIdeal.main_v87) = v5 c
          ∧ r.2.mem ((c.tc : Thread Cert.MobaReferenceIdeal.nD Cert.MobaReferenceIdeal.τ).loc Cert.MobaReferenceIdeal.main_arg0) = m' ((c.tc : Thread Cert.MobaReferenceIdeal.nD Cert.MobaReferenceIdeal.τ).loc Cert.MobaReferenceIdeal.main_arg0)
          ∧ r.2.mem ((c.tc : Thread Cert.MobaReferenceIdeal.nD Cert.MobaReferenceIdeal.τ).loc Cert.MobaReferenceIdeal.main_arg1) = m' ((c.tc : Thread Cert.MobaReferenceIdeal.nD Cert.MobaReferenceIdeal.τ).loc Cert.MobaReferenceIdeal.main_arg1)
          ∧ r.2.mem ((c.tc : Thread Cert.MobaReferenceIdeal.nD Cert.MobaReferenceIdeal.τ).loc Cert.MobaReferenceIdeal.main_arg2) = m' ((c.tc : Thread Cert.MobaReferenceIdeal.nD Cert.MobaReferenceIdeal.τ).loc Cert.MobaReferenceIdeal.main_arg2)
          ∧ r.2.mem ((c.tc : Thread Cert.MobaReferenceIdeal.nD Cert.MobaReferenceIdeal.τ).loc Cert.MobaReferenceIdeal.main_arg3) = m' ((c.tc : Thread Cert.MobaReferenceIdeal.nD Cert.MobaReferenceIdeal.τ).loc Cert.MobaReferenceIdeal.main_arg3))

def preserves_Samp_SampIdeal : Prop :=
  True

def algebraic_SampIdeal_SampReferenceIdeal [hSampIdeal : Cert.SampIdeal.Facts] [hSampReferenceIdeal : Cert.SampReferenceIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampReferenceIdeal.nD Cert.SampReferenceIdeal.τ Cert.SampReferenceIdeal.sig) → Buf (Elt Ideal) ℓ) (g' : Dev Cert.SampReferenceIdeal.nD → PrngReg), Pre_SampIdeal m →
    (∀ c : Dev Cert.SampIdeal.nD,
      m' ((c.tc : Thread Cert.SampReferenceIdeal.nD Cert.SampReferenceIdeal.τ).loc Cert.SampReferenceIdeal.main_arg0) = m ((c.tc : Thread Cert.SampIdeal.nD Cert.SampIdeal.τ).loc Cert.SampIdeal.main_arg0)
      ∧ m' ((c.tc : Thread Cert.SampReferenceIdeal.nD Cert.SampReferenceIdeal.τ).loc Cert.SampReferenceIdeal.main_arg1) = m ((c.tc : Thread Cert.SampIdeal.nD Cert.SampIdeal.τ).loc Cert.SampIdeal.main_arg1)
      ∧ m' ((c.tc : Thread Cert.SampReferenceIdeal.nD Cert.SampReferenceIdeal.τ).loc Cert.SampReferenceIdeal.main_arg2) = m ((c.tc : Thread Cert.SampIdeal.nD Cert.SampIdeal.τ).loc Cert.SampIdeal.main_arg2)
      ∧ m' ((c.tc : Thread Cert.SampReferenceIdeal.nD Cert.SampReferenceIdeal.τ).loc Cert.SampReferenceIdeal.main_arg3) = m ((c.tc : Thread Cert.SampIdeal.nD Cert.SampIdeal.τ).loc Cert.SampIdeal.main_arg3)) →
    ∃ (v0 : (c : Dev Cert.SampIdeal.nD) → Buf (Elt Ideal) ((c.tc : Thread Cert.SampIdeal.nD Cert.SampIdeal.τ).loc Cert.SampIdeal.main_v35_0)) (v1 : (c : Dev Cert.SampIdeal.nD) → Buf (Elt Ideal) ((c.tc : Thread Cert.SampIdeal.nD Cert.SampIdeal.τ).loc Cert.SampIdeal.main_v35_1)) (v2 : (c : Dev Cert.SampIdeal.nD) → Buf (Elt Ideal) ((c.tc : Thread Cert.SampIdeal.nD Cert.SampIdeal.τ).loc Cert.SampIdeal.main_v35_2)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v35_0) = v0 c
          ∧ r.2.mem ((c.tc : Thread Cert.SampIdeal.nD Cert.SampIdeal.τ).loc Cert.SampIdeal.main_v35_1) = v1 c
          ∧ r.2.mem ((c.tc : Thread Cert.SampIdeal.nD Cert.SampIdeal.τ).loc Cert.SampIdeal.main_v35_2) = v2 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
          ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
          ∧ r.2.mem ((c.tc : Thread Cert.SampIdeal.nD Cert.SampIdeal.τ).loc Cert.SampIdeal.main_arg3) = m ((c.tc : Thread Cert.SampIdeal.nD Cert.SampIdeal.τ).loc Cert.SampIdeal.main_arg3))
      ∧ θ_run (Cert.SampReferenceIdeal.defs (F := Ideal)) (onTc (τ := Cert.SampReferenceIdeal.τ) (Cert.SampReferenceIdeal.main (F := Ideal))) ⟨m', fun _ => 0, g'⟩ (fun r => ∀ c : Dev Cert.SampReferenceIdeal.nD,
          r.2.mem ((c.tc : Thread Cert.SampReferenceIdeal.nD Cert.SampReferenceIdeal.τ).loc Cert.SampReferenceIdeal.main_v76) = v0 c
          ∧ r.2.mem ((c.tc : Thread Cert.SampReferenceIdeal.nD Cert.SampReferenceIdeal.τ).loc Cert.SampReferenceIdeal.main_v77) = v1 c
          ∧ r.2.mem ((c.tc : Thread Cert.SampReferenceIdeal.nD Cert.SampReferenceIdeal.τ).loc Cert.SampReferenceIdeal.main_v78) = v2 c
          ∧ r.2.mem ((c.tc : Thread Cert.SampReferenceIdeal.nD Cert.SampReferenceIdeal.τ).loc Cert.SampReferenceIdeal.main_arg0) = m' ((c.tc : Thread Cert.SampReferenceIdeal.nD Cert.SampReferenceIdeal.τ).loc Cert.SampReferenceIdeal.main_arg0)
          ∧ r.2.mem ((c.tc : Thread Cert.SampReferenceIdeal.nD Cert.SampReferenceIdeal.τ).loc Cert.SampReferenceIdeal.main_arg1) = m' ((c.tc : Thread Cert.SampReferenceIdeal.nD Cert.SampReferenceIdeal.τ).loc Cert.SampReferenceIdeal.main_arg1)
          ∧ r.2.mem ((c.tc : Thread Cert.SampReferenceIdeal.nD Cert.SampReferenceIdeal.τ).loc Cert.SampReferenceIdeal.main_arg2) = m' ((c.tc : Thread Cert.SampReferenceIdeal.nD Cert.SampReferenceIdeal.τ).loc Cert.SampReferenceIdeal.main_arg2)
          ∧ r.2.mem ((c.tc : Thread Cert.SampReferenceIdeal.nD Cert.SampReferenceIdeal.τ).loc Cert.SampReferenceIdeal.main_arg3) = m' ((c.tc : Thread Cert.SampReferenceIdeal.nD Cert.SampReferenceIdeal.τ).loc Cert.SampReferenceIdeal.main_arg3))

def preserves_Late_LateIdeal : Prop :=
  True

def algebraic_LateIdeal_LateReferenceIdeal [hLateIdeal : Cert.LateIdeal.Facts] [hLateReferenceIdeal : Cert.LateReferenceIdeal.Facts] : Prop :=
  ∀ (m : (ℓ : Loc Cert.LateIdeal.nD Cert.LateIdeal.τ Cert.LateIdeal.sig) → Buf (Elt Ideal) ℓ) (g : Dev Cert.LateIdeal.nD → PrngReg)
    (m' : (ℓ : Loc Cert.LateReferenceIdeal.nD Cert.LateReferenceIdeal.τ Cert.LateReferenceIdeal.sig) → Buf (Elt Ideal) ℓ) (g' : Dev Cert.LateReferenceIdeal.nD → PrngReg), Pre_LateIdeal m →
    (∀ c : Dev Cert.LateIdeal.nD,
      m' ((c.tc : Thread Cert.LateReferenceIdeal.nD Cert.LateReferenceIdeal.τ).loc Cert.LateReferenceIdeal.main_arg0) = m ((c.tc : Thread Cert.LateIdeal.nD Cert.LateIdeal.τ).loc Cert.LateIdeal.main_arg0)
      ∧ m' ((c.tc : Thread Cert.LateReferenceIdeal.nD Cert.LateReferenceIdeal.τ).loc Cert.LateReferenceIdeal.main_arg1) = m ((c.tc : Thread Cert.LateIdeal.nD Cert.LateIdeal.τ).loc Cert.LateIdeal.main_arg1)
      ∧ m' ((c.tc : Thread Cert.LateReferenceIdeal.nD Cert.LateReferenceIdeal.τ).loc Cert.LateReferenceIdeal.main_arg2) = m ((c.tc : Thread Cert.LateIdeal.nD Cert.LateIdeal.τ).loc Cert.LateIdeal.main_arg2)
      ∧ m' ((c.tc : Thread Cert.LateReferenceIdeal.nD Cert.LateReferenceIdeal.τ).loc Cert.LateReferenceIdeal.main_arg3) = m ((c.tc : Thread Cert.LateIdeal.nD Cert.LateIdeal.τ).loc Cert.LateIdeal.main_arg3)
      ∧ m' ((c.tc : Thread Cert.LateReferenceIdeal.nD Cert.LateReferenceIdeal.τ).loc Cert.LateReferenceIdeal.main_arg4) = m ((c.tc : Thread Cert.LateIdeal.nD Cert.LateIdeal.τ).loc Cert.LateIdeal.main_arg4)
      ∧ m' ((c.tc : Thread Cert.LateReferenceIdeal.nD Cert.LateReferenceIdeal.τ).loc Cert.LateReferenceIdeal.main_arg5) = m ((c.tc : Thread Cert.LateIdeal.nD Cert.LateIdeal.τ).loc Cert.LateIdeal.main_arg5)
      ∧ m' ((c.tc : Thread Cert.LateReferenceIdeal.nD Cert.LateReferenceIdeal.τ).loc Cert.LateReferenceIdeal.main_arg6) = m ((c.tc : Thread Cert.LateIdeal.nD Cert.LateIdeal.τ).loc Cert.LateIdeal.main_arg6)
      ∧ m' ((c.tc : Thread Cert.LateReferenceIdeal.nD Cert.LateReferenceIdeal.τ).loc Cert.LateReferenceIdeal.main_arg7) = m ((c.tc : Thread Cert.LateIdeal.nD Cert.LateIdeal.τ).loc Cert.LateIdeal.main_arg7)) →
    ∃ (v0 : (c : Dev Cert.LateIdeal.nD) → Buf (Elt Ideal) ((c.tc : Thread Cert.LateIdeal.nD Cert.LateIdeal.τ).loc Cert.LateIdeal.main_v77_0)) (v1 : (c : Dev Cert.LateIdeal.nD) → Buf (Elt Ideal) ((c.tc : Thread Cert.LateIdeal.nD Cert.LateIdeal.τ).loc Cert.LateIdeal.main_v77_1)),
      θ_run (Cert.LateIdeal.defs (F := Ideal)) (onTc (τ := Cert.LateIdeal.τ) (Cert.LateIdeal.main (F := Ideal))) ⟨m, fun _ => 0, g⟩ (fun r => ∀ c : Dev Cert.LateIdeal.nD,
          r.2.mem ((c.tc : Thread Cert.LateIdeal.nD Cert.LateIdeal.τ).loc Cert.LateIdeal.main_v77_0) = v0 c
          ∧ r.2.mem ((c.tc : Thread Cert.LateIdeal.nD Cert.LateIdeal.τ).loc Cert.LateIdeal.main_v77_1) = v1 c
          ∧ r.2.mem ((c.tc : Thread Cert.LateIdeal.nD Cert.LateIdeal.τ).loc Cert.LateIdeal.main_arg0) = m ((c.tc : Thread Cert.LateIdeal.nD Cert.LateIdeal.τ).loc Cert.LateIdeal.main_arg0)
          ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
          ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
          ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
          ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
          ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
          ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
          ∧ r.2.mem ((c.tc : Thread Cert.LateIdeal.nD Cert.LateIdeal.τ).loc Cert.LateIdeal.main_arg7) = m ((c.tc : Thread Cert.LateIdeal.nD Cert.LateIdeal.τ).loc Cert.LateIdeal.main_arg7))
      ∧ θ_run (Cert.LateReferenceIdeal.defs (F := Ideal)) (onTc (τ := Cert.LateReferenceIdeal.τ) (Cert.LateReferenceIdeal.main (F := Ideal))) ⟨m', fun _ => 0, g'⟩ (fun r => ∀ c : Dev Cert.LateReferenceIdeal.nD,
          r.2.mem ((c.tc : Thread Cert.LateReferenceIdeal.nD Cert.LateReferenceIdeal.τ).loc Cert.LateReferenceIdeal.main_v56) = v0 c
          ∧ r.2.mem ((c.tc : Thread Cert.LateReferenceIdeal.nD Cert.LateReferenceIdeal.τ).loc Cert.LateReferenceIdeal.main_v57) = v1 c
          ∧ r.2.mem ((c.tc : Thread Cert.LateReferenceIdeal.nD Cert.LateReferenceIdeal.τ).loc Cert.LateReferenceIdeal.main_arg0) = m' ((c.tc : Thread Cert.LateReferenceIdeal.nD Cert.LateReferenceIdeal.τ).loc Cert.LateReferenceIdeal.main_arg0)
          ∧ r.2.mem ((c.tc : Thread Cert.LateReferenceIdeal.nD Cert.LateReferenceIdeal.τ).loc Cert.LateReferenceIdeal.main_arg1) = m' ((c.tc : Thread Cert.LateReferenceIdeal.nD Cert.LateReferenceIdeal.τ).loc Cert.LateReferenceIdeal.main_arg1)
          ∧ r.2.mem ((c.tc : Thread Cert.LateReferenceIdeal.nD Cert.LateReferenceIdeal.τ).loc Cert.LateReferenceIdeal.main_arg2) = m' ((c.tc : Thread Cert.LateReferenceIdeal.nD Cert.LateReferenceIdeal.τ).loc Cert.LateReferenceIdeal.main_arg2)
          ∧ r.2.mem ((c.tc : Thread Cert.LateReferenceIdeal.nD Cert.LateReferenceIdeal.τ).loc Cert.LateReferenceIdeal.main_arg3) = m' ((c.tc : Thread Cert.LateReferenceIdeal.nD Cert.LateReferenceIdeal.τ).loc Cert.LateReferenceIdeal.main_arg3)
          ∧ r.2.mem ((c.tc : Thread Cert.LateReferenceIdeal.nD Cert.LateReferenceIdeal.τ).loc Cert.LateReferenceIdeal.main_arg4) = m' ((c.tc : Thread Cert.LateReferenceIdeal.nD Cert.LateReferenceIdeal.τ).loc Cert.LateReferenceIdeal.main_arg4)
          ∧ r.2.mem ((c.tc : Thread Cert.LateReferenceIdeal.nD Cert.LateReferenceIdeal.τ).loc Cert.LateReferenceIdeal.main_arg5) = m' ((c.tc : Thread Cert.LateReferenceIdeal.nD Cert.LateReferenceIdeal.τ).loc Cert.LateReferenceIdeal.main_arg5)
          ∧ r.2.mem ((c.tc : Thread Cert.LateReferenceIdeal.nD Cert.LateReferenceIdeal.τ).loc Cert.LateReferenceIdeal.main_arg6) = m' ((c.tc : Thread Cert.LateReferenceIdeal.nD Cert.LateReferenceIdeal.τ).loc Cert.LateReferenceIdeal.main_arg6)
          ∧ r.2.mem ((c.tc : Thread Cert.LateReferenceIdeal.nD Cert.LateReferenceIdeal.τ).loc Cert.LateReferenceIdeal.main_arg7) = m' ((c.tc : Thread Cert.LateReferenceIdeal.nD Cert.LateReferenceIdeal.τ).loc Cert.LateReferenceIdeal.main_arg7))

def Claim : Prop :=
  ∃ (hKernel : Cert.Kernel.Facts) (hKernelIdeal : Cert.KernelIdeal.Facts) (hReferenceIdeal : Cert.ReferenceIdeal.Facts) (hChunks : Cert.Chunks.Facts) (hChunksIdeal : Cert.ChunksIdeal.Facts) (hChunksReferenceIdeal : Cert.ChunksReferenceIdeal.Facts) (hStep : Cert.Step.Facts) (hStepIdeal : Cert.StepIdeal.Facts) (hStepReferenceIdeal : Cert.StepReferenceIdeal.Facts) (hProj : Cert.Proj.Facts) (hProjIdeal : Cert.ProjIdeal.Facts) (hProjReferenceIdeal : Cert.ProjReferenceIdeal.Facts) (hMoba : Cert.Moba.Facts) (hMobaIdeal : Cert.MobaIdeal.Facts) (hMobaReferenceIdeal : Cert.MobaReferenceIdeal.Facts) (hSamp : Cert.Samp.Facts) (hSampIdeal : Cert.SampIdeal.Facts) (hSampReferenceIdeal : Cert.SampReferenceIdeal.Facts) (hLate : Cert.Late.Facts) (hLateIdeal : Cert.LateIdeal.Facts) (hLateReferenceIdeal : Cert.LateReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Chunks (hChunks := hChunks)
    ∧ quiescent_ChunksIdeal (hChunksIdeal := hChunksIdeal)
    ∧ quiescent_ChunksReferenceIdeal (hChunksReferenceIdeal := hChunksReferenceIdeal)
    ∧ quiescent_Step (hStep := hStep)
    ∧ quiescent_StepIdeal (hStepIdeal := hStepIdeal)
    ∧ quiescent_StepReferenceIdeal (hStepReferenceIdeal := hStepReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Moba (hMoba := hMoba)
    ∧ quiescent_MobaIdeal (hMobaIdeal := hMobaIdeal)
    ∧ quiescent_MobaReferenceIdeal (hMobaReferenceIdeal := hMobaReferenceIdeal)
    ∧ quiescent_Samp (hSamp := hSamp)
    ∧ quiescent_SampIdeal (hSampIdeal := hSampIdeal)
    ∧ quiescent_SampReferenceIdeal (hSampReferenceIdeal := hSampReferenceIdeal)
    ∧ quiescent_Late (hLate := hLate)
    ∧ quiescent_LateIdeal (hLateIdeal := hLateIdeal)
    ∧ quiescent_LateReferenceIdeal (hLateReferenceIdeal := hLateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Chunks_ChunksIdeal
    ∧ algebraic_ChunksIdeal_ChunksReferenceIdeal (hChunksIdeal := hChunksIdeal) (hChunksReferenceIdeal := hChunksReferenceIdeal)
    ∧ preserves_Step_StepIdeal
    ∧ algebraic_StepIdeal_StepReferenceIdeal (hStepIdeal := hStepIdeal) (hStepReferenceIdeal := hStepReferenceIdeal)
    ∧ preserves_Proj_ProjIdeal
    ∧ algebraic_ProjIdeal_ProjReferenceIdeal (hProjIdeal := hProjIdeal) (hProjReferenceIdeal := hProjReferenceIdeal)
    ∧ preserves_Moba_MobaIdeal
    ∧ algebraic_MobaIdeal_MobaReferenceIdeal (hMobaIdeal := hMobaIdeal) (hMobaReferenceIdeal := hMobaReferenceIdeal)
    ∧ preserves_Samp_SampIdeal
    ∧ algebraic_SampIdeal_SampReferenceIdeal (hSampIdeal := hSampIdeal) (hSampReferenceIdeal := hSampReferenceIdeal)
    ∧ preserves_Late_LateIdeal
    ∧ algebraic_LateIdeal_LateReferenceIdeal (hLateIdeal := hLateIdeal) (hLateReferenceIdeal := hLateReferenceIdeal)
-- ==== Pre_finite.lean ====
abbrev S2x8192x8x256 : Shape := ⟨4, ![2, 8192, 8, 256]⟩
abbrev S2x8192x8x64 : Shape := ⟨4, ![2, 8192, 8, 64]⟩
abbrev S2x8192x256 : Shape := ⟨3, ![2, 8192, 256]⟩
abbrev S2x8192x64 : Shape := ⟨3, ![2, 8192, 64]⟩
abbrev S_ : Shape := ⟨0, ![]⟩

class Facts : Prop where
  bcast_S_S2x8192x8x256 : S_.BroadcastsInDim S2x8192x8x256 (![] : Fin 0 → Fin S2x8192x8x256.rank)
  bcast_S_S2x8192x8x64 : S_.BroadcastsInDim S2x8192x8x64 (![] : Fin 0 → Fin S2x8192x8x64.rank)
  bcast_S_S2x8192x256 : S_.BroadcastsInDim S2x8192x256 (![] : Fin 0 → Fin S2x8192x256.rank)
  bcast_S_S2x8192x64 : S_.BroadcastsInDim S2x8192x64 (![] : Fin 0 → Fin S2x8192x64.rank)

variable [Facts]

def fn {F : FTy → Type} [FloatOps F] (main_arg0 : FVec F S2x8192x8x256 .f32) (main_arg1 : FVec F S2x8192x8x64 .f32) (main_arg2 : FVec F S2x8192x256 .f32) (main_arg3 : FVec F S2x8192x64 .f32) : IVec S2x8192x8x256 1 × IVec S2x8192x8x64 1 × IVec S2x8192x256 1 × IVec S2x8192x64 1 :=
  let main_v0 : FVec F S2x8192x8x256 .f32 := Host.absf main_arg0
  let main_cst : FVec F S_ .f32 := constant S_ .f32 0x7F800000#32
  let main_v1 : FVec F S2x8192x8x256 .f32 := broadcastInDim S2x8192x8x256 ![] bcast_S_S2x8192x8x256 main_cst
  let main_v2 : IVec S2x8192x8x256 1 := cmpf .olt main_v0 main_v1
  let main_v3 : FVec F S2x8192x8x64 .f32 := Host.absf main_arg1
  let main_cst_0 : FVec F S_ .f32 := constant S_ .f32 0x7F800000#32
  let main_v4 : FVec F S2x8192x8x64 .f32 := broadcastInDim S2x8192x8x64 ![] bcast_S_S2x8192x8x64 main_cst_0
  let main_v5 : IVec S2x8192x8x64 1 := cmpf .olt main_v3 main_v4
  let main_v6 : FVec F S2x8192x256 .f32 := Host.absf main_arg2
  let main_cst_1 : FVec F S_ .f32 := constant S_ .f32 0x7F800000#32
  let main_v7 : FVec F S2x8192x256 .f32 := broadcastInDim S2x8192x256 ![] bcast_S_S2x8192x256 main_cst_1
  let main_v8 : IVec S2x8192x256 1 := cmpf .olt main_v6 main_v7
  let main_v9 : FVec F S2x8192x64 .f32 := Host.absf main_arg3
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  (main_v2, main_v5, main_v8, main_v11)
-- ==== Kernel.lean ====
abbrev S2x8192x8x256 : Shape := ⟨4, ![2, 8192, 8, 256]⟩
abbrev S2x8192x8x64 : Shape := ⟨4, ![2, 8192, 8, 64]⟩
abbrev S2x8192x256 : Shape := ⟨3, ![2, 8192, 256]⟩
abbrev S2x8192x64 : Shape := ⟨3, ![2, 8192, 64]⟩
abbrev S_ : Shape := ⟨0, ![]⟩
abbrev S2x8192x8x384 : Shape := ⟨4, ![2, 8192, 8, 384]⟩
abbrev S2x8192x384 : Shape := ⟨3, ![2, 8192, 384]⟩
abbrev S2x256x8192 : Shape := ⟨3, ![2, 256, 8192]⟩
abbrev S16384x3072 : Shape := ⟨2, ![16384, 3072]⟩
abbrev S16384x384 : Shape := ⟨2, ![16384, 384]⟩
abbrev S16384x2048 : Shape := ⟨2, ![16384, 2048]⟩
abbrev S256x3072 : Shape := ⟨2, ![256, 3072]⟩
abbrev S512x384 : Shape := ⟨2, ![512, 384]⟩
abbrev S1x256x512 : Shape := ⟨3, ![1, 256, 512]⟩
abbrev S256x2048 : Shape := ⟨2, ![256, 2048]⟩
abbrev S8x1x256 : Shape := ⟨3, ![8, 1, 256]⟩
abbrev S8x256x256 : Shape := ⟨3, ![8, 256, 256]⟩
abbrev S256x512 : Shape := ⟨2, ![256, 512]⟩
abbrev S512x256 : Shape := ⟨2, ![512, 256]⟩
abbrev S256x384 : Shape := ⟨2, ![256, 384]⟩
abbrev S1x1x256 : Shape := ⟨3, ![1, 1, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 23
  | .vmem => 11
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x64, .f32⟩
  | .hbm, ⟨2, _⟩ => ⟨S2x8192x256, .f32⟩
  | .hbm, ⟨3, _⟩ => ⟨S2x8192x64, .f32⟩
  | .hbm, ⟨4, _⟩ => ⟨S_, .f32⟩
  | .hbm, ⟨5, _⟩ => ⟨S2x8192x8x64, .f32⟩
  | .hbm, ⟨6, _⟩ => ⟨S_, .f32⟩
  | .hbm, ⟨7, _⟩ => ⟨S2x8192x64, .f32⟩
  | .hbm, ⟨8, _⟩ => ⟨S_, .f32⟩
  | .hbm, ⟨9, _⟩ => ⟨S2x8192x8x256, .f32⟩
  | .hbm, ⟨10, _⟩ => ⟨S2x8192x8x256, .f32⟩
  | .hbm, ⟨11, _⟩ => ⟨S_, .f32⟩
  | .hbm, ⟨12, _⟩ => ⟨S2x8192x8x64, .f32⟩
  | .hbm, ⟨13, _⟩ => ⟨S2x8192x8x64, .f32⟩
  | .hbm, ⟨14, _⟩ => ⟨S2x8192x8x384, .f32⟩
  | .hbm, ⟨15, _⟩ => ⟨S2x8192x8x384, .bf16⟩
  | .hbm, ⟨16, _⟩ => ⟨S2x8192x384, .f32⟩
  | .hbm, ⟨17, _⟩ => ⟨S2x8192x384, .bf16⟩
  | .hbm, ⟨18, _⟩ => ⟨S2x256x8192, .f32⟩
  | .hbm, ⟨19, _⟩ => ⟨S2x256x8192, .bf16⟩
  | .hbm, ⟨20, _⟩ => ⟨S16384x3072, .bf16⟩
  | .hbm, ⟨21, _⟩ => ⟨S16384x384, .bf16⟩
  | .hbm, ⟨22, _⟩ => ⟨S16384x2048, .bf16⟩
  | .local _ .vmem, ⟨0, _⟩ => ⟨S256x3072, .bf16⟩
  | .local _ .vmem, ⟨1, _⟩ => ⟨S256x3072, .bf16⟩
  | .local _ .vmem, ⟨2, _⟩ => ⟨S512x384, .bf16⟩
  | .local _ .vmem, ⟨3, _⟩ => ⟨S512x384, .bf16⟩
  | .local _ .vmem, ⟨4, _⟩ => ⟨S1x256x512, .bf16⟩
  | .local _ .vmem, ⟨5, _⟩ => ⟨S1x256x512, .bf16⟩
  | .local _ .vmem, ⟨6, _⟩ => ⟨S256x2048, .bf16⟩
  | .local _ .vmem, ⟨7, _⟩ => ⟨S256x2048, .bf16⟩
  | .local _ .vmem, ⟨8, _⟩ => ⟨S8x1x256, .f32⟩
  | .local _ .vmem, ⟨9, _⟩ => ⟨S8x1x256, .f32⟩
  | .local _ .vmem, ⟨10, _⟩ => ⟨S8x256x256, .f32⟩
  | _, _ => ⟨S2x8192x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 17], ![false, false, false]⟩

def k0_cond4 (i : grid0.Coords) : BitVec 1 :=
  let arg2 : BitVec 32 := BitVec.ofNat 32 (i 2).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v21 : BitVec 1 := Scalar.cmpi .slt arg2 v20
  let v24 : BitVec 32 := Scalar.subi arg2 v20
  let v25 : BitVec 32 := Scalar.select v21 arg2 v24
  let c31_i32 : BitVec 32 := 31#32
  let v22 : BitVec 32 := Scalar.subi c31_i32 arg1
  let v23 : BitVec 32 := Scalar.select v21 arg1 v22
  let c256_i32_15 : BitVec 32 := 256#32
  let v39 : BitVec 32 := Scalar.muli v23 c256_i32_15
  let c256_i32_16 : BitVec 32 := 256#32
  let v40 : BitVec 32 := Scalar.addi v39 c256_i32_16
  let c1_i32_17 : BitVec 32 := 1#32
  let v41 : BitVec 32 := Scalar.subi v40 c1_i32_17
  let c0_i32_19 : BitVec 32 := 0#32
  let v43 : BitVec 1 := Scalar.cmpi .sgt v41 c0_i32_19
  let v44 : BitVec 32 := Scalar.extui v43
  let c0_i32_20 : BitVec 32 := 0#32
  let v45 : BitVec 1 := Scalar.cmpi .slt v41 c0_i32_20
  let v46 : BitVec 32 := Scalar.extui v45
  let v47 : BitVec 32 := Scalar.subi v44 v46
  let c512_i32_18 : BitVec 32 := 512#32
  let c0_i32_21 : BitVec 32 := 0#32
  let v48 : BitVec 1 := Scalar.cmpi .sgt c512_i32_18 c0_i32_21
  let v49 : BitVec 32 := Scalar.extui v48
  let c0_i32_22 : BitVec 32 := 0#32
  let v50 : BitVec 1 := Scalar.cmpi .slt c512_i32_18 c0_i32_22
  let v51 : BitVec 32 := Scalar.extui v50
  let v52 : BitVec 32 := Scalar.subi v49 v51
  let v53 : BitVec 1 := Scalar.cmpi .ne v47 v52
  let v54 : BitVec 32 := Scalar.remsi v41 c512_i32_18
  let c0_i32_23 : BitVec 32 := 0#32
  let v55 : BitVec 1 := Scalar.cmpi .ne v54 c0_i32_23
  let v56 : BitVec 1 := Scalar.andi v53 v55
  let v42 : BitVec 32 := Scalar.divsi v41 c512_i32_18
  let c1_i32_24 : BitVec 32 := 1#32
  let v57 : BitVec 32 := Scalar.subi v42 c1_i32_24
  let v58 : BitVec 32 := Scalar.select v56 v57 v42
  let v59 : BitVec 1 := Scalar.cmpi .eq v25 v58
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c256_i32 : BitVec 32 := 256#32
  let v1 : BitVec 32 := Scalar.muli arg1 c256_i32
  let c256_i32_0 : BitVec 32 := 256#32
  let v2 : BitVec 32 := Scalar.addi v1 c256_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.addi v20 c1_i32_6
  let v22 : BitVec 1 := Scalar.cmpi .slt arg2 v21
  let c31_i32 : BitVec 32 := 31#32
  let v23 : BitVec 32 := Scalar.subi c31_i32 arg1
  let v24 : BitVec 32 := Scalar.select v22 arg1 v23
  let v25 : BitVec 32 := Scalar.subi arg2 v21
  let v26 : BitVec 32 := Scalar.select v22 arg2 v25
  let v27 : BitVec 32 := Scalar.addi v0 v24
  let c0_i32_7 : BitVec 32 := 0#32
  let c0_i32_8 : BitVec 32 := 0#32
  ![v27.toNat, c0_i32_7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c256_i32 : BitVec 32 := 256#32
  let v1 : BitVec 32 := Scalar.muli arg1 c256_i32
  let c256_i32_0 : BitVec 32 := 256#32
  let v2 : BitVec 32 := Scalar.addi v1 c256_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.addi v20 c1_i32_6
  let v22 : BitVec 1 := Scalar.cmpi .slt arg2 v21
  let c31_i32 : BitVec 32 := 31#32
  let v23 : BitVec 32 := Scalar.subi c31_i32 arg1
  let v24 : BitVec 32 := Scalar.select v22 arg1 v23
  let v25 : BitVec 32 := Scalar.subi arg2 v21
  let v26 : BitVec 32 := Scalar.select v22 arg2 v25
  let v27 : BitVec 32 := Scalar.addi v0 v26
  let c0_i32_7 : BitVec 32 := 0#32
  let c0_i32_8 : BitVec 32 := 0#32
  ![v27.toNat, c0_i32_7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v21 : BitVec 1 := Scalar.cmpi .slt arg2 v20
  let c31_i32 : BitVec 32 := 31#32
  let v22 : BitVec 32 := Scalar.subi c31_i32 arg1
  let v23 : BitVec 32 := Scalar.select v21 arg1 v22
  let v24 : BitVec 32 := Scalar.subi arg2 v20
  let v25 : BitVec 32 := Scalar.select v21 arg2 v24
  let c0_i32_7 : BitVec 32 := 0#32
  let c0_i32_8 : BitVec 32 := 0#32
  ![arg0.toNat, c0_i32_7.toNat, v25.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c256_i32 : BitVec 32 := 256#32
  let v1 : BitVec 32 := Scalar.muli arg1 c256_i32
  let c256_i32_0 : BitVec 32 := 256#32
  let v2 : BitVec 32 := Scalar.addi v1 c256_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.addi v20 c1_i32_6
  let v22 : BitVec 1 := Scalar.cmpi .slt arg2 v21
  let c31_i32 : BitVec 32 := 31#32
  let v23 : BitVec 32 := Scalar.subi c31_i32 arg1
  let v24 : BitVec 32 := Scalar.select v22 arg1 v23
  let v25 : BitVec 32 := Scalar.subi arg2 v21
  let v26 : BitVec 32 := Scalar.select v22 arg2 v25
  let v27 : BitVec 32 := Scalar.addi v0 v24
  let c0_i32_7 : BitVec 32 := 0#32
  let c0_i32_8 : BitVec 32 := 0#32
  ![v27.toNat, c0_i32_7.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x256 : Shape := ⟨4, ![2, 8192, 8, 256]⟩
abbrev S2x8192x8x64 : Shape := ⟨4, ![2, 8192, 8, 64]⟩
abbrev S2x8192x256 : Shape := ⟨3, ![2, 8192, 256]⟩
abbrev S2x8192x64 : Shape := ⟨3, ![2, 8192, 64]⟩
abbrev S8192 : Shape := ⟨1, ![8192]⟩
abbrev S2x8192x8192x8 : Shape := ⟨4, ![2, 8192, 8192, 8]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x256x8x8192 : Shape := ⟨4, ![2, 256, 8, 8192]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x64, .f32⟩
  | .hbm, ⟨2, _⟩ => ⟨S2x8192x256, .f32⟩
  | .hbm, ⟨3, _⟩ => ⟨S2x8192x64, .f32⟩
  | .hbm, ⟨4, _⟩ => ⟨S8192, .i32⟩
  | .hbm, ⟨5, _⟩ => ⟨S2x8192x8192x8, .f32⟩
  | .hbm, ⟨6, _⟩ => ⟨S2x8x8192x8192, .f32⟩
  | .hbm, ⟨7, _⟩ => ⟨S2x8192x8192x8, .f32⟩
  | .hbm, ⟨8, _⟩ => ⟨S2x8x8192x8192, .f32⟩
  | .hbm, ⟨9, _⟩ => ⟨S2x8x8192x8192, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S2x8x8192x8192, .i1⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192, .f32⟩
  | .hbm, ⟨25, _⟩ => ⟨S_, .f32⟩
  | .hbm, ⟨26, _⟩ => ⟨S2x8x8192, .f32⟩
  | .hbm, ⟨27, _⟩ => ⟨S2x8x8192, .f32⟩
  | .hbm, ⟨28, _⟩ => ⟨S2x8x8192x1, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S2x8x8192x1, .f32⟩
  | .hbm, ⟨35, _⟩ => ⟨S2x8x8192x8192, .f32⟩
  | .hbm, ⟨36, _⟩ => ⟨S2x8x8192x8192, .f32⟩
  | .hbm, ⟨37, _⟩ => ⟨S2x256x8x8192, .f32⟩
  | .hbm, ⟨38, _⟩ => ⟨S2x8192x8x256, .f32⟩
  | .hbm, ⟨39, _⟩ => ⟨S16384x2048, .f32⟩
  | .hbm, ⟨40, _⟩ => ⟨S16384x2048, .bf16⟩
  | _, _ => ⟨S2x8192x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Chunks.lean ====
abbrev S16384x6144 : Shape := ⟨2, ![16384, 6144]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16384x2048 : Shape := ⟨2, ![16384, 2048]⟩
abbrev S2x4x256x512 : Shape := ⟨4, ![2, 4, 256, 512]⟩
abbrev S128x256 : Shape := ⟨2, ![128, 256]⟩
abbrev S128x512 : Shape := ⟨2, ![128, 512]⟩
abbrev S1x128x1 : Shape := ⟨3, ![1, 128, 1]⟩
abbrev S1x1x1 : Shape := ⟨3, ![1, 1, 1]⟩
abbrev S1x1x256x512 : Shape := ⟨4, ![1, 1, 256, 512]⟩
abbrev S256x512 : Shape := ⟨2, ![256, 512]⟩
abbrev S256x128 : Shape := ⟨2, ![256, 128]⟩
abbrev S1x1 : Shape := ⟨2, ![1, 1]⟩

abbrev nBuf : Space → Nat
  | .hbm => 63
  | .vmem => 19
  | .smem => 0
  | _ => 0

abbrev bufTy : (tb : Table) → Fin (tcTables nBuf tb) → BufTy
  | .hbm, ⟨0, _⟩ => ⟨S16384x6144, .f32⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S128, .f32⟩
  | .hbm, ⟨12, _⟩ => ⟨S128x1, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .i1⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128x128, .f32⟩
  | .hbm, ⟨24, _⟩ => ⟨S4x1x1, .f32⟩
  | .hbm, ⟨25, _⟩ => ⟨S4x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S_, .f32⟩
  | .hbm, ⟨30, _⟩ => ⟨S_, .f32⟩
  | .hbm, ⟨31, _⟩ => ⟨S4x128x128, .i1⟩
  | .hbm, ⟨32, _⟩ => ⟨S4x128x128, .f32⟩
  | .hbm, ⟨33, _⟩ => ⟨S4x128x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S4x1, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128x1, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S4x1, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128x1, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4x1x1, .f32⟩
  | .hbm, ⟨59, _⟩ => ⟨S4, .f32⟩
  | .hbm, ⟨60, _⟩ => ⟨S4x1x1, .f32⟩
  | .hbm, ⟨61, _⟩ => ⟨S16384x2048, .f32⟩
  | .hbm, ⟨62, _⟩ => ⟨S2x4x256x512, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x1x1, .f32⟩
  | .local _ .vmem, ⟨13, _⟩ => ⟨S1x1x1, .f32⟩
  | .local _ .vmem, ⟨14, _⟩ => ⟨S128x512, .f32⟩
  | .local _ .vmem, ⟨15, _⟩ => ⟨S128x512, .f32⟩
  | .local _ .vmem, ⟨16, _⟩ => ⟨S1x1x256x512, .f32⟩
  | .local _ .vmem, ⟨17, _⟩ => ⟨S1x1x256x512, .f32⟩
  | .local _ .vmem, ⟨18, _⟩ => ⟨S256x512, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 64], ![false, false, false]⟩

def k0_cond2 (i : grid0.Coords) : BitVec 1 :=
  let arg2 : BitVec 32 := BitVec.ofNat 32 (i 2).val
  let c63_i32 : BitVec 32 := 63#32
  let v39 : BitVec 1 := Scalar.cmpi .eq arg2 c63_i32
  let v40 : BitVec 32 := Scalar.extui v39
  let c0_i32_27 : BitVec 32 := 0#32
  let v41 : BitVec 1 := Scalar.cmpi .ne v40 c0_i32_27
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ChunksReferenceIdeal.lean ====
abbrev S16384x6144 : Shape := ⟨2, ![16384, 6144]⟩
abbrev S16384x1024 : Shape := ⟨2, ![16384, 1024]⟩
abbrev S2x8192x4x256 : Shape := ⟨4, ![2, 8192, 4, 256]⟩
abbrev S16384x2048 : Shape := ⟨2, ![16384, 2048]⟩
abbrev S2x8192x4x512 : Shape := ⟨4, ![2, 8192, 4, 512]⟩
abbrev S_ : Shape := ⟨0, ![]⟩
abbrev S2x4x256x512 : Shape := ⟨4, ![2, 4, 256, 512]⟩
abbrev S2x64x128x4x256 : Shape := ⟨5, ![2, 64, 128, 4, 256]⟩
abbrev S64x2x128x4x256 : Shape := ⟨5, ![64, 2, 128, 4, 256]⟩
abbrev S2x64x128x4x512 : Shape := ⟨5, ![2, 64, 128, 4, 512]⟩
abbrev S64x2x128x4x512 : Shape := ⟨5, ![64, 2, 128, 4, 512]⟩
abbrev S1x2x128x4x256 : Shape := ⟨5, ![1, 2, 128, 4, 256]⟩
abbrev S2x128x4x256 : Shape := ⟨4, ![2, 128, 4, 256]⟩
abbrev S1x2x128x4x512 : Shape := ⟨5, ![1, 2, 128, 4, 512]⟩
abbrev S2x128x4x512 : Shape := ⟨4, ![2, 128, 4, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x4x128x128 : Shape := ⟨4, ![2, 4, 128, 128]⟩
abbrev S1x4x128x128 : Shape := ⟨4, ![1, 4, 128, 128]⟩
abbrev S2x4x512x128 : Shape := ⟨4, ![2, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩

abbrev nBuf : Space → Nat
  | .hbm => 129
  | .vmem => 0
  | .smem => 0
  | _ => 0

abbrev hbmTy0_0 (i : Nat) : BufTy := match i % 128 with
  | 0 => ⟨S16384x6144, .f32⟩
  | 1 => ⟨S16384x1024, .f32⟩
  | 2 => ⟨S2x8192x4x256, .f32⟩
  | 3 => ⟨S16384x1024, .f32⟩
  | 4 => ⟨S2x8192x4x256, .f32⟩
  | 5 => ⟨S16384x2048, .f32⟩
  | 6 => ⟨S2x8192x4x512, .f32⟩
  | 7 => ⟨S_, .f32⟩
  | 8 => ⟨S2x4x256x512, .f32⟩
  | 9 => ⟨S2x64x128x4x256, .f32⟩
  | 10 => ⟨S64x2x128x4x256, .f32⟩
  | 11 => ⟨S2x64x128x4x256, .f32⟩
  | 12 => ⟨S64x2x128x4x256, .f32⟩
  | 13 => ⟨S2x64x128x4x512, .f32⟩
  | 14 => ⟨S64x2x128x4x512, .f32⟩
  | 15 => ⟨S_, .f32⟩
  | 16 => ⟨S64x2x128x4x512, .f32⟩
  | 17 => ⟨S_, .i32⟩
  | 18 => ⟨S64x2x128x4x256, .f32⟩
  | 19 => ⟨S64x2x128x4x256, .f32⟩
  | 20 => ⟨S64x2x128x4x512, .f32⟩
  | 21 => ⟨S_, .i32⟩
  | 22 => ⟨S2x4x256x512, .f32⟩
  | 23 => ⟨S64x2x128x4x512, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S1x2x128x4x256, .f32⟩
  | 31 => ⟨S2x128x4x256, .f32⟩
  | 32 => ⟨S_, .i32⟩
  | 33 => ⟨S_, .i32⟩
  | 34 => ⟨S_, .i32⟩
  | 35 => ⟨S_, .i32⟩
  | 36 => ⟨S1x2x128x4x256, .f32⟩
  | 37 => ⟨S2x128x4x256, .f32⟩
  | 38 => ⟨S_, .i32⟩
  | 39 => ⟨S_, .i32⟩
  | 40 => ⟨S_, .i32⟩
  | 41 => ⟨S_, .i32⟩
  | 42 => ⟨S1x2x128x4x512, .f32⟩
  | 43 => ⟨S2x128x4x512, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S4, .f32⟩
  | 53 => ⟨S4, .f32⟩
  | 54 => ⟨S128, .f32⟩
  | 55 => ⟨S128x1, .f32⟩
  | 56 => ⟨S1x128, .f32⟩
  | 57 => ⟨S128x128, .f32⟩
  | 58 => ⟨S128x128, .f32⟩
  | 59 => ⟨S128x128, .f32⟩
  | 60 => ⟨S_, .f32⟩
  | 61 => ⟨S128x128, .f32⟩
  | 62 => ⟨S128x128, .i1⟩
  | 63 => ⟨S_, .f32⟩
  | 64 => ⟨S128x128, .f32⟩
  | 65 => ⟨S128x128, .f32⟩
  | 66 => ⟨S1x128x128, .f32⟩
  | 67 => ⟨S4x1x1, .f32⟩
  | 68 => ⟨S4x128x128, .f32⟩
  | 69 => ⟨S4x128x128, .f32⟩
  | 70 => ⟨S4x128x128, .f32⟩
  | 71 => ⟨S4x128x128, .f32⟩
  | 72 => ⟨S_, .f32⟩
  | 73 => ⟨S_, .f32⟩
  | 74 => ⟨S4x128x128, .i1⟩
  | 75 => ⟨S4x128x128, .f32⟩
  | 76 => ⟨S4x128x128, .f32⟩
  | 77 => ⟨S2x4x128x128, .f32⟩
  | 78 => ⟨S1x4x128x128, .f32⟩
  | 79 => ⟨S2x4x128x128, .f32⟩
  | 80 => ⟨S2x4x128x128, .f32⟩
  | 81 => ⟨S2x4x512x128, .f32⟩
  | 82 => ⟨S2x128x4x512, .f32⟩
  | 83 => ⟨S2x4x512x128, .f32⟩
  | 84 => ⟨S2x128x4x512, .f32⟩
  | 85 => ⟨S128x1, .f32⟩
  | 86 => ⟨S_, .f32⟩
  | 87 => ⟨S128x1, .f32⟩
  | 88 => ⟨S128x1, .f32⟩
  | 89 => ⟨S1x4, .f32⟩
  | 90 => ⟨S128x4, .f32⟩
  | 91 => ⟨S128x4, .f32⟩
  | 92 => ⟨S128x4, .f32⟩
  | 93 => ⟨S128x4, .f32⟩
  | 94 => ⟨S1x128x4x1, .f32⟩
  | 95 => ⟨S2x128x4x512, .f32⟩
  | 96 => ⟨S2x128x4x512, .f32⟩
  | 97 => ⟨S2x128x4x512, .f32⟩
  | 98 => ⟨S_, .f32⟩
  | 99 => ⟨S128, .f32⟩
  | 100 => ⟨S128, .f32⟩
  | 101 => ⟨S128x1, .f32⟩
  | 102 => ⟨S1x4, .f32⟩
  | 103 => ⟨S128x4, .f32⟩
  | 104 => ⟨S128x4, .f32⟩
  | 105 => ⟨S128x4, .f32⟩
  | 106 => ⟨S128x4, .f32⟩
  | 107 => ⟨S_, .f32⟩
  | 108 => ⟨S4, .f32⟩
  | 109 => ⟨S4, .f32⟩
  | 110 => ⟨S4, .f32⟩
  | 111 => ⟨S1x4x1x1, .f32⟩
  | 112 => ⟨S2x4x256x512, .f32⟩
  | 113 => ⟨S2x4x256x512, .f32⟩
  | 114 => ⟨S1x128x4x1, .f32⟩
  | 115 => ⟨S2x128x4x256, .f32⟩
  | 116 => ⟨S2x128x4x256, .f32⟩
  | 117 => ⟨S2x4x256x512, .f32⟩
  | 118 => ⟨S2x4x256x512, .f32⟩
  | 119 => ⟨S1x2x128x4x512, .f32⟩
  | 120 => ⟨S_, .i32⟩
  | 121 => ⟨S_, .i32⟩
  | 122 => ⟨S_, .i32⟩
  | 123 => ⟨S_, .i32⟩
  | 124 => ⟨S64x2x128x4x512, .f32⟩
  | 125 => ⟨S_, .i32⟩
  | 126 => ⟨S_, .i32⟩
  | 127 => ⟨S2x64x128x4x512, .f32⟩
  | _ => ⟨S16384x6144, .f32⟩

abbrev hbmTy0_1 (i : Nat) : BufTy := match i % 128 with
  | 0 => ⟨S16384x2048, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_c : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_while0c_c_6 : Ref sig .tc := ⟨.hbm, 24, rfl⟩
abbrev main_while0c_v17 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_c_1 : Ref sig .tc := ⟨.hbm, 28, rfl⟩
abbrev main_while0b_call0_c_2 : Ref sig .tc := ⟨.hbm, 29, rfl⟩
abbrev main_while0b_call0_v0 : Ref sig .tc := ⟨.hbm, 30, rfl⟩
abbrev main_while0b_v17 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_c_2 : Ref sig .tc := ⟨.hbm, 35, rfl⟩
abbrev main_while0b_call1_v0 : Ref sig .tc := ⟨.hbm, 36, rfl⟩
abbrev main_while0b_v18 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_c_1 : Ref sig .tc := ⟨.hbm, 40, rfl⟩
abbrev main_while0b_call2_c_2 : Ref sig .tc := ⟨.hbm, 41, rfl⟩
abbrev main_while0b_call2_v0 : Ref sig .tc := ⟨.hbm, 42, rfl⟩
abbrev main_while0b_v19 : Ref sig .tc := ⟨.hbm, 43, rfl⟩
abbrev main_while0b_v20 : Ref sig .tc := ⟨.hbm, 44, rfl⟩
abbrev main_while0b_cst_6 : Ref sig .tc := ⟨.hbm, 45, rfl⟩
abbrev main_while0b_v21 : Ref sig .tc := ⟨.hbm, 46, rfl⟩
abbrev main_while0b_v22 : Ref sig .tc := ⟨.hbm, 47, rfl⟩
abbrev main_while0b_cst_7 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_cst_8 : Ref sig .tc := ⟨.hbm, 60, rfl⟩
abbrev main_while0b_v34 : Ref sig .tc := ⟨.hbm, 61, rfl⟩
abbrev main_while0b_v35 : Ref sig .tc := ⟨.hbm, 62, rfl⟩
abbrev main_while0b_cst_9 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_cst_10 : Ref sig .tc := ⟨.hbm, 72, rfl⟩
abbrev main_while0b_call3_v0 : Ref sig .tc := ⟨.hbm, 73, rfl⟩
abbrev main_while0b_call3_v1 : Ref sig .tc := ⟨.hbm, 74, rfl⟩
abbrev main_while0b_call3_v2 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_cst_11 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_cst_12 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_cst_13 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_call4_v0 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_v84 : Ref sig .tc := ⟨.hbm, 124, rfl⟩
abbrev main_while0b_c_14 : Ref sig .tc := ⟨.hbm, 125, rfl⟩
abbrev main_while0b_v85 : Ref sig .tc := ⟨.hbm, 126, rfl⟩
abbrev main_v15 : Ref sig .tc := ⟨.hbm, 127, rfl⟩
abbrev main_v16 : Ref sig .tc := ⟨.hbm, 128, rfl⟩

abbrev nD : Nat := 1
abbrev τ : Topo := Topo.v7x

variable {F : FTy → Type} [FloatOps F]

abbrev main_while0_count : Scf.Loop 32 := ⟨0#32, 64#32, 1#32⟩
-- ==== Step.lean ====
abbrev S128x4x256x512 : Shape := ⟨4, ![128, 4, 256, 512]⟩
abbrev S128x6144 : Shape := ⟨2, ![128, 6144]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S128x1024 : Shape := ⟨2, ![128, 1024]⟩
abbrev S128x4x256x1 : Shape := ⟨4, ![128, 4, 256, 1]⟩
abbrev S128x2048 : Shape := ⟨2, ![128, 2048]⟩
abbrev S128x4x1x512 : Shape := ⟨4, ![128, 4, 1, 512]⟩
abbrev S1x1x256x512 : Shape := ⟨4, ![1, 1, 256, 512]⟩
abbrev S1x1x256x1 : Shape := ⟨4, ![1, 1, 256, 1]⟩
abbrev S1x1x1x512 : Shape := ⟨4, ![1, 1, 1, 512]⟩
abbrev S1x1x1 : Shape := ⟨3, ![1, 1, 1]⟩
abbrev S256x512 : Shape := ⟨2, ![256, 512]⟩
abbrev S256x1 : Shape := ⟨2, ![256, 1]⟩
abbrev S1x512 : Shape := ⟨2, ![1, 512]⟩
abbrev S1x1 : Shape := ⟨2, ![1, 1]⟩
abbrev S1 : Shape := ⟨1, ![1]⟩
abbrev S512 : Shape := ⟨1, ![512]⟩

abbrev nBuf : Space → Nat
  | .hbm => 70
  | .vmem => 14
  | .smem => 0
  | _ => 0

abbrev bufTy : (tb : Table) → Fin (tcTables nBuf tb) → BufTy
  | .hbm, ⟨0, _⟩ => ⟨S128x4x256x512, .f32⟩
  | .hbm, ⟨1, _⟩ => ⟨S128x6144, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S1x128x128, .f32⟩
  | .hbm, ⟨25, _⟩ => ⟨S4x1x1, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S4x1, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128x1, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S4x1, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128x1, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4x1x1, .f32⟩
  | .hbm, ⟨60, _⟩ => ⟨S4, .f32⟩
  | .hbm, ⟨61, _⟩ => ⟨S4x1x1, .f32⟩
  | .hbm, ⟨62, _⟩ => ⟨S128x1024, .f32⟩
  | .hbm, ⟨63, _⟩ => ⟨S128x4x256x1, .f32⟩
  | .hbm, ⟨64, _⟩ => ⟨S128x1024, .f32⟩
  | .hbm, ⟨65, _⟩ => ⟨S128x4x256x1, .f32⟩
  | .hbm, ⟨66, _⟩ => ⟨S128x2048, .f32⟩
  | .hbm, ⟨67, _⟩ => ⟨S128x4x1x512, .f32⟩
  | .hbm, ⟨68, _⟩ => ⟨S128x4x1x512, .f32⟩
  | .hbm, ⟨69, _⟩ => ⟨S128x4x256x512, .f32⟩
  | .local _ .vmem, ⟨0, _⟩ => ⟨S1x1x256x512, .f32⟩
  | .local _ .vmem, ⟨1, _⟩ => ⟨S1x1x256x512, .f32⟩
  | .local _ .vmem, ⟨2, _⟩ => ⟨S1x1x256x1, .f32⟩
  | .local _ .vmem, ⟨3, _⟩ => ⟨S1x1x256x1, .f32⟩
  | .local _ .vmem, ⟨4, _⟩ => ⟨S1x1x256x1, .f32⟩
  | .local _ .vmem, ⟨5, _⟩ => ⟨S1x1x256x1, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1, .f32⟩
  | .local _ .vmem, ⟨9, _⟩ => ⟨S1x1x1, .f32⟩
  | .local _ .vmem, ⟨10, _⟩ => ⟨S1x1x1x512, .f32⟩
  | .local _ .vmem, ⟨11, _⟩ => ⟨S1x1x1x512, .f32⟩
  | .local _ .vmem, ⟨12, _⟩ => ⟨S1x1x256x512, .f32⟩
  | .local _ .vmem, ⟨13, _⟩ => ⟨S1x1x256x512, .f32⟩
  | _, _ => ⟨S128x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![128, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== StepReferenceIdeal.lean ====
abbrev S128x4x256x512 : Shape := ⟨4, ![128, 4, 256, 512]⟩
abbrev S128x6144 : Shape := ⟨2, ![128, 6144]⟩
abbrev S128x1024 : Shape := ⟨2, ![128, 1024]⟩
abbrev S128x1x4x256 : Shape := ⟨4, ![128, 1, 4, 256]⟩
abbrev S128x2048 : Shape := ⟨2, ![128, 2048]⟩
abbrev S128x1x4x512 : Shape := ⟨4, ![128, 1, 4, 512]⟩
abbrev S4 : Shape := ⟨1, ![4]⟩
abbrev S_ : Shape := ⟨0, ![]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S128x4x1x1 : Shape := ⟨4, ![128, 4, 1, 1]⟩
abbrev S1x4x1x1 : Shape := ⟨4, ![1, 4, 1, 1]⟩
abbrev S128x4x512x1 : Shape := ⟨4, ![128, 4, 512, 1]⟩
abbrev S1x4 : Shape := ⟨2, ![1, 4]⟩
abbrev S1x1x4x1 : Shape := ⟨4, ![1, 1, 4, 1]⟩
abbrev S128x4x1x512 : Shape := ⟨4, ![128, 4, 1, 512]⟩

abbrev nBuf : Space → Nat
  | .hbm => 79
  | .vmem => 0
  | .smem => 0
  | _ => 0

abbrev bufTy : (tb : Table) → Fin (tcTables nBuf tb) → BufTy
  | .hbm, ⟨0, _⟩ => ⟨S128x4x256x512, .f32⟩
  | .hbm, ⟨1, _⟩ => ⟨S128x6144, .f32⟩
  | .hbm, ⟨2, _⟩ => ⟨S128x1024, .f32⟩
  | .hbm, ⟨3, _⟩ => ⟨S128x1x4x256, .f32⟩
  | .hbm, ⟨4, _⟩ => ⟨S128x1024, .f32⟩
  | .hbm, ⟨5, _⟩ => ⟨S128x1x4x256, .f32⟩
  | .hbm, ⟨6, _⟩ => ⟨S128x2048, .f32⟩
  | .hbm, ⟨7, _⟩ => ⟨S128x1x4x512, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S1x1, .i1⟩
  | .hbm, ⟨25, _⟩ => ⟨S_, .f32⟩
  | .hbm, ⟨26, _⟩ => ⟨S1x1, .f32⟩
  | .hbm, ⟨27, _⟩ => ⟨S1x1, .f32⟩
  | .hbm, ⟨28, _⟩ => ⟨S1x1x1, .f32⟩
  | .hbm, ⟨29, _⟩ => ⟨S4x1x1, .f32⟩
  | .hbm, ⟨30, _⟩ => ⟨S4x1x1, .f32⟩
  | .hbm, ⟨31, _⟩ => ⟨S4x1x1, .f32⟩
  | .hbm, ⟨32, _⟩ => ⟨S4x1x1, .f32⟩
  | .hbm, ⟨33, _⟩ => ⟨S_, .f32⟩
  | .hbm, ⟨34, _⟩ => ⟨S_, .f32⟩
  | .hbm, ⟨35, _⟩ => ⟨S4x1x1, .i1⟩
  | .hbm, ⟨36, _⟩ => ⟨S4x1x1, .f32⟩
  | .hbm, ⟨37, _⟩ => ⟨S4x1x1, .f32⟩
  | .hbm, ⟨38, _⟩ => ⟨S128x4x1x1, .f32⟩
  | .hbm, ⟨39, _⟩ => ⟨S1x4x1x1, .f32⟩
  | .hbm, ⟨40, _⟩ => ⟨S128x4x1x1, .f32⟩
  | .hbm, ⟨41, _⟩ => ⟨S128x4x1x1, .f32⟩
  | .hbm, ⟨42, _⟩ => ⟨S128x4x512x1, .f32⟩
  | .hbm, ⟨43, _⟩ => ⟨S128x1x4x512, .f32⟩
  | .hbm, ⟨44, _⟩ => ⟨S128x4x512x1, .f32⟩
  | .hbm, ⟨45, _⟩ => ⟨S128x1x4x512, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S1x4, .f32⟩
  | .hbm, ⟨51, _⟩ => ⟨S1x4, .f32⟩
  | .hbm, ⟨52, _⟩ => ⟨S1x4, .f32⟩
  | .hbm, ⟨53, _⟩ => ⟨S1x4, .f32⟩
  | .hbm, ⟨54, _⟩ => ⟨S1x1x4x1, .f32⟩
  | .hbm, ⟨55, _⟩ => ⟨S128x1x4x512, .f32⟩
  | .hbm, ⟨56, _⟩ => ⟨S128x1x4x512, .f32⟩
  | .hbm, ⟨57, _⟩ => ⟨S128x1x4x512, .f32⟩
  | .hbm, ⟨58, _⟩ => ⟨S_, .f32⟩
  | .hbm, ⟨59, _⟩ => ⟨S1, .f32⟩
  | .hbm, ⟨60, _⟩ => ⟨S1, .f32⟩
  | .hbm, ⟨61, _⟩ => ⟨S1x1, .f32⟩
  | .hbm, ⟨62, _⟩ => ⟨S1x4, .f32⟩
  | .hbm, ⟨63, _⟩ => ⟨S1x4, .f32⟩
  | .hbm, ⟨64, _⟩ => ⟨S1x4, .f32⟩
  | .hbm, ⟨65, _⟩ => ⟨S1x4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S1x4x1x1, .f32⟩
  | .hbm, ⟨71, _⟩ => ⟨S128x4x256x512, .f32⟩
  | .hbm, ⟨72, _⟩ => ⟨S128x4x256x512, .f32⟩
  | .hbm, ⟨73, _⟩ => ⟨S1x1x4x1, .f32⟩
  | .hbm, ⟨74, _⟩ => ⟨S128x1x4x256, .f32⟩
  | .hbm, ⟨75, _⟩ => ⟨S128x1x4x256, .f32⟩
  | .hbm, ⟨76, _⟩ => ⟨S128x4x256x512, .f32⟩
  | .hbm, ⟨77, _⟩ => ⟨S128x4x256x512, .f32⟩
  | .hbm, ⟨78, _⟩ => ⟨S128x4x1x512, .f32⟩
  | _, _ => ⟨S128x4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Proj.lean ====
abbrev S2x8192x1024 : Shape := ⟨3, ![2, 8192, 1024]⟩
abbrev S2x1x1024 : Shape := ⟨3, ![2, 1, 1024]⟩
abbrev S1024x6144 : Shape := ⟨2, ![1024, 6144]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x0 : Shape := ⟨2, ![8192, 0]⟩
abbrev S8192x256 : Shape := ⟨2, ![8192, 256]⟩
abbrev S1x8192x1x256 : Shape := ⟨4, ![1, 8192, 1, 256]⟩
abbrev S1x8192x4x256 : Shape := ⟨4, ![1, 8192, 4, 256]⟩
abbrev S8192x1024 : Shape := ⟨2, ![8192, 1024]⟩
abbrev S16384x1024 : Shape := ⟨2, ![16384, 1024]⟩
abbrev S16384x6144 : Shape := ⟨2, ![16384, 6144]⟩
abbrev S256x1024 : Shape := ⟨2, ![256, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 45
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x6144, .f32⟩
  | .hbm, ⟨4, _⟩ => ⟨S8192, .i32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S8192, .f32⟩
  | .hbm, ⟨14, _⟩ => ⟨S8192x1, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x0, .f32⟩
  | .hbm, ⟨23, _⟩ => ⟨S8192x256, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x256, .f32⟩
  | .hbm, ⟨28, _⟩ => ⟨S_, .f32⟩
  | .hbm, ⟨29, _⟩ => ⟨S8192x128, .f32⟩
  | .hbm, ⟨30, _⟩ => ⟨S_, .f32⟩
  | .hbm, ⟨31, _⟩ => ⟨S8192x0, .f32⟩
  | .hbm, ⟨32, _⟩ => ⟨S8192x256, .f32⟩
  | .hbm, ⟨33, _⟩ => ⟨S1x8192x1x256, .f32⟩
  | .hbm, ⟨34, _⟩ => ⟨S1x8192x4x256, .f32⟩
  | .hbm, ⟨35, _⟩ => ⟨S8192x1024, .f32⟩
  | .hbm, ⟨36, _⟩ => ⟨S1x8192x1x256, .f32⟩
  | .hbm, ⟨37, _⟩ => ⟨S1x8192x4x256, .f32⟩
  | .hbm, ⟨38, _⟩ => ⟨S8192x1024, .f32⟩
  | .hbm, ⟨39, _⟩ => ⟨S1x8192x1x256, .f32⟩
  | .hbm, ⟨40, _⟩ => ⟨S1x8192x4x256, .f32⟩
  | .hbm, ⟨41, _⟩ => ⟨S8192x1024, .f32⟩
  | .hbm, ⟨42, _⟩ => ⟨S16384x1024, .f32⟩
  | .hbm, ⟨43, _⟩ => ⟨S1024x6144, .bf16⟩
  | .hbm, ⟨44, _⟩ => ⟨S16384x6144, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 6], ![false, false]⟩

def k0_cond1 (i : grid0.Coords) : BitVec 1 :=
  let arg1 : BitVec 32 := BitVec.ofNat 32 (i 1).val
  let c2_i32 : BitVec 32 := 2#32
  let v16 : BitVec 1 := Scalar.cmpi .slt arg1 c2_i32
  let v17 : BitVec 32 := Scalar.extui v16
  let c0_i32 : BitVec 32 := 0#32
  let v18 : BitVec 1 := Scalar.cmpi .ne v17 c0_i32
  v18

def k0_cond2 (i : grid0.Coords) : BitVec 1 :=
  let arg1 : BitVec 32 := BitVec.ofNat 32 (i 1).val
  let c2_i32_10 : BitVec 32 := 2#32
  let v19 : BitVec 1 := Scalar.cmpi .sge arg1 c2_i32_10
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjReferenceIdeal.lean ====
abbrev S2x8192x1024 : Shape := ⟨3, ![2, 8192, 1024]⟩
abbrev S2x1x1024 : Shape := ⟨3, ![2, 1, 1024]⟩
abbrev S1024x6144 : Shape := ⟨2, ![1024, 6144]⟩
abbrev S8192 : Shape := ⟨1, ![8192]⟩
abbrev S_ : Shape := ⟨0, ![]⟩
abbrev S2x8192x6144 : Shape := ⟨3, ![2, 8192, 6144]⟩
abbrev S2x8192x4x256 : Shape := ⟨4, ![2, 8192, 4, 256]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x4x128 : Shape := ⟨4, ![2, 8192, 4, 128]⟩
abbrev S2x8192x4x0 : Shape := ⟨4, ![2, 8192, 4, 0]⟩
abbrev S16384x1024 : Shape := ⟨2, ![16384, 1024]⟩
abbrev S2x8192x4096 : Shape := ⟨3, ![2, 8192, 4096]⟩
abbrev S16384x4096 : Shape := ⟨2, ![16384, 4096]⟩
abbrev S16384x6144 : Shape := ⟨2, ![16384, 6144]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x6144, .f32⟩
  | .hbm, ⟨4, _⟩ => ⟨S8192, .i32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x6144, .f32⟩
  | .hbm, ⟨13, _⟩ => ⟨S2x8192x1024, .f32⟩
  | .hbm, ⟨14, _⟩ => ⟨S2x8192x4x256, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S8192, .f32⟩
  | .hbm, ⟨24, _⟩ => ⟨S8192x1, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S1x8192x1x128, .f32⟩
  | .hbm, ⟨31, _⟩ => ⟨S8192x128, .f32⟩
  | .hbm, ⟨32, _⟩ => ⟨S1x8192x1x128, .f32⟩
  | .hbm, ⟨33, _⟩ => ⟨S2x8192x4x128, .f32⟩
  | .hbm, ⟨34, _⟩ => ⟨S2x8192x4x128, .f32⟩
  | .hbm, ⟨35, _⟩ => ⟨S2x8192x4x128, .f32⟩
  | .hbm, ⟨36, _⟩ => ⟨S2x8192x4x128, .f32⟩
  | .hbm, ⟨37, _⟩ => ⟨S2x8192x4x128, .f32⟩
  | .hbm, ⟨38, _⟩ => ⟨S2x8192x4x128, .f32⟩
  | .hbm, ⟨39, _⟩ => ⟨S2x8192x4x128, .f32⟩
  | .hbm, ⟨40, _⟩ => ⟨S2x8192x4x128, .f32⟩
  | .hbm, ⟨41, _⟩ => ⟨S2x8192x4x128, .f32⟩
  | .hbm, ⟨42, _⟩ => ⟨S2x8192x4x128, .f32⟩
  | .hbm, ⟨43, _⟩ => ⟨S2x8192x4x128, .f32⟩
  | .hbm, ⟨44, _⟩ => ⟨S2x8192x4x128, .f32⟩
  | .hbm, ⟨45, _⟩ => ⟨S2x8192x4x0, .f32⟩
  | .hbm, ⟨46, _⟩ => ⟨S2x8192x4x256, .f32⟩
  | .hbm, ⟨47, _⟩ => ⟨S2x8192x1024, .f32⟩
  | .hbm, ⟨48, _⟩ => ⟨S2x8192x4x256, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S8192, .f32⟩
  | .hbm, ⟨58, _⟩ => ⟨S8192x1, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S1x8192x1x128, .f32⟩
  | .hbm, ⟨65, _⟩ => ⟨S8192x128, .f32⟩
  | .hbm, ⟨66, _⟩ => ⟨S1x8192x1x128, .f32⟩
  | .hbm, ⟨67, _⟩ => ⟨S2x8192x4x128, .f32⟩
  | .hbm, ⟨68, _⟩ => ⟨S2x8192x4x128, .f32⟩
  | .hbm, ⟨69, _⟩ => ⟨S2x8192x4x128, .f32⟩
  | .hbm, ⟨70, _⟩ => ⟨S2x8192x4x128, .f32⟩
  | .hbm, ⟨71, _⟩ => ⟨S2x8192x4x128, .f32⟩
  | .hbm, ⟨72, _⟩ => ⟨S2x8192x4x128, .f32⟩
  | .hbm, ⟨73, _⟩ => ⟨S2x8192x4x128, .f32⟩
  | .hbm, ⟨74, _⟩ => ⟨S2x8192x4x128, .f32⟩
  | .hbm, ⟨75, _⟩ => ⟨S2x8192x4x128, .f32⟩
  | .hbm, ⟨76, _⟩ => ⟨S2x8192x4x128, .f32⟩
  | .hbm, ⟨77, _⟩ => ⟨S2x8192x4x128, .f32⟩
  | .hbm, ⟨78, _⟩ => ⟨S2x8192x4x128, .f32⟩
  | .hbm, ⟨79, _⟩ => ⟨S2x8192x4x0, .f32⟩
  | .hbm, ⟨80, _⟩ => ⟨S2x8192x4x256, .f32⟩
  | .hbm, ⟨81, _⟩ => ⟨S_, .f32⟩
  | .hbm, ⟨82, _⟩ => ⟨S2x8192x4x256, .f32⟩
  | .hbm, ⟨83, _⟩ => ⟨S2x8192x4x256, .f32⟩
  | .hbm, ⟨84, _⟩ => ⟨S16384x1024, .f32⟩
  | .hbm, ⟨85, _⟩ => ⟨S16384x1024, .f32⟩
  | .hbm, ⟨86, _⟩ => ⟨S2x8192x4096, .f32⟩
  | .hbm, ⟨87, _⟩ => ⟨S16384x4096, .f32⟩
  | .hbm, ⟨88, _⟩ => ⟨S16384x6144, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_4 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩

abbrev nD : Nat := 1
abbrev τ : Topo := Topo.v7x

variable {F : FTy → Type} [FloatOps F]
-- ==== Moba.lean ====
abbrev S2x8192x1024 : Shape := ⟨3, ![2, 8192, 1024]⟩
abbrev S2x1x1024 : Shape := ⟨3, ![2, 1, 1024]⟩
abbrev S1024x3072 : Shape := ⟨2, ![1024, 3072]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x1x128 : Shape := ⟨4, ![1, 8192, 1, 128]⟩
abbrev S1x8192x8x128 : Shape := ⟨4, ![1, 8192, 8, 128]⟩
abbrev S8192x1024 : Shape := ⟨2, ![8192, 1024]⟩
abbrev S16384x1024 : Shape := ⟨2, ![16384, 1024]⟩
abbrev S2x8x8192x128 : Shape := ⟨4, ![2, 8, 8192, 128]⟩
abbrev S2x8x128x8192 : Shape := ⟨4, ![2, 8, 128, 8192]⟩
abbrev S2x32x8x128 : Shape := ⟨4, ![2, 32, 8, 128]⟩
abbrev S256x1024 : Shape := ⟨2, ![256, 1024]⟩
abbrev S1x1x1024 : Shape := ⟨3, ![1, 1, 1024]⟩
abbrev S1x8x256x128 : Shape := ⟨4, ![1, 8, 256, 128]⟩
abbrev S1x8x128x256 : Shape := ⟨4, ![1, 8, 128, 256]⟩
abbrev S1x1x8x128 : Shape := ⟨4, ![1, 1, 8, 128]⟩
abbrev S1x1024 : Shape := ⟨2, ![1, 1024]⟩
abbrev S256x3072 : Shape := ⟨2, ![256, 3072]⟩
abbrev S256x128 : Shape := ⟨2, ![256, 128]⟩
abbrev S1x1x256x128 : Shape := ⟨4, ![1, 1, 256, 128]⟩
abbrev S128x256 : Shape := ⟨2, ![128, 256]⟩
abbrev S1x1x128x256 : Shape := ⟨4, ![1, 1, 128, 256]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 50
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S8192, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S8192, .f32⟩
  | .hbm, ⟨14, _⟩ => ⟨S8192x1, .f32⟩
  | .hbm, ⟨15, _⟩ => ⟨S1x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x96, .f32⟩
  | .hbm, ⟨23, _⟩ => ⟨S8192x128, .f32⟩
  | .hbm, ⟨24, _⟩ => ⟨S8192x16, .f32⟩
  | .hbm, ⟨25, _⟩ => ⟨S_, .f32⟩
  | .hbm, ⟨26, _⟩ => ⟨S8192x112, .f32⟩
  | .hbm, ⟨27, _⟩ => ⟨S8192x128, .f32⟩
  | .hbm, ⟨28, _⟩ => ⟨S_, .f32⟩
  | .hbm, ⟨29, _⟩ => ⟨S8192x16, .f32⟩
  | .hbm, ⟨30, _⟩ => ⟨S_, .f32⟩
  | .hbm, ⟨31, _⟩ => ⟨S8192x96, .f32⟩
  | .hbm, ⟨32, _⟩ => ⟨S8192x128, .f32⟩
  | .hbm, ⟨33, _⟩ => ⟨S1x8192x1x128, .f32⟩
  | .hbm, ⟨34, _⟩ => ⟨S1x8192x8x128, .f32⟩
  | .hbm, ⟨35, _⟩ => ⟨S8192x1024, .f32⟩
  | .hbm, ⟨36, _⟩ => ⟨S1x8192x1x128, .f32⟩
  | .hbm, ⟨37, _⟩ => ⟨S1x8192x8x128, .f32⟩
  | .hbm, ⟨38, _⟩ => ⟨S8192x1024, .f32⟩
  | .hbm, ⟨39, _⟩ => ⟨S1x8192x1x128, .f32⟩
  | .hbm, ⟨40, _⟩ => ⟨S1x8192x8x128, .f32⟩
  | .hbm, ⟨41, _⟩ => ⟨S8192x1024, .f32⟩
  | .hbm, ⟨42, _⟩ => ⟨S16384x1024, .f32⟩
  | .hbm, ⟨43, _⟩ => ⟨S1024x3072, .bf16⟩
  | .hbm, ⟨44, _⟩ => ⟨S16384x1024, .bf16⟩
  | .hbm, ⟨45, _⟩ => ⟨S2x8x8192x128, .f32⟩
  | .hbm, ⟨46, _⟩ => ⟨S2x8x8192x128, .f32⟩
  | .hbm, ⟨47, _⟩ => ⟨S2x8x8192x128, .bf16⟩
  | .hbm, ⟨48, _⟩ => ⟨S2x8x128x8192, .bf16⟩
  | .hbm, ⟨49, _⟩ => ⟨S2x32x8x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x8x256x128, .f32⟩
  | .local _ .vmem, ⟨16, _⟩ => ⟨S1x8x256x128, .f32⟩
  | .local _ .vmem, ⟨17, _⟩ => ⟨S1x8x256x128, .f32⟩
  | .local _ .vmem, ⟨18, _⟩ => ⟨S1x8x256x128, .f32⟩
  | .local _ .vmem, ⟨19, _⟩ => ⟨S1x8x256x128, .bf16⟩
  | .local _ .vmem, ⟨20, _⟩ => ⟨S1x8x256x128, .bf16⟩
  | .local _ .vmem, ⟨21, _⟩ => ⟨S1x8x128x256, .bf16⟩
  | .local _ .vmem, ⟨22, _⟩ => ⟨S1x8x128x256, .bf16⟩
  | .local _ .vmem, ⟨23, _⟩ => ⟨S1x1x8x128, .f32⟩
  | .local _ .vmem, ⟨24, _⟩ => ⟨S1x1x8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev main_v34_3 : Ref sig .tc := ⟨.hbm, 47, rfl⟩
abbrev main_v34_4 : Ref sig .tc := ⟨.hbm, 48, rfl⟩
abbrev main_v34_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MobaReferenceIdeal.lean ====
abbrev S2x8192x1024 : Shape := ⟨3, ![2, 8192, 1024]⟩
abbrev S2x1x1024 : Shape := ⟨3, ![2, 1, 1024]⟩
abbrev S1024x3072 : Shape := ⟨2, ![1024, 3072]⟩
abbrev S8192 : Shape := ⟨1, ![8192]⟩
abbrev S_ : Shape := ⟨0, ![]⟩
abbrev S2x8192x3072 : Shape := ⟨3, ![2, 8192, 3072]⟩
abbrev S2x8192x3x8x128 : Shape := ⟨5, ![2, 8192, 3, 8, 128]⟩
abbrev S2x8192x1x8x128 : Shape := ⟨5, ![2, 8192, 1, 8, 128]⟩
abbrev S2x8192x8x128 : Shape := ⟨4, ![2, 8192, 8, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S2x8192x8x16 : Shape := ⟨4, ![2, 8192, 8, 16]⟩
abbrev S2x8192x8x96 : Shape := ⟨4, ![2, 8192, 8, 96]⟩
abbrev S2x32x256x8x128 : Shape := ⟨5, ![2, 32, 256, 8, 128]⟩
abbrev S2x8x32x256x128 : Shape := ⟨5, ![2, 8, 32, 256, 128]⟩
abbrev S2x8x32x128 : Shape := ⟨4, ![2, 8, 32, 128]⟩
abbrev S2x8x8192x128 : Shape := ⟨4, ![2, 8, 8192, 128]⟩
abbrev S16384x1024 : Shape := ⟨2, ![16384, 1024]⟩
abbrev S2x8x128x8192 : Shape := ⟨4, ![2, 8, 128, 8192]⟩
abbrev S2x32x8x128 : Shape := ⟨4, ![2, 32, 8, 128]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S8192, .i32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x3072, .f32⟩
  | .hbm, ⟨13, _⟩ => ⟨S2x8192x3x8x128, .f32⟩
  | .hbm, ⟨14, _⟩ => ⟨S2x8192x1x8x128, .f32⟩
  | .hbm, ⟨15, _⟩ => ⟨S2x8192x8x128, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16, .f32⟩
  | .hbm, ⟨24, _⟩ => ⟨S8192, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x8192x1x16, .f32⟩
  | .hbm, ⟨32, _⟩ => ⟨S8192x16, .f32⟩
  | .hbm, ⟨33, _⟩ => ⟨S1x8192x1x16, .f32⟩
  | .hbm, ⟨34, _⟩ => ⟨S2x8192x8x16, .f32⟩
  | .hbm, ⟨35, _⟩ => ⟨S2x8192x8x16, .f32⟩
  | .hbm, ⟨36, _⟩ => ⟨S2x8192x8x16, .f32⟩
  | .hbm, ⟨37, _⟩ => ⟨S2x8192x8x16, .f32⟩
  | .hbm, ⟨38, _⟩ => ⟨S2x8192x8x16, .f32⟩
  | .hbm, ⟨39, _⟩ => ⟨S2x8192x8x16, .f32⟩
  | .hbm, ⟨40, _⟩ => ⟨S2x8192x8x16, .f32⟩
  | .hbm, ⟨41, _⟩ => ⟨S2x8192x8x16, .f32⟩
  | .hbm, ⟨42, _⟩ => ⟨S2x8192x8x16, .f32⟩
  | .hbm, ⟨43, _⟩ => ⟨S2x8192x8x16, .f32⟩
  | .hbm, ⟨44, _⟩ => ⟨S2x8192x8x16, .f32⟩
  | .hbm, ⟨45, _⟩ => ⟨S2x8192x8x16, .f32⟩
  | .hbm, ⟨46, _⟩ => ⟨S2x8192x8x96, .f32⟩
  | .hbm, ⟨47, _⟩ => ⟨S2x8192x8x128, .f32⟩
  | .hbm, ⟨48, _⟩ => ⟨S2x8192x1x8x128, .f32⟩
  | .hbm, ⟨49, _⟩ => ⟨S2x8192x8x128, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S8192, .f32⟩
  | .hbm, ⟨59, _⟩ => ⟨S8192x1, .f32⟩
  | .hbm, ⟨60, _⟩ => ⟨S1x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S1x8192x1x16, .f32⟩
  | .hbm, ⟨66, _⟩ => ⟨S8192x16, .f32⟩
  | .hbm, ⟨67, _⟩ => ⟨S1x8192x1x16, .f32⟩
  | .hbm, ⟨68, _⟩ => ⟨S2x8192x8x16, .f32⟩
  | .hbm, ⟨69, _⟩ => ⟨S2x8192x8x16, .f32⟩
  | .hbm, ⟨70, _⟩ => ⟨S2x8192x8x16, .f32⟩
  | .hbm, ⟨71, _⟩ => ⟨S2x8192x8x16, .f32⟩
  | .hbm, ⟨72, _⟩ => ⟨S2x8192x8x16, .f32⟩
  | .hbm, ⟨73, _⟩ => ⟨S2x8192x8x16, .f32⟩
  | .hbm, ⟨74, _⟩ => ⟨S2x8192x8x16, .f32⟩
  | .hbm, ⟨75, _⟩ => ⟨S2x8192x8x16, .f32⟩
  | .hbm, ⟨76, _⟩ => ⟨S2x8192x8x16, .f32⟩
  | .hbm, ⟨77, _⟩ => ⟨S2x8192x8x16, .f32⟩
  | .hbm, ⟨78, _⟩ => ⟨S2x8192x8x16, .f32⟩
  | .hbm, ⟨79, _⟩ => ⟨S2x8192x8x16, .f32⟩
  | .hbm, ⟨80, _⟩ => ⟨S2x8192x8x96, .f32⟩
  | .hbm, ⟨81, _⟩ => ⟨S2x8192x8x128, .f32⟩
  | .hbm, ⟨82, _⟩ => ⟨S2x8192x1x8x128, .f32⟩
  | .hbm, ⟨83, _⟩ => ⟨S2x8192x8x128, .f32⟩
  | .hbm, ⟨84, _⟩ => ⟨S2x32x256x8x128, .f32⟩
  | .hbm, ⟨85, _⟩ => ⟨S2x8x32x256x128, .f32⟩
  | .hbm, ⟨86, _⟩ => ⟨S_, .f32⟩
  | .hbm, ⟨87, _⟩ => ⟨S2x8x32x128, .f32⟩
  | .hbm, ⟨88, _⟩ => ⟨S_, .f32⟩
  | .hbm, ⟨89, _⟩ => ⟨S2x8x32x128, .f32⟩
  | .hbm, ⟨90, _⟩ => ⟨S2x8x32x128, .f32⟩
  | .hbm, ⟨91, _⟩ => ⟨S2x8x8192x128, .f32⟩
  | .hbm, ⟨92, _⟩ => ⟨S2x8x8192x128, .f32⟩
  | .hbm, ⟨93, _⟩ => ⟨S16384x1024, .f32⟩
  | .hbm, ⟨94, _⟩ => ⟨S16384x1024, .bf16⟩
  | .hbm, ⟨95, _⟩ => ⟨S2x8x8192x128, .bf16⟩
  | .hbm, ⟨96, _⟩ => ⟨S2x8x128x8192, .f32⟩
  | .hbm, ⟨97, _⟩ => ⟨S2x8x128x8192, .bf16⟩
  | .hbm, ⟨98, _⟩ => ⟨S2x32x8x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_4 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩

abbrev nD : Nat := 1
abbrev τ : Topo := Topo.v7x

variable {F : FTy → Type} [FloatOps F]
-- ==== Samp.lean ====
abbrev S128x1x1024 : Shape := ⟨3, ![128, 1, 1024]⟩
abbrev S128x1024 : Shape := ⟨2, ![128, 1024]⟩
abbrev S1024x3072 : Shape := ⟨2, ![1024, 3072]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x112 : Shape := ⟨2, ![1, 112]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S1x128x1024 : Shape := ⟨3, ![1, 128, 1024]⟩
abbrev S1x8x128x128 : Shape := ⟨4, ![1, 8, 128, 128]⟩
abbrev S128x3072 : Shape := ⟨2, ![128, 3072]⟩
abbrev S128x128 : Shape := ⟨2, ![128, 128]⟩
abbrev S1x1x128x128 : Shape := ⟨4, ![1, 1, 128, 128]⟩
abbrev S128 : Shape := ⟨1, ![128]⟩

abbrev nBuf : Space → Nat
  | .hbm => 52
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024x3072, .f32⟩
  | .hbm, ⟨4, _⟩ => ⟨S_, .i32⟩
  | .hbm, ⟨5, _⟩ => ⟨S1, .i32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S1, .f32⟩
  | .hbm, ⟨15, _⟩ => ⟨S1x1, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S_, .f32⟩
  | .hbm, ⟨22, _⟩ => ⟨S1x96, .f32⟩
  | .hbm, ⟨23, _⟩ => ⟨S1x128, .f32⟩
  | .hbm, ⟨24, _⟩ => ⟨S1x16, .f32⟩
  | .hbm, ⟨25, _⟩ => ⟨S_, .f32⟩
  | .hbm, ⟨26, _⟩ => ⟨S1x112, .f32⟩
  | .hbm, ⟨27, _⟩ => ⟨S1x128, .f32⟩
  | .hbm, ⟨28, _⟩ => ⟨S_, .f32⟩
  | .hbm, ⟨29, _⟩ => ⟨S1x16, .f32⟩
  | .hbm, ⟨30, _⟩ => ⟨S_, .f32⟩
  | .hbm, ⟨31, _⟩ => ⟨S1x96, .f32⟩
  | .hbm, ⟨32, _⟩ => ⟨S1x128, .f32⟩
  | .hbm, ⟨33, _⟩ => ⟨S1x1x1x128, .f32⟩
  | .hbm, ⟨34, _⟩ => ⟨S1x1x8x128, .f32⟩
  | .hbm, ⟨35, _⟩ => ⟨S1x1024, .f32⟩
  | .hbm, ⟨36, _⟩ => ⟨S1x1x1x128, .f32⟩
  | .hbm, ⟨37, _⟩ => ⟨S1x1x8x128, .f32⟩
  | .hbm, ⟨38, _⟩ => ⟨S1x1024, .f32⟩
  | .hbm, ⟨39, _⟩ => ⟨S1x1x1x128, .f32⟩
  | .hbm, ⟨40, _⟩ => ⟨S1x1x8x128, .f32⟩
  | .hbm, ⟨41, _⟩ => ⟨S1x1024, .f32⟩
  | .hbm, ⟨42, _⟩ => ⟨S128x1024, .f32⟩
  | .hbm, ⟨43, _⟩ => ⟨S1x128x1024, .f32⟩
  | .hbm, ⟨44, _⟩ => ⟨S1x128x1024, .f32⟩
  | .hbm, ⟨45, _⟩ => ⟨S1024x3072, .bf16⟩
  | .hbm, ⟨46, _⟩ => ⟨S128x1024, .bf16⟩
  | .hbm, ⟨47, _⟩ => ⟨S1x8x128x128, .f32⟩
  | .hbm, ⟨48, _⟩ => ⟨S1x8x128x128, .f32⟩
  | .hbm, ⟨49, _⟩ => ⟨S1x8x128x128, .bf16⟩
  | .hbm, ⟨50, _⟩ => ⟨S1x8x128x128, .bf16⟩
  | .hbm, ⟨51, _⟩ => ⟨S1x1x8x128, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x3072, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S128x1024, .bf16⟩
  | .local _ .vmem, ⟨8, _⟩ => ⟨S1x8x128x128, .f32⟩
  | .local _ .vmem, ⟨9, _⟩ => ⟨S1x8x128x128, .f32⟩
  | .local _ .vmem, ⟨10, _⟩ => ⟨S1x8x128x128, .bf16⟩
  | .local _ .vmem, ⟨11, _⟩ => ⟨S1x8x128x128, .bf16⟩
  | .local _ .vmem, ⟨12, _⟩ => ⟨S1x1x8x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_9 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_10 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_11 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_12 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SampReferenceIdeal.lean ====
abbrev S128x1x1024 : Shape := ⟨3, ![128, 1, 1024]⟩
abbrev S128x1024 : Shape := ⟨2, ![128, 1024]⟩
abbrev S1024x3072 : Shape := ⟨2, ![1024, 3072]⟩
abbrev S1 : Shape := ⟨1, ![1]⟩
abbrev S_ : Shape := ⟨0, ![]⟩
abbrev S128x1x3072 : Shape := ⟨3, ![128, 1, 3072]⟩
abbrev S128x1x3x8x128 : Shape := ⟨5, ![128, 1, 3, 8, 128]⟩
abbrev S128x1x1x8x128 : Shape := ⟨5, ![128, 1, 1, 8, 128]⟩
abbrev S128x1x8x128 : Shape := ⟨4, ![128, 1, 8, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S128x1x8x16 : Shape := ⟨4, ![128, 1, 8, 16]⟩
abbrev S128x1x8x96 : Shape := ⟨4, ![128, 1, 8, 96]⟩
abbrev S1x8x128x128 : Shape := ⟨4, ![1, 8, 128, 128]⟩

abbrev nBuf : Space → Nat
  | .hbm => 89
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024x3072, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S128x1x1024, .f32⟩
  | .hbm, ⟨9, _⟩ => ⟨S_, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x3072, .f32⟩
  | .hbm, ⟨16, _⟩ => ⟨S128x1x3x8x128, .f32⟩
  | .hbm, ⟨17, _⟩ => ⟨S128x1x1x8x128, .f32⟩
  | .hbm, ⟨18, _⟩ => ⟨S128x1x8x128, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S1, .f32⟩
  | .hbm, ⟨28, _⟩ => ⟨S1x1, .f32⟩
  | .hbm, ⟨29, _⟩ => ⟨S1x16, .f32⟩
  | .hbm, ⟨30, _⟩ => ⟨S1x16, .f32⟩
  | .hbm, ⟨31, _⟩ => ⟨S1x16, .f32⟩
  | .hbm, ⟨32, _⟩ => ⟨S1x16, .f32⟩
  | .hbm, ⟨33, _⟩ => ⟨S1x1x1x16, .f32⟩
  | .hbm, ⟨34, _⟩ => ⟨S1x16, .f32⟩
  | .hbm, ⟨35, _⟩ => ⟨S1x1x1x16, .f32⟩
  | .hbm, ⟨36, _⟩ => ⟨S128x1x8x16, .f32⟩
  | .hbm, ⟨37, _⟩ => ⟨S128x1x8x16, .f32⟩
  | .hbm, ⟨38, _⟩ => ⟨S128x1x8x16, .f32⟩
  | .hbm, ⟨39, _⟩ => ⟨S128x1x8x16, .f32⟩
  | .hbm, ⟨40, _⟩ => ⟨S128x1x8x16, .f32⟩
  | .hbm, ⟨41, _⟩ => ⟨S128x1x8x16, .f32⟩
  | .hbm, ⟨42, _⟩ => ⟨S128x1x8x16, .f32⟩
  | .hbm, ⟨43, _⟩ => ⟨S128x1x8x16, .f32⟩
  | .hbm, ⟨44, _⟩ => ⟨S128x1x8x16, .f32⟩
  | .hbm, ⟨45, _⟩ => ⟨S128x1x8x16, .f32⟩
  | .hbm, ⟨46, _⟩ => ⟨S128x1x8x16, .f32⟩
  | .hbm, ⟨47, _⟩ => ⟨S128x1x8x16, .f32⟩
  | .hbm, ⟨48, _⟩ => ⟨S128x1x8x96, .f32⟩
  | .hbm, ⟨49, _⟩ => ⟨S128x1x8x128, .f32⟩
  | .hbm, ⟨50, _⟩ => ⟨S128x1x1x8x128, .f32⟩
  | .hbm, ⟨51, _⟩ => ⟨S128x1x8x128, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S1, .f32⟩
  | .hbm, ⟨61, _⟩ => ⟨S1x1, .f32⟩
  | .hbm, ⟨62, _⟩ => ⟨S1x16, .f32⟩
  | .hbm, ⟨63, _⟩ => ⟨S1x16, .f32⟩
  | .hbm, ⟨64, _⟩ => ⟨S1x16, .f32⟩
  | .hbm, ⟨65, _⟩ => ⟨S1x16, .f32⟩
  | .hbm, ⟨66, _⟩ => ⟨S1x1x1x16, .f32⟩
  | .hbm, ⟨67, _⟩ => ⟨S1x16, .f32⟩
  | .hbm, ⟨68, _⟩ => ⟨S1x1x1x16, .f32⟩
  | .hbm, ⟨69, _⟩ => ⟨S128x1x8x16, .f32⟩
  | .hbm, ⟨70, _⟩ => ⟨S128x1x8x16, .f32⟩
  | .hbm, ⟨71, _⟩ => ⟨S128x1x8x16, .f32⟩
  | .hbm, ⟨72, _⟩ => ⟨S128x1x8x16, .f32⟩
  | .hbm, ⟨73, _⟩ => ⟨S128x1x8x16, .f32⟩
  | .hbm, ⟨74, _⟩ => ⟨S128x1x8x16, .f32⟩
  | .hbm, ⟨75, _⟩ => ⟨S128x1x8x16, .f32⟩
  | .hbm, ⟨76, _⟩ => ⟨S128x1x8x16, .f32⟩
  | .hbm, ⟨77, _⟩ => ⟨S128x1x8x16, .f32⟩
  | .hbm, ⟨78, _⟩ => ⟨S128x1x8x16, .f32⟩
  | .hbm, ⟨79, _⟩ => ⟨S128x1x8x16, .f32⟩
  | .hbm, ⟨80, _⟩ => ⟨S128x1x8x16, .f32⟩
  | .hbm, ⟨81, _⟩ => ⟨S128x1x8x96, .f32⟩
  | .hbm, ⟨82, _⟩ => ⟨S128x1x8x128, .f32⟩
  | .hbm, ⟨83, _⟩ => ⟨S128x1x1x8x128, .f32⟩
  | .hbm, ⟨84, _⟩ => ⟨S128x1x8x128, .f32⟩
  | .hbm, ⟨85, _⟩ => ⟨S128x1024, .f32⟩
  | .hbm, ⟨86, _⟩ => ⟨S128x1024, .bf16⟩
  | .hbm, ⟨87, _⟩ => ⟨S1x8x128x128, .f32⟩
  | .hbm, ⟨88, _⟩ => ⟨S1x8x128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩

abbrev nD : Nat := 1
abbrev τ : Topo := Topo.v7x

variable {F : FTy → Type} [FloatOps F]
-- ==== Late.lean ====
abbrev S128x1x1024 : Shape := ⟨3, ![128, 1, 1024]⟩
abbrev S128x1024 : Shape := ⟨2, ![128, 1024]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x8x128 : Shape := ⟨3, ![256, 8, 128]⟩
abbrev S_ : Shape := ⟨0, ![]⟩
abbrev S1024x896 : Shape := ⟨2, ![1024, 896]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S1x512 : Shape := ⟨2, ![1, 512]⟩
abbrev S1x256 : Shape := ⟨2, ![1, 256]⟩
abbrev S8x128x256 : Shape := ⟨3, ![8, 128, 256]⟩
abbrev S1 : Shape := ⟨1, ![1]⟩
abbrev S32 : Shape := ⟨1, ![32]⟩
abbrev S1x1 : Shape := ⟨2, ![1, 1]⟩
abbrev S1x32 : Shape := ⟨2, ![1, 32]⟩
abbrev S1x0 : Shape := ⟨2, ![1, 0]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x128 : Shape := ⟨2, ![1, 128]⟩
abbrev S1x96 : Shape := ⟨2, ![1, 96]⟩
abbrev S1x1x1x128 : Shape := ⟨4, ![1, 1, 1, 128]⟩
abbrev S1x128x1024 : Shape := ⟨3, ![1, 128, 1024]⟩
abbrev S128x256 : Shape := ⟨2, ![128, 256]⟩
abbrev S128x64 : Shape := ⟨2, ![128, 64]⟩
abbrev S128x384 : Shape := ⟨2, ![128, 384]⟩
abbrev S1x256x128 : Shape := ⟨3, ![1, 256, 128]⟩
abbrev S128x3072 : Shape := ⟨2, ![128, 3072]⟩
abbrev S128x896 : Shape := ⟨2, ![128, 896]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S256x128 : Shape := ⟨2, ![256, 128]⟩
abbrev S128x1536 : Shape := ⟨2, ![128, 1536]⟩
abbrev S1x128x256 : Shape := ⟨3, ![1, 128, 256]⟩

abbrev nBuf : Space → Nat
  | .hbm => 105
  | .vmem => 19
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024x832, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x8x128, .f32⟩
  | .hbm, ⟨8, _⟩ => ⟨S_, .i32⟩
  | .hbm, ⟨9, _⟩ => ⟨S_, .f32⟩
  | .hbm, ⟨10, _⟩ => ⟨S1024x896, .f32⟩
  | .hbm, ⟨11, _⟩ => ⟨S1024x896, .bf16⟩
  | .hbm, ⟨12, _⟩ => ⟨S512x8x192, .f32⟩
  | .hbm, ⟨13, _⟩ => ⟨S512x8x128, .f32⟩
  | .hbm, ⟨14, _⟩ => ⟨S512x1024, .f32⟩
  | .hbm, ⟨15, _⟩ => ⟨S512x8x64, .f32⟩
  | .hbm, ⟨16, _⟩ => ⟨S512x512, .f32⟩
  | .hbm, ⟨17, _⟩ => ⟨S512x1536, .f32⟩
  | .hbm, ⟨18, _⟩ => ⟨S1x512, .f32⟩
  | .hbm, ⟨19, _⟩ => ⟨S1x256, .f32⟩
  | .hbm, ⟨20, _⟩ => ⟨S512x1536, .bf16⟩
  | .hbm, ⟨21, _⟩ => ⟨S8x128x256, .f32⟩
  | .hbm, ⟨22, _⟩ => ⟨S8x128x256, .bf16⟩
  | .hbm, ⟨23, _⟩ => ⟨S_, .i32⟩
  | .hbm, ⟨24, _⟩ => ⟨S1, .i32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S1, .f32⟩
  | .hbm, ⟨34, _⟩ => ⟨S1x1, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S_, .f32⟩
  | .hbm, ⟨41, _⟩ => ⟨S1x0, .f32⟩
  | .hbm, ⟨42, _⟩ => ⟨S1x64, .f32⟩
  | .hbm, ⟨43, _⟩ => ⟨S1x32, .f32⟩
  | .hbm, ⟨44, _⟩ => ⟨S_, .f32⟩
  | .hbm, ⟨45, _⟩ => ⟨S1x32, .f32⟩
  | .hbm, ⟨46, _⟩ => ⟨S1x64, .f32⟩
  | .hbm, ⟨47, _⟩ => ⟨S_, .f32⟩
  | .hbm, ⟨48, _⟩ => ⟨S1x32, .f32⟩
  | .hbm, ⟨49, _⟩ => ⟨S_, .f32⟩
  | .hbm, ⟨50, _⟩ => ⟨S1x0, .f32⟩
  | .hbm, ⟨51, _⟩ => ⟨S1x64, .f32⟩
  | .hbm, ⟨52, _⟩ => ⟨S1x1x1x64, .f32⟩
  | .hbm, ⟨53, _⟩ => ⟨S1x1x8x64, .f32⟩
  | .hbm, ⟨54, _⟩ => ⟨S1x512, .f32⟩
  | .hbm, ⟨55, _⟩ => ⟨S1x1x1x64, .f32⟩
  | .hbm, ⟨56, _⟩ => ⟨S1x1x8x64, .f32⟩
  | .hbm, ⟨57, _⟩ => ⟨S1x512, .f32⟩
  | .hbm, ⟨58, _⟩ => ⟨S1x1x1x64, .f32⟩
  | .hbm, ⟨59, _⟩ => ⟨S1x1x8x64, .f32⟩
  | .hbm, ⟨60, _⟩ => ⟨S1x512, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S1, .f32⟩
  | .hbm, ⟨70, _⟩ => ⟨S1x1, .f32⟩
  | .hbm, ⟨71, _⟩ => ⟨S1x32, .f32⟩
  | .hbm, ⟨72, _⟩ => ⟨S1x32, .f32⟩
  | .hbm, ⟨73, _⟩ => ⟨S1x32, .f32⟩
  | .hbm, ⟨74, _⟩ => ⟨S1x32, .f32⟩
  | .hbm, ⟨75, _⟩ => ⟨S1x32, .f32⟩
  | .hbm, ⟨76, _⟩ => ⟨S_, .f32⟩
  | .hbm, ⟨77, _⟩ => ⟨S1x64, .f32⟩
  | .hbm, ⟨78, _⟩ => ⟨S1x128, .f32⟩
  | .hbm, ⟨79, _⟩ => ⟨S1x32, .f32⟩
  | .hbm, ⟨80, _⟩ => ⟨S_, .f32⟩
  | .hbm, ⟨81, _⟩ => ⟨S1x96, .f32⟩
  | .hbm, ⟨82, _⟩ => ⟨S1x128, .f32⟩
  | .hbm, ⟨83, _⟩ => ⟨S_, .f32⟩
  | .hbm, ⟨84, _⟩ => ⟨S1x32, .f32⟩
  | .hbm, ⟨85, _⟩ => ⟨S_, .f32⟩
  | .hbm, ⟨86, _⟩ => ⟨S1x64, .f32⟩
  | .hbm, ⟨87, _⟩ => ⟨S1x128, .f32⟩
  | .hbm, ⟨88, _⟩ => ⟨S1x1x1x128, .f32⟩
  | .hbm, ⟨89, _⟩ => ⟨S1x1x1x128, .f32⟩
  | .hbm, ⟨90, _⟩ => ⟨S1x128, .f32⟩
  | .hbm, ⟨91, _⟩ => ⟨S1x1x1x128, .f32⟩
  | .hbm, ⟨92, _⟩ => ⟨S1x1x1x128, .f32⟩
  | .hbm, ⟨93, _⟩ => ⟨S1x128, .f32⟩
  | .hbm, ⟨94, _⟩ => ⟨S1x1x1x128, .f32⟩
  | .hbm, ⟨95, _⟩ => ⟨S1x1x1x128, .f32⟩
  | .hbm, ⟨96, _⟩ => ⟨S1x128, .f32⟩
  | .hbm, ⟨97, _⟩ => ⟨S128x1024, .f32⟩
  | .hbm, ⟨98, _⟩ => ⟨S1x128x1024, .f32⟩
  | .hbm, ⟨99, _⟩ => ⟨S1x128x1024, .f32⟩
  | .hbm, ⟨100, _⟩ => ⟨S128x256, .f32⟩
  | .hbm, ⟨101, _⟩ => ⟨S128x64, .f32⟩
  | .hbm, ⟨102, _⟩ => ⟨S128x384, .bf16⟩
  | .hbm, ⟨103, _⟩ => ⟨S1x256x128, .bf16⟩
  | .hbm, ⟨104, _⟩ => ⟨S128x3072, .bf16⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x896, .bf16⟩
  | .local _ .vmem, ⟨4, _⟩ => ⟨S1x512, .f32⟩
  | .local _ .vmem, ⟨5, _⟩ => ⟨S1x256, .f32⟩
  | .local _ .vmem, ⟨6, _⟩ => ⟨S512x1536, .bf16⟩
  | .local _ .vmem, ⟨7, _⟩ => ⟨S8x128x256, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x256, .f32⟩
  | .local _ .vmem, ⟨15, _⟩ => ⟨S128x64, .f32⟩
  | .local _ .vmem, ⟨16, _⟩ => ⟨S128x384, .bf16⟩
  | .local _ .vmem, ⟨17, _⟩ => ⟨S1x256x128, .bf16⟩
  | .local _ .vmem, ⟨18, _⟩ => ⟨S128x3072, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77_0 : Ref sig .tc := ⟨.hbm, 100, rfl⟩
abbrev main_v77_1 : Ref sig .tc := ⟨.hbm, 101, rfl⟩
abbrev main_v77_2 : Ref sig .tc := ⟨.hbm, 102, rfl⟩
abbrev main_v77_3 : Ref sig .tc := ⟨.hbm, 103, rfl⟩
abbrev main_v77_4 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x3072 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== LateReferenceIdeal.lean ====
abbrev S128x1x1024 : Shape := ⟨3, ![128, 1, 1024]⟩
abbrev S128x1024 : Shape := ⟨2, ![128, 1024]⟩
abbrev S1024x832 : Shape := ⟨2, ![1024, 832]⟩
abbrev S512 : Shape := ⟨1, ![512]⟩
abbrev S256 : Shape := ⟨1, ![256]⟩
abbrev S512x1536 : Shape := ⟨2, ![512, 1536]⟩
abbrev S256x8x128 : Shape := ⟨3, ![256, 8, 128]⟩
abbrev S1 : Shape := ⟨1, ![1]⟩
abbrev S_ : Shape := ⟨0, ![]⟩
abbrev S128x1x832 : Shape := ⟨3, ![128, 1, 832]⟩
abbrev S128x1x256 : Shape := ⟨3, ![128, 1, 256]⟩
abbrev S128x1 : Shape := ⟨2, ![128, 1]⟩
abbrev S128x1x1 : Shape := ⟨3, ![128, 1, 1]⟩
abbrev S1x1x256 : Shape := ⟨3, ![1, 1, 256]⟩
abbrev S128x1x64 : Shape := ⟨3, ![128, 1, 64]⟩
abbrev S128x1x1x64 : Shape := ⟨4, ![128, 1, 1, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S128x1x1x32 : Shape := ⟨4, ![128, 1, 1, 32]⟩
abbrev S128x1x1x0 : Shape := ⟨4, ![128, 1, 1, 0]⟩
abbrev S128x256 : Shape := ⟨2, ![128, 256]⟩
abbrev S128x64 : Shape := ⟨2, ![128, 64]⟩

abbrev nBuf : Space → Nat
  | .hbm => 73
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024x832, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x8x128, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S128x1x1024, .f32⟩
  | .hbm, ⟨13, _⟩ => ⟨S_, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x832, .f32⟩
  | .hbm, ⟨20, _⟩ => ⟨S128x1x256, .f32⟩
  | .hbm, ⟨21, _⟩ => ⟨S128x1x256, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S128x1x1, .f32⟩
  | .hbm, ⟨32, _⟩ => ⟨S128x1x256, .f32⟩
  | .hbm, ⟨33, _⟩ => ⟨S128x1x256, .f32⟩
  | .hbm, ⟨34, _⟩ => ⟨S1x1x256, .f32⟩
  | .hbm, ⟨35, _⟩ => ⟨S128x1x256, .f32⟩
  | .hbm, ⟨36, _⟩ => ⟨S128x1x256, .f32⟩
  | .hbm, ⟨37, _⟩ => ⟨S128x1x64, .f32⟩
  | .hbm, ⟨38, _⟩ => ⟨S128x1x1x64, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S1, .f32⟩
  | .hbm, ⟨48, _⟩ => ⟨S1x1, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S1x32, .f32⟩
  | .hbm, ⟨53, _⟩ => ⟨S1x1x1x32, .f32⟩
  | .hbm, ⟨54, _⟩ => ⟨S1x32, .f32⟩
  | .hbm, ⟨55, _⟩ => ⟨S1x1x1x32, .f32⟩
  | .hbm, ⟨56, _⟩ => ⟨S128x1x1x32, .f32⟩
  | .hbm, ⟨57, _⟩ => ⟨S128x1x1x32, .f32⟩
  | .hbm, ⟨58, _⟩ => ⟨S128x1x1x32, .f32⟩
  | .hbm, ⟨59, _⟩ => ⟨S128x1x1x32, .f32⟩
  | .hbm, ⟨60, _⟩ => ⟨S128x1x1x32, .f32⟩
  | .hbm, ⟨61, _⟩ => ⟨S128x1x1x32, .f32⟩
  | .hbm, ⟨62, _⟩ => ⟨S128x1x1x32, .f32⟩
  | .hbm, ⟨63, _⟩ => ⟨S128x1x1x32, .f32⟩
  | .hbm, ⟨64, _⟩ => ⟨S128x1x1x32, .f32⟩
  | .hbm, ⟨65, _⟩ => ⟨S128x1x1x32, .f32⟩
  | .hbm, ⟨66, _⟩ => ⟨S128x1x1x32, .f32⟩
  | .hbm, ⟨67, _⟩ => ⟨S128x1x1x32, .f32⟩
  | .hbm, ⟨68, _⟩ => ⟨S128x1x1x0, .f32⟩
  | .hbm, ⟨69, _⟩ => ⟨S128x1x1x64, .f32⟩
  | .hbm, ⟨70, _⟩ => ⟨S128x1x64, .f32⟩
  | .hbm, ⟨71, _⟩ => ⟨S128x256, .f32⟩
  | .hbm, ⟨72, _⟩ => ⟨S128x64, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Proof.Ideal.Points.lean ====
/- Where on the grid each of the body's four conditionals is taken, and which of their combinations occur.
   The condition terms are those the body computes from its grid coordinates. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row of queries starts: its first block of keys is met. -/
abbrev cond0_0 (i : grid0.Coords) : Prop := (Scalar.cmpi .ne (Scalar.extui (Scalar.cmpi .eq (Scalar.select (Scalar.cmpi .slt (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32)) (BitVec.ofNat 32 (i 2).val) (Scalar.subi (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32))) 0#32)) 0#32) = 1#1

/-- The block of keys meets the diagonal, so the scores are masked. -/
abbrev cond0_1 (i : grid0.Coords) : Prop := (Scalar.cmpi .ne (Scalar.extui (Scalar.cmpi .sgt (Scalar.subi (Scalar.addi (Scalar.muli (Scalar.select (Scalar.cmpi .slt (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32)) (BitVec.ofNat 32 (i 2).val) (Scalar.subi (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32))) 512#32) 512#32) 1#32) (Scalar.muli (Scalar.select (Scalar.cmpi .slt (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32)) (BitVec.ofNat 32 (i 1).val) (Scalar.subi 31#32 (BitVec.ofNat 32 (i 1).val))) 256#32))) 0#32) = 1#1

/-- The block of keys lies wholly below the diagonal. -/
abbrev cond0_2 (i : grid0.Coords) : Prop := (Scalar.cmpi .ne (Scalar.extui (Scalar.xori (Scalar.cmpi .sgt (Scalar.subi (Scalar.addi (Scalar.muli (Scalar.select (Scalar.cmpi .slt (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32)) (BitVec.ofNat 32 (i 2).val) (Scalar.subi (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32))) 512#32) 512#32) 1#32) (Scalar.muli (Scalar.select (Scalar.cmpi .slt (BitVec.ofNat 32 (i 2).val) (Scalar.addi (Scalar.select (Scalar.andi (Scalar.cmpi .ne (Scalar.subi (Scalar.extui (Scalar.cmpi .sgt (Scalar.subi (Scalar.addi (Scalar.muli (BitVec.ofNat 32 (i 1).val) 256#32) 256#32) 1#32) 0#32)) (Scalar.extui (Scalar.cmpi .slt (Scalar.subi (Scalar.addi (Scalar.muli (BitVec.ofNat 32 (i 1).val) 256#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 256#32) 256#32) 1#32) 512#32) 0#32)) (Scalar.subi (Scalar.divsi (Scalar.subi (Scalar.addi (Scalar.muli (BitVec.ofNat 32 (i 1).val) 256#32) 256#32) 1#32) 512#32) 1#32) (Scalar.divsi (Scalar.subi (Scalar.addi (Scalar.muli (BitVec.ofNat 32 (i 1).val) 256#32) 256#32) 1#32) 512#32)) 1#32)) (BitVec.ofNat 32 (i 1).val) (Scalar.subi 31#32 (BitVec.ofNat 32 (i 1).val))) 256#32)) 1#1)) 0#32) = 1#1

/-- The block of keys is the last of its row of queries. -/
abbrev cond0_3 (i : grid0.Coords) : Prop := k0_cond4 i = 1#1

/-- The two score branches exclude each other, and one of them is taken. -/
theorem plain_iff : ∀ t : Fin cfg0.N, cond0_2 (grid0.coords t) ↔ ¬cond0_1 (grid0.coords t) :=
  (by decide +kernel : ∀ t : Fin grid0.N, cond0_2 (grid0.coords t) ↔ ¬cond0_1 (grid0.coords t))

/-- A block of keys meets the diagonal exactly when it is the last of its row. -/
theorem final_iff : ∀ t : Fin cfg0.N, cond0_3 (grid0.coords t) ↔ cond0_1 (grid0.coords t) :=
  (by decide +kernel : ∀ t : Fin grid0.N, cond0_3 (grid0.coords t) ↔ cond0_1 (grid0.coords t))

/-- The first point of the grid starts a row and ends it. -/
theorem zero_reset : ∀ t : Fin cfg0.N, t.val = 0 → cond0_0 (grid0.coords t) ∧ cond0_1 (grid0.coords t) :=
  (by decide +kernel : ∀ t : Fin grid0.N, t.val = 0 → cond0_0 (grid0.coords t) ∧ cond0_1 (grid0.coords t))

/-- The output's staging buffer is stored at the last block of a row, and left alone elsewhere. -/
theorem idle_iff : ∀ t : Fin cfg0.N, cfg0.idle 3 (grid0.coords t) = true ↔ ¬cond0_1 (grid0.coords t) :=
  (by decide +kernel : ∀ t : Fin grid0.N, cfg0.idle 3 (grid0.coords t) = true ↔ ¬cond0_1 (grid0.coords t))

/-- The output's block is written back at the last block of a row, and only there. -/
theorem flush_iff : ∀ t : Fin cfg0.N, (cfg0.win 3).flush t = true ↔ cond0_1 (grid0.coords t) :=
  (by decide +kernel : ∀ t : Fin grid0.N, (cfg0.win 3).flush t = true ↔ cond0_1 (grid0.coords t))

/-! ## The memrefs the body is called with -/

/-- One staging buffer of the output, through which its contents are stated. -/
abbrev VO0_3 : View sig .tc .vmem S256x2048 .bf16 := (Memref.whole cc0_stg3_0 : Memref sig .tc .vmem S256x2048 .bf16).view
/-- Each window's staging memref at a point, and that it is a whole buffer. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
/-- The three scratch buffers: running maximum, running sum, running weighted values. -/
abbrev scM0_0 : Memref sig .tc .vmem S8x1x256 .f32 := Memref.whole cc0_scratch0
abbrev scM0_1 : Memref sig .tc .vmem S8x1x256 .f32 := Memref.whole cc0_scratch1
abbrev scM0_2 : Memref sig .tc .vmem S8x256x256 .f32 := Memref.whole cc0_scratch2
/-- The scratch buffer `arg7` as a view, through which its contents are stated. -/
abbrev VS0_0 : View sig .tc .vmem S8x1x256 .f32 := scM0_0.view
/-- The scratch buffer `arg8` as a view, through which its contents are stated. -/
abbrev VS0_1 : View sig .tc .vmem S8x1x256 .f32 := scM0_1.view
/-- The scratch buffer `arg9` as a view, through which its contents are stated. -/
abbrev VS0_2 : View sig .tc .vmem S8x256x256 .f32 := scM0_2.view

/-- What the launch hands the body besides the windows: the scratch buffers at any contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Flash

end
-- ==== Proof.Ideal.RunA.lean ====
/- The body's run at a point where the first block of keys of a row is also its last: from the contents of its buffers, each buffer ends with a list of
   rectangles written, which the run itself finds. -/
module

public import proofs.«01_k».proof.Proof.Ideal.Points

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The rectangles the body writes into the output and the three scratch buffers, last first, and the proof that it
    runs and writes them: here the first block of keys of a row is also its last. Buffers it does not write come back as they were. -/
noncomputable def kernelRun0_A (c : Dev nD) (i : grid0.Coords) (arg3 : Memref sig .tc .vmem S256x3072 .bf16) (harg3 : arg3.IsWhole) (arg4 : Memref sig .tc .vmem S512x384 .bf16) (harg4 : arg4.IsWhole) (arg5 : Memref sig .tc .vmem S1x256x512 .bf16) (harg5 : arg5.IsWhole) (arg6 : Memref sig .tc .vmem S256x2048 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole) (hc0 : cond0_0 i) (hc1 : cond0_1 i) (hc2 : ¬cond0_2 i) (hc3 : cond0_3 i)
    (x0 : Vec F S256x3072 .bf16) (x1 : Vec F S512x384 .bf16) (x2 : Vec F S1x256x512 .bf16) :
    Σ' (L3 : List (View.Piece (Elt F) S256x2048 .bf16)), Σ' (LS0 : List (View.Piece (Elt F) S8x1x256 .f32)), Σ' (LS1 : List (View.Piece (Elt F) S8x1x256 .f32)), { LS2 : List (View.Piece (Elt F) S8x256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attn i arg3 harg3 arg4 harg4 arg5 harg5 arg6 harg6 arg7 harg7 arg8 harg8 arg9 harg9) K } := by
  refine ⟨?_, ?_, ?_, ?_, fun E K => ?run⟩
  case run =>
    simp only [cc0_mla_attn_eq_skeleton]; unfold cc0_mla_attn_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Flash

end
-- ==== Proof.Ideal.RunB.lean ====
/- The body's run at a point where the first block of a row that has more: from the contents of its buffers, each buffer ends with a list of
   rectangles written, which the run itself finds. -/
module

public import proofs.«01_k».proof.Proof.Ideal.RunA

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The rectangles the body writes into the output and the three scratch buffers, last first, and the proof that it
    runs and writes them: here the first block of a row that has more. Buffers it does not write come back as they were. -/
noncomputable def kernelRun0_B (c : Dev nD) (i : grid0.Coords) (arg3 : Memref sig .tc .vmem S256x3072 .bf16) (harg3 : arg3.IsWhole) (arg4 : Memref sig .tc .vmem S512x384 .bf16) (harg4 : arg4.IsWhole) (arg5 : Memref sig .tc .vmem S1x256x512 .bf16) (harg5 : arg5.IsWhole) (arg6 : Memref sig .tc .vmem S256x2048 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole) (hc0 : cond0_0 i) (hc1 : ¬cond0_1 i) (hc2 : cond0_2 i) (hc3 : ¬cond0_3 i)
    (x0 : Vec F S256x3072 .bf16) (x1 : Vec F S512x384 .bf16) (x2 : Vec F S1x256x512 .bf16) :
    Σ' (L3 : List (View.Piece (Elt F) S256x2048 .bf16)), Σ' (LS0 : List (View.Piece (Elt F) S8x1x256 .f32)), Σ' (LS1 : List (View.Piece (Elt F) S8x1x256 .f32)), { LS2 : List (View.Piece (Elt F) S8x256x256 .f32) //
      ∀ (xi3 : Vec F S256x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attn i arg3 harg3 arg4 harg4 arg5 harg5 arg6 harg6 arg7 harg7 arg8 harg8 arg9 harg9) K } := by
  refine ⟨[], ?_, ?_, ?_, fun xi3 E K => ?run⟩
  case run =>
    simp only [cc0_mla_attn_eq_skeleton]; unfold cc0_mla_attn_skel
    simp only [k0_part20_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Flash

end
-- ==== Proof.Ideal.RunC.lean ====
/- The body's run at a point where a block in the middle of a row: from the contents of its buffers, each buffer ends with a list of
   rectangles written, which the run itself finds. -/
module

public import proofs.«01_k».proof.Proof.Ideal.RunB

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The rectangles the body writes into the output and the three scratch buffers, last first, and the proof that it
    runs and writes them: here a block in the middle of a row. Buffers it does not write come back as they were. -/
noncomputable def kernelRun0_C (c : Dev nD) (i : grid0.Coords) (arg3 : Memref sig .tc .vmem S256x3072 .bf16) (harg3 : arg3.IsWhole) (arg4 : Memref sig .tc .vmem S512x384 .bf16) (harg4 : arg4.IsWhole) (arg5 : Memref sig .tc .vmem S1x256x512 .bf16) (harg5 : arg5.IsWhole) (arg6 : Memref sig .tc .vmem S256x2048 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole) (hc0 : ¬cond0_0 i) (hc1 : ¬cond0_1 i) (hc2 : cond0_2 i) (hc3 : ¬cond0_3 i)
    (x0 : Vec F S256x3072 .bf16) (x1 : Vec F S512x384 .bf16) (x2 : Vec F S1x256x512 .bf16) (xs0 : Vec F S8x1x256 .f32) (xs1 : Vec F S8x1x256 .f32) (xs2 : Vec F S8x256x256 .f32) :
    Σ' (L3 : List (View.Piece (Elt F) S256x2048 .bf16)), Σ' (LS0 : List (View.Piece (Elt F) S8x1x256 .f32)), Σ' (LS1 : List (View.Piece (Elt F) S8x1x256 .f32)), { LS2 : List (View.Piece (Elt F) S8x256x256 .f32) //
      ∀ (xi3 : Vec F S256x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attn i arg3 harg3 arg4 harg4 arg5 harg5 arg6 harg6 arg7 harg7 arg8 harg8 arg9 harg9) K } := by
  refine ⟨[], ?_, ?_, ?_, fun xi3 E K => ?run⟩
  case run =>
    simp only [cc0_mla_attn_eq_skeleton]; unfold cc0_mla_attn_skel
    simp only [k0_part20_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Flash

end
-- ==== Proof.Ideal.RunD.lean ====
/- The body's run at a point where the last block of a row that has more: from the contents of its buffers, each buffer ends with a list of
   rectangles written, which the run itself finds. -/
module

public import proofs.«01_k».proof.Proof.Ideal.RunC

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The rectangles the body writes into the output and the three scratch buffers, last first, and the proof that it
    runs and writes them: here the last block of a row that has more. Buffers it does not write come back as they were. -/
noncomputable def kernelRun0_D (c : Dev nD) (i : grid0.Coords) (arg3 : Memref sig .tc .vmem S256x3072 .bf16) (harg3 : arg3.IsWhole) (arg4 : Memref sig .tc .vmem S512x384 .bf16) (harg4 : arg4.IsWhole) (arg5 : Memref sig .tc .vmem S1x256x512 .bf16) (harg5 : arg5.IsWhole) (arg6 : Memref sig .tc .vmem S256x2048 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole) (hc0 : ¬cond0_0 i) (hc1 : cond0_1 i) (hc2 : ¬cond0_2 i) (hc3 : cond0_3 i)
    (x0 : Vec F S256x3072 .bf16) (x1 : Vec F S512x384 .bf16) (x2 : Vec F S1x256x512 .bf16) (xs0 : Vec F S8x1x256 .f32) (xs1 : Vec F S8x1x256 .f32) (xs2 : Vec F S8x256x256 .f32) :
    Σ' (L3 : List (View.Piece (Elt F) S256x2048 .bf16)), Σ' (LS0 : List (View.Piece (Elt F) S8x1x256 .f32)), Σ' (LS1 : List (View.Piece (Elt F) S8x1x256 .f32)), { LS2 : List (View.Piece (Elt F) S8x256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attn i arg3 harg3 arg4 harg4 arg5 harg5 arg6 harg6 arg7 harg7 arg8 harg8 arg9 harg9) K } := by
  refine ⟨?_, ?_, ?_, ?_, fun E K => ?run⟩
  case run =>
    simp only [cc0_mla_attn_eq_skeleton]; unfold cc0_mla_attn_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Flash

end
-- ==== Proof.Ideal.Frame.lean ====
/- The kernel's run from its body's: what the output and the three scratch buffers hold after each grid point, the
   pipeline's proof data built from it, the obligation on the body at every point, and the run of the whole program. -/
module

public import proofs.«01_k».proof.Proof.Ideal.RunD
public import Idealize.ShloMosaic.Lib.Claim

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] cc0_mla_attn

/-! ## The four runs at a grid point -/

/-- What the three scratch buffers hold: running maximum, running sum, running weighted values. -/
abbrev Scr (F : FTy → Type) [FloatOps F] : Type := Vec F S8x1x256 .f32 × Vec F S8x1x256 .f32 × Vec F S8x256x256 .f32

/-- The body's run at a point that is the only block of its row. -/
def runA (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    h0 h1 (fun h => (plain_iff t).mp h h1) ((final_iff t).mpr h1) x0 x1 x2

theorem coverA_out (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) (y : S256x2048.Idx) :
    ∃ pc ∈ (runA c t h0 h1 x0 x1 x2).1, y ∈ pc.1.set :=
  View.cover_of_tiledL (kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2).1 S256x256.size (by sl_kernel_rfl) y

theorem coverA_0 (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) (y : S8x1x256.Idx) :
    ∃ pc ∈ (runA c t h0 h1 x0 x1 x2).2.1, y ∈ pc.1.set :=
  View.cover_of_wholeMem (kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2).2.1 (by sl_whole_mem) y

theorem coverA_1 (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) (y : S8x1x256.Idx) :
    ∃ pc ∈ (runA c t h0 h1 x0 x1 x2).2.2.1, y ∈ pc.1.set :=
  View.cover_of_wholeMem (kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2).2.2.1 (by sl_whole_mem) y

theorem coverA_2 (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) (y : S8x256x256.Idx) :
    ∃ pc ∈ (runA c t h0 h1 x0 x1 x2).2.2.2.1, y ∈ pc.1.set :=
  View.cover_of_wholeMem (kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2).2.2.2.1 (by sl_whole_mem) y

/-- What that run leaves in the output's buffer and in the three scratch buffers. -/
def resA (c : Dev nD) (t : Fin cfg0.N) (h0 : cond0_0 (grid0.coords t)) (h1 : cond0_1 (grid0.coords t))
    (x0 : Vec F S256x3072 .bf16) (x1 : Vec F S512x384 .bf16) (x2 : Vec F S1x256x512 .bf16) : Vec F S256x2048 .bf16 × Scr F :=
  (VO0_3.read (Elt F) (VO0_3.writes (Elt F) VO0_3.junk (runA c t h0 h1 x0 x1 x2).1),
    VS0_0.read (Elt F) (VS0_0.writes (Elt F) VS0_0.junk (runA c t h0 h1 x0 x1 x2).2.1),
    VS0_1.read (Elt F) (VS0_1.writes (Elt F) VS0_1.junk (runA c t h0 h1 x0 x1 x2).2.2.1),
    VS0_2.read (Elt F) (VS0_2.writes (Elt F) VS0_2.junk (runA c t h0 h1 x0 x1 x2).2.2.2.1))

/-- The body's run at a point that is the first of several blocks of its row. -/
def runB (c : Dev nD) (t : Fin cfg0.N) (h0 : cond0_0 (grid0.coords t)) (h1 : ¬cond0_1 (grid0.coords t))
    (x0 : Vec F S256x3072 .bf16) (x1 : Vec F S512x384 .bf16) (x2 : Vec F S1x256x512 .bf16) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    h0 h1 ((plain_iff t).mpr h1) (fun h => h1 ((final_iff t).mp h)) x0 x1 x2

theorem coverB_0 (c : Dev nD) (t : Fin cfg0.N) (h0 : cond0_0 (grid0.coords t)) (h1 : ¬cond0_1 (grid0.coords t))
    (x0 : Vec F S256x3072 .bf16) (x1 : Vec F S512x384 .bf16) (x2 : Vec F S1x256x512 .bf16) (y : S8x1x256.Idx) :
    ∃ pc ∈ (runB c t h0 h1 x0 x1 x2).2.1, y ∈ pc.1.set :=
  View.cover_of_wholeMem (kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2).2.1 (by sl_whole_mem) y

theorem coverB_1 (c : Dev nD) (t : Fin cfg0.N) (h0 : cond0_0 (grid0.coords t)) (h1 : ¬cond0_1 (grid0.coords t))
    (x0 : Vec F S256x3072 .bf16) (x1 : Vec F S512x384 .bf16) (x2 : Vec F S1x256x512 .bf16) (y : S8x1x256.Idx) :
    ∃ pc ∈ (runB c t h0 h1 x0 x1 x2).2.2.1, y ∈ pc.1.set :=
  View.cover_of_wholeMem (kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2).2.2.1 (by sl_whole_mem) y

theorem coverB_2 (c : Dev nD) (t : Fin cfg0.N) (h0 : cond0_0 (grid0.coords t)) (h1 : ¬cond0_1 (grid0.coords t))
    (x0 : Vec F S256x3072 .bf16) (x1 : Vec F S512x384 .bf16) (x2 : Vec F S1x256x512 .bf16) (y : S8x256x256.Idx) :
    ∃ pc ∈ (runB c t h0 h1 x0 x1 x2).2.2.2.1, y ∈ pc.1.set :=
  View.cover_of_wholeMem (kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2).2.2.2.1 (by sl_whole_mem) y

/-- What that run leaves in the output's buffer and in the three scratch buffers. -/
def resB (c : Dev nD) (t : Fin cfg0.N) (h0 : cond0_0 (grid0.coords t)) (h1 : ¬cond0_1 (grid0.coords t))
    (x0 : Vec F S256x3072 .bf16) (x1 : Vec F S512x384 .bf16) (x2 : Vec F S1x256x512 .bf16) : Vec F S256x2048 .bf16 × Scr F :=
  (VO0_3.read (Elt F) (VO0_3.writes (Elt F) VO0_3.junk (runB c t h0 h1 x0 x1 x2).1),
    VS0_0.read (Elt F) (VS0_0.writes (Elt F) VS0_0.junk (runB c t h0 h1 x0 x1 x2).2.1),
    VS0_1.read (Elt F) (VS0_1.writes (Elt F) VS0_1.junk (runB c t h0 h1 x0 x1 x2).2.2.1),
    VS0_2.read (Elt F) (VS0_2.writes (Elt F) VS0_2.junk (runB c t h0 h1 x0 x1 x2).2.2.2.1))

/-- The body's run at a point that is a block in the middle of its row. -/
def runC (c : Dev nD) (t : Fin cfg0.N) (h0 : ¬cond0_0 (grid0.coords t)) (h1 : ¬cond0_1 (grid0.coords t))
    (x0 : Vec F S256x3072 .bf16) (x1 : Vec F S512x384 .bf16) (x2 : Vec F S1x256x512 .bf16) (s : Scr F) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    h0 h1 ((plain_iff t).mpr h1) (fun h => h1 ((final_iff t).mp h)) x0 x1 x2 s.1 s.2.1 s.2.2

theorem coverC_0 (c : Dev nD) (t : Fin cfg0.N) (h0 : ¬cond0_0 (grid0.coords t)) (h1 : ¬cond0_1 (grid0.coords t))
    (x0 : Vec F S256x3072 .bf16) (x1 : Vec F S512x384 .bf16) (x2 : Vec F S1x256x512 .bf16) (s : Scr F) (y : S8x1x256.Idx) :
    ∃ pc ∈ (runC c t h0 h1 x0 x1 x2 s).2.1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2 s.1 s.2.1 s.2.2).2.1 S1x1x256.size (by sl_kernel_rfl) y

theorem coverC_1 (c : Dev nD) (t : Fin cfg0.N) (h0 : ¬cond0_0 (grid0.coords t)) (h1 : ¬cond0_1 (grid0.coords t))
    (x0 : Vec F S256x3072 .bf16) (x1 : Vec F S512x384 .bf16) (x2 : Vec F S1x256x512 .bf16) (s : Scr F) (y : S8x1x256.Idx) :
    ∃ pc ∈ (runC c t h0 h1 x0 x1 x2 s).2.2.1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2 s.1 s.2.1 s.2.2).2.2.1 S1x1x256.size (by sl_kernel_rfl) y

theorem coverC_2 (c : Dev nD) (t : Fin cfg0.N) (h0 : ¬cond0_0 (grid0.coords t)) (h1 : ¬cond0_1 (grid0.coords t))
    (x0 : Vec F S256x3072 .bf16) (x1 : Vec F S512x384 .bf16) (x2 : Vec F S1x256x512 .bf16) (s : Scr F) (y : S8x256x256.Idx) :
    ∃ pc ∈ (runC c t h0 h1 x0 x1 x2 s).2.2.2.1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 ((plain_iff t).mpr h1) (fun h => h1 ((final_iff t).mp h)) x0 x1 x2 s.1 s.2.1 s.2.2).2.2.2.1 S1x256x256.size (by sl_kernel_rfl) y

/-- What that run leaves in the output's buffer and in the three scratch buffers. -/
def resC (c : Dev nD) (t : Fin cfg0.N) (h0 : ¬cond0_0 (grid0.coords t)) (h1 : ¬cond0_1 (grid0.coords t))
    (x0 : Vec F S256x3072 .bf16) (x1 : Vec F S512x384 .bf16) (x2 : Vec F S1x256x512 .bf16) (s : Scr F) : Vec F S256x2048 .bf16 × Scr F :=
  (VO0_3.read (Elt F) (VO0_3.writes (Elt F) VO0_3.junk (runC c t h0 h1 x0 x1 x2 s).1),
    VS0_0.read (Elt F) (VS0_0.writes (Elt F) VS0_0.junk (runC c t h0 h1 x0 x1 x2 s).2.1),
    VS0_1.read (Elt F) (VS0_1.writes (Elt F) VS0_1.junk (runC c t h0 h1 x0 x1 x2 s).2.2.1),
    VS0_2.read (Elt F) (VS0_2.writes (Elt F) VS0_2.junk (runC c t h0 h1 x0 x1 x2 s).2.2.2.1))

/-- The body's run at a point that is the last of several blocks of its row. -/
def runD (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) :=
  kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    h0 h1 (fun h => (plain_iff t).mp h h1) ((final_iff t).mpr h1) x0 x1 x2 s.1 s.2.1 s.2.2

theorem coverD_out (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) (y : S256x2048.Idx) :
    ∃ pc ∈ (runD c t h0 h1 x0 x1 x2 s).1, y ∈ pc.1.set :=
  View.cover_of_tiledL (kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2 s.1 s.2.1 s.2.2).1 S256x256.size (by sl_kernel_rfl) y

theorem coverD_0 (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) (y : S8x1x256.Idx) :
    ∃ pc ∈ (runD c t h0 h1 x0 x1 x2 s).2.1, y ∈ pc.1.set :=
  View.cover_of_tiledL (kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2 s.1 s.2.1 s.2.2).2.1 S1x1x256.size (by sl_kernel_rfl) y

theorem coverD_1 (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) (y : S8x1x256.Idx) :
    ∃ pc ∈ (runD c t h0 h1 x0 x1 x2 s).2.2.1, y ∈ pc.1.set :=
  View.cover_of_tiledL (kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2 s.1 s.2.1 s.2.2).2.2.1 S1x1x256.size (by sl_kernel_rfl) y

theorem coverD_2 (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) (y : S8x256x256.Idx) :
    ∃ pc ∈ (runD c t h0 h1 x0 x1 x2 s).2.2.2.1, y ∈ pc.1.set :=
  View.cover_of_tiledL (kernelRun0_D (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) h0 h1 (fun h => (plain_iff t).mp h h1) ((final_iff t).mpr h1) x0 x1 x2 s.1 s.2.1 s.2.2).2.2.2.1 S1x256x256.size (by sl_kernel_rfl) y

/-- What that run leaves in the output's buffer and in the three scratch buffers. -/
def resD (c : Dev nD) (t : Fin cfg0.N) (h0 : ¬cond0_0 (grid0.coords t)) (h1 : cond0_1 (grid0.coords t))
    (x0 : Vec F S256x3072 .bf16) (x1 : Vec F S512x384 .bf16) (x2 : Vec F S1x256x512 .bf16) (s : Scr F) : Vec F S256x2048 .bf16 × Scr F :=
  (VO0_3.read (Elt F) (VO0_3.writes (Elt F) VO0_3.junk (runD c t h0 h1 x0 x1 x2 s).1),
    VS0_0.read (Elt F) (VS0_0.writes (Elt F) VS0_0.junk (runD c t h0 h1 x0 x1 x2 s).2.1),
    VS0_1.read (Elt F) (VS0_1.writes (Elt F) VS0_1.junk (runD c t h0 h1 x0 x1 x2 s).2.2.1),
    VS0_2.read (Elt F) (VS0_2.writes (Elt F) VS0_2.junk (runD c t h0 h1 x0 x1 x2 s).2.2.2.1))

/-! ## Point by point -/

/-- What a point leaves, from the scratch the point before left. -/
def stepAt (c : Dev nD) (t : Fin cfg0.N) (s : Scr F) : Vec F S256x2048 .bf16 × Scr F :=
  if h0 : cond0_0 (grid0.coords t) then
    if h1 : cond0_1 (grid0.coords t) then resA c t h0 h1 (iblk m c 0 t) (iblk m c 1 t) (iblk m c 2 t)
    else resB c t h0 h1 (iblk m c 0 t) (iblk m c 1 t) (iblk m c 2 t)
  else
    if h1 : cond0_1 (grid0.coords t) then resD c t h0 h1 (iblk m c 0 t) (iblk m c 1 t) (iblk m c 2 t) s
    else resC c t h0 h1 (iblk m c 0 t) (iblk m c 1 t) (iblk m c 2 t) s

/-- A content for the scratch before the first point, which overwrites it. -/
def scr0 : Scr F := (VS0_0.read (Elt F) VS0_0.junk, VS0_1.read (Elt F) VS0_1.junk, VS0_2.read (Elt F) VS0_2.junk)

/-- What the output's buffer and the scratch hold after point `n`. -/
def after0 (c : Dev nD) : (n : ℕ) → n < cfg0.N → Vec F S256x2048 .bf16 × Scr F
  | 0, hn => stepAt m c ⟨0, hn⟩ scr0
  | n + 1, hn => stepAt m c ⟨n + 1, hn⟩ (after0 c n (Nat.lt_of_succ_lt hn)).2

/-- What the scratch holds before point `n`. -/
def scrBefore (c : Dev nD) : (n : ℕ) → n < cfg0.N → Scr F
  | 0, _ => scr0
  | n + 1, hn => (after0 m c n (Nat.lt_of_succ_lt hn)).2

theorem after0_eq (c : Dev nD) (t : Fin cfg0.N) :
    after0 m c t.val t.isLt = stepAt m c t (scrBefore m c t.val t.isLt) := by
  obtain ⟨n, hn⟩ := t
  cases n <;> rfl

theorem scrBefore_pos (c : Dev nD) (n : ℕ) (hn : n < cfg0.N) (hz : n ≠ 0) :
    scrBefore m c n hn = (after0 m c (n - 1) (by omega)).2 := by
  cases n with
  | zero => exact absurd rfl hz
  | succ n => rfl

theorem after0_A (c : Dev nD) (t : Fin cfg0.N) (h0 : cond0_0 (grid0.coords t)) (h1 : cond0_1 (grid0.coords t)) :
    after0 m c t.val t.isLt = resA c t h0 h1 (iblk m c 0 t) (iblk m c 1 t) (iblk m c 2 t) :=
  (after0_eq m c t).trans ((dif_pos h0).trans (dif_pos h1))

theorem after0_B (c : Dev nD) (t : Fin cfg0.N) (h0 : cond0_0 (grid0.coords t)) (h1 : ¬cond0_1 (grid0.coords t)) :
    after0 m c t.val t.isLt = resB c t h0 h1 (iblk m c 0 t) (iblk m c 1 t) (iblk m c 2 t) :=
  (after0_eq m c t).trans ((dif_pos h0).trans (dif_neg h1))

theorem after0_C (c : Dev nD) (t : Fin cfg0.N) (h0 : ¬cond0_0 (grid0.coords t)) (h1 : ¬cond0_1 (grid0.coords t)) :
    after0 m c t.val t.isLt = resC c t h0 h1 (iblk m c 0 t) (iblk m c 1 t) (iblk m c 2 t) (scrBefore m c t.val t.isLt) :=
  (after0_eq m c t).trans ((dif_neg h0).trans (dif_neg h1))

theorem after0_D (c : Dev nD) (t : Fin cfg0.N) (h0 : ¬cond0_0 (grid0.coords t)) (h1 : cond0_1 (grid0.coords t)) :
    after0 m c t.val t.isLt = resD c t h0 h1 (iblk m c 0 t) (iblk m c 1 t) (iblk m c 2 t) (scrBefore m c t.val t.isLt) :=
  (after0_eq m c t).trans ((dif_neg h0).trans (dif_pos h1))

attribute [irreducible] stepAt after0 scrBefore

/-- Between points the scratch is owned at what the point before left in it; before the first, at anything. -/
def PhiS (c : Dev nD) : (n : ℕ) → n ≤ cfg0.N → sProp 𝕄
  | 0, _ => Pipeline.ΦA spec0 c
  | n + 1, hn => iprop(iprop(owns (c : Thread nD τ) scM0_0 fullShare (after0 m c n hn).2.1 ∗ owns (c : Thread nD τ) scM0_1 fullShare (after0 m c n hn).2.2.1 ∗ owns (c : Thread nD τ) scM0_2 fullShare (after0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (after0 m c n hn).2.1 ∗ owns (c : Thread nD τ) scM0_1 fullShare (after0 m c n hn).2.2.1 ∗ owns (c : Thread nD τ) scM0_2 fullShare (after0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (after0 m c (n - 1) (by omega)).2.1 ∗ owns (c : Thread nD τ) scM0_1 fullShare (after0 m c (n - 1) (by omega)).2.2.1 ∗ owns (c : Thread nD τ) scM0_2 fullShare (after0 m c (n - 1) (by omega)).2.2.2) ∗ (∃ r, prngReg c r)) := by
  cases n with
  | zero => exact absurd rfl hz
  | succ n => rfl

attribute [irreducible] PhiS

/-- The pipeline's proof data: the inputs' buffers keep their blocks, the output's holds `after0`, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (after0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_w0 (c : Dev nD) (t : Fin cfg0.N) : (dats m 0 c).after 0 t = iblk m c 0 t := by dsimp only [dats]
theorem after0_w1 (c : Dev nD) (t : Fin cfg0.N) : (dats m 0 c).after 1 t = iblk m c 1 t := by dsimp only [dats]
theorem after0_w2 (c : Dev nD) (t : Fin cfg0.N) : (dats m 0 c).after 2 t = iblk m c 2 t := by dsimp only [dats]
theorem after0_w3 (c : Dev nD) (t : Fin cfg0.N) : (dats m 0 c).after 3 t = (after0 m c t.val t.isLt).1 := by dsimp only [dats]

theorem before0_w0 (c : Dev nD) (t : Fin cfg0.N) (d) : (dats m 0 c).before 0 t d = iblk m c 0 t :=
  before0_0_of m (dats m 0 c) (A_eq m c 0) (after0_w0 m c) t d
theorem before0_w1 (c : Dev nD) (t : Fin cfg0.N) (d) : (dats m 0 c).before 1 t d = iblk m c 1 t :=
  before0_1_of m (dats m 0 c) (A_eq m c 1) (after0_w1 m c) t d
theorem before0_w2 (c : Dev nD) (t : Fin cfg0.N) (d) : (dats m 0 c).before 2 t d = iblk m c 2 t :=
  before0_2_of m (dats m 0 c) (A_eq m c 2) (after0_w2 m c) t d

/-- The output's buffer is left alone, and not written back, at a point that is not the last of its row. -/
theorem idle0_3 (t : Fin cfg0.N) (h1 : ¬cond0_1 (grid0.coords t)) : (cfg0.idle 3 (grid0.coords t)) = true := (idle_iff t).mpr h1
theorem live0_3 (t : Fin cfg0.N) (h1 : cond0_1 (grid0.coords t)) : (cfg0.idle 3 (grid0.coords t)) = false := by
  rcases h : cfg0.idle 3 (grid0.coords t) with _ | _
  · rfl
  · exact absurd h1 ((idle_iff t).mp h)
theorem noFlush0_3 (t : Fin cfg0.N) (h1 : ¬cond0_1 (grid0.coords t)) : (cfg0.win 3).flush t = false := by
  rcases h : (cfg0.win 3).flush t with _ | _
  · rfl
  · exact absurd ((flush_iff t).mp h) h1

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
/-- The body at a point that is the only block of its row. -/
theorem soundA (c : Dev nD) (t : Fin cfg0.N) (h0 : cond0_0 (grid0.coords t)) (h1 : cond0_1 (grid0.coords t)) :
    bodyPre m c t ⊢ wp frame (wpE (defs₀ (F := F)) Variants.none c none) Set.univ (bodyAt0 t) (fun _ => bodyPost m c t) := by
  unfold bodyPre bodyPost bodyAt0
  simp only [before0_w0, before0_w1, before0_w2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_w0]
  rw [show (dats m 0 c).leavesExact 1 t = owns (c : Thread nD τ) (ms0_1 t) fullShare ((dats m 0 c).after 1 t) from by
    unfold Dat.leavesExact; rfl, after0_w1]
  rw [show (dats m 0 c).leavesExact 2 t = owns (c : Thread nD τ) (ms0_2 t) fullShare ((dats m 0 c).after 2 t) from by
    unfold Dat.leavesExact; rfl, after0_w2]
  rw [show (dats m 0 c).leavesExact 3 t = owns (c : Thread nD τ) (ms0_3 t) fullShare ((dats m 0 c).after 3 t) from by
    unfold Dat.leavesExact; rw [live0_3 t h1], after0_w3]
  by_cases hz : t.val = 0
  · rw [PhiS_castSucc m c t, PhiS_zero m c _ _ hz, PhiA0_eq]
    rw [after0_A m c t h0 h1]
    unfold resA; dsimp only
    iintro ⟨⟨⟨HS0, HS1, HS2⟩, Hg⟩, Ho, ⟨%d0, H0⟩, ⟨%d1, H1⟩, ⟨%d2, H2⟩, ⟨%d3, H3⟩⟩
    iapply ((runA c t h0 h1 (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverA_0 c t _ _ _ _ _)
        isplitl [HS1]
        · unfold owns; iexists _; isplitr
          swap; · iexact HS1
          ipureintro; exact View.read_writes_of_cover _ _ _ _ _ (coverA_1 c t _ _ _ _ _)
        unfold owns; iexists _; isplitr
        swap; · iexact HS2
        ipureintro; exact View.read_writes_of_cover _ _ _ _ _ (coverA_2 c t _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA_out c t _ _ _ _ _)
  · rw [PhiS_castSucc m c t, PhiS_pos m c _ _ hz]
    rw [after0_A m c t h0 h1]
    unfold resA; dsimp only
    iintro ⟨⟨⟨HS0, HS1, HS2⟩, Hg⟩, Ho, ⟨%d0, H0⟩, ⟨%d1, H1⟩, ⟨%d2, H2⟩, ⟨%d3, H3⟩⟩
    iapply ((runA c t h0 h1 (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    iintro ⟨H0, H1, H2, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverA_0 c t _ _ _ _ _)
        isplitl [HS1]
        · unfold owns; iexists _; isplitr
          swap; · iexact HS1
          ipureintro; exact View.read_writes_of_cover _ _ _ _ _ (coverA_1 c t _ _ _ _ _)
        unfold owns; iexists _; isplitr
        swap; · iexact HS2
        ipureintro; exact View.read_writes_of_cover _ _ _ _ _ (coverA_2 c t _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA_out c t _ _ _ _ _)

set_option maxHeartbeats 3200000 in
/-- The body at a point that is the first of several blocks of its row. -/
theorem soundB (c : Dev nD) (t : Fin cfg0.N) (h0 : cond0_0 (grid0.coords t)) (h1 : ¬cond0_1 (grid0.coords t)) :
    bodyPre m c t ⊢ wp frame (wpE (defs₀ (F := F)) Variants.none c none) Set.univ (bodyAt0 t) (fun _ => bodyPost m c t) := by
  unfold bodyPre bodyPost bodyAt0
  simp only [before0_w0, before0_w1, before0_w2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_w0]
  rw [show (dats m 0 c).leavesExact 1 t = owns (c : Thread nD τ) (ms0_1 t) fullShare ((dats m 0 c).after 1 t) from by
    unfold Dat.leavesExact; rfl, after0_w1]
  rw [show (dats m 0 c).leavesExact 2 t = owns (c : Thread nD τ) (ms0_2 t) fullShare ((dats m 0 c).after 2 t) from by
    unfold Dat.leavesExact; rfl, after0_w2]
  rw [Dat.leavesExact_idle (dats m 0 c) 3 t (idle0_3 t h1) (noFlush0_3 t h1)]
  by_cases hz : t.val = 0
  · exfalso; exact h1 (zero_reset t hz).2
  · rw [PhiS_castSucc m c t, PhiS_pos m c _ _ hz]
    rw [after0_B m c t h0 h1]
    unfold resB; dsimp only
    iintro ⟨⟨⟨HS0, HS1, HS2⟩, Hg⟩, Ho, ⟨%d0, H0⟩, ⟨%d1, H1⟩, ⟨%d2, H2⟩, ⟨%d3, H3⟩⟩
    iapply ((runB c t h0 h1 (iblk m c 0 t) (iblk m c 1 t) (iblk m c 2 t)).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverB_0 c t _ _ _ _ _)
        isplitl [HS1]
        · unfold owns; iexists _; isplitr
          swap; · iexact HS1
          ipureintro; exact View.read_writes_of_cover _ _ _ _ _ (coverB_1 c t _ _ _ _ _)
        unfold owns; iexists _; isplitr
        swap; · iexact HS2
        ipureintro; exact View.read_writes_of_cover _ _ _ _ _ (coverB_2 c t _ _ _ _ _)
      iexact Hg
    isplitl [Ho]; · iexact Ho
    isplitl [H0]; · iexact H0
    isplitl [H1]; · iexact H1
    isplitl [H2]; · iexact H2
    iexists _; iexact H3

set_option maxHeartbeats 3200000 in
/-- The body at a point that is a block in the middle of its row. -/
theorem soundC (c : Dev nD) (t : Fin cfg0.N) (h0 : ¬cond0_0 (grid0.coords t)) (h1 : ¬cond0_1 (grid0.coords t)) :
    bodyPre m c t ⊢ wp frame (wpE (defs₀ (F := F)) Variants.none c none) Set.univ (bodyAt0 t) (fun _ => bodyPost m c t) := by
  unfold bodyPre bodyPost bodyAt0
  simp only [before0_w0, before0_w1, before0_w2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_w0]
  rw [show (dats m 0 c).leavesExact 1 t = owns (c : Thread nD τ) (ms0_1 t) fullShare ((dats m 0 c).after 1 t) from by
    unfold Dat.leavesExact; rfl, after0_w1]
  rw [show (dats m 0 c).leavesExact 2 t = owns (c : Thread nD τ) (ms0_2 t) fullShare ((dats m 0 c).after 2 t) from by
    unfold Dat.leavesExact; rfl, after0_w2]
  rw [Dat.leavesExact_idle (dats m 0 c) 3 t (idle0_3 t h1) (noFlush0_3 t h1)]
  by_cases hz : t.val = 0
  · exfalso; exact h1 (zero_reset t hz).2
  · rw [PhiS_castSucc m c t, PhiS_pos m c _ _ hz]
    rw [after0_C m c t h0 h1]
    rw [scrBefore_pos m c _ _ hz]
    unfold resC; dsimp only
    iintro ⟨⟨⟨HS0, HS1, HS2⟩, Hg⟩, Ho, ⟨%d0, H0⟩, ⟨%d1, H1⟩, ⟨%d2, H2⟩, ⟨%d3, H3⟩⟩
    iapply ((runC c t h0 h1 (iblk m c 0 t) (iblk m c 1 t) (iblk m c 2 t) _).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverC_0 c t _ _ _ _ _ _)
        isplitl [HS1]
        · unfold owns; iexists _; isplitr
          swap; · iexact HS1
          ipureintro; exact View.read_writes_of_cover _ _ _ _ _ (coverC_1 c t _ _ _ _ _ _)
        unfold owns; iexists _; isplitr
        swap; · iexact HS2
        ipureintro; exact View.read_writes_of_cover _ _ _ _ _ (coverC_2 c t _ _ _ _ _ _)
      iexact Hg
    isplitl [Ho]; · iexact Ho
    isplitl [H0]; · iexact H0
    isplitl [H1]; · iexact H1
    isplitl [H2]; · iexact H2
    iexists _; iexact H3

set_option maxHeartbeats 3200000 in
/-- The body at a point that is the last of several blocks of its row. -/
theorem soundD (c : Dev nD) (t : Fin cfg0.N) (h0 : ¬cond0_0 (grid0.coords t)) (h1 : cond0_1 (grid0.coords t)) :
    bodyPre m c t ⊢ wp frame (wpE (defs₀ (F := F)) Variants.none c none) Set.univ (bodyAt0 t) (fun _ => bodyPost m c t) := by
  unfold bodyPre bodyPost bodyAt0
  simp only [before0_w0, before0_w1, before0_w2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_w0]
  rw [show (dats m 0 c).leavesExact 1 t = owns (c : Thread nD τ) (ms0_1 t) fullShare ((dats m 0 c).after 1 t) from by
    unfold Dat.leavesExact; rfl, after0_w1]
  rw [show (dats m 0 c).leavesExact 2 t = owns (c : Thread nD τ) (ms0_2 t) fullShare ((dats m 0 c).after 2 t) from by
    unfold Dat.leavesExact; rfl, after0_w2]
  rw [show (dats m 0 c).leavesExact 3 t = owns (c : Thread nD τ) (ms0_3 t) fullShare ((dats m 0 c).after 3 t) from by
    unfold Dat.leavesExact; rw [live0_3 t h1], after0_w3]
  by_cases hz : t.val = 0
  · exfalso; exact h0 (zero_reset t hz).1
  · rw [PhiS_castSucc m c t, PhiS_pos m c _ _ hz]
    rw [after0_D m c t h0 h1]
    rw [scrBefore_pos m c _ _ hz]
    unfold resD; dsimp only
    iintro ⟨⟨⟨HS0, HS1, HS2⟩, Hg⟩, Ho, ⟨%d0, H0⟩, ⟨%d1, H1⟩, ⟨%d2, H2⟩, ⟨%d3, H3⟩⟩
    iapply ((runD c t h0 h1 (iblk m c 0 t) (iblk m c 1 t) (iblk m c 2 t) _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverD_0 c t _ _ _ _ _ _)
        isplitl [HS1]
        · unfold owns; iexists _; isplitr
          swap; · iexact HS1
          ipureintro; exact View.read_writes_of_cover _ _ _ _ _ (coverD_1 c t _ _ _ _ _ _)
        unfold owns; iexists _; isplitr
        swap; · iexact HS2
        ipureintro; exact View.read_writes_of_cover _ _ _ _ _ (coverD_2 c t _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD_out c t _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  rcases Classical.em (cond0_0 (grid0.coords t)) with h0 | h0 <;> rcases Classical.em (cond0_1 (grid0.coords t)) with h1 | h1
  · exact soundA m c t h0 h1
  · exact soundB m c t h0 h1
  · exact soundD m c t h0 h1
  · exact soundC m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl (Idealize.SL.BI.Entails.refl _) ?_
  intro a
  unfold bodyPost Dat.leavesExact
  generalize cfg0.idle 0 (cfg0.grid.coords t) = b0, cfg0.idle 1 (cfg0.grid.coords t) = b1,
    cfg0.idle 2 (cfg0.grid.coords t) = b2, cfg0.idle 3 (cfg0.grid.coords t) = b3
  exact Idealize.SL.BI.Entails.refl _

/-- The launch's scratch is what the first point needs, -/
theorem hin (c : Dev nD) : Pipeline.ΦA spec0 c ⊢ (dats m 0 c).Φ 0 := by
  rw [show (dats m 0 c).Φ 0 = PhiS m c 0 (Nat.zero_le _) from rfl, PhiS_zero m c 0 _ rfl]

/-- and what the last point leaves is given back at any contents. -/
theorem hout (c : Dev nD) : (dats m 0 c).Φ (Fin.last cfg0.N) ⊢ Pipeline.ΦA spec0 c := by
  have ht : (Fin.last cfg0.N).val ≠ 0 := by rw [Fin.val_last]; have : cfg0.N = 544 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The whole program -/

set_option backward.isDefEq.respectTransparency.types false in
/-- Every fair run of the program ends, with the arrays at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments come back unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Flash

end
-- ==== Proof.Ideal.Sched.lean ====
/- The order in which the grid meets the blocks: two rows of queries (one low, one high) share a line of the grid, each
   meeting its blocks of keys from the first to the one on the diagonal. -/
module

public import proofs.«01_k».proof.Proof.Ideal.Points
public import proofs.«01_k».proof.Proof.Ideal.RunD

@[expose] public section

set_option maxRecDepth 16384

noncomputable section

namespace Cert.KernelIdeal.Flash

open Cert.KernelIdeal.Gen
open Idealize.ShloMosaic Idealize.ShloMosaic.TcCoe

/-- The blocks of keys the low row of line `p` meets. -/
def lowCount (p : ℕ) : ℕ := (p * 256 + 255) / 512 + 1

/-- The batch of point `t`. -/
def batchOf (t : ℕ) : ℕ := t / 272
/-- The block of queries of point `t`. -/
def qBlk (t : ℕ) : ℕ := if t % 17 < lowCount (t % 272 / 17) then t % 272 / 17 else 31 - t % 272 / 17
/-- The block of keys of point `t`. -/
def kBlk (t : ℕ) : ℕ := if t % 17 < lowCount (t % 272 / 17) then t % 17 else t % 17 - lowCount (t % 272 / 17)

theorem blk_lt : ∀ t : Fin cfg0.N, batchOf t.val < 2 ∧ qBlk t.val < 32 ∧ kBlk t.val < 16 :=
  (by decide +kernel : ∀ t : Fin grid0.N, batchOf t.val < 2 ∧ qBlk t.val < 32 ∧ kBlk t.val < 16)

theorem index_q : ∀ t : Fin cfg0.N, cc0_transform_0 (grid0.coords t) 0 = batchOf t.val * 32 + qBlk t.val ∧ cc0_transform_0 (grid0.coords t) 1 = 0 :=
  (by decide +kernel : ∀ t : Fin grid0.N, cc0_transform_0 (grid0.coords t) 0 = batchOf t.val * 32 + qBlk t.val ∧ cc0_transform_0 (grid0.coords t) 1 = 0)

theorem index_k : ∀ t : Fin cfg0.N, cc0_transform_1 (grid0.coords t) 0 = batchOf t.val * 16 + kBlk t.val ∧ cc0_transform_1 (grid0.coords t) 1 = 0 :=
  (by decide +kernel : ∀ t : Fin grid0.N, cc0_transform_1 (grid0.coords t) 0 = batchOf t.val * 16 + kBlk t.val ∧ cc0_transform_1 (grid0.coords t) 1 = 0)

theorem index_v : ∀ t : Fin cfg0.N, cc0_transform_2 (grid0.coords t) 0 = batchOf t.val ∧ cc0_transform_2 (grid0.coords t) 1 = 0 ∧ cc0_transform_2 (grid0.coords t) 2 = kBlk t.val :=
  (by decide +kernel : ∀ t : Fin grid0.N, cc0_transform_2 (grid0.coords t) 0 = batchOf t.val ∧ cc0_transform_2 (grid0.coords t) 1 = 0 ∧ cc0_transform_2 (grid0.coords t) 2 = kBlk t.val)

theorem index_o : ∀ t : Fin cfg0.N, cc0_transform_3 (grid0.coords t) 0 = batchOf t.val * 32 + qBlk t.val ∧ cc0_transform_3 (grid0.coords t) 1 = 0 :=
  (by decide +kernel : ∀ t : Fin grid0.N, cc0_transform_3 (grid0.coords t) 0 = batchOf t.val * 32 + qBlk t.val ∧ cc0_transform_3 (grid0.coords t) 1 = 0)

/-- The numbers of the blocks, as the body computes them from its grid coordinates. -/
theorem word_q : ∀ t : Fin cfg0.N, kernelRun0_D.sl.v23 (grid0.coords t) = BitVec.ofNat 32 (qBlk t.val) :=
  (by decide +kernel : ∀ t : Fin grid0.N, kernelRun0_D.sl.v23 (grid0.coords t) = BitVec.ofNat 32 (qBlk t.val))

theorem word_k : ∀ t : Fin cfg0.N, kernelRun0_D.sl.v25 (grid0.coords t) = BitVec.ofNat 32 (kBlk t.val) :=
  (by decide +kernel : ∀ t : Fin grid0.N, kernelRun0_D.sl.v25 (grid0.coords t) = BitVec.ofNat 32 (kBlk t.val))

/-- A row starts at its first block of keys. -/
theorem start_blk : ∀ t : Fin cfg0.N, cond0_0 (grid0.coords t) → kBlk t.val = 0 :=
  (by decide +kernel : ∀ t : Fin grid0.N, cond0_0 (grid0.coords t) → kBlk t.val = 0)

/-- Elsewhere the point before has the same row and the block of keys before. -/
theorem step_blk : ∀ t : Fin cfg0.N, ¬cond0_0 (grid0.coords t) → t.val ≠ 0 ∧ batchOf (t.val - 1) = batchOf t.val
      ∧ qBlk (t.val - 1) = qBlk t.val ∧ kBlk (t.val - 1) + 1 = kBlk t.val :=
  (by decide +kernel : ∀ t : Fin grid0.N, ¬cond0_0 (grid0.coords t) → t.val ≠ 0 ∧ batchOf (t.val - 1) = batchOf t.val
      ∧ qBlk (t.val - 1) = qBlk t.val ∧ kBlk (t.val - 1) + 1 = kBlk t.val)

/-- Off the diagonal every key of the block is seen by every query of the row. -/
theorem plain_blk : ∀ t : Fin cfg0.N, ¬cond0_1 (grid0.coords t) → kBlk t.val * 512 + 512 ≤ qBlk t.val * 256 + 1 :=
  (by decide +kernel : ∀ t : Fin grid0.N, ¬cond0_1 (grid0.coords t) → kBlk t.val * 512 + 512 ≤ qBlk t.val * 256 + 1)

/-- On the diagonal the block of keys ends after the row. -/
theorem mask_blk : ∀ t : Fin cfg0.N, cond0_1 (grid0.coords t) → qBlk t.val * 256 + 256 ≤ kBlk t.val * 512 + 512 :=
  (by decide +kernel : ∀ t : Fin grid0.N, cond0_1 (grid0.coords t) → qBlk t.val * 256 + 256 ≤ kBlk t.val * 512 + 512)

/-- The point at which block `q` of batch `b` is written. -/
def lastPt (b q : ℕ) : ℕ := b * 272 + (if q < 16 then q * 17 + lowCount q - 1 else (31 - q) * 17 + 16)

theorem lastPt_lt : ∀ (b : Fin 2) (q : Fin 32), lastPt b.val q.val < grid0.N := by decide +kernel

theorem lastPt_spec : ∀ (b : Fin 2) (q : Fin 32), cond0_1 (grid0.coords ⟨lastPt b.val q.val, lastPt_lt b q⟩)
    ∧ batchOf (lastPt b.val q.val) = b.val ∧ qBlk (lastPt b.val q.val) = q.val := by decide +kernel

end Cert.KernelIdeal.Flash

end
-- ==== Proof.Ideal.Softmax.lean ====
/- The running softmax over the extended reals: the maximum, the sum of exponentials and the weighted sum of the first
   `n` keys, what they become when a block of keys is added, and that their quotient is the softmax-weighted sum. -/
module

public import Idealize.ShloMosaic.PureOps.Ideal
public import Mathlib.Data.EReal.Operations
public import Mathlib.Data.EReal.Inv
public import Mathlib.Algebra.BigOperators.Fin

@[expose] public section

noncomputable section

namespace Cert.Softmax

open Idealize.ShloMosaic

/-- The greatest of the first `n` scores. -/
def top (S : ℕ → EReal) (n : ℕ) : EReal := (Finset.range n).sup S

/-- The sum of the exponentials of the first `n` scores, each less the greatest. -/
def den (S : ℕ → EReal) (n : ℕ) : EReal := ∑ k ∈ Finset.range n, Ideal.exp (S k - top S n)

/-- The sum of the first `n` values, each times its exponential. -/
def num (S v : ℕ → EReal) (n : ℕ) : EReal := ∑ k ∈ Finset.range n, v k * Ideal.exp (S k - top S n)

theorem exp_nonneg (x : EReal) : 0 ≤ Ideal.exp x := by
  induction x with
  | bot => exact le_rfl
  | top => exact le_top
  | coe r => exact EReal.coe_nonneg.mpr (Real.exp_pos r).le

theorem exp_ne_top (x : EReal) (h : x ≠ ⊤) : Ideal.exp x ≠ ⊤ := by
  induction x with
  | bot => exact EReal.zero_ne_top
  | top => exact absurd rfl h
  | coe r => exact EReal.coe_ne_top _

theorem exp_bot : Ideal.exp ⊥ = 0 := rfl

theorem le_top_of_lt (S : ℕ → EReal) (n k : ℕ) (h : k < n) : S k ≤ top S n :=
  Finset.le_sup (f := S) (Finset.mem_range.mpr h)

theorem top_mono (S : ℕ → EReal) {n n' : ℕ} (h : n ≤ n') : top S n ≤ top S n' :=
  Finset.sup_mono (Finset.range_mono h)

theorem top_ne_top (S : ℕ → EReal) (hS : ∀ k, S k ≠ ⊤) (n : ℕ) : top S n ≠ ⊤ := by
  refine ne_of_lt ((Finset.sup_lt_iff bot_lt_top).mpr fun k _ => lt_top_iff_ne_top.mpr (hS k))

/-- A difference from a greater number that is not `⊤` is not `⊤`. -/
theorem sub_ne_top {a b : EReal} (h : a ≤ b) (hb : b ≠ ⊤) : a - b ≠ ⊤ := by
  induction b with
  | top => exact absurd rfl hb
  | bot => rw [le_bot_iff.mp h]; decide
  | coe y =>
    induction a with
    | top => exact absurd (top_le_iff.mp h) hb
    | bot => rw [EReal.bot_sub]; exact bot_ne_top
    | coe x => exact EReal.coe_ne_top (x - y)

/-- Shifting the exponent by a later maximum. -/
theorem exp_shift {s a b : EReal} (h : s ≤ a) (hab : a ≤ b) (hb : b ≠ ⊤) :
    Ideal.exp (a - b) * Ideal.exp (s - a) = Ideal.exp (s - b) := by
  induction s with
  | top => exact absurd (top_le_iff.mp (top_le_iff.mp h ▸ hab)) hb
  | bot => rw [EReal.bot_sub, EReal.bot_sub, exp_bot, mul_zero]
  | coe s =>
    induction a with
    | top => exact absurd (top_le_iff.mp hab) hb
    | bot => exact absurd (le_bot_iff.mp h) (EReal.coe_ne_bot s)
    | coe a =>
      induction b with
      | top => exact absurd rfl hb
      | bot => exact absurd (le_bot_iff.mp hab) (EReal.coe_ne_bot a)
      | coe b =>
        show ((Real.exp (a - b) : ℝ) : EReal) * ((Real.exp (s - a) : ℝ) : EReal) = ((Real.exp (s - b) : ℝ) : EReal)
        rw [← EReal.coe_mul, ← Real.exp_add]
        congr 2; ring

/-- A finite factor that is not negative goes into a sum. -/
theorem mul_sum_of_nonneg {ι : Type*} {c : EReal} (h0 : 0 ≤ c) (h1 : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- The sum of the first `n + w` terms is that of the first `n` and that of the `w` after them. -/
theorem sum_block (f : ℕ → EReal) (n w : ℕ) :
    ∑ k ∈ Finset.range (n + w), f k = ∑ k ∈ Finset.range n, f k + ∑ x : Fin w, f (n + x.val) := by
  rw [Finset.sum_range_add, Finset.sum_range (fun x => f (n + x))]

theorem fold_max_eq_sup {ι : Type*} (s : Finset ι) (f : ι → EReal) : s.fold max ⊥ f = s.sup f := rfl

/-- A block's scores join the greatest. -/
theorem top_add (S : ℕ → EReal) (n w : ℕ) :
    max (top S n) ((Finset.univ : Finset (Fin w)).fold max ⊥ fun x => S (n + x.val)) = top S (n + w) := by
  rw [fold_max_eq_sup]
  refine le_antisymm (max_le (top_mono S (Nat.le_add_right n w)) (Finset.sup_le fun x _ =>
    le_top_of_lt S _ _ (by omega))) (Finset.sup_le fun k hk => ?_)
  have hk := Finset.mem_range.mp hk
  by_cases h : k < n
  · exact le_max_of_le_left (le_top_of_lt S n k h)
  · refine le_max_of_le_right ?_
    have := Finset.le_sup (f := fun x : Fin w => S (n + x.val)) (Finset.mem_univ (⟨k - n, by omega⟩ : Fin w))
    have e : n + (k - n) = k := by omega
    simpa only [e] using this

/-- A block's exponentials join the sum. -/
theorem den_add (S : ℕ → EReal) (hS : ∀ k, S k ≠ ⊤) (n w : ℕ) :
    Ideal.exp (top S n - top S (n + w)) * den S n + ∑ x : Fin w, Ideal.exp (S (n + x.val) - top S (n + w)) = den S (n + w) := by
  have hm := top_mono S (Nat.le_add_right n w)
  have ht := top_ne_top S hS (n + w)
  unfold den
  rw [sum_block (fun k => Ideal.exp (S k - top S (n + w))), mul_sum_of_nonneg (exp_nonneg _) (exp_ne_top _ (sub_ne_top hm ht))]
  refine congrArg (· + _) (Finset.sum_congr rfl fun k hk => ?_)
  exact exp_shift (le_top_of_lt S n k (Finset.mem_range.mp hk)) hm ht

/-- A block's values join the weighted sum. -/
theorem num_add (S v : ℕ → EReal) (hS : ∀ k, S k ≠ ⊤) (n w : ℕ) :
    Ideal.exp (top S n - top S (n + w)) * num S v n + ∑ x : Fin w, v (n + x.val) * Ideal.exp (S (n + x.val) - top S (n + w))
      = num S v (n + w) := by
  have hm := top_mono S (Nat.le_add_right n w)
  have ht := top_ne_top S hS (n + w)
  unfold num
  rw [sum_block (fun k => v k * Ideal.exp (S k - top S (n + w))), mul_sum_of_nonneg (exp_nonneg _) (exp_ne_top _ (sub_ne_top hm ht))]
  refine congrArg (· + _) (Finset.sum_congr rfl fun k hk => ?_)
  rw [mul_left_comm, exp_shift (le_top_of_lt S n k (Finset.mem_range.mp hk)) hm ht]

/-! ## The quotient -/

theorem top_ne_bot (S : ℕ → EReal) (n : ℕ) (h : ∃ k < n, S k ≠ ⊥) : top S n ≠ ⊥ := by
  obtain ⟨k, hk, hne⟩ := h
  exact fun e => hne (le_bot_iff.mp (e ▸ le_top_of_lt S n k hk))

/-- The sum of exponentials is not zero if one score is a number. -/
theorem den_pos (S : ℕ → EReal) (hS : ∀ k, S k ≠ ⊤) (n : ℕ) (h : ∃ k < n, S k ≠ ⊥) : 0 < den S n := by
  have ht := top_ne_top S hS n
  have hb := top_ne_bot S n h
  obtain ⟨k, hk, hne⟩ := h
  refine lt_of_lt_of_le ?_ (Finset.single_le_sum (f := fun k => Ideal.exp (S k - top S n)) (fun i _ => exp_nonneg _)
    (Finset.mem_range.mpr hk))
  show 0 < Ideal.exp (S k - top S n)
  have hk' := hS k
  generalize S k = s at *
  generalize top S n = a at *
  induction s with
  | bot => exact absurd rfl hne
  | top => exact absurd rfl hk'
  | coe s =>
    induction a with
    | top => exact absurd rfl ht
    | bot => exact absurd rfl hb
    | coe a => exact EReal.coe_pos.mpr (Real.exp_pos (s - a))

theorem inv_ne_top_of_pos {x : EReal} (h : 0 < x) : x⁻¹ ≠ ⊤ := by
  induction x with
  | bot => exact absurd h (by decide)
  | top => rw [EReal.inv_top]; exact EReal.zero_ne_top
  | coe r => rw [← EReal.coe_inv]; exact EReal.coe_ne_top _

/-- The weighted sum over the sum of exponentials is the sum of the values, each times its softmax weight; keys that
    are not seen (score `⊥`) may be added. -/
theorem quotient (S v : ℕ → EReal) (hS : ∀ k, S k ≠ ⊤) (n N : ℕ) (hn : n ≤ N) (h : ∃ k < n, S k ≠ ⊥)
    (hz : ∀ k, n ≤ k → S k = ⊥) :
    Ideal.div (num S v n) (den S n)
      = ∑ k ∈ Finset.range N, v k * Ideal.div (Ideal.exp (S k - top S N)) (den S N) := by
  obtain ⟨w, rfl⟩ := Nat.exists_eq_add_of_le hn
  have ht : top S (n + w) = top S n := by
    refine le_antisymm (Finset.sup_le fun k hk => ?_) (top_mono S hn)
    by_cases hk' : k < n
    · exact le_top_of_lt S n k hk'
    · rw [hz k (by omega)]; exact bot_le
  have hd : den S (n + w) = den S n := by
    unfold den
    rw [sum_block (fun k => Ideal.exp (S k - top S (n + w))), ht]
    refine (congrArg (_ + ·) (Finset.sum_eq_zero fun x _ => ?_)).trans (add_zero _)
    rw [hz _ (Nat.le_add_right n x.val), EReal.bot_sub, exp_bot]
  have hp := den_pos S hS n h
  rw [ht, hd, sum_block (fun k => v k * Ideal.div (Ideal.exp (S k - top S n)) (den S n))]
  have hdiv : ∀ x, Ideal.div x (den S n) = x * (den S n)⁻¹ := fun x => if_neg hp.ne'
  simp only [hdiv]
  have hzero : ∑ x : Fin w, v (n + x.val) * (Ideal.exp (S (n + x.val) - top S n) * (den S n)⁻¹) = 0 :=
    Finset.sum_eq_zero fun x _ => by
      rw [hz _ (Nat.le_add_right n x.val), EReal.bot_sub, exp_bot, zero_mul, mul_zero]
  rw [hzero, add_zero]
  unfold num
  rw [mul_comm, mul_sum_of_nonneg (EReal.inv_nonneg_of_nonneg hp.le) (inv_ne_top_of_pos hp)]
  exact Finset.sum_congr rfl fun k _ => by rw [mul_comm (den S n)⁻¹, mul_assoc]

end Cert.Softmax

end
-- ==== Proof.Ideal.Spec.lean ====
/- Causal attention in scalars: the score of a query against a key, the values, and the result both programs have to
   hold, over the extended reals. -/
module

public import proofs.«01_k».proof.Proof.Gen.ReferenceIdeal.Read
public import proofs.«01_k».proof.Proof.Ideal.Softmax
public import Idealize.ShloMosaic.Lib.Pointwise
public import Idealize.ShloMosaic.Lib.WordCmp

@[expose] public section

set_option maxRecDepth 16384

noncomputable section

namespace Cert.Spec

open Idealize.ShloMosaic Cert.ReferenceIdeal

/-- The head size's scale, as the program's constant holds it. -/
def scale : EReal := Ideal.ofBits .f32 0x3D93CD3A#32

theorem negInf : Ideal.ofBits .f32 0xFF800000#32 = ⊥ := by simp [Ideal.ofBits, Ideal.ieee]
theorem posInf : Ideal.ofBits .f32 0x7F800000#32 = ⊤ := by simp [Ideal.ofBits, Ideal.ieee]

theorem scale_real : ∃ r : ℝ, 0 ≤ r ∧ scale = (r : EReal) := by
  refine ⟨_, ?_, by unfold scale; simp [Ideal.ofBits, Ideal.ieee, -EReal.coe_mul]; rfl⟩
  positivity

variable (x0 : (⟨S2x8192x8x256, .f32⟩ : BufTy).Contents (Elt Ideal)) (x1 : (⟨S2x8192x8x64, .f32⟩ : BufTy).Contents (Elt Ideal))
    (x2 : (⟨S2x8192x256, .f32⟩ : BufTy).Contents (Elt Ideal)) (x3 : (⟨S2x8192x64, .f32⟩ : BufTy).Contents (Elt Ideal))

/-- The score of key `k` for head `h` of query `t`. -/
def raw (b : Fin 2) (h : Fin 8) (t k : Fin 8192) : EReal :=
  ((∑ e : Fin 256, x2 (ix3 b k e) * x0 (ix4 b t h e)) + ∑ e : Fin 64, x3 (ix3 b k e) * x1 (ix4 b t h e)) * scale

/-- The masked score: a query sees the keys up to its own. -/
def score (b : Fin 2) (h : Fin 8) (t : Fin 8192) (k : ℕ) : EReal :=
  if hk : k < 8192 then if k ≤ t.val then raw x0 x1 x2 x3 b h t ⟨k, hk⟩ else ⊥ else ⊥

/-- Component `d` of the value of key `k`. -/
def value (b : Fin 2) (d : Fin 256) (k : ℕ) : EReal := if hk : k < 8192 then x2 (ix3 b ⟨k, hk⟩ d) else 0

/-- The attention of head `h` of query `t`, component `d`. -/
def attn (b : Fin 2) (t : Fin 8192) (h : Fin 8) (d : Fin 256) : EReal :=
  ∑ k ∈ Finset.range 8192, value x2 b d k *
    Ideal.div (Ideal.exp (score x0 x1 x2 x3 b h t k - Softmax.top (score x0 x1 x2 x3 b h t) 8192))
      (Softmax.den (score x0 x1 x2 x3 b h t) 8192)

open Cert.ReferenceIdeal.Read

/-- Key `k` is seen by query `t` exactly when the words compare so. -/
theorem sle_small (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  show BitVec.ofBool ((BitVec.ofNat 32 a).sle (BitVec.ofNat 32 b)) = _
  rw [h]
  by_cases hh : a ≤ b <;> simp [hh]

theorem val_score (b : Fin 2) (h : Fin 8) (t k : Fin 8192) :
    val_main_v13 (F := Ideal) x0 x1 x2 x3 (ix4 b h t k) = score x0 x1 x2 x3 b h t k.val := by
  rw [val_main_v13_apply, val_main_call0_v1_apply, val_main_v12_apply, val_main_v10_apply, val_main_v8_apply,
    val_main_v11_apply, val_main_v9_apply, val_main_v0_apply, val_main_v0_apply, val_main_call0_v2_apply,
    val_main_call0_v0_apply, val_main_cst_0_apply, val_main_v7_apply, val_main_v6_apply, val_main_cst_apply,
    val_main_v5_apply, val_main_v2_apply, val_main_v1_apply, val_main_v4_apply, val_main_v3_apply]
  show Scalar.select (IntOp.cmpi .sle (BitVec.ofNat 32 k.val) (BitVec.ofNat 32 t.val)) _ (Ideal.ofBits .f32 0xFF800000#32) = _
  rw [sle_small _ _ (by omega) (by omega), negInf]
  unfold score raw
  rw [dif_pos k.isLt]
  by_cases hkt : k.val ≤ t.val
  · rw [if_pos hkt, if_pos hkt]
    show (_ + _) * scale = (_ + _) * scale
    refine congrArg (· * scale) (congrArg₂ (· + ·) (Finset.sum_congr rfl fun e _ => congrArg₂ (· * ·) (congrArg x2 ?_) (congrArg x0 ?_)) (Finset.sum_congr rfl fun e _ => congrArg₂ (· * ·) (congrArg x3 ?_) (congrArg x1 ?_))) <;>
    · funext a; fin_cases a <;> rfl
  · rw [if_neg hkt, if_neg hkt]
    rfl

theorem val_top (b : Fin 2) (h : Fin 8) (t : Fin 8192) :
    val_main_v16 (F := Ideal) x0 x1 x2 x3 (ix3 b h t) = Softmax.top (score x0 x1 x2 x3 b h t) 8192 := by
  rw [val_main_v16_apply, val_main_v15_apply, val_main_cst_2_apply]
  have e : val_main_v14 (F := Ideal) x0 x1 x2 x3 (ix3 b h t)
      = max ⊥ ((Finset.univ : Finset (Fin 8192)).fold max ⊥ fun k => score x0 x1 x2 x3 b h t (0 + k.val)) := by
    unfold val_main_v14
    have := val_score x0 x1 x2 x3 b h t
    generalize val_main_v13 (F := Ideal) x0 x1 x2 x3 = y at *
    pointwise [val_main_cst_1]
    simp only [this, negInf, zero_add]
    simp
  rw [e]
  have := Softmax.top_add (score x0 x1 x2 x3 b h t) 0 8192
  rw [zero_add] at this
  show max (Ideal.ofBits .f32 0xFF800000#32) _ = _
  rw [negInf, max_eq_right bot_le, ← this]
  rfl

theorem val_exp (b : Fin 2) (h : Fin 8) (t k : Fin 8192) :
    val_main_v20 (F := Ideal) x0 x1 x2 x3 (ix4 b h t k)
      = Ideal.exp (score x0 x1 x2 x3 b h t k.val - Softmax.top (score x0 x1 x2 x3 b h t) 8192) := by
  have e : idx_main_v17 (idx_main_v18 (ix4 b h t k)) = ix3 b h t := by funext a; fin_cases a <;> rfl
  rw [val_main_v20_apply, val_main_v19_apply, val_main_v18_apply, val_main_v17_apply, e, val_top, val_score]
  rfl

theorem val_den (b : Fin 2) (h : Fin 8) (t : Fin 8192) :
    val_main_v21 (F := Ideal) x0 x1 x2 x3 (ix3 b h t) = Softmax.den (score x0 x1 x2 x3 b h t) 8192 := by
  have e : ∀ k, idx_main_v21 (ix3 b h t) k = ix4 b h t k := fun k => by funext a; fin_cases a <;> rfl
  rw [val_main_v21_apply, val_main_cst_3_apply]
  simp only [e, val_exp]
  unfold Softmax.den
  rw [Finset.sum_range]
  show Ideal.ofBits .f32 0x00000000#32 + _ = _
  rw [Ideal.ofBits_zero_f32, zero_add]

theorem val_weight (b : Fin 2) (h : Fin 8) (t k : Fin 8192) :
    val_main_v24 (F := Ideal) x0 x1 x2 x3 (ix4 b h t k)
      = Ideal.div (Ideal.exp (score x0 x1 x2 x3 b h t k.val - Softmax.top (score x0 x1 x2 x3 b h t) 8192))
          (Softmax.den (score x0 x1 x2 x3 b h t) 8192) := by
  have e : idx_main_v22 (idx_main_v23 (ix4 b h t k)) = ix3 b h t := by funext a; fin_cases a <;> rfl
  rw [val_main_v24_apply, val_main_v23_apply, val_main_v22_apply, e, val_den, val_exp]
  rfl

/-- What the plain program returns, by query and head. -/
theorem reference_apply (b : Fin 2) (t : Fin 8192) (h : Fin 8) (d : Fin 256) (i : S16384x2048.Idx)
    (h0 : (i 0).val = b.val * 8192 + t.val) (h1 : (i 1).val = h.val * 256 + d.val) :
    val_main_v28 (F := Ideal) x0 x1 x2 x3 i = attn x0 x1 x2 x3 b t h d := by
  have e : idx_main_v26 (idx_main_v27 i) = ix4 b d h t := by
    have := b.isLt; have := t.isLt; have := h.isLt; have := d.isLt
    funext a; fin_cases a <;> refine Fin.ext ?_
    · show ((i 0).val * 2048 + (i 1).val) / 16777216 = b.val; omega
    · show ((i 0).val * 2048 + (i 1).val) % 256 = d.val; omega
    · show ((i 0).val * 2048 + (i 1).val) / 256 % 8 = h.val; omega
    · show ((i 0).val * 2048 + (i 1).val) / 2048 % 8192 = t.val; omega
  have el : ∀ k, lidx_main_v25 (ix4 b d h t) k = ix3 b k d := fun k => by funext a; fin_cases a <;> rfl
  have er : ∀ k, ridx_main_v25 (ix4 b d h t) k = ix4 b h t k := fun k => by funext a; fin_cases a <;> rfl
  rw [val_main_v28_apply, val_main_v27_apply, val_main_v26_apply, e]
  show val_main_v25 (F := Ideal) x0 x1 x2 x3 (ix4 b d h t) = _
  rw [val_main_v25_apply]
  unfold attn
  rw [Finset.sum_range]
  refine Finset.sum_congr rfl fun k _ => ?_
  rw [el, er, val_weight]
  rw [show value x2 b d k.val = x2 (ix3 b k d) from dif_pos k.isLt]

end Cert.Spec

end
-- ==== Proof.Ideal.Host.lean ====
/- The three arrays the launch takes, read by index from @main's arguments: the scaled and padded queries, the padded keys,
   the transposed values. -/
module

public import proofs.«01_k».proof.Proof.Gen.KernelIdeal.Frame
public import proofs.«01_k».proof.Proof.Ideal.Spec
public import Idealize.ShloMosaic.Lib.Claim

@[expose] public section

set_option maxRecDepth 16384

noncomputable section

namespace Cert.KernelIdeal.Flash

open Cert.KernelIdeal.Gen
open Idealize.ShloMosaic Idealize.ShloMosaic.TcCoe Idealize.ShloMosaic.Tactic

section
variable {F : FTy → Type} [FloatOps F] [Named F]

/-- The queries, scaled, side by side and padded with zeros. -/
def qCat (x0 : Vec F S2x8192x8x256 .f32) (x1 : Vec F S2x8192x8x64 .f32) : Vec F S2x8192x8x384 .f32 :=
  concatenate S2x8192x8x384 3 [⟨S2x8192x8x256, mulf x0 (broadcastInDim S2x8192x8x256 ![] bcast_S_S2x8192x8x256 (constant S_ .f32 0x3D93CD3A#32))⟩,
    ⟨S2x8192x8x64, mulf x1 (broadcastInDim S2x8192x8x64 ![] bcast_S_S2x8192x8x64 (constant S_ .f32 0x3D93CD3A#32))⟩,
    ⟨S2x8192x8x64, broadcastInDim S2x8192x8x64 ![] bcast_S_S2x8192x8x64 (constant S_ .f32 0x00000000#32)⟩]
    concatenates_S2x8192x8x256_S2x8192x8x64_S2x8192x8x64_S2x8192x8x384_d3

/-- The keys, side by side and padded with zeros. -/
def kCat (x2 : Vec F S2x8192x256 .f32) (x3 : Vec F S2x8192x64 .f32) : Vec F S2x8192x384 .f32 :=
  concatenate S2x8192x384 2 [⟨S2x8192x256, x2⟩, ⟨S2x8192x64, x3⟩,
    ⟨S2x8192x64, broadcastInDim S2x8192x64 ![] bcast_S_S2x8192x64 (constant S_ .f32 0x00000000#32)⟩]
    concatenates_S2x8192x256_S2x8192x64_S2x8192x64_S2x8192x384_d2

variable (m : (ℓ : Loc nD τ sig) → Buf (Elt F) ℓ) (c : Dev nD)

theorem V_q : (V m c main_v12 : Vec F S16384x3072 .bf16) = shapeCast _ (truncf .bf16 (qCat (m ((c : Thread nD τ).loc main_arg0)) (m ((c : Thread nD τ).loc main_arg1))) bitsLt_bf16_f32)
    shapeCasts_S2x8192x8x384_S16384x3072 := by
  unfold_abbrev_sides
  after_results
  rfl

theorem V_k : (V m c main_v13 : Vec F S16384x384 .bf16) = shapeCast _ (truncf .bf16 (kCat (m ((c : Thread nD τ).loc main_arg2)) (m ((c : Thread nD τ).loc main_arg3))) bitsLt_bf16_f32)
    shapeCasts_S2x8192x384_S16384x384 := by
  unfold_abbrev_sides
  after_results
  rfl

theorem V_v : (V m c main_v11 : Vec F S2x256x8192 .bf16) = truncf .bf16 (transpose S2x256x8192 [0, 2, 1] (m ((c : Thread nD τ).loc main_arg2)) transposes_S2x8192x256_S2x256x8192_0_2_1) bitsLt_bf16_f32 := by
  unfold_abbrev_sides
  after_results
end

theorem qCat_apply (x0 : Vec Ideal S2x8192x8x256 .f32) (x1 : Vec Ideal S2x8192x8x64 .f32) (b : Fin 2) (t : Fin 8192) (h : Fin 8) (e : Fin 384) :
    qCat x0 x1 (ix4 b t h e) = (if h1 : e.val < 256 then x0 (ix4 b t h ⟨e.val, h1⟩) * Spec.scale
      else if h2 : e.val - 256 < 64 then x1 (ix4 b t h ⟨e.val - 256, h2⟩) * Spec.scale else 0 : EReal) := by
  pointwise [qCat]
  rfl

theorem kCat_apply (x2 : Vec Ideal S2x8192x256 .f32) (x3 : Vec Ideal S2x8192x64 .f32) (b : Fin 2) (t : Fin 8192) (e : Fin 384) :
    kCat x2 x3 (ix3 b t e) = (if h1 : e.val < 256 then x2 (ix3 b t ⟨e.val, h1⟩)
      else if h2 : e.val - 256 < 64 then x3 (ix3 b t ⟨e.val - 256, h2⟩) else 0 : EReal) := by
  pointwise [kCat]

theorem sum_mul_scale {n : ℕ} (f : Fin n → EReal) : ∑ e, f e * Spec.scale = (∑ e, f e) * Spec.scale := by
  obtain ⟨r, h0, hr⟩ := Spec.scale_real
  rw [mul_comm, Softmax.mul_sum_of_nonneg (by rw [hr]; exact EReal.coe_nonneg.mpr h0) (by rw [hr]; exact EReal.coe_ne_top r)]
  exact Finset.sum_congr rfl fun e _ => mul_comm _ _

/-- The padded products add up to the scaled score. -/
theorem cat_score (x0 : Vec Ideal S2x8192x8x256 .f32) (x1 : Vec Ideal S2x8192x8x64 .f32) (x2 : Vec Ideal S2x8192x256 .f32)
    (x3 : Vec Ideal S2x8192x64 .f32) (b : Fin 2) (h : Fin 8) (t k : Fin 8192) :
    ∑ e : Fin 384, (kCat x2 x3 (ix3 b k e) * qCat x0 x1 (ix4 b t h e) : EReal) = Spec.raw x0 x1 x2 x3 b h t k := by
  obtain ⟨r, h0, hr⟩ := Spec.scale_real
  rw [Fin.sum_univ_add (a := 256) (b := 128), Fin.sum_univ_add (a := 64) (b := 64)]
  have e1 : ∀ e : Fin 256, (kCat x2 x3 (ix3 b k (Fin.castAdd 128 e)) * qCat x0 x1 (ix4 b t h (Fin.castAdd 128 e)) : EReal)
      = x2 (ix3 b k e) * x0 (ix4 b t h e) * Spec.scale := fun e => by
    rw [qCat_apply, kCat_apply, dif_pos (by simp), dif_pos (by simp), ← mul_assoc]; rfl
  have e2 : ∀ e : Fin 64, (kCat x2 x3 (ix3 b k (Fin.natAdd 256 (Fin.castAdd 64 e))) * qCat x0 x1 (ix4 b t h (Fin.natAdd 256 (Fin.castAdd 64 e))) : EReal)
      = x3 (ix3 b k e) * x1 (ix4 b t h e) * Spec.scale := fun e => by
    rw [qCat_apply, kCat_apply, dif_neg (by simp), dif_pos (by simp), dif_neg (by simp), dif_pos (by simp), ← mul_assoc]
    simp
  have e3 : ∀ e : Fin 64, (kCat x2 x3 (ix3 b k (Fin.natAdd 256 (Fin.natAdd 64 e))) * qCat x0 x1 (ix4 b t h (Fin.natAdd 256 (Fin.natAdd 64 e))) : EReal)
      = 0 := fun e => by
    rw [kCat_apply, dif_neg (by simp), dif_neg (by simp), zero_mul]
  rw [Finset.sum_congr rfl fun e _ => e1 e, Finset.sum_congr rfl fun e _ => e2 e, Finset.sum_congr rfl fun e _ => e3 e,
    Finset.sum_const_zero, add_zero, sum_mul_scale, sum_mul_scale]
  unfold Spec.raw
  rw [hr]
  exact (EReal.right_distrib_of_nonneg_of_ne_top (EReal.coe_nonneg.mpr h0) (EReal.coe_ne_top r) _ _).symm

variable (m : (ℓ : Loc nD τ sig) → Buf (Elt Ideal) ℓ) (c : Dev nD)

/-- A row of the scaled queries. -/
theorem V_q_apply (b : Fin 2) (t : Fin 8192) (h : Fin 8) (e : Fin 384) (i : S16384x3072.Idx)
    (h0 : (i 0).val = b.val * 8192 + t.val) (h1 : (i 1).val = 384 * h.val + e.val) :
    (V m c main_v12 : Vec Ideal S16384x3072 .bf16) i = qCat (m ((c : Thread nD τ).loc main_arg0)) (m ((c : Thread nD τ).loc main_arg1)) (ix4 b t h e) := by
  rw [V_q]
  exact shapeCast_apply _ shapeCasts_S2x8192x8x384_S16384x3072 i (ix4 b t h e) (by
    rewrite [Shape.rowMajor_val_four, Shape.rowMajor_val_two]
    have := b.isLt; have := t.isLt; have := h.isLt; have := e.isLt
    show ((b.val * 8192 + t.val) * 8 + h.val) * 384 + e.val = (i 0).val * 3072 + (i 1).val
    omega)

/-- A row of the keys. -/
theorem V_k_apply (b : Fin 2) (k : Fin 8192) (e : Fin 384) (i : S16384x384.Idx)
    (h0 : (i 0).val = b.val * 8192 + k.val) (h1 : (i 1).val = e.val) :
    (V m c main_v13 : Vec Ideal S16384x384 .bf16) i = kCat (m ((c : Thread nD τ).loc main_arg2)) (m ((c : Thread nD τ).loc main_arg3)) (ix3 b k e) := by
  rw [V_k]
  exact shapeCast_apply _ shapeCasts_S2x8192x384_S16384x384 i (ix3 b k e) (by
    rewrite [Shape.rowMajor_val_three, Shape.rowMajor_val_two]
    have := b.isLt; have := k.isLt; have := e.isLt
    show (b.val * 8192 + k.val) * 384 + e.val = (i 0).val * 384 + (i 1).val
    omega)

/-- A value. -/
theorem V_v_apply (b : Fin 2) (d : Fin 256) (k : Fin 8192) (i : S2x256x8192.Idx)
    (h0 : (i 0).val = b.val) (h1 : (i 1).val = d.val) (h2 : (i 2).val = k.val) :
    (V m c main_v11 : Vec Ideal S2x256x8192 .bf16) i = (m ((c : Thread nD τ).loc main_arg2) : Vec Ideal S2x8192x256 .f32) (ix3 b k d) := by
  obtain rfl : i = ix3 b d k := by funext a; fin_cases a <;> exact Fin.ext (by assumption)
  rw [V_v]
  generalize (m ((c : Thread nD τ).loc main_arg2) : Vec Ideal S2x8192x256 .f32) = x
  pointwise

end Cert.KernelIdeal.Flash

end
-- ==== Proof.Ideal.Head.lean ====
/- One head of one block, over any float values: the score of a block of keys against a block of queries, the running
   maximum, the sum of exponentials and the weighted sum of values that it makes of the earlier ones, and the output.
   Then the list of stores that the eight heads make one after another into a buffer of eight slabs, and what such a
   list leaves in the buffer. -/
module

public import proofs.«01_k».proof.Proof.Ideal.Frame
public import Idealize.ShloMosaic.Lib.Pipeline.Value
public import Idealize.ShloMosaic.Lib.Pipeline.ReadBack
public import Idealize.ShloMosaic.Lib.Pointwise

@[expose] public section

set_option maxRecDepth 16384

noncomputable section

namespace Cert.KernelIdeal.Flash

open Cert.KernelIdeal.Gen
open Idealize.ShloMosaic Idealize.ShloMosaic.TcCoe

variable {F : FTy → Type} [FloatOps F] [Named F]

/-! ## One head -/

/-- The scores of a block of keys against one head of a block of queries. -/
def scoreOf (k : Vec F S512x384 .bf16) (q : Vec F S256x384 .bf16) : FVec F S512x256 .f32 :=
  matmul dot_S512x384_S256x384_S512x256_1_1_0_0_n_n none (k0_pay5 k) (shapeCast S256x384 q shapeCasts_S256x384_S256x384)
    (constant S512x256 .f32 0x00000000#32)

/-- The scores with the stand-in for minus infinity where a key is not to be seen. -/
def maskedOf (keep : IVec S512x256 1) (k : Vec F S512x384 .bf16) (q : Vec F S256x384 .bf16) : FVec F S512x256 .f32 :=
  select keep (scoreOf k q) (broadcast S512x256 (Named.named κ "mask" 0xF149F2CA#32 : F .f32))

/-- The running maximum after the block. -/
def mNew (st : FVec F S512x256 .f32) (m : Vec F S1x1x256 .f32) : FVec F S1x256 .f32 :=
  maximumf (shapeCast S1x256 m shapeCasts_S1x1x256_S1x256)
    (shapeCast S1x256 (multiReduction .maximumf [0] S256 st 0xFF800000#32 reduces_S512x256_S256 (.inl rfl) rfl)
      shapeCasts_S256_S1x256)

/-- The factor by which the earlier sums shrink. -/
def alphaOf (st : FVec F S512x256 .f32) (m : Vec F S1x1x256 .f32) : FVec F S1x256 .f32 :=
  exp (subf (shapeCast S1x256 m shapeCasts_S1x1x256_S1x256) (mNew st m))

/-- The block's exponentials. -/
def pOf (st : FVec F S512x256 .f32) (m : Vec F S1x1x256 .f32) : FVec F S512x256 .f32 :=
  exp (subf st (broadcastTo S512x256 (mNew st m) broadcasts_S1x256_S512x256))

/-- What is stored as the running maximum. -/
def mStore (st : FVec F S512x256 .f32) (m : Vec F S1x1x256 .f32) : FVec F S1x1x256 .f32 :=
  shapeCast S1x1x256 (mNew st m) shapeCasts_S1x256_S1x1x256

/-- What is stored as the running sum of exponentials. -/
def lStore (st : FVec F S512x256 .f32) (m l : Vec F S1x1x256 .f32) : FVec F S1x1x256 .f32 :=
  shapeCast S1x1x256
    (addf (mulf (alphaOf st m) (shapeCast S1x256 l shapeCasts_S1x1x256_S1x256))
      (shapeCast S1x256 (multiReduction .add [0] S256 (pOf st m) 0x00000000#32 reduces_S512x256_S256 (.inl rfl) rfl)
        shapeCasts_S256_S1x256)) shapeCasts_S1x256_S1x1x256

/-- What is stored as the running weighted sum of the values. -/
def aStore (st : FVec F S512x256 .f32) (m : Vec F S1x1x256 .f32) (v : Vec F S1x256x512 .bf16)
    (acc : Vec F S1x256x256 .f32) : FVec F S1x256x256 .f32 :=
  shapeCast S1x256x256
    (addf (mulf (broadcastTo S256x256 (alphaOf st m) broadcasts_S1x256_S256x256)
        (shapeCast S256x256 acc shapeCasts_S1x256x256_S256x256))
      (matmul dot_S256x512_S512x256_S256x256_1_0_0_1_n_n none (k0_pay6 v) (truncf .bf16 (pOf st m) bitsLt_bf16_f32)
        (constant S256x256 .f32 0x00000000#32))) shapeCasts_S256x256_S1x256x256

/-- One head's output. -/
def oStore (acc : Vec F S1x256x256 .f32) (l : Vec F S1x1x256 .f32) : FVec F S256x256 .bf16 :=
  k0_pay4 acc l

/-! ## Eight slabs stored one after another -/

/-- Slab `n` of a buffer of eight. -/
theorem slab_inb (A B n : ℕ) (h : n < 8) :
    ∀ a : Fin 3, (![n, 0, 0] : Fin 3 → ℕ) a + (![1, A, B] : Fin 3 → ℕ) a ≤ (![8, A, B] : Fin 3 → ℕ) a := by
  intro a
  match a with
  | ⟨0, _⟩ => show n + 1 ≤ 8; omega
  | ⟨1, _⟩ => show 0 + A ≤ A; omega
  | ⟨2, _⟩ => show 0 + B ≤ B; omega

/-- The rectangle of slab `n`. -/
abbrev slab (A B n : ℕ) (h : n < 8) : Rect ⟨3, ![8, A, B]⟩ :=
  Rect.unit (s := ⟨3, ![8, A, B]⟩) ![n, 0, 0] ![1, A, B] (slab_inb A B n h)

variable {A B : ℕ}

/-- An index of slab `n` is an index of the buffer. -/
theorem slab_emb (n : ℕ) (h : n < 8) (u : Fin 1) (a : Fin A) (b : Fin B) :
    (slab A B n h).emb (ix3 u a b) = ix3 (⟨n, h⟩ : Fin 8) a b := by
  funext d
  match d with
  | ⟨0, _⟩ => exact Fin.ext (show n + 1 * u.val = n by omega)
  | ⟨1, _⟩ => exact Fin.ext (show 0 + 1 * a.val = a.val by omega)
  | ⟨2, _⟩ => exact Fin.ext (show 0 + 1 * b.val = b.val by omega)

/-- Only slab `n`'s own indices lie in it. -/
theorem not_mem_slab (n : ℕ) (h : n < 8) (i : Fin 8) (a : Fin A) (b : Fin B) (e : i.val ≠ n) :
    ix3 i a b ∉ (slab A B n h).set := by
  intro hm
  have := (Rect.mem_set_unit.mp hm) (0 : Fin 3)
  have h1 : n ≤ i.val ∧ i.val < n + 1 := this
  omega

variable (F A B) in
/-- Stores into a buffer of eight slabs. -/
abbrev SlabPieces : Type := List (View.Piece (Elt F) ⟨3, ![8, A, B]⟩ .f32)

variable (F A B) in
/-- The contents of one slab. -/
abbrev SlabVec : Type := (⟨3, ![1, A, B]⟩ : Shape).Idx → Elt F .f32

/-- The stores of the first `n` heads over the stores `L0`, last first; each may read what is stored before it. -/
def heads (f : (n : ℕ) → n < 8 → SlabPieces F A B → SlabVec F A B) (L0 : SlabPieces F A B) :
    (n : ℕ) → n ≤ 8 → SlabPieces F A B
  | 0, _ => L0
  | n + 1, h => ⟨slab A B n h, f n h (heads f L0 n (Nat.le_of_succ_le h))⟩ :: heads f L0 n (Nat.le_of_succ_le h)

/-- What the stores of the heads leave: in slab `n` head `n`'s store, if what that store is depends on the earlier
    ones only through slab `n`, which no earlier head stores into. -/
theorem canon_heads (f : (n : ℕ) → n < 8 → SlabPieces F A B → SlabVec F A B) (L0 : SlabPieces F A B)
    (g : (n : ℕ) → n < 8 → SlabVec F A B)
    (hf : ∀ n h L, (∀ x, View.canon L ((slab A B n h).emb x) = View.canon L0 ((slab A B n h).emb x)) → f n h L = g n h)
    (n : ℕ) (hn : n ≤ 8) (i : Fin 8) (a : Fin A) (b : Fin B) : View.canon (heads f L0 n hn) (ix3 i a b)
      = if i.val < n then g i.val i.isLt (ix3 0 a b) else View.canon L0 (ix3 i a b) := by
  induction n generalizing i a b with
  | zero => exact (if_neg (Nat.not_lt_zero _)).symm
  | succ n ih =>
    have ih := ih (Nat.le_of_succ_le hn)
    by_cases e : i.val = n
    · obtain ⟨i, hi⟩ := i
      obtain rfl : i = n := e
      have e' := slab_emb (A := A) (B := B) i hn (0 : Fin 1) a b
      refine (congrArg (View.canon _) e'.symm).trans ((View.canon_cons_emb (Val := Elt F) (e := .f32) (slab A B i hn) (f i hn (heads f L0 i (Nat.le_of_succ_le hn)))
        (heads f L0 i (Nat.le_of_succ_le hn)) (ix3 0 a b)).trans ?_)
      refine (congrFun (hf i hn _ ?_) _).trans (if_pos (Nat.lt_succ_self i)).symm
      intro x
      obtain ⟨x0, x1, x2, rfl⟩ : ∃ (x0 : Fin 1) (x1 : Fin A) (x2 : Fin B), x = ix3 x0 x1 x2 := ⟨x 0, x 1, x 2, eq_ix3 x⟩
      rw [slab_emb, ih]
      exact if_neg (lt_irrefl i)
    · refine (View.canon_cons_of_not_mem (Val := Elt F) (e := .f32) ⟨slab A B n hn, f n hn (heads f L0 n (Nat.le_of_succ_le hn))⟩
        (heads f L0 n (Nat.le_of_succ_le hn)) (not_mem_slab n hn i a b e)).trans ((ih i a b).trans ?_)
      by_cases h' : i.val < n
      · rw [if_pos h', if_pos (by omega)]
      · rw [if_neg h', if_neg (by omega)]

/-! ## The output's column blocks -/

/-- Columns `256 n` to `256 n + 255`. -/
theorem cols_inb (n : ℕ) (h : n < 8) :
    ∀ a : Fin 2, (![0, 256 * n] : Fin 2 → ℕ) a + (![256, 256] : Fin 2 → ℕ) a ≤ S256x2048.size a := by
  intro a
  match a with
  | ⟨0, _⟩ => show 0 + 256 ≤ 256; omega
  | ⟨1, _⟩ => show 256 * n + 256 ≤ 2048; omega

/-- The rectangle of head `n`'s columns. -/
abbrev cols (n : ℕ) (h : n < 8) : Rect S256x2048 := Rect.unit (s := S256x2048) ![0, 256 * n] ![256, 256] (cols_inb n h)

/-- An index of head `n`'s columns is an index of the output block. -/
theorem cols_emb (n : ℕ) (h : n < 8) (a b : Fin 256) :
    (cols n h).emb (ix2 a b) = ix2 a (⟨256 * n + b.val, by omega⟩ : Fin 2048) := by
  funext d
  match d with
  | ⟨0, _⟩ => exact Fin.ext (show 0 + 1 * a.val = a.val by omega)
  | ⟨1, _⟩ => exact Fin.ext (show 256 * n + 1 * b.val = 256 * n + b.val by omega)

/-- Only head `n`'s own columns lie in its rectangle. -/
theorem not_mem_cols (n : ℕ) (h : n < 8) (a : Fin 256) (b : Fin 2048) (e : b.val / 256 ≠ n) :
    ix2 a b ∉ (cols n h).set := by
  intro hm
  have := (Rect.mem_set_unit.mp hm) (1 : Fin 2)
  have h1 : 256 * n ≤ b.val ∧ b.val < 256 * n + 256 := this
  omega

/-- The stores of the first `n` heads into the output block. -/
def outs (g : (n : ℕ) → n < 8 → FVec F S256x256 .bf16) : (n : ℕ) → n ≤ 8 → List (View.Piece (Elt F) S256x2048 .bf16)
  | 0, _ => []
  | n + 1, h => ⟨cols n h, g n h⟩ :: outs g n (Nat.le_of_succ_le h)

/-- What they leave: in head `n`'s columns head `n`'s store. -/
theorem canon_outs (g : (n : ℕ) → n < 8 → FVec F S256x256 .bf16) (n : ℕ) (hn : n ≤ 8) (a : Fin 256) (i : ℕ) (hi : i < n)
    (b : Fin 256) : View.canon (outs g n hn) (ix2 a (⟨256 * i + b.val, by omega⟩ : Fin 2048))
      = g i (by omega) (ix2 a b) := by
  induction n with
  | zero => omega
  | succ n ih =>
    by_cases e : i = n
    · subst e
      exact (congrArg (View.canon _) (cols_emb i hn a b).symm).trans (View.canon_cons_emb (Val := Elt F) (e := .bf16) (cols i hn) (g i hn) (outs g i (Nat.le_of_succ_le hn)) (ix2 a b))
    · exact (View.canon_cons_of_not_mem (Val := Elt F) (e := .bf16) ⟨cols n hn, g n hn⟩ (outs g n (Nat.le_of_succ_le hn))
        (not_mem_cols n hn a _ (show (256 * i + b.val) / 256 ≠ n by omega))).trans (ih (Nat.le_of_succ_le hn) (by omega))

/-! ## One point's stores -/

section Point

variable (st : (n : ℕ) → n < 8 → FVec F S512x256 .f32) (v : Vec F S1x256x512 .bf16)
variable (ldm ldl : (n : ℕ) → n < 8 → SlabPieces F 1 256 → SlabVec F 1 256)
variable (lda : (n : ℕ) → n < 8 → SlabPieces F 256 256 → SlabVec F 256 256)
variable (Lm Ll : SlabPieces F 1 256) (La : SlabPieces F 256 256)

/-- The stores into the running maxima. -/
def mList (n : ℕ) (hn : n ≤ 8) : SlabPieces F 1 256 := heads (fun n h L => mStore (st n h) (ldm n h L)) Lm n hn

/-- The stores into the running sums of exponentials. -/
def lList (n : ℕ) (hn : n ≤ 8) : SlabPieces F 1 256 :=
  heads (fun n h L => lStore (st n h) (ldm n h (mList st ldm Lm n (Nat.le_of_lt h))) (ldl n h L)) Ll n hn

/-- The stores into the running weighted sums. -/
def aList (n : ℕ) (hn : n ≤ 8) : SlabPieces F 256 256 :=
  heads (fun n h L => aStore (st n h) (ldm n h (mList st ldm Lm n (Nat.le_of_lt h))) v (lda n h L)) La n hn

end Point

end Cert.KernelIdeal.Flash

end
-- ==== Proof.Ideal.Cases.lean ====
/- What the body's run stores, case by case: the stores of eight heads one after another, each by the same formulas. -/
module

public import proofs.«01_k».proof.Proof.Ideal.Head

@[expose] public section

set_option maxRecDepth 16384

noncomputable section

namespace Cert.KernelIdeal.Flash

open Cert.KernelIdeal.Gen
open Idealize.ShloMosaic Idealize.ShloMosaic.TcCoe

variable {F : FTy → Type} [FloatOps F] [Named F]

/-- A slab read from what a buffer held when the body began. -/
def ldKept {A B : ℕ} (v : Memref sig .tc .vmem ⟨3, ![8, A, B]⟩ .f32) (hv : v.IsWhole) (X : Vec F ⟨3, ![8, A, B]⟩ .f32)
    (n : ℕ) (h : n < 8) (_ : SlabPieces F A B) : SlabVec F A B :=
  View.readAt (Elt F) v.view (slab A B n h).toLoadRect (hv.unread X)

/-- A slab read from what the body itself stored. -/
def ldStored {A B : ℕ} (v : Memref sig .tc .vmem ⟨3, ![8, A, B]⟩ .f32) (n : ℕ) (h : n < 8) (L : SlabPieces F A B) :
    SlabVec F A B :=
  v.view.readCov L (slab A B n h).toLoadRect

/-- Head `n`'s columns of the query block. -/
theorem qcols_inb (n : ℕ) (h : n < 8) :
    ∀ a : Fin 2, (![0, 384 * n] : Fin 2 → ℕ) a + (![256, 384] : Fin 2 → ℕ) a ≤ S256x3072.size a := by
  intro a
  match a with
  | ⟨0, _⟩ => show 0 + 256 ≤ 256; omega
  | ⟨1, _⟩ => show 384 * n + 384 ≤ 3072; omega

/-- The rectangle of head `n`'s columns of the query block. -/
abbrev qcols (n : ℕ) (h : n < 8) : Rect S256x3072 := Rect.unit (s := S256x3072) ![0, 384 * n] ![256, 384] (qcols_inb n h)

/-- Head `n`'s queries as loaded. -/
def qLoad (v : Memref sig .tc .vmem S256x3072 .bf16) (hv : v.IsWhole) (X : Vec F S256x3072 .bf16) (n : ℕ) (h : n < 8) :
    Vec F S256x384 .bf16 :=
  View.readAt (Elt F) v.view (qcols n h).toLoadRect (hv.unread X)

/-- The keys as loaded. -/
def kLoad (v : Memref sig .tc .vmem S512x384 .bf16) (hv : v.IsWhole) (X : Vec F S512x384 .bf16) : Vec F S512x384 .bf16 :=
  View.readAt (Elt F) v.view (Rect.unit ![0, 0] S512x384.size inb_S512x384_S512x384_0_0).toLoadRect (hv.unread X)

/-- The values as loaded. -/
def vLoad (v : Memref sig .tc .vmem S1x256x512 .bf16) (hv : v.IsWhole) (X : Vec F S1x256x512 .bf16) :
    Vec F S1x256x512 .bf16 :=
  View.readAt (Elt F) v.view (Rect.unit ![0, 0, 0] S1x256x512.size inb_S1x256x512_S1x256x512_0_0_0).toLoadRect (hv.unread X)

/-- The store that resets the running maxima. -/
def mReset : SlabPieces F 1 256 :=
  [⟨Rect.unit (s := S8x1x256) ![0, 0, 0] S8x1x256.size inb_S8x1x256_S8x1x256_0_0_0, k0_pay155⟩]
/-- The store that resets the running sums. -/
def lReset : SlabPieces F 1 256 :=
  [⟨Rect.unit (s := S8x1x256) ![0, 0, 0] S8x1x256.size inb_S8x1x256_S8x1x256_0_0_0, k0_pay156⟩]
/-- The store that resets the running weighted sums. -/
def aReset : SlabPieces F 256 256 :=
  [⟨Rect.unit (s := S8x256x256) ![0, 0, 0] S8x256x256.size inb_S8x256x256_S8x256x256_0_0_0, k0_pay157⟩]

/-- One more head's store. -/
theorem heads_step {A B : ℕ} {f : (n : ℕ) → n < 8 → SlabPieces F A B → SlabVec F A B} {L0 : SlabPieces F A B} {n : ℕ}
    {hn : n + 1 ≤ 8} {L : SlabPieces F A B} {w : SlabVec F A B} (hL : L = heads f L0 n (Nat.le_of_succ_le hn))
    (hw : w = f n hn L) : (⟨slab A B n hn, w⟩ : View.Piece (Elt F) ⟨3, ![8, A, B]⟩ .f32) :: L = heads f L0 (n + 1) hn := by
  subst hL; subst hw; rfl

/-- One more head's store, which reads the stores `M` into another buffer. -/
theorem heads_step₂ {A B A' B' : ℕ} {k : (n : ℕ) → n < 8 → SlabPieces F A' B' → SlabPieces F A B → SlabVec F A B}
    {ml : (n : ℕ) → n ≤ 8 → SlabPieces F A' B'} {L0 : SlabPieces F A B} {n : ℕ}
    {hn : n + 1 ≤ 8} {L : SlabPieces F A B} {w : SlabVec F A B} {M : SlabPieces F A' B'} (hw : w = k n hn M L)
    (hM : M = ml n (Nat.le_of_succ_le hn))
    (hL : L = heads (fun n h L => k n h (ml n (Nat.le_of_lt h)) L) L0 n (Nat.le_of_succ_le hn)) :
    (⟨slab A B n hn, w⟩ : View.Piece (Elt F) ⟨3, ![8, A, B]⟩ .f32) :: L
      = heads (fun n h L => k n h (ml n (Nat.le_of_lt h)) L) L0 (n + 1) hn := by
  subst hL; subst hM; subst hw; rfl

/-- One more head's store into the output block. -/
theorem outs_step {g : (n : ℕ) → n < 8 → FVec F S256x256 .bf16} {n : ℕ} {hn : n + 1 ≤ 8}
    {L : List (View.Piece (Elt F) S256x2048 .bf16)} {w : FVec F S256x256 .bf16} (hw : w = g n hn)
    (hL : L = outs g n (Nat.le_of_succ_le hn)) :
    (⟨cols n hn, w⟩ : View.Piece (Elt F) S256x2048 .bf16) :: L = outs g (n + 1) hn := by
  subst hL; subst hw; rfl

section Cases

variable (c : Dev nD) (i : grid0.Coords) (arg3 : Memref sig .tc .vmem S256x3072 .bf16) (harg3 : arg3.IsWhole) (arg4 : Memref sig .tc .vmem S512x384 .bf16) (harg4 : arg4.IsWhole) (arg5 : Memref sig .tc .vmem S1x256x512 .bf16) (harg5 : arg5.IsWhole) (arg6 : Memref sig .tc .vmem S256x2048 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole)
    (x0 : Vec F S256x3072 .bf16) (x1 : Vec F S512x384 .bf16) (x2 : Vec F S1x256x512 .bf16) (xs0 : Vec F S8x1x256 .f32) (xs1 : Vec F S8x1x256 .f32) (xs2 : Vec F S8x256x256 .f32)

/-- The scores of head `n` in a block without a mask. -/
def stPlain (n : ℕ) (h : n < 8) : FVec F S512x256 .f32 := scoreOf (kLoad arg4 harg4 x1) (qLoad arg3 harg3 x0 n h)

/-- The scores of head `n` in a block on the diagonal, which the row's own coordinates place. -/
def stMask (n : ℕ) (h : n < 8) : FVec F S512x256 .f32 :=
  maskedOf (k0_pay7 (kernelRun0_D.sl.v23 i) (kernelRun0_D.sl.v25 i)) (kLoad arg4 harg4 x1) (qLoad arg3 harg3 x0 n h)

/-- The stores into the running maxima (reset, masked, last). -/
theorem runA_m (hc0 : cond0_0 i) (hc1 : cond0_1 i) (hc2 : ¬cond0_2 i) (hc3 : cond0_3 i) : (kernelRun0_A c i arg3 harg3 arg4 harg4 arg5 harg5 arg6 harg6 arg7 harg7 arg8 harg8 arg9 harg9 hc0 hc1 hc2 hc3 x0 x1 x2).2.1 = mList (stMask i arg3 harg3 arg4 harg4 x0 x1) (ldStored arg7) mReset 8 le_rfl := by
  unfold mList
  iterate 8 refine heads_step (F := F) ?_ rfl
  rfl

/-- The stores into the running sums (reset, masked, last). -/
theorem runA_l (hc0 : cond0_0 i) (hc1 : cond0_1 i) (hc2 : ¬cond0_2 i) (hc3 : cond0_3 i) : (kernelRun0_A c i arg3 harg3 arg4 harg4 arg5 harg5 arg6 harg6 arg7 harg7 arg8 harg8 arg9 harg9 hc0 hc1 hc2 hc3 x0 x1 x2).2.2.1 = lList (stMask i arg3 harg3 arg4 harg4 x0 x1) (ldStored arg7) (ldStored arg8) mReset lReset 8 le_rfl := by
  unfold lList
  iterate 8
    refine heads_step₂ (F := F) (k := fun n h M L => lStore ((stMask i arg3 harg3 arg4 harg4 x0 x1) n h) ((ldStored arg7) n h M) ((ldStored arg8) n h L)) rfl ?_ ?_
    · unfold mList; repeat (refine heads_step (F := F) ?_ rfl)
      rfl
  rfl

/-- The stores into the running weighted sums (reset, masked, last). -/
theorem runA_a (hc0 : cond0_0 i) (hc1 : cond0_1 i) (hc2 : ¬cond0_2 i) (hc3 : cond0_3 i) : (kernelRun0_A c i arg3 harg3 arg4 harg4 arg5 harg5 arg6 harg6 arg7 harg7 arg8 harg8 arg9 harg9 hc0 hc1 hc2 hc3 x0 x1 x2).2.2.2.1 = aList (stMask i arg3 harg3 arg4 harg4 x0 x1) (vLoad arg5 harg5 x2) (ldStored arg7) (ldStored arg9) mReset aReset 8 le_rfl := by
  unfold aList
  iterate 8
    refine heads_step₂ (F := F) (k := fun n h M L => aStore ((stMask i arg3 harg3 arg4 harg4 x0 x1) n h) ((ldStored arg7) n h M) (vLoad arg5 harg5 x2) ((ldStored arg9) n h L)) rfl ?_ ?_
    · unfold mList; repeat (refine heads_step (F := F) ?_ rfl)
      rfl
  rfl

/-- The stores into the output block (reset, masked, last). -/
theorem runA_o (hc0 : cond0_0 i) (hc1 : cond0_1 i) (hc2 : ¬cond0_2 i) (hc3 : cond0_3 i) : (kernelRun0_A c i arg3 harg3 arg4 harg4 arg5 harg5 arg6 harg6 arg7 harg7 arg8 harg8 arg9 harg9 hc0 hc1 hc2 hc3 x0 x1 x2).1 = outs (fun n h => oStore
      (ldStored arg9 n h (aList (stMask i arg3 harg3 arg4 harg4 x0 x1) (vLoad arg5 harg5 x2) (ldStored arg7) (ldStored arg9) mReset aReset 8 le_rfl))
      (ldStored arg8 n h (lList (stMask i arg3 harg3 arg4 harg4 x0 x1) (ldStored arg7) (ldStored arg8) mReset lReset 8 le_rfl))) 8 le_rfl := by
  have key : ∀ (P : SlabPieces F 256 256) (Q : SlabPieces F 1 256), P = (kernelRun0_A c i arg3 harg3 arg4 harg4 arg5 harg5 arg6 harg6 arg7 harg7 arg8 harg8 arg9 harg9 hc0 hc1 hc2 hc3 x0 x1 x2).2.2.2.1 → Q = (kernelRun0_A c i arg3 harg3 arg4 harg4 arg5 harg5 arg6 harg6 arg7 harg7 arg8 harg8 arg9 harg9 hc0 hc1 hc2 hc3 x0 x1 x2).2.2.1 →
      (kernelRun0_A c i arg3 harg3 arg4 harg4 arg5 harg5 arg6 harg6 arg7 harg7 arg8 harg8 arg9 harg9 hc0 hc1 hc2 hc3 x0 x1 x2).1 = outs (fun n h => oStore (ldStored arg9 n h P) (ldStored arg8 n h Q)) 8 le_rfl := by
    rintro _ _ rfl rfl
    refine outs_step (F := F) (n := 7) rfl ?_
    refine outs_step (F := F) (n := 6) rfl ?_
    refine outs_step (F := F) (n := 5) rfl ?_
    refine outs_step (F := F) (n := 4) rfl ?_
    refine outs_step (F := F) (n := 3) rfl ?_
    refine outs_step (F := F) (n := 2) rfl ?_
    refine outs_step (F := F) (n := 1) rfl ?_
    refine outs_step (F := F) (n := 0) rfl ?_
    rfl
  exact key _ _ (runA_a (hc0 := hc0) (hc1 := hc1) (hc2 := hc2) (hc3 := hc3) ..).symm (runA_l (hc0 := hc0) (hc1 := hc1) (hc2 := hc2) (hc3 := hc3) ..).symm

/-- The stores into the running maxima (reset, plain). -/
theorem runB_m (hc0 : cond0_0 i) (hc1 : ¬cond0_1 i) (hc2 : cond0_2 i) (hc3 : ¬cond0_3 i) : (kernelRun0_B c i arg3 harg3 arg4 harg4 arg5 harg5 arg6 harg6 arg7 harg7 arg8 harg8 arg9 harg9 hc0 hc1 hc2 hc3 x0 x1 x2).2.1 = mList (stPlain arg3 harg3 arg4 harg4 x0 x1) (ldStored arg7) mReset 8 le_rfl := by
  unfold mList
  iterate 8 refine heads_step (F := F) ?_ rfl
  rfl

/-- The stores into the running sums (reset, plain). -/
theorem runB_l (hc0 : cond0_0 i) (hc1 : ¬cond0_1 i) (hc2 : cond0_2 i) (hc3 : ¬cond0_3 i) : (kernelRun0_B c i arg3 harg3 arg4 harg4 arg5 harg5 arg6 harg6 arg7 harg7 arg8 harg8 arg9 harg9 hc0 hc1 hc2 hc3 x0 x1 x2).2.2.1 = lList (stPlain arg3 harg3 arg4 harg4 x0 x1) (ldStored arg7) (ldStored arg8) mReset lReset 8 le_rfl := by
  unfold lList
  iterate 8
    refine heads_step₂ (F := F) (k := fun n h M L => lStore ((stPlain arg3 harg3 arg4 harg4 x0 x1) n h) ((ldStored arg7) n h M) ((ldStored arg8) n h L)) rfl ?_ ?_
    · unfold mList; repeat (refine heads_step (F := F) ?_ rfl)
      rfl
  rfl

/-- The stores into the running weighted sums (reset, plain). -/
theorem runB_a (hc0 : cond0_0 i) (hc1 : ¬cond0_1 i) (hc2 : cond0_2 i) (hc3 : ¬cond0_3 i) : (kernelRun0_B c i arg3 harg3 arg4 harg4 arg5 harg5 arg6 harg6 arg7 harg7 arg8 harg8 arg9 harg9 hc0 hc1 hc2 hc3 x0 x1 x2).2.2.2.1 = aList (stPlain arg3 harg3 arg4 harg4 x0 x1) (vLoad arg5 harg5 x2) (ldStored arg7) (ldStored arg9) mReset aReset 8 le_rfl := by
  unfold aList
  iterate 8
    refine heads_step₂ (F := F) (k := fun n h M L => aStore ((stPlain arg3 harg3 arg4 harg4 x0 x1) n h) ((ldStored arg7) n h M) (vLoad arg5 harg5 x2) ((ldStored arg9) n h L)) rfl ?_ ?_
    · unfold mList; repeat (refine heads_step (F := F) ?_ rfl)
      rfl
  rfl

/-- The stores into the running maxima (plain). -/
theorem runC_m (hc0 : ¬cond0_0 i) (hc1 : ¬cond0_1 i) (hc2 : cond0_2 i) (hc3 : ¬cond0_3 i) : (kernelRun0_C c i arg3 harg3 arg4 harg4 arg5 harg5 arg6 harg6 arg7 harg7 arg8 harg8 arg9 harg9 hc0 hc1 hc2 hc3 x0 x1 x2 xs0 xs1 xs2).2.1 = mList (stPlain arg3 harg3 arg4 harg4 x0 x1) (ldKept arg7 harg7 xs0) [] 8 le_rfl := by
  unfold mList
  iterate 8 refine heads_step (F := F) ?_ rfl
  rfl

/-- The stores into the running sums (plain). -/
theorem runC_l (hc0 : ¬cond0_0 i) (hc1 : ¬cond0_1 i) (hc2 : cond0_2 i) (hc3 : ¬cond0_3 i) : (kernelRun0_C c i arg3 harg3 arg4 harg4 arg5 harg5 arg6 harg6 arg7 harg7 arg8 harg8 arg9 harg9 hc0 hc1 hc2 hc3 x0 x1 x2 xs0 xs1 xs2).2.2.1 = lList (stPlain arg3 harg3 arg4 harg4 x0 x1) (ldKept arg7 harg7 xs0) (ldKept arg8 harg8 xs1) [] [] 8 le_rfl := by
  unfold lList
  iterate 8
    refine heads_step₂ (F := F) (k := fun n h M L => lStore ((stPlain arg3 harg3 arg4 harg4 x0 x1) n h) ((ldKept arg7 harg7 xs0) n h M) ((ldKept arg8 harg8 xs1) n h L)) rfl rfl ?_
  rfl

/-- The stores into the running weighted sums (plain). -/
theorem runC_a (hc0 : ¬cond0_0 i) (hc1 : ¬cond0_1 i) (hc2 : cond0_2 i) (hc3 : ¬cond0_3 i) : (kernelRun0_C c i arg3 harg3 arg4 harg4 arg5 harg5 arg6 harg6 arg7 harg7 arg8 harg8 arg9 harg9 hc0 hc1 hc2 hc3 x0 x1 x2 xs0 xs1 xs2).2.2.2.1 = aList (stPlain arg3 harg3 arg4 harg4 x0 x1) (vLoad arg5 harg5 x2) (ldKept arg7 harg7 xs0) (ldKept arg9 harg9 xs2) [] [] 8 le_rfl := by
  unfold aList
  iterate 8
    refine heads_step₂ (F := F) (k := fun n h M L => aStore ((stPlain arg3 harg3 arg4 harg4 x0 x1) n h) ((ldKept arg7 harg7 xs0) n h M) (vLoad arg5 harg5 x2) ((ldKept arg9 harg9 xs2) n h L)) rfl rfl ?_
  rfl

/-- The stores into the running maxima (masked, last). -/
theorem runD_m (hc0 : ¬cond0_0 i) (hc1 : cond0_1 i) (hc2 : ¬cond0_2 i) (hc3 : cond0_3 i) : (kernelRun0_D c i arg3 harg3 arg4 harg4 arg5 harg5 arg6 harg6 arg7 harg7 arg8 harg8 arg9 harg9 hc0 hc1 hc2 hc3 x0 x1 x2 xs0 xs1 xs2).2.1 = mList (stMask i arg3 harg3 arg4 harg4 x0 x1) (ldKept arg7 harg7 xs0) [] 8 le_rfl := by
  unfold mList
  iterate 8 refine heads_step (F := F) ?_ rfl
  rfl

/-- The stores into the running sums (masked, last). -/
theorem runD_l (hc0 : ¬cond0_0 i) (hc1 : cond0_1 i) (hc2 : ¬cond0_2 i) (hc3 : cond0_3 i) : (kernelRun0_D c i arg3 harg3 arg4 harg4 arg5 harg5 arg6 harg6 arg7 harg7 arg8 harg8 arg9 harg9 hc0 hc1 hc2 hc3 x0 x1 x2 xs0 xs1 xs2).2.2.1 = lList (stMask i arg3 harg3 arg4 harg4 x0 x1) (ldKept arg7 harg7 xs0) (ldKept arg8 harg8 xs1) [] [] 8 le_rfl := by
  unfold lList
  iterate 8
    refine heads_step₂ (F := F) (k := fun n h M L => lStore ((stMask i arg3 harg3 arg4 harg4 x0 x1) n h) ((ldKept arg7 harg7 xs0) n h M) ((ldKept arg8 harg8 xs1) n h L)) rfl rfl ?_
  rfl

/-- The stores into the running weighted sums (masked, last). -/
theorem runD_a (hc0 : ¬cond0_0 i) (hc1 : cond0_1 i) (hc2 : ¬cond0_2 i) (hc3 : cond0_3 i) : (kernelRun0_D c i arg3 harg3 arg4 harg4 arg5 harg5 arg6 harg6 arg7 harg7 arg8 harg8 arg9 harg9 hc0 hc1 hc2 hc3 x0 x1 x2 xs0 xs1 xs2).2.2.2.1 = aList (stMask i arg3 harg3 arg4 harg4 x0 x1) (vLoad arg5 harg5 x2) (ldKept arg7 harg7 xs0) (ldKept arg9 harg9 xs2) [] [] 8 le_rfl := by
  unfold aList
  iterate 8
    refine heads_step₂ (F := F) (k := fun n h M L => aStore ((stMask i arg3 harg3 arg4 harg4 x0 x1) n h) ((ldKept arg7 harg7 xs0) n h M) (vLoad arg5 harg5 x2) ((ldKept arg9 harg9 xs2) n h L)) rfl rfl ?_
  rfl

/-- The stores into the output block (masked, last). -/
theorem runD_o (hc0 : ¬cond0_0 i) (hc1 : cond0_1 i) (hc2 : ¬cond0_2 i) (hc3 : cond0_3 i) : (kernelRun0_D c i arg3 harg3 arg4 harg4 arg5 harg5 arg6 harg6 arg7 harg7 arg8 harg8 arg9 harg9 hc0 hc1 hc2 hc3 x0 x1 x2 xs0 xs1 xs2).1 = outs (fun n h => oStore
      (ldStored arg9 n h (aList (stMask i arg3 harg3 arg4 harg4 x0 x1) (vLoad arg5 harg5 x2) (ldKept arg7 harg7 xs0) (ldKept arg9 harg9 xs2) [] [] 8 le_rfl))
      (ldStored arg8 n h (lList (stMask i arg3 harg3 arg4 harg4 x0 x1) (ldKept arg7 harg7 xs0) (ldKept arg8 harg8 xs1) [] [] 8 le_rfl))) 8 le_rfl := by
  have key : ∀ (P : SlabPieces F 256 256) (Q : SlabPieces F 1 256), P = (kernelRun0_D c i arg3 harg3 arg4 harg4 arg5 harg5 arg6 harg6 arg7 harg7 arg8 harg8 arg9 harg9 hc0 hc1 hc2 hc3 x0 x1 x2 xs0 xs1 xs2).2.2.2.1 → Q = (kernelRun0_D c i arg3 harg3 arg4 harg4 arg5 harg5 arg6 harg6 arg7 harg7 arg8 harg8 arg9 harg9 hc0 hc1 hc2 hc3 x0 x1 x2 xs0 xs1 xs2).2.2.1 →
      (kernelRun0_D c i arg3 harg3 arg4 harg4 arg5 harg5 arg6 harg6 arg7 harg7 arg8 harg8 arg9 harg9 hc0 hc1 hc2 hc3 x0 x1 x2 xs0 xs1 xs2).1 = outs (fun n h => oStore (ldStored arg9 n h P) (ldStored arg8 n h Q)) 8 le_rfl := by
    rintro _ _ rfl rfl
    refine outs_step (F := F) (n := 7) rfl ?_
    refine outs_step (F := F) (n := 6) rfl ?_
    refine outs_step (F := F) (n := 5) rfl ?_
    refine outs_step (F := F) (n := 4) rfl ?_
    refine outs_step (F := F) (n := 3) rfl ?_
    refine outs_step (F := F) (n := 2) rfl ?_
    refine outs_step (F := F) (n := 1) rfl ?_
    refine outs_step (F := F) (n := 0) rfl ?_
    rfl
  exact key _ _ (runD_a (hc0 := hc0) (hc1 := hc1) (hc2 := hc2) (hc3 := hc3) ..).symm (runD_l (hc0 := hc0) (hc1 := hc1) (hc2 := hc2) (hc3 := hc3) ..).symm

end Cases

end Cert.KernelIdeal.Flash

end
-- ==== Proof.Ideal.Step.lean ====
/- What one point leaves in the three running buffers and in the output block, as functions of what they held before. -/
module

public import proofs.«01_k».proof.Proof.Ideal.Cases

@[expose] public section

set_option maxRecDepth 16384

noncomputable section

namespace Cert.KernelIdeal.Flash

open Cert.KernelIdeal.Gen
open Idealize.ShloMosaic Idealize.ShloMosaic.TcCoe

variable {F : FTy → Type} [FloatOps F] [Named F]

/-- Slab `n` of the contents of a buffer of eight. -/
def row {A B : ℕ} (X : Vec F ⟨3, ![8, A, B]⟩ .f32) (n : ℕ) (h : n < 8) : SlabVec F A B :=
  fun x => X (ix3 (⟨n, h⟩ : Fin 8) (x 1) (x 2))

/-- Head `n`'s columns of a query block. -/
def qHead (X : Vec F S256x3072 .bf16) (n : ℕ) (h : n < 8) : Vec F S256x384 .bf16 :=
  fun x => X (ix2 (x 0) (⟨384 * n + (x 1).val, by have h1 : (x 1).val < 384 := (x 1).isLt; omega⟩ : Fin 3072))

/-- The loads of slabs read the slabs of `X`, after any stores that leave a slab as the first ones `L0` did. -/
def LoadsRow {A B : ℕ} (ld : (n : ℕ) → n < 8 → SlabPieces F A B → SlabVec F A B) (L0 : SlabPieces F A B)
    (X : Vec F ⟨3, ![8, A, B]⟩ .f32) : Prop :=
  ∀ n h L, (∀ x, View.canon L ((slab A B n h).emb x) = View.canon L0 ((slab A B n h).emb x)) → ld n h L = row X n h

theorem slab_emb' {A B : ℕ} (n : ℕ) (h : n < 8) (x : (⟨3, ![1, A, B]⟩ : Shape).Idx) :
    (slab A B n h).emb x = ix3 (⟨n, h⟩ : Fin 8) (x 1) (x 2) := by
  obtain ⟨x0, x1, x2, rfl⟩ : ∃ (x0 : Fin 1) (x1 : Fin A) (x2 : Fin B), x = ix3 x0 x1 x2 := ⟨x 0, x 1, x 2, eq_ix3 x⟩
  exact slab_emb n h x0 x1 x2

theorem loadsRow_kept {A B : ℕ} (v : Memref sig .tc .vmem ⟨3, ![8, A, B]⟩ .f32) (hv : v.IsWhole)
    (X : Vec F ⟨3, ![8, A, B]⟩ .f32) : LoadsRow (ldKept v hv X) [] X := by
  intro n h L _
  funext x
  show View.read (Elt F) v.view (hv.unread X) ((slab A B n h).emb x) = _
  rw [hv.read_unread, slab_emb']
  rfl

theorem loadsRow_stored {A B : ℕ} (v : Memref sig .tc .vmem ⟨3, ![8, A, B]⟩ .f32) (L0 : SlabPieces F A B)
    (X : Vec F ⟨3, ![8, A, B]⟩ .f32) (hX : View.canon L0 = X) : LoadsRow (ldStored v) L0 X := by
  intro n h L hL
  subst hX
  unfold ldStored
  rw [View.readCov_eq_canon']
  funext x
  refine (hL x).trans ?_
  rw [slab_emb']
  rfl

theorem canon_mReset : View.canon (mReset (F := F)) = k0_pay155 :=
  View.canon_unit_zero (S := S8x1x256) (by funext a; fin_cases a <;> rfl) _ _
theorem canon_lReset : View.canon (lReset (F := F)) = k0_pay156 :=
  View.canon_unit_zero (S := S8x1x256) (by funext a; fin_cases a <;> rfl) _ _
theorem canon_aReset : View.canon (aReset (F := F)) = k0_pay157 :=
  View.canon_unit_zero (S := S8x256x256) (by funext a; fin_cases a <;> rfl) _ _

/-- The loaded keys are the block's. -/
theorem kLoad_eq (v : Memref sig .tc .vmem S512x384 .bf16) (hv : v.IsWhole) (X : Vec F S512x384 .bf16) :
    kLoad v hv X = X := by
  unfold kLoad
  rw [View.readAt_eq_ld, hv.read_unread]
  exact View.ld_unit_zero (S := S512x384) (by funext a; fin_cases a <;> rfl) _ _

/-- The loaded values are the block's. -/
theorem vLoad_eq (v : Memref sig .tc .vmem S1x256x512 .bf16) (hv : v.IsWhole) (X : Vec F S1x256x512 .bf16) :
    vLoad v hv X = X := by
  unfold vLoad
  rw [View.readAt_eq_ld, hv.read_unread]
  exact View.ld_unit_zero (S := S1x256x512) (by funext a; fin_cases a <;> rfl) _ _

/-- The loaded queries are the head's. -/
theorem qLoad_eq (v : Memref sig .tc .vmem S256x3072 .bf16) (hv : v.IsWhole) (X : Vec F S256x3072 .bf16) (n : ℕ)
    (h : n < 8) : qLoad v hv X n h = qHead X n h := by
  funext x
  show View.read (Elt F) v.view (hv.unread X) ((qcols n h).emb x) = _
  rw [hv.read_unread]
  refine congrArg X (funext fun d => ?_)
  match d with
  | ⟨0, _⟩ => exact Fin.ext (show 0 + 1 * (x 0).val = (x 0).val by omega)
  | ⟨1, _⟩ => exact Fin.ext (show 384 * n + 1 * (x 1).val = 384 * n + (x 1).val by omega)

/-! ## The buffers after the point -/

/-- The running maxima after a point with scores `st`. -/
def nextM (st : (n : ℕ) → n < 8 → FVec F S512x256 .f32) (X : Vec F S8x1x256 .f32) : Vec F S8x1x256 .f32 :=
  fun y => mStore (st (y 0).val (y 0).isLt) (row X (y 0).val (y 0).isLt) (ix3 0 (y 1) (y 2))

/-- The running sums after it. -/
def nextL (st : (n : ℕ) → n < 8 → FVec F S512x256 .f32) (X Y : Vec F S8x1x256 .f32) : Vec F S8x1x256 .f32 :=
  fun y => lStore (st (y 0).val (y 0).isLt) (row X (y 0).val (y 0).isLt) (row Y (y 0).val (y 0).isLt) (ix3 0 (y 1) (y 2))

/-- The running weighted sums after it. -/
def nextA (st : (n : ℕ) → n < 8 → FVec F S512x256 .f32) (v : Vec F S1x256x512 .bf16) (X : Vec F S8x1x256 .f32)
    (Z : Vec F S8x256x256 .f32) : Vec F S8x256x256 .f32 :=
  fun y => aStore (st (y 0).val (y 0).isLt) (row X (y 0).val (y 0).isLt) v (row Z (y 0).val (y 0).isLt) (ix3 0 (y 1) (y 2))

/-- The output block from the running sums. -/
def outOf (Y : Vec F S8x1x256 .f32) (Z : Vec F S8x256x256 .f32) : Vec F S256x2048 .bf16 :=
  fun y => oStore (row Z ((y 1).val / 256) (by have h1 : (y 1).val < 2048 := (y 1).isLt; omega))
    (row Y ((y 1).val / 256) (by have h1 : (y 1).val < 2048 := (y 1).isLt; omega))
    (ix2 (y 0) (⟨(y 1).val % 256, Nat.mod_lt _ (by decide)⟩ : Fin 256))

section

variable {st : (n : ℕ) → n < 8 → FVec F S512x256 .f32} {v : Vec F S1x256x512 .bf16}
  {ldm ldl : (n : ℕ) → n < 8 → SlabPieces F 1 256 → SlabVec F 1 256}
  {lda : (n : ℕ) → n < 8 → SlabPieces F 256 256 → SlabVec F 256 256}
  {Lm Ll : SlabPieces F 1 256} {La : SlabPieces F 256 256}
  {X Y : Vec F S8x1x256 .f32} {Z : Vec F S8x256x256 .f32}

theorem canon_mList (hX : LoadsRow ldm Lm X) : View.canon (mList st ldm Lm 8 le_rfl) = nextM st X := by
  funext y
  obtain ⟨i, a, b, rfl⟩ : ∃ (i : Fin 8) (a : Fin 1) (b : Fin 256), y = ix3 i a b := ⟨y 0, y 1, y 2, eq_ix3 y⟩
  refine (canon_heads _ _ (fun n h => mStore (st n h) (row X n h)) (fun n h L hL => ?_) 8 le_rfl i a b).trans
    (if_pos i.isLt)
  rw [hX n h L hL]

/-- A head reads its slab of the running maxima as it was before the point. -/
theorem ldm_mList (hX : LoadsRow ldm Lm X) (n : ℕ) (h : n < 8) :
    ldm n h (mList st ldm Lm n (Nat.le_of_lt h)) = row X n h := by
  refine hX n h _ fun x => ?_
  rw [slab_emb']
  refine (canon_heads _ _ (fun n h => mStore (st n h) (row X n h)) (fun n h L hL => ?_) n _ _ _ _).trans
    (if_neg (lt_irrefl n))
  rw [hX n h L hL]

theorem canon_lList (hX : LoadsRow ldm Lm X) (hY : LoadsRow ldl Ll Y) :
    View.canon (lList st ldm ldl Lm Ll 8 le_rfl) = nextL st X Y := by
  funext y
  obtain ⟨i, a, b, rfl⟩ : ∃ (i : Fin 8) (a : Fin 1) (b : Fin 256), y = ix3 i a b := ⟨y 0, y 1, y 2, eq_ix3 y⟩
  refine (canon_heads _ _ (fun n h => lStore (st n h) (row X n h) (row Y n h)) (fun n h L hL => ?_) 8 le_rfl i a b).trans
    (if_pos i.isLt)
  rw [hY n h L hL, ldm_mList hX]

theorem canon_aList (hX : LoadsRow ldm Lm X) (hZ : LoadsRow lda La Z) :
    View.canon (aList st v ldm lda Lm La 8 le_rfl) = nextA st v X Z := by
  funext y
  obtain ⟨i, a, b, rfl⟩ : ∃ (i : Fin 8) (a : Fin 256) (b : Fin 256), y = ix3 i a b := ⟨y 0, y 1, y 2, eq_ix3 y⟩
  refine (canon_heads _ _ (fun n h => aStore (st n h) (row X n h) v (row Z n h)) (fun n h L hL => ?_) 8 le_rfl i a b).trans
    (if_pos i.isLt)
  rw [hZ n h L hL, ldm_mList hX]

theorem ldStored_eq {A B : ℕ} (v : Memref sig .tc .vmem ⟨3, ![8, A, B]⟩ .f32) (n : ℕ) (h : n < 8) (L : SlabPieces F A B) :
    ldStored v n h L = row (View.canon L) n h := by
  unfold ldStored
  rw [View.readCov_eq_canon']
  funext x
  show View.canon L ((slab A B n h).emb x) = _
  rw [slab_emb']
  rfl

theorem canon_outs_eq (Y : Vec F S8x1x256 .f32) (Z : Vec F S8x256x256 .f32) :
    View.canon (outs (fun n h => oStore (row Z n h) (row Y n h)) 8 le_rfl) = outOf Y Z := by
  funext y
  obtain ⟨a, b, rfl⟩ : ∃ (a : Fin 256) (b : Fin 2048), y = ix2 a b := ⟨y 0, y 1, eq_ix2 y⟩
  have hb : b.val / 256 < 8 := by omega
  have e : b = (⟨256 * (b.val / 256) + (⟨b.val % 256, Nat.mod_lt _ (by decide)⟩ : Fin 256).val, by
    show 256 * (b.val / 256) + b.val % 256 < 2048; omega⟩ : Fin 2048) :=
    Fin.ext (show b.val = 256 * (b.val / 256) + b.val % 256 by omega)
  exact (congrArg (fun z => View.canon (outs (fun n h => oStore (row Z n h) (row Y n h)) 8 le_rfl) (ix2 a z)) e).trans
    (canon_outs (fun n h => oStore (row Z n h) (row Y n h)) 8 le_rfl a (b.val / 256) hb ⟨b.val % 256, Nat.mod_lt _ (by decide)⟩)

end

end Cert.KernelIdeal.Flash

end
-- ==== Proof.Ideal.Res.lean ====
/- What a point leaves, from the blocks and the running buffers: the four cases of the body. -/
module

public import proofs.«01_k».proof.Proof.Ideal.Step

@[expose] public section

set_option maxRecDepth 16384

noncomputable section

namespace Cert.KernelIdeal.Flash

open Cert.KernelIdeal.Gen
open Idealize.ShloMosaic Idealize.ShloMosaic.TcCoe

variable {F : FTy → Type} [FloatOps F] [Named F]

/-- The scores of the heads in a block without a mask. -/
def stP (x0 : Vec F S256x3072 .bf16) (x1 : Vec F S512x384 .bf16) (n : ℕ) (h : n < 8) : FVec F S512x256 .f32 :=
  scoreOf x1 (qHead x0 n h)

/-- The scores of the heads in a block on the diagonal. -/
def stM (i : grid0.Coords) (x0 : Vec F S256x3072 .bf16) (x1 : Vec F S512x384 .bf16) (n : ℕ) (h : n < 8) :
    FVec F S512x256 .f32 :=
  maskedOf (k0_pay7 (kernelRun0_D.sl.v23 i) (kernelRun0_D.sl.v25 i)) x1 (qHead x0 n h)

theorem stPlain_eq (v3 : Memref sig .tc .vmem S256x3072 .bf16) (h3 : v3.IsWhole) (v4 : Memref sig .tc .vmem S512x384 .bf16)
    (h4 : v4.IsWhole) (x0 : Vec F S256x3072 .bf16) (x1 : Vec F S512x384 .bf16) : stPlain v3 h3 v4 h4 x0 x1 = stP x0 x1 := by
  funext n h
  unfold stPlain stP
  rw [kLoad_eq, qLoad_eq]

theorem stMask_eq (i : grid0.Coords) (v3 : Memref sig .tc .vmem S256x3072 .bf16) (h3 : v3.IsWhole)
    (v4 : Memref sig .tc .vmem S512x384 .bf16) (h4 : v4.IsWhole) (x0 : Vec F S256x3072 .bf16)
    (x1 : Vec F S512x384 .bf16) : stMask i v3 h3 v4 h4 x0 x1 = stM i x0 x1 := by
  funext n h
  unfold stMask stM
  rw [kLoad_eq, qLoad_eq]

variable (c : Dev nD) (t : Fin cfg0.N) (x0 : Vec F S256x3072 .bf16) (x1 : Vec F S512x384 .bf16)
  (x2 : Vec F S1x256x512 .bf16) (s : Scr F)

theorem resA_m (h0 : cond0_0 (grid0.coords t)) (h1 : cond0_1 (grid0.coords t)) : (resA c t h0 h1 x0 x1 x2).2.1 = nextM (stM (grid0.coords t) x0 x1) k0_pay155 := by
  unfold resA runA; dsimp only
  rw [View.read_writes_junk_eq_canon, runA_m, stMask_eq]
  exact canon_mList (loadsRow_stored _ _ _ canon_mReset)

theorem resA_l (h0 : cond0_0 (grid0.coords t)) (h1 : cond0_1 (grid0.coords t)) : (resA c t h0 h1 x0 x1 x2).2.2.1 = nextL (stM (grid0.coords t) x0 x1) k0_pay155 k0_pay156 := by
  unfold resA runA; dsimp only
  rw [View.read_writes_junk_eq_canon, runA_l, stMask_eq]
  exact canon_lList (loadsRow_stored _ _ _ canon_mReset) (loadsRow_stored _ _ _ canon_lReset)

theorem resA_a (h0 : cond0_0 (grid0.coords t)) (h1 : cond0_1 (grid0.coords t)) : (resA c t h0 h1 x0 x1 x2).2.2.2 = nextA (stM (grid0.coords t) x0 x1) x2 k0_pay155 k0_pay157 := by
  unfold resA runA; dsimp only
  rw [View.read_writes_junk_eq_canon, runA_a, stMask_eq, vLoad_eq]
  exact canon_aList (loadsRow_stored _ _ _ canon_mReset) (loadsRow_stored _ _ _ canon_aReset)

theorem resA_o (h0 : cond0_0 (grid0.coords t)) (h1 : cond0_1 (grid0.coords t)) : (resA c t h0 h1 x0 x1 x2).1 = outOf (nextL (stM (grid0.coords t) x0 x1) k0_pay155 k0_pay156) (nextA (stM (grid0.coords t) x0 x1) x2 k0_pay155 k0_pay157) := by
  unfold resA runA; dsimp only
  rw [View.read_writes_junk_eq_canon, runA_o, stMask_eq, vLoad_eq]
  simp only [ldStored_eq, canon_lList (loadsRow_stored _ _ _ canon_mReset) (loadsRow_stored _ _ _ canon_lReset), canon_aList (loadsRow_stored _ _ _ canon_mReset) (loadsRow_stored _ _ _ canon_aReset)]
  exact canon_outs_eq _ _

theorem resB_m (h0 : cond0_0 (grid0.coords t)) (h1 : ¬cond0_1 (grid0.coords t)) : (resB c t h0 h1 x0 x1 x2).2.1 = nextM (stP x0 x1) k0_pay155 := by
  unfold resB runB; dsimp only
  rw [View.read_writes_junk_eq_canon, runB_m, stPlain_eq]
  exact canon_mList (loadsRow_stored _ _ _ canon_mReset)

theorem resB_l (h0 : cond0_0 (grid0.coords t)) (h1 : ¬cond0_1 (grid0.coords t)) : (resB c t h0 h1 x0 x1 x2).2.2.1 = nextL (stP x0 x1) k0_pay155 k0_pay156 := by
  unfold resB runB; dsimp only
  rw [View.read_writes_junk_eq_canon, runB_l, stPlain_eq]
  exact canon_lList (loadsRow_stored _ _ _ canon_mReset) (loadsRow_stored _ _ _ canon_lReset)

theorem resB_a (h0 : cond0_0 (grid0.coords t)) (h1 : ¬cond0_1 (grid0.coords t)) : (resB c t h0 h1 x0 x1 x2).2.2.2 = nextA (stP x0 x1) x2 k0_pay155 k0_pay157 := by
  unfold resB runB; dsimp only
  rw [View.read_writes_junk_eq_canon, runB_a, stPlain_eq, vLoad_eq]
  exact canon_aList (loadsRow_stored _ _ _ canon_mReset) (loadsRow_stored _ _ _ canon_aReset)

theorem resC_m (h0 : ¬cond0_0 (grid0.coords t)) (h1 : ¬cond0_1 (grid0.coords t)) : (resC c t h0 h1 x0 x1 x2 s).2.1 = nextM (stP x0 x1) s.1 := by
  unfold resC runC; dsimp only
  rw [View.read_writes_junk_eq_canon, runC_m, stPlain_eq]
  exact canon_mList (loadsRow_kept _ _ _)

theorem resC_l (h0 : ¬cond0_0 (grid0.coords t)) (h1 : ¬cond0_1 (grid0.coords t)) : (resC c t h0 h1 x0 x1 x2 s).2.2.1 = nextL (stP x0 x1) s.1 s.2.1 := by
  unfold resC runC; dsimp only
  rw [View.read_writes_junk_eq_canon, runC_l, stPlain_eq]
  exact canon_lList (loadsRow_kept _ _ _) (loadsRow_kept _ _ _)

theorem resC_a (h0 : ¬cond0_0 (grid0.coords t)) (h1 : ¬cond0_1 (grid0.coords t)) : (resC c t h0 h1 x0 x1 x2 s).2.2.2 = nextA (stP x0 x1) x2 s.1 s.2.2 := by
  unfold resC runC; dsimp only
  rw [View.read_writes_junk_eq_canon, runC_a, stPlain_eq, vLoad_eq]
  exact canon_aList (loadsRow_kept _ _ _) (loadsRow_kept _ _ _)

theorem resD_m (h0 : ¬cond0_0 (grid0.coords t)) (h1 : cond0_1 (grid0.coords t)) : (resD c t h0 h1 x0 x1 x2 s).2.1 = nextM (stM (grid0.coords t) x0 x1) s.1 := by
  unfold resD runD; dsimp only
  rw [View.read_writes_junk_eq_canon, runD_m, stMask_eq]
  exact canon_mList (loadsRow_kept _ _ _)

theorem resD_l (h0 : ¬cond0_0 (grid0.coords t)) (h1 : cond0_1 (grid0.coords t)) : (resD c t h0 h1 x0 x1 x2 s).2.2.1 = nextL (stM (grid0.coords t) x0 x1) s.1 s.2.1 := by
  unfold resD runD; dsimp only
  rw [View.read_writes_junk_eq_canon, runD_l, stMask_eq]
  exact canon_lList (loadsRow_kept _ _ _) (loadsRow_kept _ _ _)

theorem resD_a (h0 : ¬cond0_0 (grid0.coords t)) (h1 : cond0_1 (grid0.coords t)) : (resD c t h0 h1 x0 x1 x2 s).2.2.2 = nextA (stM (grid0.coords t) x0 x1) x2 s.1 s.2.2 := by
  unfold resD runD; dsimp only
  rw [View.read_writes_junk_eq_canon, runD_a, stMask_eq, vLoad_eq]
  exact canon_aList (loadsRow_kept _ _ _) (loadsRow_kept _ _ _)

theorem resD_o (h0 : ¬cond0_0 (grid0.coords t)) (h1 : cond0_1 (grid0.coords t)) : (resD c t h0 h1 x0 x1 x2 s).1 = outOf (nextL (stM (grid0.coords t) x0 x1) s.1 s.2.1) (nextA (stM (grid0.coords t) x0 x1) x2 s.1 s.2.2) := by
  unfold resD runD; dsimp only
  rw [View.read_writes_junk_eq_canon, runD_o, stMask_eq, vLoad_eq]
  simp only [ldStored_eq, canon_lList (loadsRow_kept _ _ _) (loadsRow_kept _ _ _), canon_aList (loadsRow_kept _ _ _) (loadsRow_kept _ _ _)]
  exact canon_outs_eq _ _

end Cert.KernelIdeal.Flash

end
-- ==== Proof.Ideal.Blocks.lean ====
/- The blocks the body sees at a point, by index, and the scores it forms from them, at the extended reals. -/
module

public import proofs.«01_k».proof.Proof.Ideal.Sched
public import proofs.«01_k».proof.Proof.Ideal.Host
public import proofs.«01_k».proof.Proof.Ideal.Res
public import Idealize.ShloMosaic.Lib.Pipeline.Value

@[expose] public section

set_option maxRecDepth 16384

noncomputable section

namespace Cert.KernelIdeal.Flash

open Cert.KernelIdeal.Gen
open Idealize.ShloMosaic Idealize.ShloMosaic.TcCoe

/-! ## The body's arithmetic by index -/

theorem negInf_eq : Ideal.ofBits .f32 4286578688#32 = ⊥ := Spec.negInf

theorem mask_eq : (Named.named κ "mask" 4048155338#32 : Ideal .f32) = (⊥ : EReal) := rfl

theorem reset_m (y : S8x1x256.Idx) : k0_pay155 (F := Ideal) y = (⊥ : EReal) := rfl

theorem reset_l (y : S8x1x256.Idx) : k0_pay156 (F := Ideal) y = (0 : EReal) := Ideal.ofBits_zero_f32

theorem reset_a (y : S8x256x256.Idx) : k0_pay157 (F := Ideal) y = (0 : EReal) := Ideal.ofBits_zero_f32

theorem mStore_apply (st : FVec Ideal S512x256 .f32) (mm : Vec Ideal S1x1x256 .f32) (j : Fin 256) :
    mStore st mm (ix3 0 0 j) = (max (mm (ix3 0 0 j)) ((Finset.univ : Finset (Fin 512)).fold max ⊥ fun x => st (ix2 x j)) : EReal) := by
  unfold mStore
  pointwise [mNew]
  rw [negInf_eq]

theorem mNew_apply (st : FVec Ideal S512x256 .f32) (mm : Vec Ideal S1x1x256 .f32) (j : Fin 256) :
    mNew st mm (ix2 0 j) = mStore st mm (ix3 0 0 j) := by
  unfold mStore
  generalize mNew st mm = y
  pointwise

theorem lStore_apply (st : FVec Ideal S512x256 .f32) (mm ll : Vec Ideal S1x1x256 .f32) (j : Fin 256) :
    lStore st mm ll (ix3 0 0 j) = (Ideal.exp (mm (ix3 0 0 j) - mStore st mm (ix3 0 0 j)) * ll (ix3 0 0 j)
      + ∑ x : Fin 512, Ideal.exp (st (ix2 x j) - mStore st mm (ix3 0 0 j)) : EReal) := by
  rw [← mNew_apply]
  unfold lStore
  pointwise [alphaOf, pOf]

theorem aStore_apply (st : FVec Ideal S512x256 .f32) (mm : Vec Ideal S1x1x256 .f32) (v : Vec Ideal S1x256x512 .bf16)
    (acc : Vec Ideal S1x256x256 .f32) (d j : Fin 256) :
    aStore st mm v acc (ix3 0 d j) = (Ideal.exp (mm (ix3 0 0 j) - mStore st mm (ix3 0 0 j)) * acc (ix3 0 d j)
      + ∑ x : Fin 512, v (ix3 0 d x) * Ideal.exp (st (ix2 x j) - mStore st mm (ix3 0 0 j)) : EReal) := by
  rw [← mNew_apply]
  unfold aStore
  pointwise [alphaOf, pOf, k0_pay6]

theorem oStore_apply (acc : Vec Ideal S1x256x256 .f32) (ll : Vec Ideal S1x1x256 .f32) (d j : Fin 256) :
    oStore acc ll (ix2 j d) = (Ideal.div (acc (ix3 0 d j)) (ll (ix3 0 0 j)) : EReal) := by
  unfold oStore
  pointwise [k0_pay4]

theorem scoreOf_apply (k : Vec Ideal S512x384 .bf16) (q : Vec Ideal S256x384 .bf16) (x : Fin 512) (j : Fin 256) :
    scoreOf k q (ix2 x j) = (∑ e : Fin 384, k (ix2 x e) * q (ix2 j e) : EReal) := by
  unfold scoreOf
  pointwise [k0_pay5]

theorem keep_apply (a b : ℕ) (ha : a < 32) (hb : b < 16) (x : Fin 512) (j : Fin 256) :
    k0_pay7 (BitVec.ofNat 32 a) (BitVec.ofNat 32 b) (ix2 x j) = if b * 512 + x.val ≤ a * 256 + j.val then 1#1 else 0#1 := by
  rw [← Spec.sle_small (b * 512 + x.val) (a * 256 + j.val) (by omega) (by omega)]
  unfold k0_pay7
  pointwise
  have h1 : IntOp.addi (Scalar.muli (BitVec.ofNat 32 b) 512#32) (BitVec.ofNat 32 x.val) = BitVec.ofNat 32 (b * 512 + x.val) := by
    show BitVec.ofNat 32 b * BitVec.ofNat 32 512 + BitVec.ofNat 32 x.val = _
    rw [← BitVec.ofNat_mul, ← BitVec.ofNat_add]
  have h2 : IntOp.addi (Scalar.muli (BitVec.ofNat 32 a) 256#32) (BitVec.ofNat 32 j.val) = BitVec.ofNat 32 (a * 256 + j.val) := by
    show BitVec.ofNat 32 a * BitVec.ofNat 32 256 + BitVec.ofNat 32 j.val = _
    rw [← BitVec.ofNat_mul, ← BitVec.ofNat_add]
  rw [h1, h2]

theorem maskedOf_apply (keep) (k : Vec Ideal S512x384 .bf16) (q : Vec Ideal S256x384 .bf16) (x : Fin 512) (j : Fin 256) :
    maskedOf keep k q (ix2 x j) = (Scalar.select (keep (ix2 x j)) (scoreOf k q (ix2 x j)) (⊥ : EReal) : EReal) := by
  unfold maskedOf
  pointwise
  rfl

/-! ## The blocks -/

variable (m : (ℓ : Loc nD τ sig) → Buf (Elt Ideal) ℓ) (c : Dev nD)

/-- Argument 0. -/
abbrev arg0 : Vec Ideal S2x8192x8x256 .f32 := m ((c : Thread nD τ).loc main_arg0)
/-- Argument 1. -/
abbrev arg1 : Vec Ideal S2x8192x8x64 .f32 := m ((c : Thread nD τ).loc main_arg1)
/-- Argument 2. -/
abbrev arg2 : Vec Ideal S2x8192x256 .f32 := m ((c : Thread nD τ).loc main_arg2)
/-- Argument 3. -/
abbrev arg3 : Vec Ideal S2x8192x64 .f32 := m ((c : Thread nD τ).loc main_arg3)

/-- The batch of a point, as an index. -/
def bIx (t : Fin cfg0.N) : Fin 2 := ⟨batchOf t.val, (blk_lt t).1⟩
/-- The query of a point's row `j`. -/
def tIx (t : Fin cfg0.N) (j : Fin 256) : Fin 8192 := ⟨qBlk t.val * 256 + j.val, by have := (blk_lt t).2.1; omega⟩
/-- The key of a point's block at `x`. -/
def kIx (t : Fin cfg0.N) (x : Fin 512) : Fin 8192 := ⟨kBlk t.val * 512 + x.val, by have := (blk_lt t).2.2; omega⟩

theorem iblk_q (t : Fin cfg0.N) (j : Fin 256) (h : Fin 8) (e : Fin 384) (y : S256x3072.Idx) (h0 : (y 0).val = j.val) (h1 : (y 1).val = 384 * h.val + e.val) :
    (iblk m c 0 t : Vec Ideal S256x3072 .bf16) y = qCat (arg0 m c) (arg1 m c) (ix4 (bIx t) (tIx t j) h e) := by
  show (V m c main_v12 : Vec Ideal S16384x3072 .bf16) ((win0_0.rect t).emb y) = _
  refine V_q_apply m c _ _ _ _ _ ?_ ?_
  · rw [win0_0.rect_emb_val t y 0]
    have := (index_q t).1
    show cc0_transform_0 (grid0.coords t) 0 * 256 + (y 0).val = batchOf t.val * 8192 + (qBlk t.val * 256 + j.val)
    rw [this]; omega
  · rw [win0_0.rect_emb_val t y 1]
    have := (index_q t).2
    show cc0_transform_0 (grid0.coords t) 1 * 3072 + (y 1).val = _
    rw [this]; omega

theorem iblk_k (t : Fin cfg0.N) (x : Fin 512) (e : Fin 384) :
    (iblk m c 1 t : Vec Ideal S512x384 .bf16) (ix2 x e) = kCat (arg2 m c) (arg3 m c) (ix3 (bIx t) (kIx t x) e) := by
  show (V m c main_v13 : Vec Ideal S16384x384 .bf16) ((win0_1.rect t).emb (ix2 x e)) = _
  refine V_k_apply m c _ _ _ _ ?_ ?_
  · rw [win0_1.rect_emb_val t _ 0]
    have := (index_k t).1
    show cc0_transform_1 (grid0.coords t) 0 * 512 + x.val = batchOf t.val * 8192 + (kBlk t.val * 512 + x.val)
    rw [this]; omega
  · rw [win0_1.rect_emb_val t _ 1]
    have := (index_k t).2
    show cc0_transform_1 (grid0.coords t) 1 * 384 + e.val = _
    rw [this]; omega

theorem iblk_v (t : Fin cfg0.N) (d : Fin 256) (x : Fin 512) :
    (iblk m c 2 t : Vec Ideal S1x256x512 .bf16) (ix3 0 d x) = Spec.value (arg2 m c) (bIx t) d (kBlk t.val * 512 + x.val) := by
  unfold Spec.value
  rw [dif_pos (show kBlk t.val * 512 + x.val < 8192 from (kIx t x).isLt)]
  show (V m c main_v11 : Vec Ideal S2x256x8192 .bf16) ((win0_2.rect t).emb (ix3 0 d x)) = _
  refine V_v_apply m c _ _ _ _ ?_ ?_ ?_
  · rw [win0_2.rect_emb_val t _ 0]
    have := (index_v t).1
    show cc0_transform_2 (grid0.coords t) 0 * 1 + 0 = batchOf t.val
    rw [this]; omega
  · rw [win0_2.rect_emb_val t _ 1]
    have := (index_v t).2.1
    show cc0_transform_2 (grid0.coords t) 1 * 256 + d.val = _
    rw [this]; omega
  · rw [win0_2.rect_emb_val t _ 2]
    have := (index_v t).2.2
    show cc0_transform_2 (grid0.coords t) 2 * 512 + x.val = _
    rw [this]

/-- The scores of head `h` of row `j` of a point. -/
abbrev sc (t : Fin cfg0.N) (h : Fin 8) (j : Fin 256) : ℕ → EReal := Spec.score (arg0 m c) (arg1 m c) (arg2 m c) (arg3 m c) (bIx t) h (tIx t j)

theorem stP_raw (t : Fin cfg0.N) (h : Fin 8) (x : Fin 512) (j : Fin 256) :
    stP (iblk m c 0 t) (iblk m c 1 t) h.val h.isLt (ix2 x j) = Spec.raw (arg0 m c) (arg1 m c) (arg2 m c) (arg3 m c) (bIx t) h (tIx t j) (kIx t x) := by
  unfold stP
  rw [scoreOf_apply, ← cat_score]
  refine Finset.sum_congr rfl fun e _ => congrArg₂ (· * ·) (iblk_k m c t x e) ?_
  exact iblk_q m c t j h e _ rfl rfl

/-- Off the diagonal the scores are the masked ones. -/
theorem stP_apply (t : Fin cfg0.N) (ht : ¬cond0_1 (grid0.coords t)) (h : Fin 8) (x : Fin 512) (j : Fin 256) :
    stP (iblk m c 0 t) (iblk m c 1 t) h.val h.isLt (ix2 x j) = sc m c t h j (kBlk t.val * 512 + x.val) := by
  have hp := plain_blk t ht
  rw [stP_raw]
  unfold sc Spec.score
  rw [dif_pos (show kBlk t.val * 512 + x.val < 8192 from (kIx t x).isLt), if_pos (by show kBlk t.val * 512 + x.val ≤ qBlk t.val * 256 + j.val; omega)]
  rfl

/-- On the diagonal the body's mask makes them so. -/
theorem stM_apply (t : Fin cfg0.N) (h : Fin 8) (x : Fin 512) (j : Fin 256) :
    stM (grid0.coords t) (iblk m c 0 t) (iblk m c 1 t) h.val h.isLt (ix2 x j) = sc m c t h j (kBlk t.val * 512 + x.val) := by
  have hs := stP_raw m c t h x j
  unfold stP at hs
  unfold stM
  rw [maskedOf_apply, hs, word_q, word_k, keep_apply _ _ (blk_lt t).2.1 (blk_lt t).2.2]
  unfold sc Spec.score
  rw [dif_pos (show kBlk t.val * 512 + x.val < 8192 from (kIx t x).isLt)]
  show Scalar.select (if kBlk t.val * 512 + x.val ≤ qBlk t.val * 256 + j.val then 1#1 else 0#1) _ _
    = if kBlk t.val * 512 + x.val ≤ qBlk t.val * 256 + j.val then _ else _
  by_cases hh : kBlk t.val * 512 + x.val ≤ qBlk t.val * 256 + j.val
  · rw [if_pos hh, if_pos hh]; rfl
  · rw [if_neg hh, if_neg hh]; rfl

end Cert.KernelIdeal.Flash

end
-- ==== Proof.Ideal.Value.lean ====
/- What the launch leaves: by induction over the grid the scratch holds the running softmax of the keys met so far, and
   every row's last block of keys writes the attention of its queries. -/
module

public import proofs.«01_k».proof.Proof.Ideal.Blocks
public import proofs.«01_k».proof.Proof.Ideal.Frame

@[expose] public section

set_option maxRecDepth 16384

noncomputable section

namespace Cert.KernelIdeal.Flash

open Cert.KernelIdeal.Gen
open Idealize.ShloMosaic Idealize.ShloMosaic.TcCoe
open Idealize.SL Idealize.SL.Sem
open Idealize.ShloMosaic.Pipeline (Dat Cfg Window)

/-- The scratch holds the running softmax of scores `S` and values `v` over the first `n` keys. -/
structure Holds (S : Fin 8 → Fin 256 → ℕ → EReal) (v : Fin 256 → ℕ → EReal) (n : ℕ) (s : Scr Ideal) : Prop where
  top : ∀ h j, (s.1 : Vec Ideal S8x1x256 .f32) (ix3 h 0 j) = Softmax.top (S h j) n
  den : ∀ h j, (s.2.1 : Vec Ideal S8x1x256 .f32) (ix3 h 0 j) = Softmax.den (S h j) n
  num : ∀ h d j, (s.2.2 : Vec Ideal S8x256x256 .f32) (ix3 h d j) = Softmax.num (S h j) (v d) n

theorem holds_reset (S : Fin 8 → Fin 256 → ℕ → EReal) (v : Fin 256 → ℕ → EReal) :
    Holds S v 0 (k0_pay155 (F := Ideal), k0_pay156 (F := Ideal), k0_pay157 (F := Ideal)) where
  top h j := reset_m (ix3 h 0 j)
  den h j := reset_l (ix3 h 0 j)
  num h d j := reset_a (ix3 h d j)

section
variable {S : Fin 8 → Fin 256 → ℕ → EReal} {v : Fin 256 → ℕ → EReal} {n : ℕ}
  {st : (n : ℕ) → n < 8 → FVec Ideal S512x256 .f32} {vb : Vec Ideal S1x256x512 .bf16}

/-- A block of keys joins the running softmax. -/
theorem holds_next (hS : ∀ h j k, S h j k ≠ ⊤) (hst : ∀ (h : Fin 8) x j, st h.val h.isLt (ix2 x j) = S h j (n + x.val))
    (hv : ∀ d x, vb (ix3 0 d x) = v d (n + x.val)) {X : Vec Ideal S8x1x256 .f32} {Y : Vec Ideal S8x1x256 .f32} {Z : Vec Ideal S8x256x256 .f32}
    (hs : Holds S v n (X, Y, Z)) :
    Holds S v (n + 512) (nextM st X, nextL st X Y, nextA st vb X Z) := by
  have htop : ∀ (h : Fin 8) (j : Fin 256), mStore (st h.val h.isLt) (row X h.val h.isLt) (ix3 0 0 j) = Softmax.top (S h j) (n + 512) := fun h j => by
    rw [mStore_apply, ← Softmax.top_add]
    refine congrArg₂ max (hs.top h j) ?_
    simp only [hst]
  refine ⟨fun h j => htop h j, fun h j => ?_, fun h d j => ?_⟩
  · have e := lStore_apply (st h.val h.isLt) (row X h.val h.isLt) (row Y h.val h.isLt) j
    rw [htop] at e
    refine (show nextL st X Y (ix3 h 0 j) = _ from e).trans ?_
    rw [← Softmax.den_add _ (hS h j)]
    refine congrArg₂ (· + ·) (congrArg₂ (· * ·) (congrArg (fun z => Ideal.exp (z - _)) (hs.top h j)) (hs.den h j)) ?_
    simp only [hst]
  · have e := aStore_apply (st h.val h.isLt) (row X h.val h.isLt) vb (row Z h.val h.isLt) d j
    rw [htop] at e
    refine (show nextA st vb X Z (ix3 h d j) = _ from e).trans ?_
    rw [← Softmax.num_add _ _ (hS h j)]
    refine congrArg₂ (· + ·) (congrArg₂ (· * ·) (congrArg (fun z => Ideal.exp (z - _)) (hs.top h j)) (hs.num h d j)) ?_
    simp only [hst, hv]

/-- The output block is the quotient of the running sums. -/
theorem outOf_apply {X Y : Vec Ideal S8x1x256 .f32} {Z : Vec Ideal S8x256x256 .f32} (hs : Holds S v n (X, Y, Z)) (j : Fin 256) (h : Fin 8) (d : Fin 256)
    (y : S256x2048.Idx) (h0 : (y 0).val = j.val) (h1 : (y 1).val = h.val * 256 + d.val) :
    outOf Y Z y = (Ideal.div (Softmax.num (S h j) (v d) n) (Softmax.den (S h j) n) : EReal) := by
  have hd := d.isLt
  have key : ∀ (n' : ℕ) (hn : n' < 8) (j' d' : Fin 256), n' = h.val → j' = j → d' = d →
      oStore (row Z n' hn) (row Y n' hn) (ix2 j' d') = (Ideal.div (Softmax.num (S h j) (v d) n) (Softmax.den (S h j) n) : EReal) := by
    rintro _ hn _ _ rfl rfl rfl
    rw [oStore_apply]
    exact congrArg₂ Ideal.div (hs.num h _ _) (hs.den h _)
  exact key _ _ _ _ (by omega) (Fin.ext h0) (Fin.ext (by show (y 1).val % 256 = d.val; omega))
end

variable (m : (ℓ : Loc nD τ sig) → Buf (Elt Ideal) ℓ) (c : Dev nD)

/-- Every score of a seen key is a number. -/
def RealScores : Prop := ∀ b h t k, Spec.raw (arg0 m c) (arg1 m c) (arg2 m c) (arg3 m c) b h t k ≠ ⊤
  ∧ Spec.raw (arg0 m c) (arg1 m c) (arg2 m c) (arg3 m c) b h t k ≠ ⊥

theorem score_ne_top (hr : RealScores m c) (b : Fin 2) (h : Fin 8) (t : Fin 8192) (k : ℕ) :
    Spec.score (arg0 m c) (arg1 m c) (arg2 m c) (arg3 m c) b h t k ≠ ⊤ := by
  unfold Spec.score
  split
  · split
    · exact (hr _ _ _ _).1
    · exact bot_ne_top
  · exact bot_ne_top

/-- The scores and values of a point's row. -/
abbrev HoldsAt (t : Fin cfg0.N) (n : ℕ) (s : Scr Ideal) : Prop :=
  Holds (fun h j => sc m c t h j) (fun d => Spec.value (arg2 m c) (bIx t) d) n s

/-- Both score branches give the masked scores of the point's block of keys. -/
theorem holds_plain (hr : RealScores m c) (t : Fin cfg0.N) (h1 : ¬cond0_1 (grid0.coords t)) {X Y : Vec Ideal S8x1x256 .f32} {Z : Vec Ideal S8x256x256 .f32}
    (hs : HoldsAt m c t (kBlk t.val * 512) (X, Y, Z)) :
    HoldsAt m c t (kBlk t.val * 512 + 512) (nextM (stP (iblk m c 0 t) (iblk m c 1 t)) X,
      nextL (stP (iblk m c 0 t) (iblk m c 1 t)) X Y, nextA (stP (iblk m c 0 t) (iblk m c 1 t)) (iblk m c 2 t) X Z) :=
  holds_next (fun h j k => score_ne_top m c hr _ _ _ _) (fun h x j => stP_apply m c t h1 h x j) (fun d x => iblk_v m c t d x) hs

theorem holds_mask (hr : RealScores m c) (t : Fin cfg0.N) {X Y : Vec Ideal S8x1x256 .f32} {Z : Vec Ideal S8x256x256 .f32}
    (hs : HoldsAt m c t (kBlk t.val * 512) (X, Y, Z)) :
    HoldsAt m c t (kBlk t.val * 512 + 512) (nextM (stM (grid0.coords t) (iblk m c 0 t) (iblk m c 1 t)) X,
      nextL (stM (grid0.coords t) (iblk m c 0 t) (iblk m c 1 t)) X Y, nextA (stM (grid0.coords t) (iblk m c 0 t) (iblk m c 1 t)) (iblk m c 2 t) X Z) :=
  holds_next (fun h j k => score_ne_top m c hr _ _ _ _) (fun h x j => stM_apply m c t h x j) (fun d x => iblk_v m c t d x) hs

theorem scr_eq {s : Scr Ideal} {X Y : Vec Ideal S8x1x256 .f32} {Z : Vec Ideal S8x256x256 .f32} (h0 : s.1 = X) (h1 : s.2.1 = Y) (h2 : s.2.2 = Z) :
    s = (X, Y, Z) := by rw [← h0, ← h1, ← h2]

/-- What a point finds in the scratch, unless it starts its row. -/
theorem holds_before (t : Fin cfg0.N) (h0 : ¬cond0_0 (grid0.coords t))
    (ih : ∀ t' : Fin cfg0.N, t'.val < t.val → HoldsAt m c t' (kBlk t'.val * 512 + 512) (after0 m c t'.val t'.isLt).2) :
    HoldsAt m c t (kBlk t.val * 512) (scrBefore m c t.val t.isLt) := by
  obtain ⟨hz, hb, hq, hk⟩ := step_blk t h0
  rw [scrBefore_pos m c t.val t.isLt hz]
  have := ih ⟨t.val - 1, by have := t.isLt; omega⟩ (by show t.val - 1 < t.val; omega)
  have eb : bIx ⟨t.val - 1, by have := t.isLt; omega⟩ = bIx t := Fin.ext hb
  have et : ∀ j, tIx ⟨t.val - 1, by have := t.isLt; omega⟩ j = tIx t j := fun j => Fin.ext (by
    show qBlk (t.val - 1) * 256 + j.val = qBlk t.val * 256 + j.val; rw [hq])
  have en : kBlk (t.val - 1) * 512 + 512 = kBlk t.val * 512 := by omega
  unfold HoldsAt sc at this ⊢
  simp only [eb, et, en] at this
  exact this

theorem holds_zero (t : Fin cfg0.N) (h0 : cond0_0 (grid0.coords t)) :
    HoldsAt m c t (kBlk t.val * 512) (k0_pay155 (F := Ideal), k0_pay156 (F := Ideal), k0_pay157 (F := Ideal)) := by
  rw [start_blk t h0]
  exact holds_reset _ _

/-- After every point the scratch holds the running softmax of the keys its row has met. -/
theorem holds_after (hr : RealScores m c) : ∀ t : Fin cfg0.N,
    HoldsAt m c t (kBlk t.val * 512 + 512) (after0 m c t.val t.isLt).2 := by
  suffices ∀ n (hn : n < cfg0.N), HoldsAt m c ⟨n, hn⟩ (kBlk n * 512 + 512) (after0 m c n hn).2 from fun t => this t.val t.isLt
  intro n
  induction n using Nat.strong_induction_on with
  | _ n ih =>
    intro hn
    have ih' : ∀ t' : Fin cfg0.N, t'.val < n → HoldsAt m c t' (kBlk t'.val * 512 + 512) (after0 m c t'.val t'.isLt).2 :=
      fun t' h => ih t'.val h t'.isLt
    generalize ht : (⟨n, hn⟩ : Fin cfg0.N) = t
    obtain rfl : n = t.val := congrArg Fin.val ht
    by_cases h0 : cond0_0 (grid0.coords t) <;> by_cases h1 : cond0_1 (grid0.coords t)
    · have e := after0_A m c t h0 h1
      rw [e, scr_eq (resA_m c t _ _ _ h0 h1) (resA_l c t _ _ _ h0 h1) (resA_a c t _ _ _ h0 h1)]
      exact holds_mask m c hr t (holds_zero m c t h0)
    · have e := after0_B m c t h0 h1
      rw [e, scr_eq (resB_m c t _ _ _ h0 h1) (resB_l c t _ _ _ h0 h1) (resB_a c t _ _ _ h0 h1)]
      exact holds_plain m c hr t h1 (holds_zero m c t h0)
    · have e := after0_D m c t h0 h1
      rw [e, scr_eq (resD_m c t _ _ _ _ h0 h1) (resD_l c t _ _ _ _ h0 h1) (resD_a c t _ _ _ _ h0 h1)]
      exact holds_mask m c hr t (holds_before m c t h0 ih')
    · have e := after0_C m c t h0 h1
      rw [e, scr_eq (resC_m c t _ _ _ _ h0 h1) (resC_l c t _ _ _ _ h0 h1) (resC_a c t _ _ _ _ h0 h1)]
      exact holds_plain m c hr t h1 (holds_before m c t h0 ih')

/-- The quotient over the keys met up to the diagonal is the attention. -/
theorem quotient_attn (hr : RealScores m c) (t : Fin cfg0.N) (h1 : cond0_1 (grid0.coords t)) (j : Fin 256) (h : Fin 8) (d : Fin 256) :
    Ideal.div (Softmax.num (sc m c t h j) (Spec.value (arg2 m c) (bIx t) d) (kBlk t.val * 512 + 512)) (Softmax.den (sc m c t h j) (kBlk t.val * 512 + 512))
      = Spec.attn (arg0 m c) (arg1 m c) (arg2 m c) (arg3 m c) (bIx t) (tIx t j) h d := by
  have hm := mask_blk t h1
  have hk := (blk_lt t).2.2
  have hj := j.isLt
  refine Softmax.quotient _ _ (fun k => score_ne_top m c hr _ _ _ _) _ 8192 (by omega) ⟨qBlk t.val * 256 + j.val, by omega, ?_⟩ fun k hle => ?_
  · have e : sc m c t h j (qBlk t.val * 256 + j.val) = Spec.raw (arg0 m c) (arg1 m c) (arg2 m c) (arg3 m c) (bIx t) h (tIx t j) (tIx t j) :=
      (dif_pos (tIx t j).isLt).trans (if_pos (le_refl (tIx t j).val))
    exact fun hb => (hr _ _ _ _).2 (e.symm.trans hb)
  · unfold Spec.score
    by_cases hk' : k < 8192
    · rw [dif_pos hk', if_neg (by show ¬k ≤ qBlk t.val * 256 + j.val; omega)]
    · rw [dif_neg hk']

/-- The block a row's last point writes. -/
theorem out_after (hr : RealScores m c) (t : Fin cfg0.N) (h1 : cond0_1 (grid0.coords t)) (j : Fin 256) (h : Fin 8) (d : Fin 256)
    (y : S256x2048.Idx) (hy0 : (y 0).val = j.val) (hy1 : (y 1).val = h.val * 256 + d.val) :
    (after0 m c t.val t.isLt).1 y = Spec.attn (arg0 m c) (arg1 m c) (arg2 m c) (arg3 m c) (bIx t) (tIx t j) h d := by
  by_cases h0 : cond0_0 (grid0.coords t)
  · rw [after0_A m c t h0 h1, resA_o c t _ _ _ h0 h1]
    exact (outOf_apply (holds_mask m c hr t (holds_zero m c t h0)) j h d y hy0 hy1).trans (quotient_attn m c hr t h1 j h d)
  · rw [after0_D m c t h0 h1, resD_o c t _ _ _ _ h0 h1]
    exact (outOf_apply (holds_mask m c hr t (holds_before m c t h0 fun t' _ => holds_after m c hr t')) j h d y hy0 hy1).trans
      (quotient_attn m c hr t h1 j h d)

end Cert.KernelIdeal.Flash

end
-- ==== Proof.Ideal.Result.lean ====
/- The launch's result array is the attention of the plain program, on arguments that are numbers. -/
module

public import proofs.«01_k».proof.Proof.Ideal.Value
public import proofs.«01_k».proof.Pre_finite

@[expose] public section

set_option maxRecDepth 16384

noncomputable section

namespace Cert.KernelIdeal.Flash

open Cert.KernelIdeal.Gen
open Idealize.ShloMosaic Idealize.ShloMosaic.TcCoe
open Idealize.SL Idealize.SL.Sem
open Idealize.ShloMosaic.Pipeline (Dat Cfg Window)

/-! ## Numbers -/

/-- An extended real that is a number. -/
def IsReal (x : EReal) : Prop := ∃ r : ℝ, x = (r : EReal)

theorem IsReal.of_ne {x : EReal} (h1 : x ≠ ⊤) (h2 : x ≠ ⊥) : IsReal x := ⟨x.toReal, (EReal.coe_toReal h1 h2).symm⟩

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sum {n : ℕ} {f : Fin n → EReal} (h : ∀ i, IsReal (f i)) : IsReal (∑ i, f i) := by
  induction n with
  | zero => exact ⟨0, by simp⟩
  | succ n ih => rw [Fin.sum_univ_succ]; exact (h 0).add (ih fun i => h i.succ)

/-- A number is one whose absolute value is below `⊤`. -/
theorem IsReal.of_abs_lt {x : EReal} (h : BitVec.ofBool (decide (max x (-x) < (⊤ : EReal))) = 1#1) : IsReal x := by
  have hlt : max x (-x) < (⊤ : EReal) := by
    by_contra hn
    rw [decide_eq_false hn] at h
    exact absurd h (by decide)
  refine IsReal.of_ne (fun e => ?_) fun e => ?_
  · rw [e] at hlt; exact absurd (lt_of_le_of_lt (le_max_left _ _) hlt) (lt_irrefl _)
  · rw [e, EReal.neg_bot] at hlt; exact absurd (lt_of_le_of_lt (le_max_right _ _) hlt) (lt_irrefl _)

/-- An array whose every absolute value is below infinity holds numbers. -/
theorem isReal_of_lt {s : Shape} (hb : (⟨0, ![]⟩ : Shape).BroadcastsInDim s (![] : Fin 0 → Fin s.rank)) (x : FVec Ideal s .f32)
    (h : cmpf .olt (Host.absf x) (broadcastInDim s ![] hb (constant (F := Ideal) ⟨0, ![]⟩ .f32 0x7F800000#32)) = fun _ => 1#1) (i : s.Idx) :
    IsReal (x i) := by
  refine IsReal.of_abs_lt ?_
  have e := congrFun h i
  rw [← Spec.posInf]
  exact e

variable (m : (ℓ : Loc nD τ sig) → Buf (Elt Ideal) ℓ) (c : Dev nD)

/-- Numbers in, numbers for scores. -/
theorem realScores (h0 : ∀ i, IsReal (arg0 m c i)) (h1 : ∀ i, IsReal (arg1 m c i)) (h2 : ∀ i, IsReal (arg2 m c i))
    (h3 : ∀ i, IsReal (arg3 m c i)) : RealScores m c := by
  intro b h t k
  obtain ⟨r, -, hr⟩ := Spec.scale_real
  obtain ⟨s, hs⟩ : IsReal (Spec.raw (arg0 m c) (arg1 m c) (arg2 m c) (arg3 m c) b h t k) :=
    IsReal.mul (IsReal.add (IsReal.sum fun e => (h2 _).mul (h0 _)) (IsReal.sum fun e => (h3 _).mul (h1 _))) ⟨r, hr⟩
  rw [hs]
  exact ⟨EReal.coe_ne_top s, EReal.coe_ne_bot s⟩

/-! ## The result array -/

/-- The plain program's result at the launch's arguments. -/
def attnOut : Vec Ideal S16384x2048 .bf16 :=
  Cert.ReferenceIdeal.Read.val_main_v28 (F := Ideal) (arg0 m c) (arg1 m c) (arg2 m c) (arg3 m c)

theorem attnOut_emb (t : Fin cfg0.N) (y : S256x2048.Idx) (j : Fin 256) (h : Fin 8) (d : Fin 256) (h0 : (y 0).val = j.val)
    (h1 : (y 1).val = h.val * 256 + d.val) :
    attnOut m c ((win0_3.rect t).emb y) = Spec.attn (arg0 m c) (arg1 m c) (arg2 m c) (arg3 m c) (bIx t) (tIx t j) h d := by
  refine Spec.reference_apply (arg0 m c) (arg1 m c) (arg2 m c) (arg3 m c) (bIx t) (tIx t j) h d _ ?_ ?_
  · rw [win0_3.rect_emb_val t y 0]
    have := (index_o t).1
    show cc0_transform_3 (grid0.coords t) 0 * 256 + (y 0).val = batchOf t.val * 8192 + (qBlk t.val * 256 + j.val)
    rw [this]; omega
  · rw [win0_3.rect_emb_val t y 1]
    have := (index_o t).2
    show cc0_transform_3 (grid0.coords t) 1 * 2048 + (y 1).val = _
    rw [this]; omega

/-- What each written block holds. -/
theorem flushed_eq (hr : RealScores m c) (t : Fin cfg0.N) (hf : (cfg0.win 3).flush t = true) :
    (dats m 0 c).flushed 3 t = ((cfg0.win 3).blk t).view.read (Elt Ideal) (attnOut m c) := by
  have h1 := (flush_iff t).mp hf
  funext y
  have hy0 : (y 0).val < 256 := (y 0).isLt
  have hy1 : (y 1).val < 2048 := (y 1).isLt
  have eo := out_after m c hr t h1 ⟨(y 0).val, hy0⟩ ⟨(y 1).val / 256, by omega⟩ ⟨(y 1).val % 256, Nat.mod_lt _ (by decide)⟩ y rfl
    (by show (y 1).val = (y 1).val / 256 * 256 + (y 1).val % 256; omega)
  have ea := attnOut_emb m c t y ⟨(y 0).val, hy0⟩ ⟨(y 1).val / 256, by omega⟩ ⟨(y 1).val % 256, Nat.mod_lt _ (by decide)⟩ rfl
    (by show (y 1).val = (y 1).val / 256 * 256 + (y 1).val % 256; omega)
  exact eo.trans ea.symm

/-- Every index of the result is in a block that is written. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  let b : Fin 2 := ⟨(i 0).val / 8192, by omega⟩
  let q : Fin 32 := ⟨(i 0).val % 8192 / 256, by omega⟩
  obtain ⟨h1, hb, hq⟩ := lastPt_spec b q
  refine ⟨⟨lastPt b.val q.val, lastPt_lt b q⟩, (flush_iff _).mpr h1, ?_⟩
  have e : ((cfg0.win 3).blk ⟨lastPt b.val q.val, lastPt_lt b q⟩).view.emb
      (ix2 (⟨(i 0).val % 256, Nat.mod_lt _ (by decide)⟩ : Fin 256) (⟨(i 1).val, hi1⟩ : Fin 2048)) = i := by
    have ho := index_o ⟨lastPt b.val q.val, lastPt_lt b q⟩
    show (win0_3.rect ⟨lastPt b.val q.val, lastPt_lt b q⟩).emb
      (ix2 (⟨(i 0).val % 256, Nat.mod_lt _ (by decide)⟩ : Fin 256) (⟨(i 1).val, hi1⟩ : Fin 2048)) = i
    funext a
    refine Fin.ext ?_
    fin_cases a
    · refine (win0_3.rect_emb_val _ _ 0).trans ?_
      show cc0_transform_3 (grid0.coords ⟨lastPt b.val q.val, lastPt_lt b q⟩) 0 * 256 + (i 0).val % 256 = (i 0).val
      rw [ho.1, hb, hq]
      show ((i 0).val / 8192 * 32 + (i 0).val % 8192 / 256) * 256 + (i 0).val % 256 = (i 0).val
      omega
    · refine (win0_3.rect_emb_val _ _ 1).trans ?_
      show cc0_transform_3 (grid0.coords ⟨lastPt b.val q.val, lastPt_lt b q⟩) 1 * 2048 + (i 1).val = (i 1).val
      rw [ho.2]
      omega
  rw [← e]
  exact View.emb_mem_set _ _

/-- The result array at the end. -/
theorem result (hr : RealScores m c) : (dats m 0 c).arrAt 3 cfg0.N = attnOut m c :=
  (dats m 0 c).arrAt_eq_of_cover 3 (attnOut m c) (flushed_eq m c hr) cover

/-- The program's run: its result is the attention, its arguments are kept. -/
theorem run_value (ρ : Dev nD → PrngReg) (hr : ∀ c, RealScores m c) :
    θ_run defs (onTc (τ := τ) (main (F := Ideal))) ⟨m, fun _ => 0, ρ⟩ (fun r => ∀ c : Dev nD,
      r.2.mem ((c.tc : Thread nD τ).loc main_v14) = attnOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (result m c (hr c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Flash

end
-- ==== Proof.Chunks.Trips.lean ====
/- The loop of the plain scan, trip by trip: where the loop's buffers hold a state, one trip leaves the next state in them,
   with one lemma for each value of a trip. What comes before the loop leaves the first state, and the results are read
   off the last. -/
module

public import proofs.«01_k».proof.Proof.Gen.ChunksReferenceIdeal.Run
public import proofs.«01_k».proof.Proof.Gen.ChunksReferenceIdeal.Step

@[expose] public section

noncomputable section

namespace Cert.ChunksReferenceIdeal.Trips

open Idealize.ShloMosaic Idealize.ShloMosaic.TcCoe Idealize.SL.Sem Idealize.ShloMosaic.StableHlo
open Cert.ChunksReferenceIdeal Cert.ChunksReferenceIdeal.Gen Cert.ChunksReferenceIdeal.Value
open Cert.ChunksReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v14_4) = s.main_v14_4
  f_5 : V0 (Proc.devRef .tc main_v14_5) = s.main_v14_5
  f_0 : V0 (Proc.devRef .tc main_v14_0) = s.main_v14_0
  f_1 : V0 (Proc.devRef .tc main_v14_1) = s.main_v14_1
  f_2 : V0 (Proc.devRef .tc main_v14_2) = s.main_v14_2
  n_3 : V0 (Proc.devRef .tc main_v14_3) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ChunksReferenceIdeal.Step.b0 j s := by
  unfold Cert.ChunksReferenceIdeal.Step.b0
  rfl
set_option maxRecDepth 8192 in
theorem al_1 (h : Holds V0 s j) : (constantI S_ 32 0#32 : (Proc.devRef .tc main_while0b_call0_c_0 : DevRef τ sig).ty.Contents (Elt F)) = Cert.ChunksReferenceIdeal.Step.b1 j s := by
  unfold Cert.ChunksReferenceIdeal.Step.b1
  rfl
set_option maxRecDepth 8192 in
theorem al_2 (h : Holds V0 s j) : (constantI S_ 32 0#32 : (Proc.devRef .tc main_while0b_call0_c_1 : DevRef τ sig).ty.Contents (Elt F)) = Cert.ChunksReferenceIdeal.Step.b2 j s := by
  unfold Cert.ChunksReferenceIdeal.Step.b2
  rfl
set_option maxRecDepth 8192 in
theorem al_3 (h : Holds V0 s j) : (constantI S_ 32 0#32 : (Proc.devRef .tc main_while0b_call0_c_2 : DevRef τ sig).ty.Contents (Elt F)) = Cert.ChunksReferenceIdeal.Step.b3 j s := by
  unfold Cert.ChunksReferenceIdeal.Step.b3
  rfl
set_option maxRecDepth 8192 in
theorem al_4 (h : Holds V0 s j) : (Host.dynamicSlice S1x2x128x4x256 (V0 (Proc.devRef .tc main_v14_0)) (fun k => (((![V0 (Proc.devRef .tc main_v14_3), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x4x256_S1x2x128x4x256 : (Proc.devRef .tc main_while0b_call0_v0 : DevRef τ sig).ty.Contents (Elt F)) = Cert.ChunksReferenceIdeal.Step.b4 j s := by
  unfold Cert.ChunksReferenceIdeal.Step.b4
  rw [← al_0 h, ← al_1 h, ← al_2 h, ← al_3 h, h.f_0, h.n_3]
  try rfl
set_option maxRecDepth 8192 in
theorem al_5 (h : Holds V0 s j) : (res_main_while0b_v17 V0 : (Proc.devRef .tc main_while0b_v17 : DevRef τ sig).ty.Contents (Elt F)) = Cert.ChunksReferenceIdeal.Step.b5 j s := by
  unfold res_main_while0b_v17 Cert.ChunksReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ChunksReferenceIdeal.Step.b6 j s := by
  unfold Cert.ChunksReferenceIdeal.Step.b6
  rfl
set_option maxRecDepth 8192 in
theorem al_7 (h : Holds V0 s j) : (constantI S_ 32 0#32 : (Proc.devRef .tc main_while0b_call1_c_0 : DevRef τ sig).ty.Contents (Elt F)) = Cert.ChunksReferenceIdeal.Step.b7 j s := by
  unfold Cert.ChunksReferenceIdeal.Step.b7
  rfl
set_option maxRecDepth 8192 in
theorem al_8 (h : Holds V0 s j) : (constantI S_ 32 0#32 : (Proc.devRef .tc main_while0b_call1_c_1 : DevRef τ sig).ty.Contents (Elt F)) = Cert.ChunksReferenceIdeal.Step.b8 j s := by
  unfold Cert.ChunksReferenceIdeal.Step.b8
  rfl
set_option maxRecDepth 8192 in
theorem al_9 (h : Holds V0 s j) : (constantI S_ 32 0#32 : (Proc.devRef .tc main_while0b_call1_c_2 : DevRef τ sig).ty.Contents (Elt F)) = Cert.ChunksReferenceIdeal.Step.b9 j s := by
  unfold Cert.ChunksReferenceIdeal.Step.b9
  rfl
set_option maxRecDepth 8192 in
theorem al_10 (h : Holds V0 s j) : (Host.dynamicSlice S1x2x128x4x256 (V0 (Proc.devRef .tc main_v14_1)) (fun k => (((![V0 (Proc.devRef .tc main_v14_3), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x4x256_S1x2x128x4x256 : (Proc.devRef .tc main_while0b_call1_v0 : DevRef τ sig).ty.Contents (Elt F)) = Cert.ChunksReferenceIdeal.Step.b10 j s := by
  unfold Cert.ChunksReferenceIdeal.Step.b10
  rw [← al_6 h, ← al_7 h, ← al_8 h, ← al_9 h, h.f_1, h.n_3]
  try rfl
set_option maxRecDepth 8192 in
theorem al_11 (h : Holds V0 s j) : (res_main_while0b_v18 V0 : (Proc.devRef .tc main_while0b_v18 : DevRef τ sig).ty.Contents (Elt F)) = Cert.ChunksReferenceIdeal.Step.b11 j s := by
  unfold res_main_while0b_v18 Cert.ChunksReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ChunksReferenceIdeal.Step.b12 j s := by
  unfold Cert.ChunksReferenceIdeal.Step.b12
  rfl
set_option maxRecDepth 8192 in
theorem al_13 (h : Holds V0 s j) : (constantI S_ 32 0#32 : (Proc.devRef .tc main_while0b_call2_c_0 : DevRef τ sig).ty.Contents (Elt F)) = Cert.ChunksReferenceIdeal.Step.b13 j s := by
  unfold Cert.ChunksReferenceIdeal.Step.b13
  rfl
set_option maxRecDepth 8192 in
theorem al_14 (h : Holds V0 s j) : (constantI S_ 32 0#32 : (Proc.devRef .tc main_while0b_call2_c_1 : DevRef τ sig).ty.Contents (Elt F)) = Cert.ChunksReferenceIdeal.Step.b14 j s := by
  unfold Cert.ChunksReferenceIdeal.Step.b14
  rfl
set_option maxRecDepth 8192 in
theorem al_15 (h : Holds V0 s j) : (constantI S_ 32 0#32 : (Proc.devRef .tc main_while0b_call2_c_2 : DevRef τ sig).ty.Contents (Elt F)) = Cert.ChunksReferenceIdeal.Step.b15 j s := by
  unfold Cert.ChunksReferenceIdeal.Step.b15
  rfl
set_option maxRecDepth 8192 in
theorem al_16 (h : Holds V0 s j) : (Host.dynamicSlice S1x2x128x4x512 (V0 (Proc.devRef .tc main_v14_2)) (fun k => (((![V0 (Proc.devRef .tc main_v14_3), constantI S_ 32 0#32, constantI S_ 32 0#32, constantI S_ 32 0#32, constantI S_ 32 0#32] : Fin 5 → (⟨S_, .i32⟩ : BufTy).Contents (Elt F))) k (Shape.Idx.first h_S_)).toInt) sliceFits_S64x2x128x4x512_S1x2x128x4x512 : (Proc.devRef .tc main_while0b_call2_v0 : DevRef τ sig).ty.Contents (Elt F)) = Cert.ChunksReferenceIdeal.Step.b16 j s := by
  unfold Cert.ChunksReferenceIdeal.Step.b16
  rw [← al_12 h, ← al_13 h, ← al_14 h, ← al_15 h, h.f_2, h.n_3]
  try rfl
set_option maxRecDepth 8192 in
theorem al_17 (h : Holds V0 s j) : (res_main_while0b_v19 V0 : (Proc.devRef .tc main_while0b_v19 : DevRef τ sig).ty.Contents (Elt F)) = Cert.ChunksReferenceIdeal.Step.b17 j s := by
  unfold res_main_while0b_v19 Cert.ChunksReferenceIdeal.Step.b17
  rw [← al_16 h]
  try rfl
set_option maxRecDepth 8192 in
theorem al_18 (h : Holds V0 s j) : (sitofp .f32 (iotaInDim S4 32 0) : (Proc.devRef .tc main_while0b_v20 : DevRef τ sig).ty.Contents (Elt F)) = Cert.ChunksReferenceIdeal.Step.b18 j s := by
  unfold Cert.ChunksReferenceIdeal.Step.b18
  rfl
set_option maxRecDepth 8192 in
theorem al_19 (h : Holds V0 s j) : (constant S_ .f32 0xC0A00000#32 : (Proc.devRef .tc main_while0b_cst_6 : DevRef τ sig).ty.Contents (Elt F)) = Cert.ChunksReferenceIdeal.Step.b19 j s := by
  unfold Cert.ChunksReferenceIdeal.Step.b19
  rfl
set_option maxRecDepth 8192 in
theorem al_20 (h : Holds V0 s j) : (broadcastInDim S4 ![] bcast_S_S4 (constant S_ .f32 0xC0A00000#32) : (Proc.devRef .tc main_while0b_v21 : DevRef τ sig).ty.Contents (Elt F)) = Cert.ChunksReferenceIdeal.Step.b20 j s := by
  unfold Cert.ChunksReferenceIdeal.Step.b20
  rw [← al_19 h]
  try rfl
set_option maxRecDepth 8192 in
theorem al_21 (h : Holds V0 s j) : (subf (broadcastInDim S4 ![] bcast_S_S4 (constant S_ .f32 0xC0A00000#32)) (sitofp .f32 (iotaInDim S4 32 0)) : (Proc.devRef .tc main_while0b_v22 : DevRef τ sig).ty.Contents (Elt F)) = Cert.ChunksReferenceIdeal.Step.b21 j s := by
  unfold Cert.ChunksReferenceIdeal.Step.b21
  rw [← al_20 h, ← al_18 h]
  try rfl
set_option maxRecDepth 8192 in
theorem al_22 (h : Holds V0 s j) : (constant S_ .f32 0x3F317218#32 : (Proc.devRef .tc main_while0b_cst_7 : DevRef τ sig).ty.Contents (Elt F)) = Cert.ChunksReferenceIdeal.Step.b22 j s := by
  unfold Cert.ChunksReferenceIdeal.Step.b22
  rfl
set_option maxRecDepth 8192 in
theorem al_23 (h : Holds V0 s j) : (broadcastInDim S4 ![] bcast_S_S4 (constant S_ .f32 0x3F317218#32) : (Proc.devRef .tc main_while0b_v23 : DevRef τ sig).ty.Contents (Elt F)) = Cert.ChunksReferenceIdeal.Step.b23 j s := by
  unfold Cert.ChunksReferenceIdeal.Step.b23
  rw [← al_22 h]
  try rfl
set_option maxRecDepth 8192 in
theorem al_24 (h : Holds V0 s j) : (mulf (broadcastInDim S4 ![] bcast_S_S4 (constant S_ .f32 0x3F317218#32)) (subf (broadcastInDim S4 ![] bcast_S_S4 (constant S_ .f32 0xC0A00000#32)) (sitofp .f32 (iotaInDim S4 32 0))) : (Proc.devRef .tc main_while0b_v24 : DevRef τ sig).ty.Contents (Elt F)) = Cert.ChunksReferenceIdeal.Step.b24 j s := by
  unfold Cert.ChunksReferenceIdeal.Step.b24
  rw [← al_23 h, ← al_21 h]
  try rfl
set_option maxRecDepth 8192 in
theorem al_25 (h : Holds V0 s j) : (Host.exp (mulf (broadcastInDim S4 ![] bcast_S_S4 (constant S_ .f32 0x3F317218#32)) (subf (broadcastInDim S4 ![] bcast_S_S4 (constant S_ .f32 0xC0A00000#32)) (sitofp .f32 (iotaInDim S4 32 0)))) : (Proc.devRef .tc main_while0b_v25 : DevRef τ sig).ty.Contents (Elt F)) = Cert.ChunksReferenceIdeal.Step.b25 j s := by
  unfold Cert.ChunksReferenceIdeal.Step.b25
  rw [← al_24 h]
  try rfl
set_option maxRecDepth 8192 in
theorem al_26 (h : Holds V0 s j) : (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))) : (Proc.devRef .tc main_while0b_v26 : DevRef τ sig).ty.Contents (Elt F)) = Cert.ChunksReferenceIdeal.Step.b26 j s := by
  unfold Cert.ChunksReferenceIdeal.Step.b26
  rw [← al_25 h]
  try rfl
set_option maxRecDepth 8192 in
theorem al_27 (h : Holds V0 s j) : (res_main_while0b_v27 V0 : (Proc.devRef .tc main_while0b_v27 : DevRef τ sig).ty.Contents (Elt F)) = Cert.ChunksReferenceIdeal.Step.b27 j s := by
  unfold res_main_while0b_v27 Cert.ChunksReferenceIdeal.Step.b27
  rw [← al_26 h]
  try rfl
set_option maxRecDepth 8192 in
theorem al_28 (h : Holds V0 s j) : (res_main_while0b_v28 V0 : (Proc.devRef .tc main_while0b_v28 : DevRef τ sig).ty.Contents (Elt F)) = Cert.ChunksReferenceIdeal.Step.b28 j s := by
  unfold res_main_while0b_v28 Cert.ChunksReferenceIdeal.Step.b28
  rfl
set_option maxRecDepth 8192 in
theorem al_29 (h : Holds V0 s j) : (broadcastInDim S128x1 ![0] bcast_S128_S128x1_0 (res_main_while0b_v28 V0) : (Proc.devRef .tc main_while0b_v29 : DevRef τ sig).ty.Contents (Elt F)) = Cert.ChunksReferenceIdeal.Step.b29 j s := by
  unfold Cert.ChunksReferenceIdeal.Step.b29
  rw [← al_28 h]
  try rfl
set_option maxRecDepth 8192 in
theorem al_30 (h : Holds V0 s j) : (broadcastInDim S1x128 ![1] bcast_S128_S1x128_1 (res_main_while0b_v28 V0) : (Proc.devRef .tc main_while0b_v30 : DevRef τ sig).ty.Contents (Elt F)) = Cert.ChunksReferenceIdeal.Step.b30 j s := by
  unfold Cert.ChunksReferenceIdeal.Step.b30
  rw [← al_28 h]
  try rfl
set_option maxRecDepth 8192 in
theorem al_31 (h : Holds V0 s j) : (broadcastInDim S128x128 ![0, 1] bcast_S128x1_S128x128_0_1 (broadcastInDim S128x1 ![0] bcast_S128_S128x1_0 (res_main_while0b_v28 V0)) : (Proc.devRef .tc main_while0b_v31 : DevRef τ sig).ty.Contents (Elt F)) = Cert.ChunksReferenceIdeal.Step.b31 j s := by
  unfold Cert.ChunksReferenceIdeal.Step.b31
  rw [← al_29 h]
  try rfl
set_option maxRecDepth 8192 in
theorem al_32 (h : Holds V0 s j) : (broadcastInDim S128x128 ![0, 1] bcast_S1x128_S128x128_0_1 (broadcastInDim S1x128 ![1] bcast_S128_S1x128_1 (res_main_while0b_v28 V0)) : (Proc.devRef .tc main_while0b_v32 : DevRef τ sig).ty.Contents (Elt F)) = Cert.ChunksReferenceIdeal.Step.b32 j s := by
  unfold Cert.ChunksReferenceIdeal.Step.b32
  rw [← al_30 h]
  try rfl
set_option maxRecDepth 8192 in
theorem al_33 (h : Holds V0 s j) : (res_main_while0b_v33 V0 : (Proc.devRef .tc main_while0b_v33 : DevRef τ sig).ty.Contents (Elt F)) = Cert.ChunksReferenceIdeal.Step.b33 j s := by
  unfold res_main_while0b_v33 Cert.ChunksReferenceIdeal.Step.b33
  rw [← al_31 h, ← al_32 h]
  try rfl
set_option maxRecDepth 8192 in
theorem al_34 (h : Holds V0 s j) : (constant S_ .f32 0x00000000#32 : (Proc.devRef .tc main_while0b_cst_8 : DevRef τ sig).ty.Contents (Elt F)) = Cert.ChunksReferenceIdeal.Step.b34 j s := by
  unfold Cert.ChunksReferenceIdeal.Step.b34
  rfl
set_option maxRecDepth 8192 in
theorem al_35 (h : Holds V0 s j) : (broadcastInDim S128x128 ![] bcast_S_S128x128 (constant S_ .f32 0x00000000#32) : (Proc.devRef .tc main_while0b_v34 : DevRef τ sig).ty.Contents (Elt F)) = Cert.ChunksReferenceIdeal.Step.b35 j s := by
  unfold Cert.ChunksReferenceIdeal.Step.b35
  rw [← al_34 h]
  try rfl
set_option maxRecDepth 8192 in
theorem al_36 (h : Holds V0 s j) : (cmpf .oge (res_main_while0b_v33 V0) (broadcastInDim S128x128 ![] bcast_S_S128x128 (constant S_ .f32 0x00000000#32)) : (Proc.devRef .tc main_while0b_v35 : DevRef τ sig).ty.Contents (Elt F)) = Cert.ChunksReferenceIdeal.Step.b36 j s := by
  unfold Cert.ChunksReferenceIdeal.Step.b36
  rw [← al_33 h, ← al_35 h]
  try rfl
set_option maxRecDepth 8192 in
theorem al_37 (h : Holds V0 s j) : (constant S_ .f32 0x00000000#32 : (Proc.devRef .tc main_while0b_cst_9 : DevRef τ sig).ty.Contents (Elt F)) = Cert.ChunksReferenceIdeal.Step.b37 j s := by
  unfold Cert.ChunksReferenceIdeal.Step.b37
  rfl
set_option maxRecDepth 8192 in
theorem al_38 (h : Holds V0 s j) : (broadcastInDim S128x128 ![] bcast_S_S128x128 (constant S_ .f32 0x00000000#32) : (Proc.devRef .tc main_while0b_v36 : DevRef τ sig).ty.Contents (Elt F)) = Cert.ChunksReferenceIdeal.Step.b38 j s := by
  unfold Cert.ChunksReferenceIdeal.Step.b38
  rw [← al_37 h]
  try rfl
set_option maxRecDepth 8192 in
theorem al_39 (h : Holds V0 s j) : (maximumf (res_main_while0b_v33 V0) (broadcastInDim S128x128 ![] bcast_S_S128x128 (constant S_ .f32 0x00000000#32)) : (Proc.devRef .tc main_while0b_v37 : DevRef τ sig).ty.Contents (Elt F)) = Cert.ChunksReferenceIdeal.Step.b39 j s := by
  unfold Cert.ChunksReferenceIdeal.Step.b39
  rw [← al_33 h, ← al_38 h]
  try rfl
set_option maxRecDepth 8192 in
theorem al_40 (h : Holds V0 s j) : (broadcastInDim S1x128x128 ![1, 2] bcast_S128x128_S1x128x128_1_2 (maximumf (res_main_while0b_v33 V0) (broadcastInDim S128x128 ![] bcast_S_S128x128 (constant S_ .f32 0x00000000#32))) : (Proc.devRef .tc main_while0b_v38 : DevRef τ sig).ty.Contents (Elt F)) = Cert.ChunksReferenceIdeal.Step.b40 j s := by
  unfold Cert.ChunksReferenceIdeal.Step.b40
  rw [← al_39 h]
  try rfl
set_option maxRecDepth 8192 in
theorem al_41 (h : Holds V0 s j) : (broadcastInDim S4x1x1 ![0] bcast_S4_S4x1x1_0 (res_main_while0b_v27 V0) : (Proc.devRef .tc main_while0b_v39 : DevRef τ sig).ty.Contents (Elt F)) = Cert.ChunksReferenceIdeal.Step.b41 j s := by
  unfold Cert.ChunksReferenceIdeal.Step.b41
  rw [← al_27 h]
  try rfl
set_option maxRecDepth 8192 in
theorem al_42 (h : Holds V0 s j) : (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32)))) : (Proc.devRef .tc main_while0b_v40 : DevRef τ sig).ty.Contents (Elt F)) = Cert.ChunksReferenceIdeal.Step.b42 j s := by
  unfold Cert.ChunksReferenceIdeal.Step.b42
  rw [← al_40 h]
  try rfl
set_option maxRecDepth 8192 in
theorem al_43 (h : Holds V0 s j) : (broadcastInDim S4x128x128 ![0, 1, 2] bcast_S4x1x1_S4x128x128_0_1_2 (broadcastInDim S4x1x1 ![0] bcast_S4_S4x1x1_0 (res_main_while0b_v27 V0)) : (Proc.devRef .tc main_while0b_v41 : DevRef τ sig).ty.Contents (Elt F)) = Cert.ChunksReferenceIdeal.Step.b43 j s := by
  unfold Cert.ChunksReferenceIdeal.Step.b43
  rw [← al_41 h]
  try rfl
set_option maxRecDepth 8192 in
theorem al_44 (h : Holds V0 s j) : (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))) : (Proc.devRef .tc main_while0b_v42 : DevRef τ sig).ty.Contents (Elt F)) = Cert.ChunksReferenceIdeal.Step.b44 j s := by
  unfold Cert.ChunksReferenceIdeal.Step.b44
  rw [← al_42 h, ← al_43 h]
  try rfl
set_option maxRecDepth 8192 in
theorem al_45 (h : Holds V0 s j) : (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0)))) : (Proc.devRef .tc main_while0b_v43 : DevRef τ sig).ty.Contents (Elt F)) = Cert.ChunksReferenceIdeal.Step.b45 j s := by
  unfold Cert.ChunksReferenceIdeal.Step.b45
  rw [← al_44 h]
  try rfl
set_option maxRecDepth 8192 in
theorem al_46 (h : Holds V0 s j) : (constant S_ .f32 0x00000000#32 : (Proc.devRef .tc main_while0b_cst_10 : DevRef τ sig).ty.Contents (Elt F)) = Cert.ChunksReferenceIdeal.Step.b46 j s := by
  unfold Cert.ChunksReferenceIdeal.Step.b46
  rfl
set_option maxRecDepth 8192 in
theorem al_47 (h : Holds V0 s j) : (id (constant S_ .f32 0x00000000#32) : (Proc.devRef .tc main_while0b_call3_v0 : DevRef τ sig).ty.Contents (Elt F)) = Cert.ChunksReferenceIdeal.Step.b47 j s := by
  unfold Cert.ChunksReferenceIdeal.Step.b47
  rw [← al_46 h]
  try rfl
set_option maxRecDepth 8192 in
theorem al_48 (h : Holds V0 s j) : (broadcastInDim S4x128x128 ![1, 2] bcast_S128x128_S4x128x128_1_2 (cmpf .oge (res_main_while0b_v33 V0) (broadcastInDim S128x128 ![] bcast_S_S128x128 (constant S_ .f32 0x00000000#32))) : (Proc.devRef .tc main_while0b_call3_v1 : DevRef τ sig).ty.Contents (Elt F)) = Cert.ChunksReferenceIdeal.Step.b48 j s := by
  unfold Cert.ChunksReferenceIdeal.Step.b48
  rw [← al_36 h]
  try rfl
set_option maxRecDepth 8192 in
theorem al_49 (h : Holds V0 s j) : (broadcastInDim S4x128x128 ![] bcast_S_S4x128x128 (id (constant S_ .f32 0x00000000#32)) : (Proc.devRef .tc main_while0b_call3_v2 : DevRef τ sig).ty.Contents (Elt F)) = Cert.ChunksReferenceIdeal.Step.b49 j s := by
  unfold Cert.ChunksReferenceIdeal.Step.b49
  rw [← al_47 h]
  try rfl
set_option maxRecDepth 8192 in
theorem al_50 (h : Holds V0 s j) : (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32))) : (Proc.devRef .tc main_while0b_v44 : DevRef τ sig).ty.Contents (Elt F)) = Cert.ChunksReferenceIdeal.Step.b50 j s := by
  unfold Cert.ChunksReferenceIdeal.Step.b50
  rw [← al_48 h, ← al_45 h, ← al_49 h]
  try rfl
set_option maxRecDepth 8192 in
theorem al_51 (h : Holds V0 s j) : (Host.dotGeneral dot_S2x128x4x256_S2x128x4x256_S2x4x128x128_3_3_1_1_02_02 none (res_main_while0b_v17 V0) (res_main_while0b_v18 V0) : (Proc.devRef .tc main_while0b_v45 : DevRef τ sig).ty.Contents (Elt F)) = Cert.ChunksReferenceIdeal.Step.b51 j s := by
  unfold Cert.ChunksReferenceIdeal.Step.b51
  rw [← al_5 h, ← al_11 h]
  try rfl
set_option maxRecDepth 8192 in
theorem al_52 (h : Holds V0 s j) : (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))) : (Proc.devRef .tc main_while0b_v46 : DevRef τ sig).ty.Contents (Elt F)) = Cert.ChunksReferenceIdeal.Step.b52 j s := by
  unfold Cert.ChunksReferenceIdeal.Step.b52
  rw [← al_50 h]
  try rfl
set_option maxRecDepth 8192 in
theorem al_53 (h : Holds V0 s j) : (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32))))) : (Proc.devRef .tc main_while0b_v47 : DevRef τ sig).ty.Contents (Elt F)) = Cert.ChunksReferenceIdeal.Step.b53 j s := by
  unfold Cert.ChunksReferenceIdeal.Step.b53
  rw [← al_52 h]
  try rfl
set_option maxRecDepth 8192 in
theorem al_54 (h : Holds V0 s j) : (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))) : (Proc.devRef .tc main_while0b_v48 : DevRef τ sig).ty.Contents (Elt F)) = Cert.ChunksReferenceIdeal.Step.b54 j s := by
  unfold Cert.ChunksReferenceIdeal.Step.b54
  rw [← al_51 h, ← al_53 h]
  try rfl
set_option maxRecDepth 8192 in
theorem al_55 (h : Holds V0 s j) : (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32))))))) : (Proc.devRef .tc main_while0b_v49 : DevRef τ sig).ty.Contents (Elt F)) = Cert.ChunksReferenceIdeal.Step.b55 j s := by
  unfold Cert.ChunksReferenceIdeal.Step.b55
  rw [← al_17 h, ← al_54 h]
  try rfl
set_option maxRecDepth 8192 in
theorem al_56 (h : Holds V0 s j) : (transpose S2x128x4x512 [0, 3, 1, 2] (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))))) transposes_S2x4x512x128_S2x128x4x512_0_3_1_2 : (Proc.devRef .tc main_while0b_v50 : DevRef τ sig).ty.Contents (Elt F)) = Cert.ChunksReferenceIdeal.Step.b56 j s := by
  unfold Cert.ChunksReferenceIdeal.Step.b56
  rw [← al_55 h]
  try rfl
set_option maxRecDepth 8192 in
theorem al_57 (h : Holds V0 s j) : (Host.dotGeneral dot_S2x4x256x512_S2x128x4x256_S2x4x512x128_2_3_3_1_01_02 none (V0 (Proc.devRef .tc main_v14_4)) (res_main_while0b_v17 V0) : (Proc.devRef .tc main_while0b_v51 : DevRef τ sig).ty.Contents (Elt F)) = Cert.ChunksReferenceIdeal.Step.b57 j s := by
  unfold Cert.ChunksReferenceIdeal.Step.b57
  rw [← al_5 h, h.f_4]
  try rfl
set_option maxRecDepth 8192 in
theorem al_58 (h : Holds V0 s j) : (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2 : (Proc.devRef .tc main_while0b_v52 : DevRef τ sig).ty.Contents (Elt F)) = Cert.ChunksReferenceIdeal.Step.b58 j s := by
  unfold Cert.ChunksReferenceIdeal.Step.b58
  rw [← al_57 h]
  try rfl
set_option maxRecDepth 8192 in
theorem al_59 (h : Holds V0 s j) : (broadcastInDim S128x1 ![0] bcast_S128_S128x1_0 (res_main_while0b_v28 V0) : (Proc.devRef .tc main_while0b_v53 : DevRef τ sig).ty.Contents (Elt F)) = Cert.ChunksReferenceIdeal.Step.b59 j s := by
  unfold Cert.ChunksReferenceIdeal.Step.b59
  rw [← al_28 h]
  try rfl
set_option maxRecDepth 8192 in
theorem al_60 (h : Holds V0 s j) : (constant S_ .f32 0x3F800000#32 : (Proc.devRef .tc main_while0b_cst_11 : DevRef τ sig).ty.Contents (Elt F)) = Cert.ChunksReferenceIdeal.Step.b60 j s := by
  unfold Cert.ChunksReferenceIdeal.Step.b60
  rfl
set_option maxRecDepth 8192 in
theorem al_61 (h : Holds V0 s j) : (broadcastInDim S128x1 ![] bcast_S_S128x1 (constant S_ .f32 0x3F800000#32) : (Proc.devRef .tc main_while0b_v54 : DevRef τ sig).ty.Contents (Elt F)) = Cert.ChunksReferenceIdeal.Step.b61 j s := by
  unfold Cert.ChunksReferenceIdeal.Step.b61
  rw [← al_60 h]
  try rfl
set_option maxRecDepth 8192 in
theorem al_62 (h : Holds V0 s j) : (addf (broadcastInDim S128x1 ![0] bcast_S128_S128x1_0 (res_main_while0b_v28 V0)) (broadcastInDim S128x1 ![] bcast_S_S128x1 (constant S_ .f32 0x3F800000#32)) : (Proc.devRef .tc main_while0b_v55 : DevRef τ sig).ty.Contents (Elt F)) = Cert.ChunksReferenceIdeal.Step.b62 j s := by
  unfold Cert.ChunksReferenceIdeal.Step.b62
  rw [← al_59 h, ← al_61 h]
  try rfl
set_option maxRecDepth 8192 in
theorem al_63 (h : Holds V0 s j) : (broadcastInDim S1x4 ![1] bcast_S4_S1x4_1 (res_main_while0b_v27 V0) : (Proc.devRef .tc main_while0b_v56 : DevRef τ sig).ty.Contents (Elt F)) = Cert.ChunksReferenceIdeal.Step.b63 j s := by
  unfold Cert.ChunksReferenceIdeal.Step.b63
  rw [← al_27 h]
  try rfl
set_option maxRecDepth 8192 in
theorem al_64 (h : Holds V0 s j) : (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32))) : (Proc.devRef .tc main_while0b_v57 : DevRef τ sig).ty.Contents (Elt F)) = Cert.ChunksReferenceIdeal.Step.b64 j s := by
  unfold Cert.ChunksReferenceIdeal.Step.b64
  rw [← al_62 h]
  try rfl
set_option maxRecDepth 8192 in
theorem al_65 (h : Holds V0 s j) : (broadcastInDim S128x4 ![0, 1] bcast_S1x4_S128x4_0_1 (broadcastInDim S1x4 ![1] bcast_S4_S1x4_1 (res_main_while0b_v27 V0)) : (Proc.devRef .tc main_while0b_v58 : DevRef τ sig).ty.Contents (Elt F)) = Cert.ChunksReferenceIdeal.Step.b65 j s := by
  unfold Cert.ChunksReferenceIdeal.Step.b65
  rw [← al_63 h]
  try rfl
set_option maxRecDepth 8192 in
theorem al_66 (h : Holds V0 s j) : (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0))) : (Proc.devRef .tc main_while0b_v59 : DevRef τ sig).ty.Contents (Elt F)) = Cert.ChunksReferenceIdeal.Step.b66 j s := by
  unfold Cert.ChunksReferenceIdeal.Step.b66
  rw [← al_64 h, ← al_65 h]
  try rfl
set_option maxRecDepth 8192 in
theorem al_67 (h : Holds V0 s j) : (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0)))) : (Proc.devRef .tc main_while0b_v60 : DevRef τ sig).ty.Contents (Elt F)) = Cert.ChunksReferenceIdeal.Step.b67 j s := by
  unfold Cert.ChunksReferenceIdeal.Step.b67
  rw [← al_66 h]
  try rfl
set_option maxRecDepth 8192 in
theorem al_68 (h : Holds V0 s j) : (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0))))) : (Proc.devRef .tc main_while0b_v61 : DevRef τ sig).ty.Contents (Elt F)) = Cert.ChunksReferenceIdeal.Step.b68 j s := by
  unfold Cert.ChunksReferenceIdeal.Step.b68
  rw [← al_67 h]
  try rfl
set_option maxRecDepth 8192 in
theorem al_69 (h : Holds V0 s j) : (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0)))))) : (Proc.devRef .tc main_while0b_v62 : DevRef τ sig).ty.Contents (Elt F)) = Cert.ChunksReferenceIdeal.Step.b69 j s := by
  unfold Cert.ChunksReferenceIdeal.Step.b69
  rw [← al_68 h]
  try rfl
set_option maxRecDepth 8192 in
theorem al_70 (h : Holds V0 s j) : (mulf (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0))))))) : (Proc.devRef .tc main_while0b_v63 : DevRef τ sig).ty.Contents (Elt F)) = Cert.ChunksReferenceIdeal.Step.b70 j s := by
  unfold Cert.ChunksReferenceIdeal.Step.b70
  rw [← al_58 h, ← al_69 h]
  try rfl
set_option maxRecDepth 8192 in
theorem al_71 (h : Holds V0 s j) : (addf (transpose S2x128x4x512 [0, 3, 1, 2] (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))))) transposes_S2x4x512x128_S2x128x4x512_0_3_1_2) (mulf (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0)))))))) : (Proc.devRef .tc main_while0b_v64 : DevRef τ sig).ty.Contents (Elt F)) = Cert.ChunksReferenceIdeal.Step.b71 j s := by
  unfold Cert.ChunksReferenceIdeal.Step.b71
  rw [← al_56 h, ← al_70 h]
  try rfl
set_option maxRecDepth 8192 in
theorem al_72 (h : Holds V0 s j) : (constant S_ .f32 0x42FE0000#32 : (Proc.devRef .tc main_while0b_cst_12 : DevRef τ sig).ty.Contents (Elt F)) = Cert.ChunksReferenceIdeal.Step.b72 j s := by
  unfold Cert.ChunksReferenceIdeal.Step.b72
  rfl
set_option maxRecDepth 8192 in
theorem al_73 (h : Holds V0 s j) : (broadcastInDim S128 ![] bcast_S_S128 (constant S_ .f32 0x42FE0000#32) : (Proc.devRef .tc main_while0b_v65 : DevRef τ sig).ty.Contents (Elt F)) = Cert.ChunksReferenceIdeal.Step.b73 j s := by
  unfold Cert.ChunksReferenceIdeal.Step.b73
  rw [← al_72 h]
  try rfl
set_option maxRecDepth 8192 in
theorem al_74 (h : Holds V0 s j) : (subf (broadcastInDim S128 ![] bcast_S_S128 (constant S_ .f32 0x42FE0000#32)) (res_main_while0b_v28 V0) : (Proc.devRef .tc main_while0b_v66 : DevRef τ sig).ty.Contents (Elt F)) = Cert.ChunksReferenceIdeal.Step.b74 j s := by
  unfold Cert.ChunksReferenceIdeal.Step.b74
  rw [← al_73 h, ← al_28 h]
  try rfl
set_option maxRecDepth 8192 in
theorem al_75 (h : Holds V0 s j) : (broadcastInDim S128x1 ![0] bcast_S128_S128x1_0 (subf (broadcastInDim S128 ![] bcast_S_S128 (constant S_ .f32 0x42FE0000#32)) (res_main_while0b_v28 V0)) : (Proc.devRef .tc main_while0b_v67 : DevRef τ sig).ty.Contents (Elt F)) = Cert.ChunksReferenceIdeal.Step.b75 j s := by
  unfold Cert.ChunksReferenceIdeal.Step.b75
  rw [← al_74 h]
  try rfl
set_option maxRecDepth 8192 in
theorem al_76 (h : Holds V0 s j) : (broadcastInDim S1x4 ![1] bcast_S4_S1x4_1 (res_main_while0b_v27 V0) : (Proc.devRef .tc main_while0b_v68 : DevRef τ sig).ty.Contents (Elt F)) = Cert.ChunksReferenceIdeal.Step.b76 j s := by
  unfold Cert.ChunksReferenceIdeal.Step.b76
  rw [← al_27 h]
  try rfl
set_option maxRecDepth 8192 in
theorem al_77 (h : Holds V0 s j) : (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0))) : (Proc.devRef .tc main_while0b_v69 : DevRef τ sig).ty.Contents (Elt F)) = Cert.ChunksReferenceIdeal.Step.b77 j s := by
  unfold Cert.ChunksReferenceIdeal.Step.b77
  rw [← al_75 h]
  try rfl
set_option maxRecDepth 8192 in
theorem al_78 (h : Holds V0 s j) : (broadcastInDim S128x4 ![0, 1] bcast_S1x4_S128x4_0_1 (broadcastInDim S1x4 ![1] bcast_S4_S1x4_1 (res_main_while0b_v27 V0)) : (Proc.devRef .tc main_while0b_v70 : DevRef τ sig).ty.Contents (Elt F)) = Cert.ChunksReferenceIdeal.Step.b78 j s := by
  unfold Cert.ChunksReferenceIdeal.Step.b78
  rw [← al_76 h]
  try rfl
set_option maxRecDepth 8192 in
theorem al_79 (h : Holds V0 s j) : (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0))) : (Proc.devRef .tc main_while0b_v71 : DevRef τ sig).ty.Contents (Elt F)) = Cert.ChunksReferenceIdeal.Step.b79 j s := by
  unfold Cert.ChunksReferenceIdeal.Step.b79
  rw [← al_77 h, ← al_78 h]
  try rfl
set_option maxRecDepth 8192 in
theorem al_80 (h : Holds V0 s j) : (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0)))) : (Proc.devRef .tc main_while0b_v72 : DevRef τ sig).ty.Contents (Elt F)) = Cert.ChunksReferenceIdeal.Step.b80 j s := by
  unfold Cert.ChunksReferenceIdeal.Step.b80
  rw [← al_79 h]
  try rfl
set_option maxRecDepth 8192 in
theorem al_81 (h : Holds V0 s j) : (constant S_ .f32 0x43000000#32 : (Proc.devRef .tc main_while0b_cst_13 : DevRef τ sig).ty.Contents (Elt F)) = Cert.ChunksReferenceIdeal.Step.b81 j s := by
  unfold Cert.ChunksReferenceIdeal.Step.b81
  rfl
set_option maxRecDepth 8192 in
theorem al_82 (h : Holds V0 s j) : (broadcastInDim S4 ![] bcast_S_S4 (constant S_ .f32 0x43000000#32) : (Proc.devRef .tc main_while0b_v73 : DevRef τ sig).ty.Contents (Elt F)) = Cert.ChunksReferenceIdeal.Step.b82 j s := by
  unfold Cert.ChunksReferenceIdeal.Step.b82
  rw [← al_81 h]
  try rfl
set_option maxRecDepth 8192 in
theorem al_83 (h : Holds V0 s j) : (mulf (broadcastInDim S4 ![] bcast_S_S4 (constant S_ .f32 0x43000000#32)) (res_main_while0b_v27 V0) : (Proc.devRef .tc main_while0b_v74 : DevRef τ sig).ty.Contents (Elt F)) = Cert.ChunksReferenceIdeal.Step.b83 j s := by
  unfold Cert.ChunksReferenceIdeal.Step.b83
  rw [← al_82 h, ← al_27 h]
  try rfl
set_option maxRecDepth 8192 in
theorem al_84 (h : Holds V0 s j) : (Host.exp (mulf (broadcastInDim S4 ![] bcast_S_S4 (constant S_ .f32 0x43000000#32)) (res_main_while0b_v27 V0)) : (Proc.devRef .tc main_while0b_v75 : DevRef τ sig).ty.Contents (Elt F)) = Cert.ChunksReferenceIdeal.Step.b84 j s := by
  unfold Cert.ChunksReferenceIdeal.Step.b84
  rw [← al_83 h]
  try rfl
set_option maxRecDepth 8192 in
theorem al_85 (h : Holds V0 s j) : (broadcastInDim S1x4x1x1 ![1] bcast_S4_S1x4x1x1_1 (Host.exp (mulf (broadcastInDim S4 ![] bcast_S_S4 (constant S_ .f32 0x43000000#32)) (res_main_while0b_v27 V0))) : (Proc.devRef .tc main_while0b_v76 : DevRef τ sig).ty.Contents (Elt F)) = Cert.ChunksReferenceIdeal.Step.b85 j s := by
  unfold Cert.ChunksReferenceIdeal.Step.b85
  rw [← al_84 h]
  try rfl
set_option maxRecDepth 8192 in
theorem al_86 (h : Holds V0 s j) : (broadcastInDim S2x4x256x512 ![0, 1, 2, 3] bcast_S1x4x1x1_S2x4x256x512_0_1_2_3 (broadcastInDim S1x4x1x1 ![1] bcast_S4_S1x4x1x1_1 (Host.exp (mulf (broadcastInDim S4 ![] bcast_S_S4 (constant S_ .f32 0x43000000#32)) (res_main_while0b_v27 V0)))) : (Proc.devRef .tc main_while0b_v77 : DevRef τ sig).ty.Contents (Elt F)) = Cert.ChunksReferenceIdeal.Step.b86 j s := by
  unfold Cert.ChunksReferenceIdeal.Step.b86
  rw [← al_85 h]
  try rfl
set_option maxRecDepth 8192 in
theorem al_87 (h : Holds V0 s j) : (mulf (broadcastInDim S2x4x256x512 ![0, 1, 2, 3] bcast_S1x4x1x1_S2x4x256x512_0_1_2_3 (broadcastInDim S1x4x1x1 ![1] bcast_S4_S1x4x1x1_1 (Host.exp (mulf (broadcastInDim S4 ![] bcast_S_S4 (constant S_ .f32 0x43000000#32)) (res_main_while0b_v27 V0))))) (V0 (Proc.devRef .tc main_v14_4)) : (Proc.devRef .tc main_while0b_v78 : DevRef τ sig).ty.Contents (Elt F)) = Cert.ChunksReferenceIdeal.Step.b87 j s := by
  unfold Cert.ChunksReferenceIdeal.Step.b87
  rw [← al_86 h, h.f_4]
  try rfl
set_option maxRecDepth 8192 in
theorem al_88 (h : Holds V0 s j) : (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0))))) : (Proc.devRef .tc main_while0b_v79 : DevRef τ sig).ty.Contents (Elt F)) = Cert.ChunksReferenceIdeal.Step.b88 j s := by
  unfold Cert.ChunksReferenceIdeal.Step.b88
  rw [← al_80 h]
  try rfl
set_option maxRecDepth 8192 in
theorem al_89 (h : Holds V0 s j) : (broadcastInDim S2x128x4x256 ![0, 1, 2, 3] bcast_S1x128x4x1_S2x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0)))))) : (Proc.devRef .tc main_while0b_v80 : DevRef τ sig).ty.Contents (Elt F)) = Cert.ChunksReferenceIdeal.Step.b89 j s := by
  unfold Cert.ChunksReferenceIdeal.Step.b89
  rw [← al_88 h]
  try rfl
set_option maxRecDepth 8192 in
theorem al_90 (h : Holds V0 s j) : (mulf (res_main_while0b_v18 V0) (broadcastInDim S2x128x4x256 ![0, 1, 2, 3] bcast_S1x128x4x1_S2x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0))))))) : (Proc.devRef .tc main_while0b_v81 : DevRef τ sig).ty.Contents (Elt F)) = Cert.ChunksReferenceIdeal.Step.b90 j s := by
  unfold Cert.ChunksReferenceIdeal.Step.b90
  rw [← al_11 h, ← al_89 h]
  try rfl
set_option maxRecDepth 8192 in
theorem al_91 (h : Holds V0 s j) : (Host.dotGeneral dot_S2x128x4x256_S2x128x4x512_S2x4x256x512_1_1_3_3_02_02 none (mulf (res_main_while0b_v18 V0) (broadcastInDim S2x128x4x256 ![0, 1, 2, 3] bcast_S1x128x4x1_S2x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0)))))))) (res_main_while0b_v19 V0) : (Proc.devRef .tc main_while0b_v82 : DevRef τ sig).ty.Contents (Elt F)) = Cert.ChunksReferenceIdeal.Step.b91 j s := by
  unfold Cert.ChunksReferenceIdeal.Step.b91
  rw [← al_90 h, ← al_17 h]
  try rfl
set_option maxRecDepth 8192 in
theorem al_92 (h : Holds V0 s j) : (addf (mulf (broadcastInDim S2x4x256x512 ![0, 1, 2, 3] bcast_S1x4x1x1_S2x4x256x512_0_1_2_3 (broadcastInDim S1x4x1x1 ![1] bcast_S4_S1x4x1x1_1 (Host.exp (mulf (broadcastInDim S4 ![] bcast_S_S4 (constant S_ .f32 0x43000000#32)) (res_main_while0b_v27 V0))))) (V0 (Proc.devRef .tc main_v14_4))) (Host.dotGeneral dot_S2x128x4x256_S2x128x4x512_S2x4x256x512_1_1_3_3_02_02 none (mulf (res_main_while0b_v18 V0) (broadcastInDim S2x128x4x256 ![0, 1, 2, 3] bcast_S1x128x4x1_S2x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0)))))))) (res_main_while0b_v19 V0)) : (Proc.devRef .tc main_while0b_v83 : DevRef τ sig).ty.Contents (Elt F)) = Cert.ChunksReferenceIdeal.Step.b92 j s := by
  unfold Cert.ChunksReferenceIdeal.Step.b92
  rw [← al_87 h, ← al_91 h]
  try rfl
set_option maxRecDepth 8192 in
theorem al_93 (h : Holds V0 s j) : (broadcastInDim S1x2x128x4x512 ![1, 2, 3, 4] bcast_S2x128x4x512_S1x2x128x4x512_1_2_3_4 (addf (transpose S2x128x4x512 [0, 3, 1, 2] (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))))) transposes_S2x4x512x128_S2x128x4x512_0_3_1_2) (mulf (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0))))))))) : (Proc.devRef .tc main_while0b_call4_v0 : DevRef τ sig).ty.Contents (Elt F)) = Cert.ChunksReferenceIdeal.Step.b93 j s := by
  unfold Cert.ChunksReferenceIdeal.Step.b93
  rw [← al_71 h]
  try rfl
set_option maxRecDepth 8192 in
theorem al_94 (h : Holds V0 s j) : (constantI S_ 32 0#32 : (Proc.devRef .tc main_while0b_call4_c : DevRef τ sig).ty.Contents (Elt F)) = Cert.ChunksReferenceIdeal.Step.b94 j s := by
  unfold Cert.ChunksReferenceIdeal.Step.b94
  rfl
set_option maxRecDepth 8192 in
theorem al_95 (h : Holds V0 s j) : (constantI S_ 32 0#32 : (Proc.devRef .tc main_while0b_call4_c_0 : DevRef τ sig).ty.Contents (Elt F)) = Cert.ChunksReferenceIdeal.Step.b95 j s := by
  unfold Cert.ChunksReferenceIdeal.Step.b95
  rfl
set_option maxRecDepth 8192 in
theorem al_96 (h : Holds V0 s j) : (constantI S_ 32 0#32 : (Proc.devRef .tc main_while0b_call4_c_1 : DevRef τ sig).ty.Contents (Elt F)) = Cert.ChunksReferenceIdeal.Step.b96 j s := by
  unfold Cert.ChunksReferenceIdeal.Step.b96
  rfl
set_option maxRecDepth 8192 in
theorem al_97 (h : Holds V0 s j) : (constantI S_ 32 0#32 : (Proc.devRef .tc main_while0b_call4_c_2 : DevRef τ sig).ty.Contents (Elt F)) = Cert.ChunksReferenceIdeal.Step.b97 j s := by
  unfold Cert.ChunksReferenceIdeal.Step.b97
  rfl
set_option maxRecDepth 8192 in
theorem al_98 (h : Holds V0 s j) : (Host.dynamicUpdateSlice (V0 (Proc.devRef .tc main_v14_5)) (broadcastInDim S1x2x128x4x512 ![1, 2, 3, 4] bcast_S2x128x4x512_S1x2x128x4x512_1_2_3_4 (addf (transpose S2x128x4x512 [0, 3, 1, 2] (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))))) transposes_S2x4x512x128_S2x128x4x512_0_3_1_2) (mulf (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0)))))))))) (fun k => (((![V0 (Proc.devRef .tc main_v14_3), constantI S_ 32 0#32, constantI S_ 32 0#32, constantI S_ 32 0#32, constantI S_ 32 0#32] : Fin 5 → (⟨S_, .i32⟩ : BufTy).Contents (Elt F))) k (Shape.Idx.first h_S_)).toInt) updateFits_S64x2x128x4x512_S1x2x128x4x512 : (Proc.devRef .tc main_while0b_v84 : DevRef τ sig).ty.Contents (Elt F)) = Cert.ChunksReferenceIdeal.Step.b98 j s := by
  unfold Cert.ChunksReferenceIdeal.Step.b98
  rw [← al_93 h, ← al_94 h, ← al_95 h, ← al_96 h, ← al_97 h, h.f_5, h.n_3]
  try rfl

/-! One trip's step of the carried values is `step`, field by field; a counter steps to the next number. -/

theorem step_4 (h : Holds V0 s j) : step_main_v14_4 V0 = (step j s).main_v14_4 := by
  unfold step_main_v14_4 Cert.ChunksReferenceIdeal.Step.step
  show id (addf (mulf (broadcastInDim S2x4x256x512 ![0, 1, 2, 3] bcast_S1x4x1x1_S2x4x256x512_0_1_2_3 (broadcastInDim S1x4x1x1 ![1] bcast_S4_S1x4x1x1_1 (Host.exp (mulf (broadcastInDim S4 ![] bcast_S_S4 (constant S_ .f32 0x43000000#32)) (res_main_while0b_v27 V0))))) (V0 (Proc.devRef .tc main_v14_4))) (Host.dotGeneral dot_S2x128x4x256_S2x128x4x512_S2x4x256x512_1_1_3_3_02_02 none (mulf (res_main_while0b_v18 V0) (broadcastInDim S2x128x4x256 ![0, 1, 2, 3] bcast_S1x128x4x1_S2x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v28 V0)))) (broadcastInDim S128x4 ![0, 1] bcast_S1x4_S128x4_0_1 (broadcastInDim S1x4 ![1] bcast_S4_S1x4_1 (res_main_while0b_v27 V0)))))))) (res_main_while0b_v19 V0))) = _
  rw [al_92 h]
  try rfl
theorem step_5 (h : Holds V0 s j) : step_main_v14_5 V0 = (step j s).main_v14_5 := by
  unfold step_main_v14_5 Cert.ChunksReferenceIdeal.Step.step
  show id (Host.dynamicUpdateSlice (V0 (Proc.devRef .tc main_v14_5)) (broadcastInDim S1x2x128x4x512 ![1, 2, 3, 4] bcast_S2x128x4x512_S1x2x128x4x512_1_2_3_4 (addf (transpose S2x128x4x512 [0, 3, 1, 2] (Host.dotGeneral dot_S2x128x4x512_S2x4x128x128_S2x4x512x128_1_3_3_2_02_01 none (res_main_while0b_v19 V0) (mulf (Host.dotGeneral dot_S2x128x4x256_S2x128x4x256_S2x4x128x128_3_3_1_1_02_02 none (res_main_while0b_v17 V0) (res_main_while0b_v18 V0)) (broadcastInDim S2x4x128x128 ![0, 1, 2, 3] bcast_S1x4x128x128_S2x4x128x128_0_1_2_3 (broadcastInDim S1x4x128x128 ![1, 2, 3] bcast_S4x128x128_S1x4x128x128_1_2_3 (select (broadcastInDim S4x128x128 ![1, 2] bcast_S128x128_S4x128x128_1_2 (cmpf .oge (res_main_while0b_v33 V0) (broadcastInDim S128x128 ![] bcast_S_S128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_while0b_v33 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_while0b_v27 V0))))) (broadcastInDim S4x128x128 ![] bcast_S_S4x128x128 (id (constant S_ .f32 0x00000000#32)))))))) transposes_S2x4x512x128_S2x128x4x512_0_3_1_2) (mulf (transpose S2x128x4x512 [0, 3, 1, 2] (Host.dotGeneral dot_S2x4x256x512_S2x128x4x256_S2x4x512x128_2_3_3_1_01_02 none (V0 (Proc.devRef .tc main_v14_4)) (res_main_while0b_v17 V0)) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v28 V0)) (broadcastInDim S128x1 ![] bcast_S_S128x1 (constant S_ .f32 0x3F800000#32)))) (broadcastInDim S128x4 ![0, 1] bcast_S1x4_S128x4_0_1 (broadcastInDim S1x4 ![1] bcast_S4_S1x4_1 (res_main_while0b_v27 V0)))))))))) (fun k => (((![V0 (Proc.devRef .tc main_v14_3), constantI S_ 32 0#32, constantI S_ 32 0#32, constantI S_ 32 0#32, constantI S_ 32 0#32] : Fin 5 → (⟨S_, .i32⟩ : BufTy).Contents (Elt F))) k (Shape.Idx.first h_S_)).toInt) updateFits_S64x2x128x4x512_S1x2x128x4x512) = _
  exact al_98 h
theorem step_3 (h : Holds V0 s j) : step_main_v14_3 V0 = constantI S_ 32 (BitVec.ofNat 32 (j + 1)) := by
  unfold step_main_v14_3
  rw [h.n_3]
  funext i
  show BitVec.ofNat 32 j + 1#32 = BitVec.ofNat 32 (j + 1)
  simp only [BitVec.ofNat_add]

set_option maxRecDepth 8192 in
theorem out_main_v16_holds (h : Holds V0 s j) : out_main_v16 V0 = Cert.ChunksReferenceIdeal.Step.R_main_v16 s := by
  unfold out_main_v16 Cert.ChunksReferenceIdeal.Step.R_main_v16
  rw [h.f_5]
  try rfl

/-- One trip keeps the valuation holding: `step` of the state, the same set-up values, the next number. -/
theorem holds_step (h : Holds V0 s j) : Holds (STEP V0) (step j s) (j + 1) where
  f_4 := (STEP_main_v14_4 V0).trans (step_4 h)
  f_5 := (STEP_main_v14_5 V0).trans (step_5 h)
  n_3 := (STEP_main_v14_3 V0).trans (step_3 h)
  f_0 := (STEP_main_v14_0 V0).trans h.f_0
  f_1 := (STEP_main_v14_1 V0).trans h.f_1
  f_2 := (STEP_main_v14_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ChunksReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v16) = Cert.ChunksReferenceIdeal.Step.R_main_v16 (it c 64)
      ∧ r.2.mem ((c.tc : Thread nD τ).loc main_v14_4) = (it c 64).main_v14_4
      ∧ r.2.mem ((c.tc : Thread nD τ).loc main_arg0) = m ((c.tc : Thread nD τ).loc main_arg0) :=
  (θ_run defs _ _).mono (fun _ h c =>
    have hk := holds_iter m c (it c) (h0 c) (hs c) 64
    ⟨(h c).1.trans (out_main_v16_holds hk), (h c).2.1.trans hk.f_4, (h c).2.2⟩) (Value.run m ρ)

end Cert.ChunksReferenceIdeal.Trips

end
-- ==== Proof.Chunks.Table.lean ====
/- The scan over the chunks: its tables and one trip, read by index. -/
module

public import proofs.«01_k».proof.Proof.Gen.ChunksReferenceIdeal.Step
public import Idealize.ShloMosaic.Lib.Pointwise

@[expose] public section

set_option maxRecDepth 16384

noncomputable section

namespace Cert.ChunksIdeal.Spec

open Cert.ChunksReferenceIdeal Cert.ChunksReferenceIdeal.Gen Cert.ChunksReferenceIdeal.Step
open Idealize.ShloMosaic Idealize.ShloMosaic.TcCoe

/-- A state to read the tables at: they do not depend on it. -/
def s0 : State Ideal := Step.init (fun _ => (0 : EReal))

/-- The logarithm of a head's decay, and a position as a number. -/
def lg (h : Fin 4) : EReal := b27 0 s0 (ix1 h)
def pos (l : Fin 128) : EReal := b28 0 s0 (ix1 l)
/-- The decay between two positions of a chunk, from the chunk's start, to its end, and over it. -/
def dec (h : Fin 4) (l m : Fin 128) : EReal := b50 0 s0 (ix3 h l m)
def rs (h : Fin 4) (l : Fin 128) : EReal := b67 0 s0 (ix2 l h)
def wk (h : Fin 4) (l : Fin 128) : EReal := b80 0 s0 (ix2 l h)
def gl (h : Fin 4) : EReal := b84 0 s0 (ix1 h)

theorem b50_const (j : ℕ) (s : State Ideal) : b50 j s = b50 0 s0 := rfl
theorem b67_const (j : ℕ) (s : State Ideal) : b67 j s = b67 0 s0 := rfl
theorem b80_const (j : ℕ) (s : State Ideal) : b80 j s = b80 0 s0 := rfl
theorem b84_const (j : ℕ) (s : State Ideal) : b84 j s = b84 0 s0 := rfl

theorem b92_apply (j : ℕ) (s : State Ideal) (b : Fin 2) (h : Fin 4) (d : Fin 256) (e : Fin 512) :
    b92 j s (ix4 b h d e) = (gl h * s.main_v14_4 (ix4 b h d e)
      + ∑ l : Fin 128, b11 j s (ix4 b l h d) * wk h l * b17 j s (ix4 b l h e) : EReal) := by
  unfold gl wk
  rw [← b84_const j s, ← b80_const j s]
  generalize e84 : b84 j s = t84
  generalize e80 : b80 j s = t80
  generalize e11 : b11 j s = t11
  generalize e17 : b17 j s = t17
  unfold b92 b91 b90 b89 b88 b87 b86 b85
  rw [e84, e80, e11, e17]
  pointwise []

theorem b71_apply (j : ℕ) (s : State Ideal) (b : Fin 2) (l : Fin 128) (h : Fin 4) (e : Fin 512) :
    b71 j s (ix4 b l h e) = ((∑ m : Fin 128, b17 j s (ix4 b m h e) * ((∑ d : Fin 256, b5 j s (ix4 b l h d) * b11 j s (ix4 b m h d)) * dec h l m))
      + (∑ d : Fin 256, s.main_v14_4 (ix4 b h d e) * b5 j s (ix4 b l h d)) * rs h l : EReal) := by
  unfold dec rs
  rw [← b50_const j s, ← b67_const j s]
  generalize e50 : b50 j s = t50
  generalize e67 : b67 j s = t67
  generalize e11 : b11 j s = t11
  generalize e17 : b17 j s = t17
  generalize e5 : b5 j s = t5
  unfold b71 b70 b69 b68 b58 b57 b56 b55 b54 b53 b52 b51
  rw [e50, e67, e11, e17, e5]
  pointwise []

end Cert.ChunksIdeal.Spec

end
-- ==== Proof.Chunks.Spec.lean ====
/- The scan over the chunks as a recurrence: the state before each chunk and what each chunk gives. -/
module

public import proofs.«01_k».proof.Proof.Chunks.Table
public import Idealize.ShloMosaic.Lib.WordCmp
public import Idealize.ShloMosaic.Lib.Pipeline.Value

@[expose] public section

set_option maxRecDepth 16384

noncomputable section

namespace Cert.ChunksIdeal.Spec

open Cert.ChunksReferenceIdeal Cert.ChunksReferenceIdeal.Gen Cert.ChunksReferenceIdeal.Step
open Idealize.ShloMosaic Idealize.ShloMosaic.TcCoe

/-- The row of `z` at position `l` of chunk `c` of request `b`. -/
def row (b : Fin 2) (c : ℕ) (l : Fin 128) : Fin 16384 := ⟨b.val * 8192 + (c % 64) * 128 + l.val, by omega⟩

def colQ (h : Fin 4) (d : Fin 256) : Fin 6144 := ⟨h.val * 256 + d.val, by omega⟩
def colK (h : Fin 4) (d : Fin 256) : Fin 6144 := ⟨1024 + (h.val * 256 + d.val), by omega⟩
def colV (h : Fin 4) (e : Fin 512) : Fin 6144 := ⟨2048 + (h.val * 512 + e.val), by omega⟩
def colO (h : Fin 4) (e : Fin 512) : Fin 2048 := ⟨h.val * 512 + e.val, by omega⟩

variable (z : Vec Ideal S16384x6144 .f32)

/-- The query, key and value of one position of a chunk. -/
def zq (b : Fin 2) (c : ℕ) (l : Fin 128) (h : Fin 4) (d : Fin 256) : EReal := z (ix2 (row b c l) (colQ h d))
def zk (b : Fin 2) (c : ℕ) (l : Fin 128) (h : Fin 4) (d : Fin 256) : EReal := z (ix2 (row b c l) (colK h d))
def zv (b : Fin 2) (c : ℕ) (l : Fin 128) (h : Fin 4) (e : Fin 512) : EReal := z (ix2 (row b c l) (colV h e))

/-- The state before chunk `c`. -/
def St : ℕ → Fin 2 → Fin 4 → Fin 256 → Fin 512 → EReal
  | 0, _, _, _, _ => 0
  | c + 1, b, h, d, e => gl h * St c b h d e + ∑ l : Fin 128, zk z b c l h d * wk h l * zv z b c l h e

/-- What chunk `c` gives at one position. -/
def Out (c : ℕ) (b : Fin 2) (l : Fin 128) (h : Fin 4) (e : Fin 512) : EReal :=
  (∑ m : Fin 128, ((∑ d : Fin 256, zq z b c l h d * zk z b c m h d) * dec h l m) * zv z b c m h e)
    + (∑ d : Fin 256, zq z b c l h d * St z c b h d e) * rs h l

theorem toInt_ofNat (j : ℕ) (hj : j < 64) : (BitVec.ofNat 32 j).toInt = (j : Int) := by
  rw [BitVec.toInt_eq_toNat_of_lt (by rw [BitVec.toNat_ofNat]; omega), BitVec.toNat_ofNat]
  omega

theorem rowVal (b : Fin 2) (c : ℕ) (l : Fin 128) (hc : c < 64) : (row b c l).val = b.val * 8192 + c * 128 + l.val := by
  show b.val * 8192 + (c % 64) * 128 + l.val = _
  rw [Nat.mod_eq_of_lt hc]

theorem A8 (b : Fin 2) (c : Fin 64) (l : Fin 128) (h : Fin 4) (d : Fin 256) :
    A_main_v8 z (ix5 c b l h d) = zq z b c.val l h d := by
  unfold A_main_v8
  rw [transpose_apply _ _ _ _ (ix5 b c l h d) (fun a => by fin_cases a <;> rfl)]
  unfold A_main_v7
  rw [shapeCast_apply (A_main_v1 z) _ _ (ix4 b (⟨c.val * 128 + l.val, by omega⟩ : Fin 8192) h d)
    (by rw [Shape.rowMajor_val_four, Shape.rowMajor_val_five]
        show ((b.val * 8192 + (c.val * 128 + l.val)) * 4 + h.val) * 256 + d.val
          = (((b.val * 64 + c.val) * 128 + l.val) * 4 + h.val) * 256 + d.val
        omega)]
  unfold A_main_v1
  rw [shapeCast_apply (A_main_v0 z) _ _ (ix2 (row b c.val l) (⟨h.val * 256 + d.val, by omega⟩ : Fin 1024))
    (by rw [Shape.rowMajor_val_four, Shape.rowMajor_val_two]
        show (row b c.val l).val * 1024 + (h.val * 256 + d.val)
          = ((b.val * 8192 + (c.val * 128 + l.val)) * 4 + h.val) * 256 + d.val
        rw [rowVal b c.val l c.isLt]
        omega)]
  unfold A_main_v0
  exact extractStridedSlice_apply _ _ _ _ _ (fun a => by
    match a with
    | ⟨0, _⟩ => exact (Nat.zero_add _).symm
    | ⟨1, _⟩ => exact (Nat.zero_add _).symm)

theorem A10 (b : Fin 2) (c : Fin 64) (l : Fin 128) (h : Fin 4) (d : Fin 256) :
    A_main_v10 z (ix5 c b l h d) = zk z b c.val l h d := by
  unfold A_main_v10
  rw [transpose_apply _ _ _ _ (ix5 b c l h d) (fun a => by fin_cases a <;> rfl)]
  unfold A_main_v9
  rw [shapeCast_apply (A_main_v3 z) _ _ (ix4 b (⟨c.val * 128 + l.val, by omega⟩ : Fin 8192) h d)
    (by rw [Shape.rowMajor_val_four, Shape.rowMajor_val_five]
        show ((b.val * 8192 + (c.val * 128 + l.val)) * 4 + h.val) * 256 + d.val
          = (((b.val * 64 + c.val) * 128 + l.val) * 4 + h.val) * 256 + d.val
        omega)]
  unfold A_main_v3
  rw [shapeCast_apply (A_main_v2 z) _ _ (ix2 (row b c.val l) (⟨h.val * 256 + d.val, by omega⟩ : Fin 1024))
    (by rw [Shape.rowMajor_val_four, Shape.rowMajor_val_two]
        show (row b c.val l).val * 1024 + (h.val * 256 + d.val)
          = ((b.val * 8192 + (c.val * 128 + l.val)) * 4 + h.val) * 256 + d.val
        rw [rowVal b c.val l c.isLt]
        omega)]
  unfold A_main_v2
  exact extractStridedSlice_apply _ _ _ _ _ (fun a => by
    match a with
    | ⟨0, _⟩ => exact (Nat.zero_add _).symm
    | ⟨1, _⟩ => rfl)

theorem A12 (b : Fin 2) (c : Fin 64) (l : Fin 128) (h : Fin 4) (e : Fin 512) :
    A_main_v12 z (ix5 c b l h e) = zv z b c.val l h e := by
  unfold A_main_v12
  rw [transpose_apply _ _ _ _ (ix5 b c l h e) (fun a => by fin_cases a <;> rfl)]
  unfold A_main_v11
  rw [shapeCast_apply (A_main_v5 z) _ _ (ix4 b (⟨c.val * 128 + l.val, by omega⟩ : Fin 8192) h e)
    (by rw [Shape.rowMajor_val_four, Shape.rowMajor_val_five]
        show ((b.val * 8192 + (c.val * 128 + l.val)) * 4 + h.val) * 512 + e.val
          = (((b.val * 64 + c.val) * 128 + l.val) * 4 + h.val) * 512 + e.val
        omega)]
  unfold A_main_v5
  rw [shapeCast_apply (A_main_v4 z) _ _ (ix2 (row b c.val l) (⟨h.val * 512 + e.val, by omega⟩ : Fin 2048))
    (by rw [Shape.rowMajor_val_four, Shape.rowMajor_val_two]
        show (row b c.val l).val * 2048 + (h.val * 512 + e.val)
          = ((b.val * 8192 + (c.val * 128 + l.val)) * 4 + h.val) * 512 + e.val
        rw [rowVal b c.val l c.isLt]
        omega)]
  unfold A_main_v4
  exact extractStridedSlice_apply _ _ _ _ _ (fun a => by
    match a with
    | ⟨0, _⟩ => exact (Nat.zero_add _).symm
    | ⟨1, _⟩ => rfl)

/-! ## One chunk's slices -/

theorem fits (j : ℕ) (hj : j < 64) (w : ℕ) : (⟨5, ![64, 2, 128, 4, w]⟩ : Shape).Slices ![j, 0, 0, 0, 0] ⟨5, ![1, 2, 128, 4, w]⟩ := by
  refine ⟨rfl, fun a => ?_⟩
  match a with
  | ⟨0, _⟩ => show j + 1 ≤ 64; omega
  | ⟨1, _⟩ => show 0 + 2 ≤ 2; omega
  | ⟨2, _⟩ => show 0 + 128 ≤ 128; omega
  | ⟨3, _⟩ => show 0 + 4 ≤ 4; omega
  | ⟨4, _⟩ => show 0 + w ≤ w; omega

theorem b5_apply (j : Fin 64) (s : State Ideal) (b : Fin 2) (l : Fin 128) (h : Fin 4) (d : Fin 256) :
    b5 j.val s (ix4 b l h d) = s.main_v14_0 (ix5 j b l h d) := by
  unfold b5
  rw [shapeCast_apply (b4 j.val s) _ _ (ix5 (0 : Fin 1) b l h d)
    (by rw [Shape.rowMajor_val_four, Shape.rowMajor_val_five]
        show (((0 * 2 + b.val) * 128 + l.val) * 4 + h.val) * 256 + d.val = ((b.val * 128 + l.val) * 4 + h.val) * 256 + d.val
        omega)]
  unfold b4
  rw [WordCmp.dynamicSlice_eq_extract _ _ _ _ ![j.val, 0, 0, 0, 0] (fits j.val j.isLt 256) (fun a => by
    match a with
    | ⟨0, _⟩ => exact toInt_ofNat j.val j.isLt
    | ⟨1, _⟩ => rfl
    | ⟨2, _⟩ => rfl
    | ⟨3, _⟩ => rfl
    | ⟨4, _⟩ => rfl)]
  exact extractStridedSlice_apply _ _ _ _ _ (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)

theorem b11_apply (j : Fin 64) (s : State Ideal) (b : Fin 2) (l : Fin 128) (h : Fin 4) (d : Fin 256) :
    b11 j.val s (ix4 b l h d) = s.main_v14_1 (ix5 j b l h d) := by
  unfold b11
  rw [shapeCast_apply (b10 j.val s) _ _ (ix5 (0 : Fin 1) b l h d)
    (by rw [Shape.rowMajor_val_four, Shape.rowMajor_val_five]
        show (((0 * 2 + b.val) * 128 + l.val) * 4 + h.val) * 256 + d.val = ((b.val * 128 + l.val) * 4 + h.val) * 256 + d.val
        omega)]
  unfold b10
  rw [WordCmp.dynamicSlice_eq_extract _ _ _ _ ![j.val, 0, 0, 0, 0] (fits j.val j.isLt 256) (fun a => by
    match a with
    | ⟨0, _⟩ => exact toInt_ofNat j.val j.isLt
    | ⟨1, _⟩ => rfl
    | ⟨2, _⟩ => rfl
    | ⟨3, _⟩ => rfl
    | ⟨4, _⟩ => rfl)]
  exact extractStridedSlice_apply _ _ _ _ _ (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)

theorem b17_apply (j : Fin 64) (s : State Ideal) (b : Fin 2) (l : Fin 128) (h : Fin 4) (d : Fin 512) :
    b17 j.val s (ix4 b l h d) = s.main_v14_2 (ix5 j b l h d) := by
  unfold b17
  rw [shapeCast_apply (b16 j.val s) _ _ (ix5 (0 : Fin 1) b l h d)
    (by rw [Shape.rowMajor_val_four, Shape.rowMajor_val_five]
        show (((0 * 2 + b.val) * 128 + l.val) * 4 + h.val) * 512 + d.val = ((b.val * 128 + l.val) * 4 + h.val) * 512 + d.val
        omega)]
  unfold b16
  rw [WordCmp.dynamicSlice_eq_extract _ _ _ _ ![j.val, 0, 0, 0, 0] (fits j.val j.isLt 512) (fun a => by
    match a with
    | ⟨0, _⟩ => exact toInt_ofNat j.val j.isLt
    | ⟨1, _⟩ => rfl
    | ⟨2, _⟩ => rfl
    | ⟨3, _⟩ => rfl
    | ⟨4, _⟩ => rfl)]
  exact extractStridedSlice_apply _ _ _ _ _ (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)

theorem b98_same (j : Fin 64) (s : State Ideal) (b : Fin 2) (l : Fin 128) (h : Fin 4) (e : Fin 512) :
    b98 j.val s (ix5 j b l h e) = b71 j.val s (ix4 b l h e) := by
  unfold b98
  rw [WordCmp.dynamicUpdateSlice_eq_update _ _ _ _ ![j.val, 0, 0, 0, 0] (fits j.val j.isLt 512) (fun a => by
    match a with
    | ⟨0, _⟩ => exact toInt_ofNat j.val j.isLt
    | ⟨1, _⟩ => rfl
    | ⟨2, _⟩ => rfl
    | ⟨3, _⟩ => rfl
    | ⟨4, _⟩ => rfl)]
  rw [updateSlice_apply, dif_pos (fun a => by
    match a with
    | ⟨0, _⟩ => exact ⟨Nat.le_refl _, Nat.lt_succ_self _⟩
    | ⟨1, _⟩ => exact ⟨Nat.zero_le _, by show b.val < 0 + 2; omega⟩
    | ⟨2, _⟩ => exact ⟨Nat.zero_le _, by show l.val < 0 + 128; omega⟩
    | ⟨3, _⟩ => exact ⟨Nat.zero_le _, by show h.val < 0 + 4; omega⟩
    | ⟨4, _⟩ => exact ⟨Nat.zero_le _, by show e.val < 0 + 512; omega⟩)]
  refine (congrArg (b93 j.val s) (?_ : _ = ix5 (0 : Fin 1) b l h e)).trans ?_
  · funext a
    apply Fin.ext
    match a with
    | ⟨0, _⟩ => exact Nat.sub_self _
    | ⟨1, _⟩ => rfl
    | ⟨2, _⟩ => rfl
    | ⟨3, _⟩ => rfl
    | ⟨4, _⟩ => rfl
  · unfold b93
    exact broadcastInDim_apply _ _ _ _ _ (fun a => by fin_cases a <;> rfl)

theorem b98_other (j c : Fin 64) (hc : c ≠ j) (s : State Ideal) (b : Fin 2) (l : Fin 128) (h : Fin 4) (e : Fin 512) :
    b98 j.val s (ix5 c b l h e) = s.main_v14_5 (ix5 c b l h e) := by
  unfold b98
  rw [WordCmp.dynamicUpdateSlice_eq_update _ _ _ _ ![j.val, 0, 0, 0, 0] (fits j.val j.isLt 512) (fun a => by
    match a with
    | ⟨0, _⟩ => exact toInt_ofNat j.val j.isLt
    | ⟨1, _⟩ => rfl
    | ⟨2, _⟩ => rfl
    | ⟨3, _⟩ => rfl
    | ⟨4, _⟩ => rfl)]
  rw [updateSlice_apply, dif_neg (fun hin => hc (Fin.ext (by
    have h0 := hin ⟨0, by decide⟩
    have h1 : j.val ≤ c.val := h0.1
    have h2 : c.val < j.val + 1 := h0.2
    omega)))]

/-! ## The whole scan -/

/-- The states the scan goes through. -/
def itr : ℕ → State Ideal
  | 0 => Step.init z
  | n + 1 => Step.step n (itr n)

theorem itr_v14_0 (n : ℕ) : (itr z n).main_v14_0 = A_main_v8 z := by
  induction n with
  | zero => rfl
  | succ n ih => exact ih

theorem itr_v14_1 (n : ℕ) : (itr z n).main_v14_1 = A_main_v10 z := by
  induction n with
  | zero => rfl
  | succ n ih => exact ih

theorem itr_v14_2 (n : ℕ) : (itr z n).main_v14_2 = A_main_v12 z := by
  induction n with
  | zero => rfl
  | succ n ih => exact ih

theorem itr_q (n : Fin 64) (b : Fin 2) (l : Fin 128) (h : Fin 4) (d : Fin 256) :
    b5 n.val (itr z n.val) (ix4 b l h d) = zq z b n.val l h d := by
  rw [b5_apply, itr_v14_0, A8]

theorem itr_k (n : Fin 64) (b : Fin 2) (l : Fin 128) (h : Fin 4) (d : Fin 256) :
    b11 n.val (itr z n.val) (ix4 b l h d) = zk z b n.val l h d := by
  rw [b11_apply, itr_v14_1, A10]

theorem itr_v (n : Fin 64) (b : Fin 2) (l : Fin 128) (h : Fin 4) (e : Fin 512) :
    b17 n.val (itr z n.val) (ix4 b l h e) = zv z b n.val l h e := by
  rw [b17_apply, itr_v14_2, A12]

theorem itr_state (n : ℕ) (hn : n ≤ 64) (b : Fin 2) (h : Fin 4) (d : Fin 256) (e : Fin 512) :
    (itr z n).main_v14_4 (ix4 b h d e) = St z n b h d e := by
  induction n generalizing b h d e with
  | zero =>
    show K_main_v6 (F := Ideal) (ix4 b h d e) = (0 : EReal)
    exact Ideal.ofBits_zero_f32
  | succ n ih =>
    show b92 n (itr z n) (ix4 b h d e) = _
    rw [b92_apply, ih (by omega)]
    show _ = gl h * St z n b h d e + ∑ l : Fin 128, zk z b n l h d * wk h l * zv z b n l h e
    congr 1
    refine Finset.sum_congr rfl fun l _ => ?_
    rw [itr_k z ⟨n, by omega⟩, itr_v z ⟨n, by omega⟩]

theorem itr_chunk (n : Fin 64) (b : Fin 2) (l : Fin 128) (h : Fin 4) (e : Fin 512) :
    b71 n.val (itr z n.val) (ix4 b l h e) = Out z n.val b l h e := by
  rw [b71_apply]
  unfold Out
  congr 1
  · refine Finset.sum_congr rfl fun k _ => ?_
    rw [itr_v, mul_comm]
    congr 2
    refine Finset.sum_congr rfl fun d _ => ?_
    rw [itr_q, itr_k]
  · congr 1
    refine Finset.sum_congr rfl fun d _ => ?_
    rw [itr_q, itr_state z n.val (by omega), mul_comm]

theorem itr_out (n : ℕ) (hn : n ≤ 64) (k : Fin 64) (hk : k.val < n) (b : Fin 2) (l : Fin 128) (h : Fin 4) (e : Fin 512) :
    (itr z n).main_v14_5 (ix5 k b l h e) = Out z k.val b l h e := by
  induction n with
  | zero => omega
  | succ n ih =>
    show b98 n (itr z n) (ix5 k b l h e) = _
    by_cases hkn : k.val = n
    · subst hkn
      rw [b98_same, itr_chunk]
    · rw [b98_other ⟨n, by omega⟩ k (fun hh => hkn (congrArg Fin.val hh))]
      exact ih (by omega) (by omega)

/-- The scan's output, laid out as the call's. -/
theorem itr_result (k : Fin 64) (b : Fin 2) (l : Fin 128) (h : Fin 4) (e : Fin 512) :
    R_main_v16 (itr z 64) (ix2 (row b k.val l) (colO h e)) = Out z k.val b l h e := by
  unfold R_main_v16
  rw [shapeCast_apply _ _ _ (ix5 b k l h e)
    (by rw [Shape.rowMajor_val_five, Shape.rowMajor_val_two]
        show (((b.val * 64 + k.val) * 128 + l.val) * 4 + h.val) * 512 + e.val
          = (row b k.val l).val * 2048 + (h.val * 512 + e.val)
        rw [rowVal b k.val l k.isLt]
        omega)]
  rw [transpose_apply _ _ _ _ (ix5 k b l h e) (fun a => by fin_cases a <;> rfl)]
  exact itr_out z 64 (Nat.le_refl _) k k.isLt b l h e

end Cert.ChunksIdeal.Spec

end
-- ==== Proof.Chunks.Value.lean ====
/- The chunk recurrence's kernel: what each grid point writes is the scan's block, and the blocks cover both results. -/
module

public import Idealize.ShloMosaic.Lib.Pipeline.ReadBack
public import proofs.«01_k».proof.Proof.Chunks.Spec
public import proofs.«01_k».proof.Proof.Gen.ChunksIdeal.Value
public import Idealize.ShloMosaic.Lib.Claim
public import Idealize.ShloMosaic.Lib.Pointwise
public import Idealize.ShloMosaic.Lib.Pipeline.ValueKit

@[expose] public section

set_option maxRecDepth 16384

noncomputable section

namespace Cert.ChunksIdeal.Ret

open Cert.ChunksIdeal Cert.ChunksIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

theorem pay_state (x1 : Vec Ideal S128x256 .f32) (x2 : Vec Ideal S128x512 .f32) (x5 : Vec Ideal S1x128x1 .f32)
    (x6 : Vec Ideal S1x1x1 .f32) (xs : Vec Ideal S256x512 .f32) (d : Fin 256) (e : Fin 512) :
    k0_pay1 (k0_pay5 x2) xs (k0_pay7 x1 x5) x6 (ix2 d e)
      = (x6 (ix3 0 0 0) * xs (ix2 d e) + ∑ l : Fin 128, (x1 (ix2 l d) * x5 (ix3 0 l 0)) * x2 (ix2 l e) : EReal) := by
  pointwise [k0_pay1, k0_pay5, k0_pay7]

theorem pay_out (x0 : Vec Ideal S128x256 .f32) (x1 : Vec Ideal S128x256 .f32) (x2 : Vec Ideal S128x512 .f32) (xs : Vec Ideal S256x512 .f32)
    (x3 : Vec Ideal S1x128x128 .f32) (x4 : Vec Ideal S1x128x1 .f32) (l : Fin 128) (e : Fin 512) :
    k0_pay6 x0 x1 x2 xs x3 x4 (ix2 l e)
      = ((∑ k : Fin 128, ((∑ d : Fin 256, x0 (ix2 l d) * x1 (ix2 k d)) * x3 (ix3 0 l k)) * x2 (ix2 k e))
        + (∑ d : Fin 256, x0 (ix2 l d) * xs (ix2 d e)) * x4 (ix3 0 l 0) : EReal) := by
  pointwise [k0_pay6, k0_pay5]

theorem outs_A (t : Fin cfg0.N) (h0 : t.val % 64 = 0) (h1 : ¬t.val % 64 = 63) :
    (outsAt0 m c t.val t.isLt).2.2 = k0_pay2 (k0_pay5 (iblk m c 2 t)) (k0_pay4 (F := Ideal)) (k0_pay7 (iblk m c 1 t) (iblk m c 5 t)) (iblk m c 6 t) := by
  rw [outsAt0_A m c t h0 h1]; frame_out; try rw [read_unread_whole]

theorem outs_A7 (t : Fin cfg0.N) (h0 : t.val % 64 = 0) (h1 : ¬t.val % 64 = 63) :
    (outsAt0 m c t.val t.isLt).1 = k0_pay6 (iblk m c 0 t) (iblk m c 1 t) (iblk m c 2 t) (k0_pay4 (F := Ideal)) (iblk m c 3 t) (iblk m c 4 t) := by
  rw [outsAt0_A m c t h0 h1]; frame_out; try rw [read_unread_whole]

theorem outs_B (t : Fin cfg0.N) (h0 : ¬t.val % 64 = 0) (h1 : ¬t.val % 64 = 63) :
    (outsAt0 m c t.val t.isLt).2.2 = k0_pay2 (k0_pay5 (iblk m c 2 t)) (outsAt0 m c (t.val - 1) (by have := t.isLt; omega)).2.2 (k0_pay7 (iblk m c 1 t) (iblk m c 5 t)) (iblk m c 6 t) := by
  rw [outsAt0_B m c t h0 h1]; frame_out; try rw [read_unread_whole]

theorem outs_B7 (t : Fin cfg0.N) (h0 : ¬t.val % 64 = 0) (h1 : ¬t.val % 64 = 63) :
    (outsAt0 m c t.val t.isLt).1 = k0_pay6 (iblk m c 0 t) (iblk m c 1 t) (iblk m c 2 t) (outsAt0 m c (t.val - 1) (by have := t.isLt; omega)).2.2 (iblk m c 3 t) (iblk m c 4 t) := by
  rw [outsAt0_B m c t h0 h1]; frame_out; try rw [read_unread_whole]

theorem outs_C (t : Fin cfg0.N) (h0 : ¬t.val % 64 = 0) (h1 : t.val % 64 = 63) :
    (outsAt0 m c t.val t.isLt).2.2 = k0_pay2 (k0_pay5 (iblk m c 2 t)) (outsAt0 m c (t.val - 1) (by have := t.isLt; omega)).2.2 (k0_pay7 (iblk m c 1 t) (iblk m c 5 t)) (iblk m c 6 t) := by
  rw [outsAt0_C m c t h0 h1]; frame_out; try rw [read_unread_whole]

theorem outs_C7 (t : Fin cfg0.N) (h0 : ¬t.val % 64 = 0) (h1 : t.val % 64 = 63) :
    (outsAt0 m c t.val t.isLt).1 = k0_pay6 (iblk m c 0 t) (iblk m c 1 t) (iblk m c 2 t) (outsAt0 m c (t.val - 1) (by have := t.isLt; omega)).2.2 (iblk m c 3 t) (iblk m c 4 t) := by
  rw [outsAt0_C m c t h0 h1]; frame_out; try rw [read_unread_whole]

theorem outs_C8 (t : Fin cfg0.N) (h0 : ¬t.val % 64 = 0) (h1 : t.val % 64 = 63) :
    (outsAt0 m c t.val t.isLt).2.1 = k0_pay3 (k0_pay5 (iblk m c 2 t)) (outsAt0 m c (t.val - 1) (by have := t.isLt; omega)).2.2 (k0_pay7 (iblk m c 1 t) (iblk m c 5 t)) (iblk m c 6 t) := by
  rw [outsAt0_C m c t h0 h1]; frame_out; try rw [read_unread_whole]

theorem pay2_apply (x2 : Vec Ideal S128x512 .bf16) (xs : Vec Ideal S256x512 .f32) (w : Vec Ideal S256x128 .bf16) (x6 : Vec Ideal S1x1x1 .f32)
    (d : Fin 256) (e : Fin 512) : k0_pay2 x2 xs w x6 (ix2 d e) = k0_pay1 x2 xs w x6 (ix2 d e) := by
  pointwise [k0_pay2]

theorem pay3_apply (x2 : Vec Ideal S128x512 .bf16) (xs : Vec Ideal S256x512 .f32) (w : Vec Ideal S256x128 .bf16) (x6 : Vec Ideal S1x1x1 .f32)
    (d : Fin 256) (e : Fin 512) : k0_pay3 x2 xs w x6 (ix4 0 0 d e) = k0_pay1 x2 xs w x6 (ix2 d e) := by
  pointwise [k0_pay3]

theorem pay4_apply (d : Fin 256) (e : Fin 512) : k0_pay4 (F := Ideal) (ix2 d e) = (0 : EReal) := by
  pointwise [k0_pay4]

/-! ## The blocks -/

theorem index_rows : ∀ t : Fin cfg0.N, cc0_transform_0 (grid0.coords t) 0 = t.val / 256 * 64 + t.val % 64
    ∧ cc0_transform_0 (grid0.coords t) 1 = t.val / 64 % 4
    ∧ cc0_transform_1 (grid0.coords t) 1 = 4 + t.val / 64 % 4 :=
  (by decide +kernel : ∀ t : Fin grid0.N, cc0_transform_0 (grid0.coords t) 0 = t.val / 256 * 64 + t.val % 64
    ∧ cc0_transform_0 (grid0.coords t) 1 = t.val / 64 % 4
    ∧ cc0_transform_1 (grid0.coords t) 1 = 4 + t.val / 64 % 4)

theorem index_tab : ∀ t : Fin cfg0.N, cc0_transform_3 (grid0.coords t) 0 = t.val / 64 % 4
    ∧ cc0_transform_3 (grid0.coords t) 1 = 0 ∧ cc0_transform_3 (grid0.coords t) 2 = 0 :=
  (by decide +kernel : ∀ t : Fin grid0.N, cc0_transform_3 (grid0.coords t) 0 = t.val / 64 % 4
    ∧ cc0_transform_3 (grid0.coords t) 1 = 0 ∧ cc0_transform_3 (grid0.coords t) 2 = 0)

theorem index_state : ∀ t : Fin cfg0.N, cc0_transform_8 (grid0.coords t) 0 = t.val / 256 ∧ cc0_transform_8 (grid0.coords t) 1 = t.val / 64 % 4
    ∧ cc0_transform_8 (grid0.coords t) 2 = 0 ∧ cc0_transform_8 (grid0.coords t) 3 = 0 :=
  (by decide +kernel : ∀ t : Fin grid0.N, cc0_transform_8 (grid0.coords t) 0 = t.val / 256 ∧ cc0_transform_8 (grid0.coords t) 1 = t.val / 64 % 4
    ∧ cc0_transform_8 (grid0.coords t) 2 = 0 ∧ cc0_transform_8 (grid0.coords t) 3 = 0)

/-- The request and the head of a grid point; its chunk is the point's number modulo 64. -/
def bAt (t : ℕ) (ht : t < 512) : Fin 2 := ⟨t / 256, by omega⟩
def hAt (t : ℕ) : Fin 4 := ⟨t / 64 % 4, Nat.mod_lt _ (by decide)⟩

theorem lt512 (t : Fin cfg0.N) : t.val < 512 := t.isLt

abbrev bIx (t : Fin cfg0.N) : Fin 2 := bAt t.val (lt512 t)
abbrev hIx (t : Fin cfg0.N) : Fin 4 := hAt t.val

theorem row_block (t : Fin cfg0.N) (l : Fin 128) :
    (t.val / 256 * 64 + t.val % 64) * 128 + l.val = (Spec.row (bIx t) (t.val % 64) l).val := by
  show _ = t.val / 256 * 8192 + (t.val % 64 % 64) * 128 + l.val
  omega

theorem emb_q (t : Fin cfg0.N) (l : Fin 128) (d : Fin 256) : (win0_0.rect t).emb (ix2 l d) = ix2 (Spec.row (bIx t) (t.val % 64) l) (Spec.colQ (hIx t) d) := by
  have hi := index_rows t
  funext a
  refine Fin.ext ?_
  fin_cases a
  · refine (win0_0.rect_emb_val _ _ 0).trans ?_
    show cc0_transform_0 (grid0.coords t) 0 * 128 + l.val = _
    rw [hi.1]
    exact row_block t l
  · refine (win0_0.rect_emb_val _ _ 1).trans ?_
    show cc0_transform_0 (grid0.coords t) 1 * 256 + d.val = t.val / 64 % 4 * 256 + d.val
    rw [hi.2.1]

theorem emb_k (t : Fin cfg0.N) (l : Fin 128) (d : Fin 256) : (win0_1.rect t).emb (ix2 l d) = ix2 (Spec.row (bIx t) (t.val % 64) l) (Spec.colK (hIx t) d) := by
  have hi := index_rows t
  funext a
  refine Fin.ext ?_
  fin_cases a
  · refine (win0_1.rect_emb_val _ _ 0).trans ?_
    show cc0_transform_0 (grid0.coords t) 0 * 128 + l.val = _
    rw [hi.1]
    exact row_block t l
  · refine (win0_1.rect_emb_val _ _ 1).trans ?_
    show cc0_transform_1 (grid0.coords t) 1 * 256 + d.val = 1024 + (t.val / 64 % 4 * 256 + d.val)
    rw [hi.2.2]; omega

theorem emb_v (t : Fin cfg0.N) (l : Fin 128) (e : Fin 512) : (win0_2.rect t).emb (ix2 l e) = ix2 (Spec.row (bIx t) (t.val % 64) l) (Spec.colV (hIx t) e) := by
  have hi := index_rows t
  funext a
  refine Fin.ext ?_
  fin_cases a
  · refine (win0_2.rect_emb_val _ _ 0).trans ?_
    show cc0_transform_0 (grid0.coords t) 0 * 128 + l.val = _
    rw [hi.1]
    exact row_block t l
  · refine (win0_2.rect_emb_val _ _ 1).trans ?_
    show cc0_transform_1 (grid0.coords t) 1 * 512 + e.val = 2048 + (t.val / 64 % 4 * 512 + e.val)
    rw [hi.2.2]; omega

theorem emb_out (t : Fin cfg0.N) (l : Fin 128) (e : Fin 512) : (win0_7.rect t).emb (ix2 l e) = ix2 (Spec.row (bIx t) (t.val % 64) l) (Spec.colO (hIx t) e) := by
  have hi := index_rows t
  funext a
  refine Fin.ext ?_
  fin_cases a
  · refine (win0_7.rect_emb_val _ _ 0).trans ?_
    show cc0_transform_0 (grid0.coords t) 0 * 128 + l.val = _
    rw [hi.1]
    exact row_block t l
  · refine (win0_7.rect_emb_val _ _ 1).trans ?_
    show cc0_transform_0 (grid0.coords t) 1 * 512 + e.val = t.val / 64 % 4 * 512 + e.val
    rw [hi.2.1]

theorem emb_dec (t : Fin cfg0.N) (l k : Fin 128) : (win0_3.rect t).emb (ix3 (0 : Fin 1) l k) = ix3 (hIx t) l k := by
  have hi := index_tab t
  funext a
  refine Fin.ext ?_
  fin_cases a
  · refine (win0_3.rect_emb_val _ _ 0).trans ?_
    show cc0_transform_3 (grid0.coords t) 0 * 1 + 0 = t.val / 64 % 4
    rw [hi.1]; omega
  · refine (win0_3.rect_emb_val _ _ 1).trans ?_
    show cc0_transform_3 (grid0.coords t) 1 * 128 + l.val = l.val
    rw [hi.2.1]; omega
  · refine (win0_3.rect_emb_val _ _ 2).trans ?_
    show cc0_transform_3 (grid0.coords t) 2 * 128 + k.val = k.val
    rw [hi.2.2]; omega

theorem emb_pos (t : Fin cfg0.N) (l : Fin 128) : (win0_4.rect t).emb (ix3 (0 : Fin 1) l (0 : Fin 1)) = ix3 (hIx t) l (0 : Fin 1) := by
  have hi := index_tab t
  funext a
  refine Fin.ext ?_
  fin_cases a
  · refine (win0_4.rect_emb_val _ _ 0).trans ?_
    show cc0_transform_3 (grid0.coords t) 0 * 1 + 0 = t.val / 64 % 4
    rw [hi.1]; omega
  · refine (win0_4.rect_emb_val _ _ 1).trans ?_
    show cc0_transform_3 (grid0.coords t) 1 * 128 + l.val = l.val
    rw [hi.2.1]; omega
  · refine (win0_4.rect_emb_val _ _ 2).trans ?_
    show cc0_transform_3 (grid0.coords t) 2 * 1 + 0 = 0
    rw [hi.2.2]

theorem emb_over (t : Fin cfg0.N) : (win0_6.rect t).emb (ix3 (0 : Fin 1) (0 : Fin 1) (0 : Fin 1)) = ix3 (hIx t) (0 : Fin 1) (0 : Fin 1) := by
  have hi := index_tab t
  funext a
  refine Fin.ext ?_
  fin_cases a
  · refine (win0_6.rect_emb_val _ _ 0).trans ?_
    show cc0_transform_3 (grid0.coords t) 0 * 1 + 0 = t.val / 64 % 4
    rw [hi.1]; omega
  · refine (win0_6.rect_emb_val _ _ 1).trans ?_
    show cc0_transform_3 (grid0.coords t) 1 * 1 + 0 = 0
    rw [hi.2.1]
  · refine (win0_6.rect_emb_val _ _ 2).trans ?_
    show cc0_transform_3 (grid0.coords t) 2 * 1 + 0 = 0
    rw [hi.2.2]

theorem emb_state (t : Fin cfg0.N) (d : Fin 256) (e : Fin 512) : (win0_8.rect t).emb (ix4 (0 : Fin 1) (0 : Fin 1) d e) = ix4 (bIx t) (hIx t) d e := by
  have hi := index_state t
  funext a
  refine Fin.ext ?_
  fin_cases a
  · refine (win0_8.rect_emb_val _ _ 0).trans ?_
    show cc0_transform_8 (grid0.coords t) 0 * 1 + 0 = t.val / 256
    rw [hi.1]; omega
  · refine (win0_8.rect_emb_val _ _ 1).trans ?_
    show cc0_transform_8 (grid0.coords t) 1 * 1 + 0 = t.val / 64 % 4
    rw [hi.2.1]; omega
  · refine (win0_8.rect_emb_val _ _ 2).trans ?_
    show cc0_transform_8 (grid0.coords t) 2 * 256 + d.val = d.val
    rw [hi.2.2.1]; omega
  · refine (win0_8.rect_emb_val _ _ 3).trans ?_
    show cc0_transform_8 (grid0.coords t) 3 * 512 + e.val = e.val
    rw [hi.2.2.2]; omega

/-! ## The launch's operands -/

section
variable {F : FTy → Type} [FloatOps F]
variable (m : (ℓ : Loc nD τ sig) → Buf (Elt F) ℓ) (c : Dev nD) (s : Cert.ChunksReferenceIdeal.Step.State F)

/-- The tables, of the heads' logarithms `g` and the positions `p`. -/
def tabStart (g : Vec F S4 .f32) (p : Vec F S128 .f32) : Vec F S4x128x1 .f32 :=
  broadcastInDim S4x128x1 ![0, 1] bcast_S4x128_S4x128x1_0_1 (Host.exp (mulf
    (broadcastInDim S4x128 ![0, 1] bcast_S1x128_S4x128_0_1 (addf (broadcastInDim S1x128 ![1] bcast_S128_S1x128_1 p)
      (broadcastInDim S1x128 ![] bcast_S_S1x128 (constant S_ .f32 0x3F800000#32))))
    (broadcastInDim S4x128 ![0, 1] bcast_S4x1_S4x128_0_1 (broadcastInDim S4x1 ![0] bcast_S4_S4x1_0 g))))

def tabEnd (g : Vec F S4 .f32) (p : Vec F S128 .f32) : Vec F S4x128x1 .f32 :=
  broadcastInDim S4x128x1 ![0, 1] bcast_S4x128_S4x128x1_0_1 (Host.exp (mulf
    (broadcastInDim S4x128 ![0, 1] bcast_S1x128_S4x128_0_1 (broadcastInDim S1x128 ![1] bcast_S128_S1x128_1
      (subf (broadcastInDim S128 ![] bcast_S_S128 (constant S_ .f32 0x42FE0000#32)) p)))
    (broadcastInDim S4x128 ![0, 1] bcast_S4x1_S4x128_0_1 (broadcastInDim S4x1 ![0] bcast_S4_S4x1_0 g))))

def tabOver (x : Vec F S4 .f32) : Vec F S4x1x1 .f32 := broadcastInDim S4x1x1 ![0] bcast_S4_S4x1x1_0 x

theorem V_dec : (V m c main_v24 : Vec F S4x128x128 .f32) = Cert.ChunksReferenceIdeal.Step.b50 0 s := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_start : (V m c main_v33 : Vec F S4x128x1 .f32) = tabStart (Cert.ChunksReferenceIdeal.Step.b27 0 s) (Cert.ChunksReferenceIdeal.Step.b28 0 s) := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_end : (V m c main_v42 : Vec F S4x128x1 .f32) = tabEnd (Cert.ChunksReferenceIdeal.Step.b27 0 s) (Cert.ChunksReferenceIdeal.Step.b28 0 s) := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_over : (V m c main_v46 : Vec F S4x1x1 .f32) = tabOver (Cert.ChunksReferenceIdeal.Step.b84 0 s) := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl
end

section
open Cert.ChunksReferenceIdeal.Step

theorem tabStart_apply (h : Fin 4) (l : Fin 128) :
    tabStart (F := Ideal) (b27 0 Spec.s0) (b28 0 Spec.s0) (ix3 h l (0 : Fin 1)) = Spec.rs h l := by
  unfold Spec.rs
  pointwise [tabStart, b67, b66, b65, b64, b63, b62, b61, b60, b59]

theorem tabEnd_apply (h : Fin 4) (l : Fin 128) :
    tabEnd (F := Ideal) (b27 0 Spec.s0) (b28 0 Spec.s0) (ix3 h l (0 : Fin 1)) = Spec.wk h l := by
  unfold Spec.wk
  pointwise [tabEnd, b80, b79, b78, b77, b76, b75, b74, b73, b72]

theorem tabOver_apply (h : Fin 4) : tabOver (F := Ideal) (b84 0 Spec.s0) (ix3 h (0 : Fin 1) (0 : Fin 1)) = Spec.gl h := by
  unfold Spec.gl
  pointwise [tabOver]
end

/-- The projected queries, keys and values. -/
abbrev zArr : Vec Ideal S16384x6144 .f32 := m ((c : Thread nD τ).loc main_arg0)

theorem iblk_q (t : Fin cfg0.N) (l : Fin 128) (d : Fin 256) :
    (iblk m c 0 t : Vec Ideal S128x256 .f32) (ix2 l d) = Spec.zq (zArr m c) (bIx t) (t.val % 64) l (hIx t) d := by
  show (V m c main_arg0 : Vec Ideal S16384x6144 .f32) ((win0_0.rect t).emb (ix2 l d)) = _
  rw [emb_q, V_main_arg0]
  rfl

theorem iblk_k (t : Fin cfg0.N) (l : Fin 128) (d : Fin 256) :
    (iblk m c 1 t : Vec Ideal S128x256 .f32) (ix2 l d) = Spec.zk (zArr m c) (bIx t) (t.val % 64) l (hIx t) d := by
  show (V m c main_arg0 : Vec Ideal S16384x6144 .f32) ((win0_1.rect t).emb (ix2 l d)) = _
  rw [emb_k, V_main_arg0]
  rfl

theorem iblk_v (t : Fin cfg0.N) (l : Fin 128) (e : Fin 512) :
    (iblk m c 2 t : Vec Ideal S128x512 .f32) (ix2 l e) = Spec.zv (zArr m c) (bIx t) (t.val % 64) l (hIx t) e := by
  show (V m c main_arg0 : Vec Ideal S16384x6144 .f32) ((win0_2.rect t).emb (ix2 l e)) = _
  rw [emb_v, V_main_arg0]
  rfl

theorem iblk_dec (t : Fin cfg0.N) (l k : Fin 128) :
    (iblk m c 3 t : Vec Ideal S1x128x128 .f32) (ix3 0 l k) = Spec.dec (hIx t) l k := by
  show (V m c main_v24 : Vec Ideal S4x128x128 .f32) ((win0_3.rect t).emb (ix3 (0 : Fin 1) l k)) = _
  rw [emb_dec, V_dec m c Spec.s0]
  rfl

theorem iblk_start (t : Fin cfg0.N) (l : Fin 128) :
    (iblk m c 4 t : Vec Ideal S1x128x1 .f32) (ix3 0 l 0) = Spec.rs (hIx t) l := by
  show (V m c main_v33 : Vec Ideal S4x128x1 .f32) ((win0_4.rect t).emb (ix3 (0 : Fin 1) l (0 : Fin 1))) = _
  rw [emb_pos, V_start m c Spec.s0]
  exact tabStart_apply _ _

theorem iblk_end (t : Fin cfg0.N) (l : Fin 128) :
    (iblk m c 5 t : Vec Ideal S1x128x1 .f32) (ix3 0 l 0) = Spec.wk (hIx t) l := by
  show (V m c main_v42 : Vec Ideal S4x128x1 .f32) ((win0_4.rect t).emb (ix3 (0 : Fin 1) l (0 : Fin 1))) = _
  rw [emb_pos, V_end m c Spec.s0]
  exact tabEnd_apply _ _

theorem iblk_over (t : Fin cfg0.N) : (iblk m c 6 t : Vec Ideal S1x1x1 .f32) (ix3 0 0 0) = Spec.gl (hIx t) := by
  show (V m c main_v46 : Vec Ideal S4x1x1 .f32) ((win0_6.rect t).emb (ix3 (0 : Fin 1) (0 : Fin 1) (0 : Fin 1))) = _
  rw [emb_over, V_over m c Spec.s0]
  exact tabOver_apply _

/-! ## The carried state -/

section
variable (z : Vec Ideal S16384x6144 .f32) (n : ℕ) (b : Fin 2) (h : Fin 4)

theorem state_of (x1 : Vec Ideal S128x256 .f32) (x2 : Vec Ideal S128x512 .f32) (x5 : Vec Ideal S1x128x1 .f32)
    (x6 : Vec Ideal S1x1x1 .f32) (xs : Vec Ideal S256x512 .f32)
    (h1 : ∀ l d, x1 (ix2 l d) = Spec.zk z b n l h d) (h2 : ∀ l e, x2 (ix2 l e) = Spec.zv z b n l h e)
    (h5 : ∀ l, x5 (ix3 0 l 0) = Spec.wk h l) (h6 : x6 (ix3 0 0 0) = Spec.gl h)
    (hs : ∀ d e, xs (ix2 d e) = Spec.St z n b h d e) (d : Fin 256) (e : Fin 512) :
    k0_pay1 (k0_pay5 x2) xs (k0_pay7 x1 x5) x6 (ix2 d e) = Spec.St z (n + 1) b h d e := by
  rw [pay_state]
  simp only [h1, h2, h5, h6, hs]
  rfl

theorem out_of (x0 x1 : Vec Ideal S128x256 .f32) (x2 : Vec Ideal S128x512 .f32) (x3 : Vec Ideal S1x128x128 .f32) (x4 : Vec Ideal S1x128x1 .f32)
    (xs : Vec Ideal S256x512 .f32) (h0 : ∀ l d, x0 (ix2 l d) = Spec.zq z b n l h d)
    (h1 : ∀ l d, x1 (ix2 l d) = Spec.zk z b n l h d) (h2 : ∀ l e, x2 (ix2 l e) = Spec.zv z b n l h e)
    (h3 : ∀ l k, x3 (ix3 0 l k) = Spec.dec h l k) (h4 : ∀ l, x4 (ix3 0 l 0) = Spec.rs h l)
    (hs : ∀ d e, xs (ix2 d e) = Spec.St z n b h d e) (l : Fin 128) (e : Fin 512) :
    k0_pay6 x0 x1 x2 xs x3 x4 (ix2 l e) = Spec.Out z n b l h e := by
  rw [pay_out]
  simp only [h0, h1, h2, h3, h4, hs]
  rfl
end

/-- One point's new state, of the state it starts from. -/
theorem state_step (t : Fin cfg0.N) (xs : Vec Ideal S256x512 .f32)
    (hs : ∀ d e, xs (ix2 d e) = Spec.St (zArr m c) (t.val % 64) (bIx t) (hIx t) d e) (d : Fin 256) (e : Fin 512) :
    k0_pay1 (k0_pay5 (iblk m c 2 t)) xs (k0_pay7 (iblk m c 1 t) (iblk m c 5 t)) (iblk m c 6 t) (ix2 d e)
      = Spec.St (zArr m c) (t.val % 64 + 1) (bIx t) (hIx t) d e :=
  state_of (zArr m c) (t.val % 64) (bIx t) (hIx t) _ _ _ _ xs (iblk_k m c t) (iblk_v m c t) (iblk_end m c t) (iblk_over m c t) hs d e

/-- One point's output, of the state it starts from. -/
theorem out_step (t : Fin cfg0.N) (xs : Vec Ideal S256x512 .f32)
    (hs : ∀ d e, xs (ix2 d e) = Spec.St (zArr m c) (t.val % 64) (bIx t) (hIx t) d e) (l : Fin 128) (e : Fin 512) :
    k0_pay6 (iblk m c 0 t) (iblk m c 1 t) (iblk m c 2 t) xs (iblk m c 3 t) (iblk m c 4 t) (ix2 l e)
      = Spec.Out (zArr m c) (t.val % 64) (bIx t) l (hIx t) e :=
  out_of (zArr m c) (t.val % 64) (bIx t) (hIx t) _ _ _ _ _ xs (iblk_q m c t) (iblk_k m c t) (iblk_v m c t) (iblk_dec m c t) (iblk_start m c t) hs l e

theorem zero_state (t : Fin cfg0.N) (h0 : t.val % 64 = 0) (d : Fin 256) (e : Fin 512) :
    k0_pay4 (F := Ideal) (ix2 d e) = Spec.St (zArr m c) (t.val % 64) (bIx t) (hIx t) d e := by
  rw [pay4_apply, h0]
  rfl

theorem carried (n : ℕ) (hn : n < cfg0.N) (d : Fin 256) (e : Fin 512) :
    (outsAt0 m c n hn).2.2 (ix2 d e) = Spec.St (zArr m c) (n % 64 + 1) (bAt n hn) (hAt n) d e := by
  induction n generalizing d e with
  | zero =>
    rw [outs_A m c ⟨0, hn⟩ rfl (by show ¬ 0 % 64 = 63; decide), pay2_apply]
    exact state_step m c ⟨0, hn⟩ _ (zero_state m c ⟨0, hn⟩ rfl) d e
  | succ n ih =>
    by_cases h0 : (n + 1) % 64 = 0
    · rw [outs_A m c ⟨n + 1, hn⟩ h0 (by show ¬ (n + 1) % 64 = 63; omega), pay2_apply]
      exact state_step m c ⟨n + 1, hn⟩ _ (zero_state m c ⟨n + 1, hn⟩ h0) d e
    · have hlt : n < cfg0.N := Nat.lt_of_succ_lt hn
      have hN : n + 1 < 512 := hn
      have hs : ∀ d e, (outsAt0 m c n hlt).2.2 (ix2 d e)
          = Spec.St (zArr m c) ((n + 1) % 64) (bAt (n + 1) hn) (hAt (n + 1)) d e := fun d e => by
        rw [ih hlt d e]
        have e1 : n % 64 + 1 = (n + 1) % 64 := by omega
        have e2 : bAt n hlt = bAt (n + 1) hn := Fin.ext (by show n / 256 = (n + 1) / 256; omega)
        have e3 : hAt n = hAt (n + 1) := Fin.ext (by show n / 64 % 4 = (n + 1) / 64 % 4; omega)
        rw [e1, e2, e3]
      by_cases h1 : (n + 1) % 64 = 63
      · rw [outs_C m c ⟨n + 1, hn⟩ h0 h1, pay2_apply]
        exact state_step m c ⟨n + 1, hn⟩ _ hs d e
      · rw [outs_B m c ⟨n + 1, hn⟩ h0 h1, pay2_apply]
        exact state_step m c ⟨n + 1, hn⟩ _ hs d e

/-- The state a point that does not start a scan begins from. -/
theorem carried_in (t : Fin cfg0.N) (h0 : ¬t.val % 64 = 0) (hp : t.val - 1 < cfg0.N) (d : Fin 256) (e : Fin 512) :
    (outsAt0 m c (t.val - 1) hp).2.2 (ix2 d e) = Spec.St (zArr m c) (t.val % 64) (bIx t) (hIx t) d e := by
  have ht := lt512 t
  rw [carried m c (t.val - 1) hp d e]
  have e1 : (t.val - 1) % 64 + 1 = t.val % 64 := by omega
  have e2 : bAt (t.val - 1) hp = bIx t := Fin.ext (by show (t.val - 1) / 256 = t.val / 256; omega)
  have e3 : hAt (t.val - 1) = hIx t := Fin.ext (by show (t.val - 1) / 64 % 4 = t.val / 64 % 4; omega)
  rw [e1, e2, e3]

theorem out_at (t : Fin cfg0.N) (l : Fin 128) (e : Fin 512) :
    (outsAt0 m c t.val t.isLt).1 (ix2 l e) = Spec.Out (zArr m c) (t.val % 64) (bIx t) l (hIx t) e := by
  by_cases h0 : t.val % 64 = 0
  · rw [outs_A7 m c t h0 (by omega)]
    exact out_step m c t _ (zero_state m c t h0) l e
  · by_cases h1 : t.val % 64 = 63
    · rw [outs_C7 m c t h0 h1]
      exact out_step m c t _ (carried_in m c t h0 _) l e
    · rw [outs_B7 m c t h0 h1]
      exact out_step m c t _ (carried_in m c t h0 _) l e

theorem last_at (t : Fin cfg0.N) (h1 : t.val % 64 = 63) (d : Fin 256) (e : Fin 512) :
    (outsAt0 m c t.val t.isLt).2.1 (ix4 (0 : Fin 1) (0 : Fin 1) d e) = Spec.St (zArr m c) 64 (bIx t) (hIx t) d e := by
  have h0 : ¬t.val % 64 = 0 := by omega
  rw [outs_C8 m c t h0 h1, pay3_apply, state_step m c t _ (carried_in m c t h0 _) d e, h1]

/-! ## The results -/

def outArr : Vec Ideal S16384x2048 .f32 := Cert.ChunksReferenceIdeal.Step.R_main_v16 (Spec.itr (zArr m c) 64)
def stateArr : Vec Ideal S2x4x256x512 .f32 := (Spec.itr (zArr m c) 64).main_v14_4

theorem flushed_out (t : Fin cfg0.N) (hf : (cfg0.win 7).flush t = true) :
    (dats m 0 c).flushed 7 t = ((cfg0.win 7).blk t).view.read (Elt Ideal) (outArr m c) := by
  rw [Value.flushed7]
  funext y
  obtain ⟨l, e, rfl⟩ : ∃ (l : Fin 128) (e : Fin 512), y = ix2 l e := ⟨y 0, y 1, by
    funext a
    fin_cases a
    · rfl
    · rfl⟩
  show (outsAt0 m c t.val t.isLt).1 (ix2 l e) = outArr m c ((win0_7.rect t).emb (ix2 l e))
  rw [emb_out, out_at]
  unfold outArr
  exact (Spec.itr_result (zArr m c) ⟨t.val % 64, Nat.mod_lt _ (by decide)⟩ (bIx t) l (hIx t) e).symm

theorem flushed_state (t : Fin cfg0.N) (hf : (cfg0.win 8).flush t = true) :
    (dats m 0 c).flushed 8 t = ((cfg0.win 8).blk t).view.read (Elt Ideal) (stateArr m c) := by
  have h1 := (flush0_8 t).mp hf
  rw [Value.flushed8]
  funext y
  obtain ⟨d, e, rfl⟩ : ∃ (d : Fin 256) (e : Fin 512), y = ix4 (0 : Fin 1) (0 : Fin 1) d e := ⟨y 2, y 3, by
    funext a
    fin_cases a
    · exact Subsingleton.elim (α := Fin 1) _ _
    · exact Subsingleton.elim (α := Fin 1) _ _
    · rfl
    · rfl⟩
  show (outsAt0 m c t.val t.isLt).2.1 (ix4 (0 : Fin 1) (0 : Fin 1) d e)
    = stateArr m c ((win0_8.rect t).emb (ix4 (0 : Fin 1) (0 : Fin 1) d e))
  rw [emb_state, last_at m c t h1]
  exact (Spec.itr_state (zArr m c) 64 (Nat.le_refl _) (bIx t) (hIx t) d e).symm

theorem cover_out (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  obtain ⟨n, hn⟩ : ∃ n : ℕ, n = (i 0).val / 8192 * 256 + (i 1).val / 512 * 64 + (i 0).val % 8192 / 128 := ⟨_, rfl⟩
  have hlt : n < cfg0.N := by show n < 512; omega
  refine ⟨⟨n, hlt⟩, flush0_7 _, ?_⟩
  have e : ((cfg0.win 7).blk ⟨n, hlt⟩).view.emb (ix2 (⟨(i 0).val % 128, by omega⟩ : Fin 128) (⟨(i 1).val % 512, by omega⟩ : Fin 512)) = i := by
    refine (emb_out ⟨n, hlt⟩ _ _).trans ?_
    funext a
    refine Fin.ext ?_
    fin_cases a
    · show n / 256 * 8192 + (n % 64 % 64) * 128 + (i 0).val % 128 = (i 0).val; omega
    · show n / 64 % 4 * 512 + (i 1).val % 512 = (i 1).val; omega
  exact Eq.subst (motive := fun z => z ∈ ((cfg0.win 7).blk ⟨n, hlt⟩).view.set) e (View.emb_mem_set _ _)

theorem cover_state (i : S2x4x256x512.Idx) : ∃ t : Fin cfg0.N, (cfg0.win 8).flush t = true ∧ i ∈ ((cfg0.win 8).blk t).view.set := by
  have h0 : (i 0).val < 2 := (i 0).isLt
  have h1 : (i 1).val < 4 := (i 1).isLt
  have hlt : (i 0).val * 256 + (i 1).val * 64 + 63 < cfg0.N := by show _ < 512; omega
  refine ⟨⟨(i 0).val * 256 + (i 1).val * 64 + 63, hlt⟩, (flush0_8 _).mpr (by show ((i 0).val * 256 + (i 1).val * 64 + 63) % 64 = 63; omega), ?_⟩
  have e : ((cfg0.win 8).blk ⟨(i 0).val * 256 + (i 1).val * 64 + 63, hlt⟩).view.emb (ix4 (0 : Fin 1) (0 : Fin 1) (i 2 : Fin 256) (i 3 : Fin 512)) = i := by
    refine (emb_state ⟨(i 0).val * 256 + (i 1).val * 64 + 63, hlt⟩ (i 2) (i 3)).trans ?_
    funext a
    refine Fin.ext ?_
    fin_cases a
    · show ((i 0).val * 256 + (i 1).val * 64 + 63) / 256 = (i 0).val; omega
    · show ((i 0).val * 256 + (i 1).val * 64 + 63) / 64 % 4 = (i 1).val; omega
    · rfl
    · rfl
  exact Eq.subst (motive := fun z => z ∈ ((cfg0.win 8).blk ⟨(i 0).val * 256 + (i 1).val * 64 + 63, hlt⟩).view.set) e (View.emb_mem_set _ _)

theorem result_out : (dats m 0 c).arrAt 7 cfg0.N = outArr m c := (dats m 0 c).arrAt_eq_of_cover 7 (outArr m c) (flushed_out m c) cover_out
theorem result_state : (dats m 0 c).arrAt 8 cfg0.N = stateArr m c := (dats m 0 c).arrAt_eq_of_cover 8 (stateArr m c) (flushed_state m c) cover_state

/-- The program's run: the scan's output and last state, its argument kept. -/
theorem run_value (ρ : Dev nD → PrngReg) :
    θ_run defs (onTc (τ := τ) (main (F := Ideal))) ⟨m, fun _ => 0, ρ⟩ (fun r => ∀ c : Dev nD,
      r.2.mem ((c : Thread nD τ).loc main_v49_0) = outArr m c
      ∧ r.2.mem ((c : Thread nD τ).loc main_v49_1) = stateArr m c
      ∧ r.2.mem ((c : Thread nD τ).loc main_arg0) = m ((c : Thread nD τ).loc main_arg0)) :=
  (θ_run defs _ _).mono (fun _ h c => ⟨(h c).1.trans (result_out m c), (h c).2.1.trans (result_state m c), (h c).2.2⟩) (Value.run_blocks m ρ)

end Cert.ChunksIdeal.Ret

end
-- ==== Proof.Step.Spec.lean ====
/- The plain decode step, read by index: the new state and the output of one token. -/
module

public import proofs.«01_k».proof.Proof.Gen.StepReferenceIdeal.Read
public import Idealize.ShloMosaic.Lib.Pointwise

@[expose] public section

set_option maxRecDepth 16384

noncomputable section

namespace Cert.StepIdeal.Spec

open Cert.StepReferenceIdeal Cert.StepReferenceIdeal.Gen Cert.StepReferenceIdeal.Read
open Idealize.ShloMosaic Idealize.ShloMosaic.TcCoe

/-- The logarithm of a head's decay. -/
def lg (h : Fin 4) : EReal := val_main_v13 (F := Ideal) (ix1 h)

/-- A query element. -/
def zq (x1 : Vec Ideal S128x6144 .f32) (b : Fin 128) (h : Fin 4) (d : Fin 256) : EReal :=
  x1 (ix2 b ⟨h.val * 256 + d.val, by omega⟩)
/-- A key element. -/
def zk (x1 : Vec Ideal S128x6144 .f32) (b : Fin 128) (h : Fin 4) (d : Fin 256) : EReal :=
  x1 (ix2 b ⟨1024 + (h.val * 256 + d.val), by omega⟩)
/-- A value element. -/
def zv (x1 : Vec Ideal S128x6144 .f32) (b : Fin 128) (h : Fin 4) (e : Fin 512) : EReal :=
  x1 (ix2 b ⟨2048 + (h.val * 512 + e.val), by omega⟩)

/-- The new state. -/
def newState (x0 : Vec Ideal S128x4x256x512 .f32) (x1 : Vec Ideal S128x6144 .f32) (b : Fin 128) (h : Fin 4) (d : Fin 256) (e : Fin 512) : EReal :=
  Ideal.exp (lg h) * x0 (ix4 b h d e) + zk x1 b h d * zv x1 b h e

/-- The output. -/
def out (x0 : Vec Ideal S128x4x256x512 .f32) (x1 : Vec Ideal S128x6144 .f32) (b : Fin 128) (h : Fin 4) (e : Fin 512) : EReal :=
  (∑ d : Fin 256, zq x1 b h d * zk x1 b h d) * zv x1 b h e + (∑ d : Fin 256, zq x1 b h d * x0 (ix4 b h d e)) * Ideal.exp (lg h)

theorem one_f32 : Ideal.ofBits .f32 0x3F800000#32 = 1 := by
  simp [Ideal.ofBits, Ideal.ieee, -EReal.coe_mul]
  norm_num

theorem exp_zero : Ideal.exp (0 : EReal) = 1 := by
  show ((Real.exp 0 : ℝ) : EReal) = 1
  rw [Real.exp_zero, EReal.coe_one]

variable (x0 : Vec Ideal S128x4x256x512 .f32) (x1 : Vec Ideal S128x6144 .f32)

theorem v1_apply (b : Fin 128) (h : Fin 4) (d : Fin 256) (i : S128x1x4x256.Idx) (h0 : (i 0).val = b.val) (h2 : (i 2).val = h.val)
    (h3 : (i 3).val = d.val) : val_main_v1 (F := Ideal) x1 i = zq x1 b h d := by
  have h1 : (i 1).val < 1 := (i 1).isLt
  rw [val_main_v1_apply, val_main_v0_apply]
  refine congrArg x1 (funext fun a => Fin.ext ?_)
  match a with
  | ⟨0, _⟩ => show ((((i 0).val * 1 + (i 1).val) * 4 + (i 2).val) * 256 + (i 3).val) / 1024 = b.val; omega
  | ⟨1, _⟩ => show ((((i 0).val * 1 + (i 1).val) * 4 + (i 2).val) * 256 + (i 3).val) % 1024 = h.val * 256 + d.val; omega

theorem v3_apply (b : Fin 128) (h : Fin 4) (d : Fin 256) (i : S128x1x4x256.Idx) (h0 : (i 0).val = b.val) (h2 : (i 2).val = h.val)
    (h3 : (i 3).val = d.val) : val_main_v3 (F := Ideal) x1 i = zk x1 b h d := by
  have h1 : (i 1).val < 1 := (i 1).isLt
  rw [val_main_v3_apply, val_main_v2_apply]
  refine congrArg x1 (funext fun a => Fin.ext ?_)
  match a with
  | ⟨0, _⟩ => show ((((i 0).val * 1 + (i 1).val) * 4 + (i 2).val) * 256 + (i 3).val) / 1024 = b.val; omega
  | ⟨1, _⟩ => show 1024 + ((((i 0).val * 1 + (i 1).val) * 4 + (i 2).val) * 256 + (i 3).val) % 1024 = 1024 + (h.val * 256 + d.val); omega

theorem v5_apply (b : Fin 128) (h : Fin 4) (e : Fin 512) (i : S128x1x4x512.Idx) (h0 : (i 0).val = b.val) (h2 : (i 2).val = h.val)
    (h3 : (i 3).val = e.val) : val_main_v5 (F := Ideal) x1 i = zv x1 b h e := by
  have h1 : (i 1).val < 1 := (i 1).isLt
  rw [val_main_v5_apply, val_main_v4_apply]
  refine congrArg x1 (funext fun a => Fin.ext ?_)
  match a with
  | ⟨0, _⟩ => show ((((i 0).val * 1 + (i 1).val) * 4 + (i 2).val) * 512 + (i 3).val) / 2048 = b.val; omega
  | ⟨1, _⟩ => show 2048 + ((((i 0).val * 1 + (i 1).val) * 4 + (i 2).val) * 512 + (i 3).val) % 2048 = 2048 + (h.val * 512 + e.val); omega

theorem iota_zero (i : S1.Idx) : val_main_v14 (F := Ideal) i = (0 : EReal) := by
  have hi : (i 0).val < 1 := (i 0).isLt
  show (((BitVec.ofNat 32 (i 0).val).toInt : ℝ) : EReal) = 0
  rw [show (i 0).val = 0 by omega]
  simp

theorem decay_one (i : S4x1x1.Idx) : val_main_v27 (F := Ideal) i = (1 : EReal) := by
  have e17 : ∀ j, val_main_v17 (F := Ideal) j = (0 : EReal) := fun j => by
    rw [val_main_v17_apply, val_main_v15_apply, val_main_v16_apply, iota_zero]
    try rw [iota_zero]
    show (0 : EReal) - 0 = 0
    simp
  rw [val_main_v27_apply, val_main_call0_v1_apply, val_main_v19_apply, e17, val_main_v18_apply, val_main_cst_1_apply, val_main_v26_apply,
    val_main_v25_apply, val_main_v24_apply, val_main_v22_apply, val_main_v21_apply, e17, val_main_v20_apply, val_main_cst_2_apply]
  show Scalar.select (BitVec.ofBool (decide (Ideal.ofBits .f32 0x00000000#32 ≤ (0 : EReal)))) (Ideal.exp (max 0 (Ideal.ofBits .f32 0x00000000#32) * _)) _ = _
  rw [Ideal.ofBits_zero_f32]
  simp [Scalar.select, exp_zero]

theorem weight_one (i : S128x1x4x256.Idx) : val_main_v61 (F := Ideal) i = (1 : EReal) := by
  rw [val_main_v61_apply, val_main_v60_apply, val_main_v53_apply, val_main_v52_apply, val_main_v51_apply, val_main_v49_apply,
    val_main_v48_apply, val_main_v47_apply, val_main_cst_5_apply, iota_zero]
  show Ideal.exp ((Ideal.ofBits .f32 0x00000000#32 - 0) * _) = 1
  rw [Ideal.ofBits_zero_f32]
  simp [exp_zero]

theorem v44_apply (h : Fin 4) (i : S128x1x4x512.Idx) (h2 : (i 2).val = h.val) : val_main_v44 (F := Ideal) i = Ideal.exp (lg h) := by
  rw [val_main_v44_apply, val_main_v43_apply, val_main_v42_apply, val_main_v41_apply, val_main_v40_apply, val_main_v38_apply,
    val_main_v36_apply, iota_zero, val_main_v37_apply, val_main_cst_4_apply, val_main_v39_apply]
  show Ideal.exp ((0 + Ideal.ofBits .f32 0x3F800000#32) * _) = _
  rw [one_f32, zero_add, one_mul]
  refine congrArg Ideal.exp (congrArg (val_main_v13 (F := Ideal)) (funext fun a => Fin.ext ?_))
  match a with
  | ⟨0, _⟩ => exact h2

theorem v58_apply (h : Fin 4) (i : S128x4x256x512.Idx) (h1 : (i 1).val = h.val) : val_main_v58 (F := Ideal) i = Ideal.exp (lg h) := by
  rw [val_main_v58_apply, val_main_v57_apply, val_main_v56_apply, val_main_v55_apply, val_main_v54_apply, val_main_cst_6_apply]
  show Ideal.exp (Ideal.ofBits .f32 0x3F800000#32 * _) = _
  rw [one_f32, one_mul]
  refine congrArg Ideal.exp (congrArg (val_main_v13 (F := Ideal)) (funext fun a => Fin.ext ?_))
  match a with
  | ⟨0, _⟩ => exact h1

theorem state_apply (b : Fin 128) (h : Fin 4) (d : Fin 256) (e : Fin 512) :
    val_main_v64 (F := Ideal) x0 x1 (ix4 b h d e) = newState x0 x1 b h d e := by
  rw [val_main_v64_apply, val_main_v59_apply, v58_apply h _ rfl, val_main_v63_apply, Fin.sum_univ_one, val_main_v62_apply, weight_one,
    v3_apply x1 b h d _ rfl rfl rfl, v5_apply x1 b h e _ rfl rfl rfl]
  show Ideal.exp (lg h) * x0 (ix4 b h d e) + zk x1 b h d * 1 * zv x1 b h e = _
  rw [mul_one]
  rfl

theorem out_apply (b : Fin 128) (h : Fin 4) (e : Fin 512) :
    val_main_v65 (F := Ideal) x0 x1 (ix4 b h (0 : Fin 1) e) = out x0 x1 b h e := by
  rw [val_main_v65_apply, val_main_v46_apply, val_main_v33_apply, val_main_v32_apply, Fin.sum_univ_one, val_main_v31_apply,
    val_main_v30_apply, val_main_v29_apply, decay_one, val_main_v28_apply, v5_apply x1 b h e _ rfl rfl rfl, val_main_v45_apply,
    v44_apply h _ rfl, val_main_v35_apply, val_main_v34_apply]
  have e1 : (∑ k : Fin 256, val_main_v1 (F := Ideal) x1 (lidx_main_v28 (ridx_main_v32 (idx_main_v33 (idx_main_v65 (ix4 b h (0 : Fin 1) e))) 0) k)
      * val_main_v3 (F := Ideal) x1 (ridx_main_v28 (ridx_main_v32 (idx_main_v33 (idx_main_v65 (ix4 b h (0 : Fin 1) e))) 0) k) : EReal)
      = ∑ d, zq x1 b h d * zk x1 b h d := Finset.sum_congr rfl fun d _ =>
    congrArg₂ (· * ·) (v1_apply x1 b h d _ rfl rfl rfl) (v3_apply x1 b h d _ rfl rfl rfl)
  have e2 : (∑ k : Fin 256, x0 (lidx_main_v34 (idx_main_v35 (idx_main_v65 (ix4 b h (0 : Fin 1) e))) k)
      * val_main_v1 (F := Ideal) x1 (ridx_main_v34 (idx_main_v35 (idx_main_v65 (ix4 b h (0 : Fin 1) e))) k) : EReal)
      = ∑ d, zq x1 b h d * x0 (ix4 b h d e) := Finset.sum_congr rfl fun d _ => by
    rw [v1_apply x1 b h d _ rfl rfl rfl, mul_comm]
    refine congrArg (fun t => zq x1 b h d * x0 t) (funext fun a => ?_)
    match a with
    | ⟨0, _⟩ => rfl
    | ⟨1, _⟩ => rfl
    | ⟨2, _⟩ => rfl
    | ⟨3, _⟩ => rfl
  refine Eq.trans (congrArg₂ (· + ·) (congrArg (fun t => zv x1 b h e * (t * 1)) e1) (congrArg (fun t => t * Ideal.exp (lg h)) e2)) ?_
  show zv x1 b h e * ((∑ d, zq x1 b h d * zk x1 b h d) * 1) + (∑ d, zq x1 b h d * x0 (ix4 b h d e)) * Ideal.exp (lg h) = _
  rw [mul_one, mul_comm (zv x1 b h e)]
  rfl

end Cert.StepIdeal.Spec

end
-- ==== Proof.Step.Value.lean ====
/- The decode step's kernel: what each grid point writes is the plain step's block, and the blocks cover both results. -/
module

public import proofs.«01_k».proof.Proof.Step.Spec
public import proofs.«01_k».proof.Proof.Gen.StepIdeal.Value
public import Idealize.ShloMosaic.Lib.Claim

@[expose] public section

set_option maxRecDepth 16384

noncomputable section

namespace Cert.StepIdeal.Ret

open Cert.StepIdeal Cert.StepIdeal.Gen
open Idealize.ShloMosaic Idealize.ShloMosaic.TcCoe Idealize.ShloMosaic.Tactic
open Idealize.SL Idealize.SL.Sem
open Idealize.ShloMosaic.Pipeline (Dat Cfg Window)

/-! ## The body, read by index -/

theorem pay_state (x0 : Vec Ideal S1x1x256x512 .f32) (x2 : Vec Ideal S1x1x256x1 .f32) (x3 : Vec Ideal S1x1x1x512 .f32)
    (x4 : Vec Ideal S1x1x1 .f32) (d : Fin 256) (e : Fin 512) :
    k0_pay1 (k0_pay7 x0 x2 x3 x4) (ix4 (0 : Fin 1) (0 : Fin 1) d e)
      = (x4 (ix3 0 0 0) * x0 (ix4 0 0 d e) + x2 (ix4 0 0 d 0) * x3 (ix4 0 0 0 e) : EReal) := by
  pointwise [k0_pay1, k0_pay7, k0_pay2, k0_pay3, k0_pay4, k0_pay5]

theorem pay_out (x0 : Vec Ideal S1x1x256x512 .f32) (x1 : Vec Ideal S1x1x256x1 .f32) (x2 : Vec Ideal S1x1x256x1 .f32) (x3 : Vec Ideal S1x1x1x512 .f32)
    (x4 : Vec Ideal S1x1x1 .f32) (e : Fin 512) :
    k0_pay6 x0 x1 x2 x3 x4 (ix4 (0 : Fin 1) (0 : Fin 1) (0 : Fin 1) e)
      = ((∑ d : Fin 256, x1 (ix4 0 0 d 0) * x2 (ix4 0 0 d 0)) * x3 (ix4 0 0 0 e)
        + (∑ d : Fin 256, x1 (ix4 0 0 d 0) * x0 (ix4 0 0 d e)) * x4 (ix3 0 0 0) : EReal) := by
  pointwise [k0_pay6, k0_pay2, k0_pay3, k0_pay4, k0_pay5]

theorem out5_eq (x0 : Vec Ideal S1x1x256x512 .f32) (x1 : Vec Ideal S1x1x256x1 .f32) (x2 : Vec Ideal S1x1x256x1 .f32) (x3 : Vec Ideal S1x1x1x512 .f32)
    (x4 : Vec Ideal S1x1x1 .f32) : out0_5 x0 x1 x2 x3 x4 = k0_pay6 x0 x1 x2 x3 x4 := by
  have z4 : (![0, 0, 0, 0] : Fin 4 → ℕ) = fun _ => 0 := by funext a; fin_cases a <;> rfl
  have z3 : (![0, 0, 0] : Fin 3 → ℕ) = fun _ => 0 := by funext a; fin_cases a <;> rfl
  have l0 : View.ld x0 r0_0 = x0 := View.ld_unit_zero z4 _ _
  have l1 : View.ld x1 r0_1 = x1 := View.ld_unit_zero z4 _ _
  have l2 : View.ld x2 r0_1 = x2 := View.ld_unit_zero z4 _ _
  have l3 : View.ld x3 r0_2 = x3 := View.ld_unit_zero z4 _ _
  have l4 : View.ld x4 r0_3 = x4 := View.ld_unit_zero z3 _ _
  unfold out0_5
  rw [l0, l1, l2, l3, l4]
  exact View.canon_unit_zero z4 _ _

theorem out6_eq (x0 : Vec Ideal S1x1x256x512 .f32) (x1 : Vec Ideal S1x1x256x1 .f32) (x2 : Vec Ideal S1x1x256x1 .f32) (x3 : Vec Ideal S1x1x1x512 .f32)
    (x4 : Vec Ideal S1x1x1 .f32) : out0_6 x0 x1 x2 x3 x4 = k0_pay1 (k0_pay7 x0 x2 x3 x4) := by
  have z4 : (![0, 0, 0, 0] : Fin 4 → ℕ) = fun _ => 0 := by funext a; fin_cases a <;> rfl
  have z3 : (![0, 0, 0] : Fin 3 → ℕ) = fun _ => 0 := by funext a; fin_cases a <;> rfl
  have l0 : View.ld x0 r0_0 = x0 := View.ld_unit_zero z4 _ _
  have l2 : View.ld x2 r0_1 = x2 := View.ld_unit_zero z4 _ _
  have l3 : View.ld x3 r0_2 = x3 := View.ld_unit_zero z4 _ _
  have l4 : View.ld x4 r0_3 = x4 := View.ld_unit_zero z3 _ _
  unfold out0_6
  rw [l0, l2, l3, l4]
  exact View.canon_unit_zero z4 _ _

/-! ## The blocks -/

theorem index_4d : ∀ t : Fin cfg0.N, cc0_transform_0 (grid0.coords t) 0 = t.val / 4 ∧ cc0_transform_0 (grid0.coords t) 1 = t.val % 4
    ∧ cc0_transform_0 (grid0.coords t) 2 = 0 ∧ cc0_transform_0 (grid0.coords t) 3 = 0 :=
  (by decide +kernel : ∀ t : Fin grid0.N, cc0_transform_0 (grid0.coords t) 0 = t.val / 4 ∧ cc0_transform_0 (grid0.coords t) 1 = t.val % 4
    ∧ cc0_transform_0 (grid0.coords t) 2 = 0 ∧ cc0_transform_0 (grid0.coords t) 3 = 0)

theorem index_3d : ∀ t : Fin cfg0.N, cc0_transform_4 (grid0.coords t) 0 = t.val % 4 ∧ cc0_transform_4 (grid0.coords t) 1 = 0
    ∧ cc0_transform_4 (grid0.coords t) 2 = 0 :=
  (by decide +kernel : ∀ t : Fin grid0.N, cc0_transform_4 (grid0.coords t) 0 = t.val % 4 ∧ cc0_transform_4 (grid0.coords t) 1 = 0
    ∧ cc0_transform_4 (grid0.coords t) 2 = 0)

theorem N_eq : cfg0.N = 512 := rfl

/-- The token and the head of a grid point. -/
abbrev bIx (t : Fin cfg0.N) : Fin 128 := ⟨t.val / 4, by have h : t.val < 512 := t.isLt; omega⟩
abbrev hIx (t : Fin cfg0.N) : Fin 4 := ⟨t.val % 4, Nat.mod_lt _ (by decide)⟩

theorem emb_state (t : Fin cfg0.N) (d : Fin 256) (e : Fin 512) : (win0_0.rect t).emb (ix4 (0 : Fin 1) (0 : Fin 1) d e) = ix4 (bIx t) (hIx t) d e := by
  have hi := index_4d t
  funext a
  refine Fin.ext ?_
  fin_cases a
  · refine (win0_0.rect_emb_val _ _ 0).trans ?_
    show cc0_transform_0 (grid0.coords t) 0 * 1 + 0 = t.val / 4
    rw [hi.1]; omega
  · refine (win0_0.rect_emb_val _ _ 1).trans ?_
    show cc0_transform_0 (grid0.coords t) 1 * 1 + 0 = t.val % 4
    rw [hi.2.1]; omega
  · refine (win0_0.rect_emb_val _ _ 2).trans ?_
    show cc0_transform_0 (grid0.coords t) 2 * 256 + d.val = d.val
    rw [hi.2.2.1]; omega
  · refine (win0_0.rect_emb_val _ _ 3).trans ?_
    show cc0_transform_0 (grid0.coords t) 3 * 512 + e.val = e.val
    rw [hi.2.2.2]; omega

theorem emb_col (t : Fin cfg0.N) (d : Fin 256) : (win0_1.rect t).emb (ix4 (0 : Fin 1) (0 : Fin 1) d (0 : Fin 1)) = ix4 (bIx t) (hIx t) d (0 : Fin 1) := by
  have hi := index_4d t
  funext a
  refine Fin.ext ?_
  fin_cases a
  · refine (win0_1.rect_emb_val _ _ 0).trans ?_
    show cc0_transform_0 (grid0.coords t) 0 * 1 + 0 = t.val / 4
    rw [hi.1]; omega
  · refine (win0_1.rect_emb_val _ _ 1).trans ?_
    show cc0_transform_0 (grid0.coords t) 1 * 1 + 0 = t.val % 4
    rw [hi.2.1]; omega
  · refine (win0_1.rect_emb_val _ _ 2).trans ?_
    show cc0_transform_0 (grid0.coords t) 2 * 256 + d.val = d.val
    rw [hi.2.2.1]; omega
  · refine (win0_1.rect_emb_val _ _ 3).trans ?_
    show cc0_transform_0 (grid0.coords t) 3 * 1 + 0 = 0
    rw [hi.2.2.2]

theorem emb_row (t : Fin cfg0.N) (e : Fin 512) : (win0_3.rect t).emb (ix4 (0 : Fin 1) (0 : Fin 1) (0 : Fin 1) e) = ix4 (bIx t) (hIx t) (0 : Fin 1) e := by
  have hi := index_4d t
  funext a
  refine Fin.ext ?_
  fin_cases a
  · refine (win0_3.rect_emb_val _ _ 0).trans ?_
    show cc0_transform_0 (grid0.coords t) 0 * 1 + 0 = t.val / 4
    rw [hi.1]; omega
  · refine (win0_3.rect_emb_val _ _ 1).trans ?_
    show cc0_transform_0 (grid0.coords t) 1 * 1 + 0 = t.val % 4
    rw [hi.2.1]; omega
  · refine (win0_3.rect_emb_val _ _ 2).trans ?_
    show cc0_transform_0 (grid0.coords t) 2 * 1 + 0 = 0
    rw [hi.2.2.1]
  · refine (win0_3.rect_emb_val _ _ 3).trans ?_
    show cc0_transform_0 (grid0.coords t) 3 * 512 + e.val = e.val
    rw [hi.2.2.2]; omega

theorem emb_gamma (t : Fin cfg0.N) : (win0_4.rect t).emb (ix3 (0 : Fin 1) (0 : Fin 1) (0 : Fin 1)) = ix3 (hIx t) (0 : Fin 1) (0 : Fin 1) := by
  have hi := index_3d t
  funext a
  refine Fin.ext ?_
  fin_cases a
  · refine (win0_4.rect_emb_val _ _ 0).trans ?_
    show cc0_transform_4 (grid0.coords t) 0 * 1 + 0 = t.val % 4
    rw [hi.1]; omega
  · refine (win0_4.rect_emb_val _ _ 1).trans ?_
    show cc0_transform_4 (grid0.coords t) 1 * 1 + 0 = 0
    rw [hi.2.1]
  · refine (win0_4.rect_emb_val _ _ 2).trans ?_
    show cc0_transform_4 (grid0.coords t) 2 * 1 + 0 = 0
    rw [hi.2.2]

/-! ## The launch's operands -/

section
variable {F : FTy → Type} [FloatOps F]
variable (m : (ℓ : Loc nD τ sig) → Buf (Elt F) ℓ) (c : Dev nD)

theorem V_q : (V m c main_v50 : Vec F S128x4x256x1 .f32) = shapeCast _ (extractStridedSlice S128x1024 ![0, 0] (m ((c : Thread nD τ).loc main_arg1)) slices_S128x6144_S128x1024_0_0)
    shapeCasts_S128x1024_S128x4x256x1 := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_k : (V m c main_v52 : Vec F S128x4x256x1 .f32) = shapeCast _ (extractStridedSlice S128x1024 ![0, 1024] (m ((c : Thread nD τ).loc main_arg1)) slices_S128x6144_S128x1024_0_1024)
    shapeCasts_S128x1024_S128x4x256x1 := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_v : (V m c main_v54 : Vec F S128x4x1x512 .f32) = shapeCast _ (extractStridedSlice S128x2048 ![0, 2048] (m ((c : Thread nD τ).loc main_arg1)) slices_S128x6144_S128x2048_0_2048)
    shapeCasts_S128x2048_S128x4x1x512 := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl

theorem V_g : (V m c main_v48 : Vec F S4x1x1 .f32) = broadcastInDim S4x1x1 ![0] bcast_S4_S4x1x1_0 (Host.exp (Cert.StepReferenceIdeal.Read.val_main_v13 (F := F))) := by
  unfold_abbrev_sides
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results
  rfl
end

variable (m : (ℓ : Loc nD τ sig) → Buf (Elt Ideal) ℓ) (c : Dev nD)

/-- The state and the projected token. -/
abbrev arg0 : Vec Ideal S128x4x256x512 .f32 := m ((c : Thread nD τ).loc main_arg0)
abbrev arg1 : Vec Ideal S128x6144 .f32 := m ((c : Thread nD τ).loc main_arg1)

theorem iblk_s (t : Fin cfg0.N) (d : Fin 256) (e : Fin 512) :
    (iblk m c 0 t : Vec Ideal S1x1x256x512 .f32) (ix4 0 0 d e) = arg0 m c (ix4 (bIx t) (hIx t) d e) := by
  show (V m c main_arg0 : Vec Ideal S128x4x256x512 .f32) ((win0_0.rect t).emb (ix4 (0 : Fin 1) (0 : Fin 1) d e)) = _
  rw [emb_state, V_main_arg0]

theorem iblk_q (t : Fin cfg0.N) (d : Fin 256) :
    (iblk m c 1 t : Vec Ideal S1x1x256x1 .f32) (ix4 0 0 d 0) = Spec.zq (arg1 m c) (bIx t) (hIx t) d := by
  show (V m c main_v50 : Vec Ideal S128x4x256x1 .f32) ((win0_1.rect t).emb (ix4 (0 : Fin 1) (0 : Fin 1) d (0 : Fin 1))) = _
  rw [emb_col, V_q]
  have hd := d.isLt
  have ht : t.val < 512 := t.isLt
  refine (shapeCast_apply _ shapeCasts_S128x1024_S128x4x256x1 _ (ix2 (bIx t) (⟨t.val % 4 * 256 + d.val, by omega⟩ : Fin 1024)) (by
    rewrite [Shape.rowMajor_val_four, Shape.rowMajor_val_two]
    show t.val / 4 * 1024 + (t.val % 4 * 256 + d.val) = ((t.val / 4 * 4 + t.val % 4) * 256 + d.val) * 1 + 0
    omega)).trans ?_
  refine (extractStridedSlice_apply ![0, 0] (arg1 m c) slices_S128x6144_S128x1024_0_0 _ (ix2 (bIx t) (⟨t.val % 4 * 256 + d.val, by omega⟩ : Fin 6144)) (fun a => match a with
    | ⟨0, _⟩ => by show t.val / 4 = 0 + t.val / 4; omega
    | ⟨1, _⟩ => by show t.val % 4 * 256 + d.val = 0 + (t.val % 4 * 256 + d.val); omega)).trans rfl

theorem iblk_k (t : Fin cfg0.N) (d : Fin 256) :
    (iblk m c 2 t : Vec Ideal S1x1x256x1 .f32) (ix4 0 0 d 0) = Spec.zk (arg1 m c) (bIx t) (hIx t) d := by
  show (V m c main_v52 : Vec Ideal S128x4x256x1 .f32) ((win0_1.rect t).emb (ix4 (0 : Fin 1) (0 : Fin 1) d (0 : Fin 1))) = _
  rw [emb_col, V_k]
  have hd := d.isLt
  have ht : t.val < 512 := t.isLt
  refine (shapeCast_apply _ shapeCasts_S128x1024_S128x4x256x1 _ (ix2 (bIx t) (⟨t.val % 4 * 256 + d.val, by omega⟩ : Fin 1024)) (by
    rewrite [Shape.rowMajor_val_four, Shape.rowMajor_val_two]
    show t.val / 4 * 1024 + (t.val % 4 * 256 + d.val) = ((t.val / 4 * 4 + t.val % 4) * 256 + d.val) * 1 + 0
    omega)).trans ?_
  refine (extractStridedSlice_apply ![0, 1024] (arg1 m c) slices_S128x6144_S128x1024_0_1024 _ (ix2 (bIx t) (⟨1024 + (t.val % 4 * 256 + d.val), by omega⟩ : Fin 6144)) (fun a => match a with
    | ⟨0, _⟩ => by show t.val / 4 = 0 + t.val / 4; omega
    | ⟨1, _⟩ => by show 1024 + (t.val % 4 * 256 + d.val) = 1024 + (t.val % 4 * 256 + d.val); omega)).trans rfl

theorem iblk_v (t : Fin cfg0.N) (e : Fin 512) :
    (iblk m c 3 t : Vec Ideal S1x1x1x512 .f32) (ix4 0 0 0 e) = Spec.zv (arg1 m c) (bIx t) (hIx t) e := by
  show (V m c main_v54 : Vec Ideal S128x4x1x512 .f32) ((win0_3.rect t).emb (ix4 (0 : Fin 1) (0 : Fin 1) (0 : Fin 1) e)) = _
  rw [emb_row, V_v]
  have he := e.isLt
  have ht : t.val < 512 := t.isLt
  refine (shapeCast_apply _ shapeCasts_S128x2048_S128x4x1x512 _ (ix2 (bIx t) (⟨t.val % 4 * 512 + e.val, by omega⟩ : Fin 2048)) (by
    rewrite [Shape.rowMajor_val_four, Shape.rowMajor_val_two]
    show t.val / 4 * 2048 + (t.val % 4 * 512 + e.val) = ((t.val / 4 * 4 + t.val % 4) * 1 + 0) * 512 + e.val
    omega)).trans ?_
  refine (extractStridedSlice_apply ![0, 2048] (arg1 m c) slices_S128x6144_S128x2048_0_2048 _ (ix2 (bIx t) (⟨2048 + (t.val % 4 * 512 + e.val), by omega⟩ : Fin 6144)) (fun a => match a with
    | ⟨0, _⟩ => by show t.val / 4 = 0 + t.val / 4; omega
    | ⟨1, _⟩ => by show 2048 + (t.val % 4 * 512 + e.val) = 2048 + (t.val % 4 * 512 + e.val); omega)).trans rfl

theorem iblk_g (t : Fin cfg0.N) : (iblk m c 4 t : Vec Ideal S1x1x1 .f32) (ix3 0 0 0) = Ideal.exp (Spec.lg (hIx t)) := by
  show (V m c main_v48 : Vec Ideal S4x1x1 .f32) ((win0_4.rect t).emb (ix3 (0 : Fin 1) (0 : Fin 1) (0 : Fin 1))) = _
  rw [emb_gamma, V_g]
  exact (broadcastInDim_apply _ bcast_S4_S4x1x1_0 _ (ix3 (hIx t) (0 : Fin 1) (0 : Fin 1)) (ix1 (hIx t)) (fun a => match a with
    | ⟨0, _⟩ => by show t.val % 4 = if (4 : Nat) = 1 then 0 else t.val % 4; rw [if_neg (by decide)])).trans rfl

/-! ## The results -/

def outArr : Vec Ideal S128x4x1x512 .f32 := Cert.StepReferenceIdeal.Read.val_main_v65 (F := Ideal) (arg0 m c) (arg1 m c)
def stateArr : Vec Ideal S128x4x256x512 .f32 := Cert.StepReferenceIdeal.Read.val_main_v64 (F := Ideal) (arg0 m c) (arg1 m c)

theorem flushed_out (t : Fin cfg0.N) (hf : (cfg0.win 5).flush t = true) :
    (dats m 0 c).flushed 5 t = ((cfg0.win 5).blk t).view.read (Elt Ideal) (outArr m c) := by
  rw [Value.flushed5]
  funext y
  obtain ⟨e, rfl⟩ : ∃ e : Fin 512, y = ix4 (0 : Fin 1) (0 : Fin 1) (0 : Fin 1) e := ⟨y 3, by
    funext a
    fin_cases a
    · exact Subsingleton.elim (α := Fin 1) _ _
    · exact Subsingleton.elim (α := Fin 1) _ _
    · exact Subsingleton.elim (α := Fin 1) _ _
    · rfl⟩
  show out0_5 (iblk m c 0 t) (iblk m c 1 t) (iblk m c 2 t) (iblk m c 3 t) (iblk m c 4 t) (ix4 (0 : Fin 1) (0 : Fin 1) (0 : Fin 1) e)
    = outArr m c ((win0_3.rect t).emb (ix4 (0 : Fin 1) (0 : Fin 1) (0 : Fin 1) e))
  rw [emb_row]
  unfold outArr
  rw [Spec.out_apply, out5_eq, pay_out, iblk_v, iblk_g]
  simp only [iblk_q, iblk_k, iblk_s]
  rfl

theorem flushed_state (t : Fin cfg0.N) (hf : (cfg0.win 6).flush t = true) :
    (dats m 0 c).flushed 6 t = ((cfg0.win 6).blk t).view.read (Elt Ideal) (stateArr m c) := by
  rw [Value.flushed6]
  funext y
  obtain ⟨d, e, rfl⟩ : ∃ (d : Fin 256) (e : Fin 512), y = ix4 (0 : Fin 1) (0 : Fin 1) d e := ⟨y 2, y 3, by
    funext a
    fin_cases a
    · exact Subsingleton.elim (α := Fin 1) _ _
    · exact Subsingleton.elim (α := Fin 1) _ _
    · rfl
    · rfl⟩
  show out0_6 (iblk m c 0 t) (iblk m c 1 t) (iblk m c 2 t) (iblk m c 3 t) (iblk m c 4 t) (ix4 (0 : Fin 1) (0 : Fin 1) d e)
    = stateArr m c ((win0_0.rect t).emb (ix4 (0 : Fin 1) (0 : Fin 1) d e))
  rw [emb_state]
  unfold stateArr
  rw [Spec.state_apply, out6_eq, pay_state, iblk_v, iblk_g, iblk_k, iblk_s]
  rfl

theorem cover_out (i : S128x4x1x512.Idx) : ∃ t : Fin cfg0.N, (cfg0.win 5).flush t = true ∧ i ∈ ((cfg0.win 5).blk t).view.set := by
  have h0 : (i 0).val < 128 := (i 0).isLt
  have h1 : (i 1).val < 4 := (i 1).isLt
  have h2 : (i 2).val < 1 := (i 2).isLt
  refine ⟨⟨(i 0).val * 4 + (i 1).val, by show _ < 512; omega⟩, flush0_5 _, ?_⟩
  have hlt : (i 0).val * 4 + (i 1).val < cfg0.N := by show _ < 512; omega
  have e : ((cfg0.win 5).blk ⟨(i 0).val * 4 + (i 1).val, hlt⟩).view.emb (ix4 (0 : Fin 1) (0 : Fin 1) (0 : Fin 1) (i 3 : Fin 512)) = i := by
    refine (emb_row ⟨(i 0).val * 4 + (i 1).val, by show _ < 512; omega⟩ (i 3)).trans ?_
    funext a
    refine Fin.ext ?_
    fin_cases a
    · show ((i 0).val * 4 + (i 1).val) / 4 = (i 0).val; omega
    · show ((i 0).val * 4 + (i 1).val) % 4 = (i 1).val; omega
    · show 0 = (i 2).val; omega
    · rfl
  exact Eq.subst (motive := fun z => z ∈ ((cfg0.win 5).blk ⟨(i 0).val * 4 + (i 1).val, hlt⟩).view.set) e (View.emb_mem_set _ _)

theorem cover_state (i : S128x4x256x512.Idx) : ∃ t : Fin cfg0.N, (cfg0.win 6).flush t = true ∧ i ∈ ((cfg0.win 6).blk t).view.set := by
  have h0 : (i 0).val < 128 := (i 0).isLt
  have h1 : (i 1).val < 4 := (i 1).isLt
  refine ⟨⟨(i 0).val * 4 + (i 1).val, by show _ < 512; omega⟩, flush0_6 _, ?_⟩
  have hlt : (i 0).val * 4 + (i 1).val < cfg0.N := by show _ < 512; omega
  have e : ((cfg0.win 6).blk ⟨(i 0).val * 4 + (i 1).val, hlt⟩).view.emb (ix4 (0 : Fin 1) (0 : Fin 1) (i 2 : Fin 256) (i 3 : Fin 512)) = i := by
    refine (emb_state ⟨(i 0).val * 4 + (i 1).val, by show _ < 512; omega⟩ (i 2) (i 3)).trans ?_
    funext a
    refine Fin.ext ?_
    fin_cases a
    · show ((i 0).val * 4 + (i 1).val) / 4 = (i 0).val; omega
    · show ((i 0).val * 4 + (i 1).val) % 4 = (i 1).val; omega
    · rfl
    · rfl
  exact Eq.subst (motive := fun z => z ∈ ((cfg0.win 6).blk ⟨(i 0).val * 4 + (i 1).val, hlt⟩).view.set) e (View.emb_mem_set _ _)

theorem result_out : (dats m 0 c).arrAt 5 cfg0.N = outArr m c := (dats m 0 c).arrAt_eq_of_cover 5 (outArr m c) (flushed_out m c) cover_out
theorem result_state : (dats m 0 c).arrAt 6 cfg0.N = stateArr m c := (dats m 0 c).arrAt_eq_of_cover 6 (stateArr m c) (flushed_state m c) cover_state

/-- The program's run: the plain step's output and new state, its arguments kept. -/
theorem run_value (ρ : Dev nD → PrngReg) :
    θ_run defs (onTc (τ := τ) (main (F := Ideal))) ⟨m, fun _ => 0, ρ⟩ (fun r => ∀ c : Dev nD,
      r.2.mem ((c : Thread nD τ).loc main_v55_0) = outArr m c
      ∧ r.2.mem ((c : Thread nD τ).loc main_v55_1) = stateArr m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (result_out m c), (h c).2.1.trans (result_state m c), (h c).2.2⟩) (Value.run_blocks m ρ)

end Cert.StepIdeal.Ret

end
-- ==== Proof.Proj.Spec.lean ====
/- The plain projection of the retention, read by index: the modulated rows times the weights, the queries and
the keys turned by their positions, the keys scaled. -/
module

public import proofs.«01_k».proof.Proof.Gen.ProjReferenceIdeal.Read
public import Idealize.ShloMosaic.Lib.Pointwise

@[expose] public section

set_option maxRecDepth 16384

noncomputable section

namespace Cert.ProjIdeal.Spec

open Cert.ProjReferenceIdeal Cert.ProjReferenceIdeal.Gen Cert.ProjReferenceIdeal.Read
open Idealize.ShloMosaic Idealize.ShloMosaic.TcCoe

/-- The cosine and the sine of a position's angle, by the channel modulo half a head. -/
def cosT (s : Fin 8192) (f : ℕ) : EReal := val_main_v22 (F := Ideal) (ix2 s ⟨f % 128, Nat.mod_lt _ (by decide)⟩)
def sinT (s : Fin 8192) (f : ℕ) : EReal := val_main_v24 (F := Ideal) (ix2 s ⟨f % 128, Nat.mod_lt _ (by decide)⟩)

/-- The factor of the keys. -/
def ks : EReal := Ideal.ofBits .f32 0x3D800000#32

theorem one_f32 : Ideal.ofBits .f32 0x3F800000#32 = 1 := by
  simp [Ideal.ofBits, Ideal.ieee, -EReal.coe_mul]
  norm_num

section
variable (x0 : Vec Ideal S2x8192x1024 .f32) (x1 x2 : Vec Ideal S2x1x1024 .f32) (x3 : Vec Ideal S1024x6144 .f32)

/-- A projected element, before the turn. -/
def zz (b : Fin 2) (s : Fin 8192) (f : ℕ) : EReal :=
  ∑ d : Fin 1024, (x0 (ix3 b s d) * (1 + x2 (ix3 b 0 d)) + x1 (ix3 b 0 d)) * x3 (ix2 d ⟨f % 6144, Nat.mod_lt _ (by decide)⟩)

/-- A projected element, turned by its position. -/
def rot (b : Fin 2) (s : Fin 8192) (f : ℕ) : EReal :=
  if f % 256 < 128 then zz x0 x1 x2 x3 b s f * cosT s f - zz x0 x1 x2 x3 b s (f + 128) * sinT s f
  else zz x0 x1 x2 x3 b s f * cosT s f + zz x0 x1 x2 x3 b s (f - 128) * sinT s f

/-- An element of the result. -/
def ref (b : Fin 2) (s : Fin 8192) (f : ℕ) : EReal :=
  if f < 1024 then rot x0 x1 x2 x3 b s f else if f < 2048 then rot x0 x1 x2 x3 b s f * ks else zz x0 x1 x2 x3 b s f

theorem v7_at (i : S2x8192x6144.Idx) (b : Fin 2) (s : Fin 8192) (f : ℕ) (h0 : (i 0).val = b.val) (h1 : (i 1).val = s.val)
    (h2 : (i 2).val = f) : val_main_v7 (F := Ideal) x0 x1 x2 x3 i = zz x0 x1 x2 x3 b s f := by
  obtain ⟨b', s', f', rfl⟩ : ∃ (b' : Fin 2) (s' : Fin 8192) (f' : Fin 6144), i = ix3 b' s' f' := ⟨i 0, i 1, i 2, by
    funext a; fin_cases a <;> rfl⟩
  obtain rfl : b' = b := Fin.ext h0
  obtain rfl : s' = s := Fin.ext h1
  rw [val_main_v7_apply]
  unfold zz
  refine Finset.sum_congr rfl fun d _ => ?_
  have hl : lidx_main_v7 (ix3 b' s' f') d = ix3 b' s' d := by funext a; fin_cases a <;> rfl
  have hr : ridx_main_v7 (ix3 b' s' f') d = ix2 d ⟨f % 6144, Nat.mod_lt _ (by decide)⟩ := by
    have hf : f'.val < 6144 := f'.isLt
    have h2' : f'.val = f := h2
    funext a; fin_cases a
    · rfl
    · refine Fin.ext ?_; show f'.val = f % 6144; omega
  rw [hl, hr, val_main_v6_apply, val_main_v4_apply, val_main_v3_apply, val_main_v2_apply, val_main_v1_apply, val_main_cst_apply,
    val_main_v5_apply]
  have e3 : idx_main_v3 (ix3 b' s' d) = ix3 b' 0 d := by funext a; fin_cases a <;> rfl
  have e5 : idx_main_v5 (ix3 b' s' d) = ix3 b' 0 d := by funext a; fin_cases a <;> rfl
  rw [e3, e5]
  show (x0 (ix3 b' s' d) * (Ideal.ofBits .f32 0x3F800000#32 + x2 (ix3 b' 0 d)) + x1 (ix3 b' 0 d)) * _ = _
  rw [one_f32]

theorem v9_at (i : S2x8192x4x256.Idx) (b : Fin 2) (s : Fin 8192) (f : ℕ) (h0 : (i 0).val = b.val) (h1 : (i 1).val = s.val)
    (h2 : (i 2).val * 256 + (i 3).val = f) : val_main_v9 (F := Ideal) x0 x1 x2 x3 i = zz x0 x1 x2 x3 b s f := by
  have l2 : (i 2).val < 4 := (i 2).isLt
  have l3 : (i 3).val < 256 := (i 3).isLt
  have lb := b.isLt
  have ls := s.isLt
  rw [val_main_v9_apply, val_main_v8_apply]
  refine v7_at x0 x1 x2 x3 _ b s f ?_ ?_ ?_
  · show ((((i 0).val * 8192 + (i 1).val) * 4 + (i 2).val) * 256 + (i 3).val) / 8388608 = b.val; omega
  · show ((((i 0).val * 8192 + (i 1).val) * 4 + (i 2).val) * 256 + (i 3).val) / 1024 % 8192 = s.val; omega
  · show ((((i 0).val * 8192 + (i 1).val) * 4 + (i 2).val) * 256 + (i 3).val) % 1024 = f; omega

theorem v41_at (i : S2x8192x4x256.Idx) (b : Fin 2) (s : Fin 8192) (f : ℕ) (h0 : (i 0).val = b.val) (h1 : (i 1).val = s.val)
    (h2 : 1024 + ((i 2).val * 256 + (i 3).val) = f) : val_main_v41 (F := Ideal) x0 x1 x2 x3 i = zz x0 x1 x2 x3 b s f := by
  have l2 : (i 2).val < 4 := (i 2).isLt
  have l3 : (i 3).val < 256 := (i 3).isLt
  have lb := b.isLt
  have ls := s.isLt
  rw [val_main_v41_apply, val_main_v40_apply]
  refine v7_at x0 x1 x2 x3 _ b s f ?_ ?_ ?_
  · show ((((i 0).val * 8192 + (i 1).val) * 4 + (i 2).val) * 256 + (i 3).val) / 8388608 = b.val; omega
  · show ((((i 0).val * 8192 + (i 1).val) * 4 + (i 2).val) * 256 + (i 3).val) / 1024 % 8192 = s.val; omega
  · show 1024 + ((((i 0).val * 8192 + (i 1).val) * 4 + (i 2).val) * 256 + (i 3).val) % 1024 = f; omega

theorem cos_at (i : S8192x128.Idx) (s : Fin 8192) (f : ℕ) (h0 : (i 0).val = s.val) (h1 : (i 1).val = f % 128) :
    val_main_v22 (F := Ideal) i = cosT s f := congrArg _ (funext fun a => Fin.ext (match a with
      | ⟨0, _⟩ => h0
      | ⟨1, _⟩ => h1))

theorem sin_at (i : S8192x128.Idx) (s : Fin 8192) (f : ℕ) (h0 : (i 0).val = s.val) (h1 : (i 1).val = f % 128) :
    val_main_v24 (F := Ideal) i = sinT s f := congrArg _ (funext fun a => Fin.ext (match a with
      | ⟨0, _⟩ => h0
      | ⟨1, _⟩ => h1))

theorem v39_at (b : Fin 2) (s : Fin 8192) (h : Fin 4) (e : Fin 256) :
    val_main_v39 (F := Ideal) x0 x1 x2 x3 (ix4 b s h e) = rot x0 x1 x2 x3 b s (h.val * 256 + e.val) := by
  have hh := h.isLt
  have he := e.isLt
  unfold rot val_main_v39
  by_cases hc : e.val < 128
  · rw [if_pos (by omega)]
    rw [concatenate_apply_piece (3 : Fin 4) _ _ (ix4 b s h e) 0 (by show 0 < 3; omega) S2x8192x4x128 (val_main_v32 (F := Ideal) x0 x1 x2 x3) rfl rfl 0 rfl (ix4 b s h (⟨e.val, hc⟩ : Fin 128))
      (fun a ha => by fin_cases a <;> first | rfl | exact absurd rfl ha) (by show 0 + e.val = e.val; omega)]
    rw [val_main_v32_apply, val_main_v29_apply, val_main_v31_apply, val_main_v26_apply, val_main_v27_apply, val_main_v28_apply,
      val_main_v30_apply, val_main_v23_apply, val_main_v25_apply]
    rw [v9_at x0 x1 x2 x3 _ b s (h.val * 256 + e.val) (by rfl) (by rfl) (by rfl),
      v9_at x0 x1 x2 x3 _ b s (h.val * 256 + e.val + 128) (by rfl) (by rfl) (by show h.val * 256 + (128 + e.val) = _; omega),
      cos_at _ s (h.val * 256 + e.val) (by rfl) (by show e.val = _; omega),
      sin_at _ s (h.val * 256 + e.val) (by rfl) (by show e.val = _; omega)]
    rfl
  · rw [if_neg (by omega)]
    rw [concatenate_apply_piece (3 : Fin 4) _ _ (ix4 b s h e) 1 (by show 1 < 3; omega) S2x8192x4x128 (val_main_v37 (F := Ideal) x0 x1 x2 x3) rfl rfl 128 rfl (ix4 b s h (⟨e.val - 128, by omega⟩ : Fin 128))
      (fun a ha => by fin_cases a <;> first | rfl | exact absurd rfl ha) (by show 128 + (e.val - 128) = e.val; omega)]
    rw [val_main_v37_apply, val_main_v34_apply, val_main_v36_apply, val_main_v26_apply, val_main_v27_apply, val_main_v33_apply,
      val_main_v35_apply, val_main_v23_apply, val_main_v25_apply]
    rw [v9_at x0 x1 x2 x3 _ b s (h.val * 256 + e.val) (by rfl) (by rfl) (by show h.val * 256 + (128 + (e.val - 128)) = _; omega),
      v9_at x0 x1 x2 x3 _ b s (h.val * 256 + e.val - 128) (by rfl) (by rfl) (by show h.val * 256 + (e.val - 128) = _; omega),
      cos_at _ s (h.val * 256 + e.val) (by rfl) (by show e.val - 128 = _; omega),
      sin_at _ s (h.val * 256 + e.val) (by rfl) (by show e.val - 128 = _; omega)]
    rfl

theorem v54_eq : val_main_v54 (F := Ideal) = val_main_v22 (F := Ideal) := rfl
theorem v56_eq : val_main_v56 (F := Ideal) = val_main_v24 (F := Ideal) := rfl

theorem v71_at (b : Fin 2) (s : Fin 8192) (h : Fin 4) (e : Fin 256) :
    val_main_v71 (F := Ideal) x0 x1 x2 x3 (ix4 b s h e) = rot x0 x1 x2 x3 b s (1024 + (h.val * 256 + e.val)) := by
  have hh := h.isLt
  have he := e.isLt
  unfold rot val_main_v71
  by_cases hc : e.val < 128
  · rw [if_pos (by omega)]
    rw [concatenate_apply_piece (3 : Fin 4) _ _ (ix4 b s h e) 0 (by show 0 < 3; omega) S2x8192x4x128 (val_main_v64 (F := Ideal) x0 x1 x2 x3) rfl rfl 0 rfl (ix4 b s h (⟨e.val, hc⟩ : Fin 128))
      (fun a ha => by fin_cases a <;> first | rfl | exact absurd rfl ha) (by show 0 + e.val = e.val; omega)]
    rw [val_main_v64_apply, val_main_v61_apply, val_main_v63_apply, val_main_v58_apply, val_main_v59_apply, val_main_v60_apply,
      val_main_v62_apply, val_main_v55_apply, val_main_v57_apply, v54_eq, v56_eq]
    rw [v41_at x0 x1 x2 x3 _ b s (1024 + (h.val * 256 + e.val)) (by rfl) (by rfl) (by rfl),
      v41_at x0 x1 x2 x3 _ b s (1024 + (h.val * 256 + e.val) + 128) (by rfl) (by rfl) (by show 1024 + (h.val * 256 + (128 + e.val)) = _; omega),
      cos_at _ s (1024 + (h.val * 256 + e.val)) (by rfl) (by show e.val = _; omega),
      sin_at _ s (1024 + (h.val * 256 + e.val)) (by rfl) (by show e.val = _; omega)]
    rfl
  · rw [if_neg (by omega)]
    rw [concatenate_apply_piece (3 : Fin 4) _ _ (ix4 b s h e) 1 (by show 1 < 3; omega) S2x8192x4x128 (val_main_v69 (F := Ideal) x0 x1 x2 x3) rfl rfl 128 rfl (ix4 b s h (⟨e.val - 128, by omega⟩ : Fin 128))
      (fun a ha => by fin_cases a <;> first | rfl | exact absurd rfl ha) (by show 128 + (e.val - 128) = e.val; omega)]
    rw [val_main_v69_apply, val_main_v66_apply, val_main_v68_apply, val_main_v58_apply, val_main_v59_apply, val_main_v65_apply,
      val_main_v67_apply, val_main_v55_apply, val_main_v57_apply, v54_eq, v56_eq]
    rw [v41_at x0 x1 x2 x3 _ b s (1024 + (h.val * 256 + e.val)) (by rfl) (by rfl) (by show 1024 + (h.val * 256 + (128 + (e.val - 128))) = _; omega),
      v41_at x0 x1 x2 x3 _ b s (1024 + (h.val * 256 + e.val) - 128) (by rfl) (by rfl) (by show 1024 + (h.val * 256 + (e.val - 128)) = _; omega),
      cos_at _ s (1024 + (h.val * 256 + e.val)) (by rfl) (by show e.val - 128 = _; omega),
      sin_at _ s (1024 + (h.val * 256 + e.val)) (by rfl) (by show e.val - 128 = _; omega)]
    rfl

/-- The plain result, by row and column. -/
theorem ref_apply (r : Fin 16384) (f : Fin 6144) :
    val_main_v78 (F := Ideal) x0 x1 x2 x3 (ix2 r f)
      = ref x0 x1 x2 x3 ⟨r.val / 8192, by have := r.isLt; omega⟩ ⟨r.val % 8192, Nat.mod_lt _ (by decide)⟩ f.val := by
  have hr := r.isLt
  have hf := f.isLt
  unfold ref val_main_v78
  by_cases h1 : f.val < 1024
  · rw [if_pos h1]
    rw [concatenate_apply_piece (1 : Fin 2) _ _ (ix2 r f) 0 (by show 0 < 3; omega) S16384x1024 (val_main_v74 (F := Ideal) x0 x1 x2 x3) rfl rfl 0 rfl
      (ix2 r (⟨f.val, h1⟩ : Fin 1024)) (fun a ha => by fin_cases a <;> first | rfl | exact absurd rfl ha) (by show 0 + f.val = f.val; omega)]
    rw [val_main_v74_apply]
    have e : idx_main_v74 (ix2 r (⟨f.val, h1⟩ : Fin 1024)) = ix4 (⟨r.val / 8192, by omega⟩ : Fin 2) (⟨r.val % 8192, Nat.mod_lt _ (by decide)⟩ : Fin 8192)
        (⟨f.val / 256, by omega⟩ : Fin 4) (⟨f.val % 256, Nat.mod_lt _ (by decide)⟩ : Fin 256) := funext fun a => Fin.ext (match a with
      | ⟨0, _⟩ => by show (r.val * 1024 + f.val) / 8388608 = r.val / 8192; omega
      | ⟨1, _⟩ => by show (r.val * 1024 + f.val) / 1024 % 8192 = r.val % 8192; omega
      | ⟨2, _⟩ => by show (r.val * 1024 + f.val) / 256 % 4 = f.val / 256; omega
      | ⟨3, _⟩ => by show (r.val * 1024 + f.val) % 256 = f.val % 256; omega)
    rw [e, v39_at]
    congr 1
    show f.val / 256 * 256 + f.val % 256 = f.val; omega
  · rw [if_neg h1]
    by_cases h2 : f.val < 2048
    · rw [if_pos h2]
      rw [concatenate_apply_piece (1 : Fin 2) _ _ (ix2 r f) 1 (by show 1 < 3; omega) S16384x1024 (val_main_v75 (F := Ideal) x0 x1 x2 x3) rfl rfl 1024 rfl
        (ix2 r (⟨f.val - 1024, by omega⟩ : Fin 1024)) (fun a ha => by fin_cases a <;> first | rfl | exact absurd rfl ha)
        (by show 1024 + (f.val - 1024) = f.val; omega)]
      rw [val_main_v75_apply]
      have e : idx_main_v75 (ix2 r (⟨f.val - 1024, by omega⟩ : Fin 1024)) = ix4 (⟨r.val / 8192, by omega⟩ : Fin 2) (⟨r.val % 8192, Nat.mod_lt _ (by decide)⟩ : Fin 8192)
          (⟨(f.val - 1024) / 256, by omega⟩ : Fin 4) (⟨(f.val - 1024) % 256, Nat.mod_lt _ (by decide)⟩ : Fin 256) := funext fun a => Fin.ext (match a with
        | ⟨0, _⟩ => by show (r.val * 1024 + (f.val - 1024)) / 8388608 = r.val / 8192; omega
        | ⟨1, _⟩ => by show (r.val * 1024 + (f.val - 1024)) / 1024 % 8192 = r.val % 8192; omega
        | ⟨2, _⟩ => by show (r.val * 1024 + (f.val - 1024)) / 256 % 4 = (f.val - 1024) / 256; omega
        | ⟨3, _⟩ => by show (r.val * 1024 + (f.val - 1024)) % 256 = (f.val - 1024) % 256; omega)
      rw [e, val_main_v73_apply, v71_at, val_main_v72_apply, val_main_cst_4_apply]
      have e2 : 1024 + ((f.val - 1024) / 256 * 256 + (f.val - 1024) % 256) = f.val := by omega
      show rot x0 x1 x2 x3 _ _ (1024 + ((f.val - 1024) / 256 * 256 + (f.val - 1024) % 256)) * ks = _
      rw [e2]
    · rw [if_neg h2]
      rw [concatenate_apply_piece (1 : Fin 2) _ _ (ix2 r f) 2 (by show 2 < 3; omega) S16384x4096 (val_main_v77 (F := Ideal) x0 x1 x2 x3) rfl rfl 2048 rfl
        (ix2 r (⟨f.val - 2048, by omega⟩ : Fin 4096)) (fun a ha => by fin_cases a <;> first | rfl | exact absurd rfl ha)
        (by show 2048 + (f.val - 2048) = f.val; omega)]
      rw [val_main_v77_apply, val_main_v76_apply]
      refine v7_at x0 x1 x2 x3 _ _ _ _ ?_ ?_ ?_
      · show (r.val * 4096 + (f.val - 2048)) / 33554432 = r.val / 8192; omega
      · show (r.val * 4096 + (f.val - 2048)) / 4096 % 8192 = r.val % 8192; omega
      · show 2048 + (r.val * 4096 + (f.val - 2048)) % 4096 = f.val; omega

end

end Cert.ProjIdeal.Spec

end
-- ==== Proof.Proj.Value.lean ====
/- The projection's kernel: what each grid point writes is the plain projection's block, and the blocks cover the result. -/
module

public import Idealize.ShloMosaic.Lib.Pipeline.ReadBack
public import proofs.«01_k».proof.Proof.Proj.Spec
public import proofs.«01_k».proof.Proof.Gen.ProjIdeal.Value
public import Idealize.ShloMosaic.Lib.Claim
public import Idealize.ShloMosaic.Lib.Pointwise
public import Idealize.ShloMosaic.Lib.Pipeline.ValueKit

@[expose] public section

set_option maxRecDepth 16384

noncomputable section

namespace Cert.ProjIdeal.Ret

open Cert.ProjIdeal Cert.ProjIdeal.Gen
open Idealize.ShloMosaic Idealize.ShloMosaic.TcCoe Idealize.ShloMosaic.Tactic
open Idealize.SL Idealize.SL.Sem
open Idealize.ShloMosaic.Pipeline (Dat Cfg Window)

/-! ## The body, read by index -/

theorem pay_z (x : Vec Ideal S256x1024 .f32) (sc sh : Vec Ideal S1x1x1024 .f32) (w : Vec Ideal S1024x1024 .bf16) (r : Fin 256) (f : Fin 1024) :
    k0_pay1 x sc sh w (ix2 r f) = (∑ d : Fin 1024, (x (ix2 r d) * (1 + sc (ix3 0 0 d)) + sh (ix3 0 0 d)) * w (ix2 d f) : EReal) := by
  pointwise [k0_pay1]
  try simp only [Spec.one_f32]

theorem pay_rot (i : grid0.Coords) (x : Vec Ideal S256x1024 .f32) (sc sh : Vec Ideal S1x1x1024 .f32) (w : Vec Ideal S1024x1024 .bf16)
    (tc ta tb : Vec Ideal S256x1024 .f32) (r : Fin 256) (f : Fin 1024) :
    k0_pay2 i x sc sh w tc ta tb (ix2 r f)
      = ((k0_pay1 x sc sh w (ix2 r f) * tc (ix2 r f)
          + k0_pay1 x sc sh w (ix2 r (⟨(f.val + 1024 - 896) % 1024, Nat.mod_lt _ (by decide)⟩ : Fin 1024)) * ta (ix2 r f)
          + k0_pay1 x sc sh w (ix2 r (⟨(f.val + 1024 - 128) % 1024, Nat.mod_lt _ (by decide)⟩ : Fin 1024)) * tb (ix2 r f))
        * (Scalar.select (Scalar.cmpi .eq (BitVec.ofNat 32 (i 1).val) 1#32) Spec.ks 1 : EReal) : EReal) := by
  unfold k0_pay2
  generalize k0_pay1 x sc sh w = z
  pointwise
  rfl

/-! ## The blocks -/

theorem index_rows : ∀ t : Fin cfg0.N, cc0_transform_0 (grid0.coords t) 0 = t.val / 6 ∧ cc0_transform_0 (grid0.coords t) 1 = 0 :=
  (by decide +kernel : ∀ t : Fin grid0.N, cc0_transform_0 (grid0.coords t) 0 = t.val / 6 ∧ cc0_transform_0 (grid0.coords t) 1 = 0)
theorem index_sh : ∀ t : Fin cfg0.N, cc0_transform_1 (grid0.coords t) 0 = t.val / 192 ∧ cc0_transform_1 (grid0.coords t) 1 = 0 ∧ cc0_transform_1 (grid0.coords t) 2 = 0 :=
  (by decide +kernel : ∀ t : Fin grid0.N, cc0_transform_1 (grid0.coords t) 0 = t.val / 192 ∧ cc0_transform_1 (grid0.coords t) 1 = 0 ∧ cc0_transform_1 (grid0.coords t) 2 = 0)
theorem index_sc : ∀ t : Fin cfg0.N, cc0_transform_2 (grid0.coords t) 0 = t.val / 192 ∧ cc0_transform_2 (grid0.coords t) 1 = 0 ∧ cc0_transform_2 (grid0.coords t) 2 = 0 :=
  (by decide +kernel : ∀ t : Fin grid0.N, cc0_transform_2 (grid0.coords t) 0 = t.val / 192 ∧ cc0_transform_2 (grid0.coords t) 1 = 0 ∧ cc0_transform_2 (grid0.coords t) 2 = 0)
theorem index_w : ∀ t : Fin cfg0.N, cc0_transform_3 (grid0.coords t) 0 = 0 ∧ cc0_transform_3 (grid0.coords t) 1 = t.val % 6 :=
  (by decide +kernel : ∀ t : Fin grid0.N, cc0_transform_3 (grid0.coords t) 0 = 0 ∧ cc0_transform_3 (grid0.coords t) 1 = t.val % 6)
theorem index_c : ∀ t : Fin cfg0.N, cc0_transform_4 (grid0.coords t) 0 = t.val / 6 % 32 ∧ cc0_transform_4 (grid0.coords t) 1 = 0 :=
  (by decide +kernel : ∀ t : Fin grid0.N, cc0_transform_4 (grid0.coords t) 0 = t.val / 6 % 32 ∧ cc0_transform_4 (grid0.coords t) 1 = 0)
theorem index_a : ∀ t : Fin cfg0.N, cc0_transform_5 (grid0.coords t) 0 = t.val / 6 % 32 ∧ cc0_transform_5 (grid0.coords t) 1 = 0 :=
  (by decide +kernel : ∀ t : Fin grid0.N, cc0_transform_5 (grid0.coords t) 0 = t.val / 6 % 32 ∧ cc0_transform_5 (grid0.coords t) 1 = 0)
theorem index_b : ∀ t : Fin cfg0.N, cc0_transform_6 (grid0.coords t) 0 = t.val / 6 % 32 ∧ cc0_transform_6 (grid0.coords t) 1 = 0 :=
  (by decide +kernel : ∀ t : Fin grid0.N, cc0_transform_6 (grid0.coords t) 0 = t.val / 6 % 32 ∧ cc0_transform_6 (grid0.coords t) 1 = 0)
theorem index_out : ∀ t : Fin cfg0.N, cc0_transform_7 (grid0.coords t) 0 = t.val / 6 ∧ cc0_transform_7 (grid0.coords t) 1 = t.val % 6 :=
  (by decide +kernel : ∀ t : Fin grid0.N, cc0_transform_7 (grid0.coords t) 0 = t.val / 6 ∧ cc0_transform_7 (grid0.coords t) 1 = t.val % 6)
theorem coord_col : ∀ t : Fin cfg0.N, ((grid0.coords t) 1).val = t.val % 6 :=
  (by decide +kernel : ∀ t : Fin grid0.N, ((grid0.coords t) 1).val = t.val % 6)

/-- The row, the batch, the position and the column of an element of a grid point's block. -/
abbrev rIx (t : Fin cfg0.N) (r : Fin 256) : Fin 16384 := ⟨t.val / 6 * 256 + r.val, by have h : t.val < 384 := t.isLt; omega⟩
abbrev bIx (t : Fin cfg0.N) : Fin 2 := ⟨t.val / 192, by have h : t.val < 384 := t.isLt; omega⟩
abbrev sIx (t : Fin cfg0.N) (r : Fin 256) : Fin 8192 := ⟨t.val / 6 % 32 * 256 + r.val, by have h : t.val < 384 := t.isLt; omega⟩
abbrev fIx (t : Fin cfg0.N) (f : Fin 1024) : Fin 6144 := ⟨t.val % 6 * 1024 + f.val, by omega⟩

theorem emb_rows (t : Fin cfg0.N) (r : Fin 256) (d : Fin 1024) : (win0_0.rect t).emb (ix2 r d) = ix2 (rIx t r) d := by
  have hi := index_rows t
  funext a
  refine Fin.ext ?_
  fin_cases a
  · refine (win0_0.rect_emb_val _ _ 0).trans ?_
    show cc0_transform_0 (grid0.coords t) 0 * 256 + r.val = t.val / 6 * 256 + r.val
    rw [hi.1]
  · refine (win0_0.rect_emb_val _ _ 1).trans ?_
    show cc0_transform_0 (grid0.coords t) 1 * 1024 + d.val = d.val
    rw [hi.2]; omega

theorem emb_sh (t : Fin cfg0.N) (d : Fin 1024) : (win0_1.rect t).emb (ix3 (0 : Fin 1) (0 : Fin 1) d) = ix3 (bIx t) (0 : Fin 1) d := by
  have hi := index_sh t
  funext a
  refine Fin.ext ?_
  fin_cases a
  · refine (win0_1.rect_emb_val _ _ 0).trans ?_
    show cc0_transform_1 (grid0.coords t) 0 * 1 + 0 = t.val / 192
    rw [hi.1]; omega
  · refine (win0_1.rect_emb_val _ _ 1).trans ?_
    show cc0_transform_1 (grid0.coords t) 1 * 1 + 0 = 0
    rw [hi.2.1]
  · refine (win0_1.rect_emb_val _ _ 2).trans ?_
    show cc0_transform_1 (grid0.coords t) 2 * 1024 + d.val = d.val
    rw [hi.2.2]; omega

theorem emb_sc (t : Fin cfg0.N) (d : Fin 1024) : (win0_2.rect t).emb (ix3 (0 : Fin 1) (0 : Fin 1) d) = ix3 (bIx t) (0 : Fin 1) d := by
  have hi := index_sc t
  funext a
  refine Fin.ext ?_
  fin_cases a
  · refine (win0_2.rect_emb_val _ _ 0).trans ?_
    show cc0_transform_2 (grid0.coords t) 0 * 1 + 0 = t.val / 192
    rw [hi.1]; omega
  · refine (win0_2.rect_emb_val _ _ 1).trans ?_
    show cc0_transform_2 (grid0.coords t) 1 * 1 + 0 = 0
    rw [hi.2.1]
  · refine (win0_2.rect_emb_val _ _ 2).trans ?_
    show cc0_transform_2 (grid0.coords t) 2 * 1024 + d.val = d.val
    rw [hi.2.2]; omega

theorem emb_w (t : Fin cfg0.N) (d f : Fin 1024) : (win0_3.rect t).emb (ix2 d f) = ix2 d (fIx t f) := by
  have hi := index_w t
  funext a
  refine Fin.ext ?_
  fin_cases a
  · refine (win0_3.rect_emb_val _ _ 0).trans ?_
    show cc0_transform_3 (grid0.coords t) 0 * 1024 + d.val = d.val
    rw [hi.1]; omega
  · refine (win0_3.rect_emb_val _ _ 1).trans ?_
    show cc0_transform_3 (grid0.coords t) 1 * 1024 + f.val = t.val % 6 * 1024 + f.val
    rw [hi.2]

theorem emb_c (t : Fin cfg0.N) (r : Fin 256) (f : Fin 1024) : (win0_4.rect t).emb (ix2 r f) = ix2 (sIx t r) f := by
  have hi := index_c t
  funext a
  refine Fin.ext ?_
  fin_cases a
  · refine (win0_4.rect_emb_val _ _ 0).trans ?_
    show cc0_transform_4 (grid0.coords t) 0 * 256 + r.val = t.val / 6 % 32 * 256 + r.val
    rw [hi.1]
  · refine (win0_4.rect_emb_val _ _ 1).trans ?_
    show cc0_transform_4 (grid0.coords t) 1 * 1024 + f.val = f.val
    rw [hi.2]; omega

theorem emb_a (t : Fin cfg0.N) (r : Fin 256) (f : Fin 1024) : (win0_5.rect t).emb (ix2 r f) = ix2 (sIx t r) f := by
  have hi := index_a t
  funext a
  refine Fin.ext ?_
  fin_cases a
  · refine (win0_5.rect_emb_val _ _ 0).trans ?_
    show cc0_transform_5 (grid0.coords t) 0 * 256 + r.val = t.val / 6 % 32 * 256 + r.val
    rw [hi.1]
  · refine (win0_5.rect_emb_val _ _ 1).trans ?_
    show cc0_transform_5 (grid0.coords t) 1 * 1024 + f.val = f.val
    rw [hi.2]; omega

theorem emb_b (t : Fin cfg0.N) (r : Fin 256) (f : Fin 1024) : (win0_6.rect t).emb (ix2 r f) = ix2 (sIx t r) f := by
  have hi := index_b t
  funext a
  refine Fin.ext ?_
  fin_cases a
  · refine (win0_6.rect_emb_val _ _ 0).trans ?_
    show cc0_transform_6 (grid0.coords t) 0 * 256 + r.val = t.val / 6 % 32 * 256 + r.val
    rw [hi.1]
  · refine (win0_6.rect_emb_val _ _ 1).trans ?_
    show cc0_transform_6 (grid0.coords t) 1 * 1024 + f.val = f.val
    rw [hi.2]; omega

theorem emb_out (t : Fin cfg0.N) (r : Fin 256) (f : Fin 1024) : (win0_7.rect t).emb (ix2 r f) = ix2 (rIx t r) (fIx t f) := by
  have hi := index_out t
  funext a
  refine Fin.ext ?_
  fin_cases a
  · refine (win0_7.rect_emb_val _ _ 0).trans ?_
    show cc0_transform_7 (grid0.coords t) 0 * 256 + r.val = t.val / 6 * 256 + r.val
    rw [hi.1]
  · refine (win0_7.rect_emb_val _ _ 1).trans ?_
    show cc0_transform_7 (grid0.coords t) 1 * 1024 + f.val = t.val % 6 * 1024 + f.val
    rw [hi.2]

/-! ## The launch's operands -/

section
variable {F : FTy → Type} [FloatOps F]

/-- One head's table, repeated over the heads. -/
def tile (x : Vec F S8192x256 .f32) : Vec F S8192x1024 .f32 :=
  shapeCast _ (broadcastInDim S1x8192x4x256 ![0, 1, 2, 3] bcast_S1x8192x1x256_S1x8192x4x256_0_1_2_3 (shapeCast S1x8192x1x256 x shapeCasts_S8192x256_S1x8192x1x256))
    shapeCasts_S1x8192x4x256_S8192x1024

def catC (x : Vec F S8192x128 .f32) : Vec F S8192x256 .f32 :=
  concatenate S8192x256 1 [⟨S8192x128, x⟩, ⟨S8192x128, x⟩, ⟨S8192x0, broadcastInDim S8192x0 ![] bcast_S_S8192x0 (constant S_ .f32 0x3F800000#32)⟩]
    concatenates_S8192x128_S8192x128_S8192x0_S8192x256_d1
def catA (x : Vec F S8192x128 .f32) : Vec F S8192x256 .f32 :=
  concatenate S8192x256 1 [⟨S8192x128, Host.negf x⟩, ⟨S8192x128, broadcastInDim S8192x128 ![] bcast_S_S8192x128 (constant S_ .f32 0x00000000#32)⟩]
    concatenates_S8192x128_S8192x128_S8192x256_d1
def catB (x : Vec F S8192x128 .f32) : Vec F S8192x256 .f32 :=
  concatenate S8192x256 1 [⟨S8192x128, broadcastInDim S8192x128 ![] bcast_S_S8192x128 (constant S_ .f32 0x00000000#32)⟩, ⟨S8192x128, x⟩,
    ⟨S8192x0, broadcastInDim S8192x0 ![] bcast_S_S8192x0 (constant S_ .f32 0x00000000#32)⟩]
    concatenates_S8192x128_S8192x128_S8192x0_S8192x256_d1

variable (m : (ℓ : Loc nD τ sig) → Buf (Elt F) ℓ) (c : Dev nD)

theorem V_x : (V m c main_v32 : Vec F S16384x1024 .f32) = shapeCast _ (m ((c : Thread nD τ).loc main_arg0)) shapeCasts_S2x8192x1024_S16384x1024 := by
  unfold_abbrev_sides
  after_results
  rfl

theorem V_w : (V m c main_v33 : Vec F S1024x6144 .bf16) = truncf .bf16 (m ((c : Thread nD τ).loc main_arg3)) bitsLt_bf16_f32 := by
  unfold_abbrev_sides
  after_results
  try rfl

theorem V_c : (V m c main_v25 : Vec F S8192x1024 .f32) = tile (catC (Cert.ProjReferenceIdeal.Read.val_main_v22 (F := F))) := by
  unfold_abbrev_sides
  after_results
  rfl

theorem V_a : (V m c main_v28 : Vec F S8192x1024 .f32) = tile (catA (Cert.ProjReferenceIdeal.Read.val_main_v24 (F := F))) := by
  unfold_abbrev_sides
  after_results
  rfl

theorem V_b : (V m c main_v31 : Vec F S8192x1024 .f32) = tile (catB (Cert.ProjReferenceIdeal.Read.val_main_v24 (F := F))) := by
  unfold_abbrev_sides
  after_results
  rfl
end

theorem tile_apply (x : Vec Ideal S8192x256 .f32) (s : Fin 8192) (f : Fin 1024) :
    tile x (ix2 s f) = x (ix2 s (⟨f.val % 256, Nat.mod_lt _ (by decide)⟩ : Fin 256)) := by
  have hf := f.isLt
  have hs := s.isLt
  unfold tile
  rw [shapeCast_apply _ shapeCasts_S1x8192x4x256_S8192x1024 (ix2 s f) (ix4 (0 : Fin 1) s (⟨f.val / 256, by omega⟩ : Fin 4) (⟨f.val % 256, Nat.mod_lt _ (by decide)⟩ : Fin 256)) (by
    rewrite [Shape.rowMajor_val_four, Shape.rowMajor_val_two]
    show ((0 * 8192 + s.val) * 4 + f.val / 256) * 256 + f.val % 256 = s.val * 1024 + f.val
    omega)]
  rw [broadcastInDim_apply _ bcast_S1x8192x1x256_S1x8192x4x256_0_1_2_3 _ _ (ix4 (0 : Fin 1) s (0 : Fin 1) (⟨f.val % 256, Nat.mod_lt _ (by decide)⟩ : Fin 256)) (fun a => match a with
    | ⟨0, _⟩ => by show 0 = if (1 : Nat) = 1 then 0 else 0; rfl
    | ⟨1, _⟩ => by show s.val = if (8192 : Nat) = 1 then 0 else s.val; rw [if_neg (by decide)]
    | ⟨2, _⟩ => by show 0 = if (1 : Nat) = 1 then 0 else f.val / 256; rw [if_pos rfl]
    | ⟨3, _⟩ => by show f.val % 256 = if (256 : Nat) = 1 then 0 else f.val % 256; rw [if_neg (by decide)])]
  exact shapeCast_apply _ shapeCasts_S8192x256_S1x8192x1x256 _ (ix2 s (⟨f.val % 256, Nat.mod_lt _ (by decide)⟩ : Fin 256)) (by
    rewrite [Shape.rowMajor_val_four, Shape.rowMajor_val_two]
    show s.val * 256 + f.val % 256 = ((0 * 8192 + s.val) * 1 + 0) * 256 + f.val % 256
    omega)

theorem catC_apply (x : Vec Ideal S8192x128 .f32) (s : Fin 8192) (e : Fin 256) :
    catC x (ix2 s e) = x (ix2 s (⟨e.val % 128, Nat.mod_lt _ (by decide)⟩ : Fin 128)) := by
  have he := e.isLt
  unfold catC
  by_cases h : e.val < 128
  · exact concatenate_apply_piece (1 : Fin 2) _ _ (ix2 s e) 0 (by show 0 < 3; omega) S8192x128 x rfl rfl 0 rfl
      (ix2 s (⟨e.val % 128, Nat.mod_lt _ (by decide)⟩ : Fin 128)) (fun a ha => by fin_cases a <;> first | rfl | exact absurd rfl ha)
      (by show 0 + e.val % 128 = e.val; omega)
  · exact concatenate_apply_piece (1 : Fin 2) _ _ (ix2 s e) 1 (by show 1 < 3; omega) S8192x128 x rfl rfl 128 rfl
      (ix2 s (⟨e.val % 128, Nat.mod_lt _ (by decide)⟩ : Fin 128)) (fun a ha => by fin_cases a <;> first | rfl | exact absurd rfl ha)
      (by show 128 + e.val % 128 = e.val; omega)

theorem zero_f32 : Ideal.ofBits .f32 0x00000000#32 = 0 := by
  simp [Ideal.ofBits, Ideal.ieee]

theorem catA_apply (x : Vec Ideal S8192x128 .f32) (s : Fin 8192) (e : Fin 256) :
    catA x (ix2 s e) = (if e.val < 128 then -x (ix2 s (⟨e.val % 128, Nat.mod_lt _ (by decide)⟩ : Fin 128)) else 0 : EReal) := by
  have he := e.isLt
  unfold catA
  by_cases h : e.val < 128
  · rw [if_pos h]
    exact concatenate_apply_piece (1 : Fin 2)
      [⟨S8192x128, Host.negf x⟩, ⟨S8192x128, broadcastInDim S8192x128 ![] bcast_S_S8192x128 (constant (F := Ideal) S_ .f32 0x00000000#32)⟩]
      _ (ix2 s e) 0 (by show 0 < 2; omega) S8192x128 (Host.negf x) rfl rfl 0 rfl
      (ix2 s (⟨e.val % 128, Nat.mod_lt _ (by decide)⟩ : Fin 128)) (fun a ha => by fin_cases a <;> first | rfl | exact absurd rfl ha)
      (by show 0 + e.val % 128 = e.val; omega)
  · rw [if_neg h]
    refine (concatenate_apply_piece (1 : Fin 2)
      [⟨S8192x128, Host.negf x⟩, ⟨S8192x128, broadcastInDim S8192x128 ![] bcast_S_S8192x128 (constant (F := Ideal) S_ .f32 0x00000000#32)⟩]
      _ (ix2 s e) 1 (by show 1 < 2; omega) S8192x128
      (broadcastInDim S8192x128 ![] bcast_S_S8192x128 (constant (F := Ideal) S_ .f32 0x00000000#32)) rfl rfl 128 rfl
      (ix2 s (⟨e.val % 128, Nat.mod_lt _ (by decide)⟩ : Fin 128)) (fun a ha => by fin_cases a <;> first | rfl | exact absurd rfl ha)
      (by show 128 + e.val % 128 = e.val; omega)).trans zero_f32

theorem catB_apply (x : Vec Ideal S8192x128 .f32) (s : Fin 8192) (e : Fin 256) :
    catB x (ix2 s e) = (if e.val < 128 then 0 else x (ix2 s (⟨e.val % 128, Nat.mod_lt _ (by decide)⟩ : Fin 128)) : EReal) := by
  have he := e.isLt
  unfold catB
  by_cases h : e.val < 128
  · rw [if_pos h]
    refine (concatenate_apply_piece (1 : Fin 2) _ _ (ix2 s e) 0 (by show 0 < 3; omega) S8192x128 _ rfl rfl 0 rfl
      (ix2 s (⟨e.val % 128, Nat.mod_lt _ (by decide)⟩ : Fin 128)) (fun a ha => by fin_cases a <;> first | rfl | exact absurd rfl ha)
      (by show 0 + e.val % 128 = e.val; omega)).trans zero_f32
  · rw [if_neg h]
    exact concatenate_apply_piece (1 : Fin 2) _ _ (ix2 s e) 1 (by show 1 < 3; omega) S8192x128 x rfl rfl 128 rfl
      (ix2 s (⟨e.val % 128, Nat.mod_lt _ (by decide)⟩ : Fin 128)) (fun a ha => by fin_cases a <;> first | rfl | exact absurd rfl ha)
      (by show 128 + e.val % 128 = e.val; omega)

variable (m : (ℓ : Loc nD τ sig) → Buf (Elt Ideal) ℓ) (c : Dev nD)

/-- The rows, the shift, the scale and the weights. -/
abbrev arg0 : Vec Ideal S2x8192x1024 .f32 := m ((c : Thread nD τ).loc main_arg0)
abbrev arg1 : Vec Ideal S2x1x1024 .f32 := m ((c : Thread nD τ).loc main_arg1)
abbrev arg2 : Vec Ideal S2x1x1024 .f32 := m ((c : Thread nD τ).loc main_arg2)
abbrev arg3 : Vec Ideal S1024x6144 .f32 := m ((c : Thread nD τ).loc main_arg3)

theorem iblk_x (t : Fin cfg0.N) (r : Fin 256) (d : Fin 1024) :
    (iblk m c 0 t : Vec Ideal S256x1024 .f32) (ix2 r d) = arg0 m c (ix3 (bIx t) (sIx t r) d) := by
  show (V m c main_v32 : Vec Ideal S16384x1024 .f32) ((win0_0.rect t).emb (ix2 r d)) = _
  rw [emb_rows, V_x]
  have hr := r.isLt
  have ht : t.val < 384 := t.isLt
  exact shapeCast_apply _ shapeCasts_S2x8192x1024_S16384x1024 _ (ix3 (bIx t) (sIx t r) d) (by
    rewrite [Shape.rowMajor_val_three, Shape.rowMajor_val_two]
    show (t.val / 192 * 8192 + (t.val / 6 % 32 * 256 + r.val)) * 1024 + d.val = (t.val / 6 * 256 + r.val) * 1024 + d.val
    omega)

theorem iblk_sh (t : Fin cfg0.N) (d : Fin 1024) : (iblk m c 1 t : Vec Ideal S1x1x1024 .f32) (ix3 0 0 d) = arg1 m c (ix3 (bIx t) 0 d) := by
  show (V m c main_arg1 : Vec Ideal S2x1x1024 .f32) ((win0_1.rect t).emb (ix3 (0 : Fin 1) (0 : Fin 1) d)) = _
  rw [emb_sh, V_main_arg1]

theorem iblk_sc (t : Fin cfg0.N) (d : Fin 1024) : (iblk m c 2 t : Vec Ideal S1x1x1024 .f32) (ix3 0 0 d) = arg2 m c (ix3 (bIx t) 0 d) := by
  show (V m c main_arg2 : Vec Ideal S2x1x1024 .f32) ((win0_2.rect t).emb (ix3 (0 : Fin 1) (0 : Fin 1) d)) = _
  rw [emb_sc, V_main_arg2]

theorem iblk_w (t : Fin cfg0.N) (d f : Fin 1024) : (iblk m c 3 t : Vec Ideal S1024x1024 .bf16) (ix2 d f) = arg3 m c (ix2 d (fIx t f)) := by
  show (V m c main_v33 : Vec Ideal S1024x6144 .bf16) ((win0_3.rect t).emb (ix2 d f)) = _
  rw [emb_w, V_w]
  rfl

theorem iblk_c (t : Fin cfg0.N) (r : Fin 256) (f : Fin 1024) :
    (iblk m c 4 t : Vec Ideal S256x1024 .f32) (ix2 r f) = Spec.cosT (sIx t r) (t.val % 6 * 1024 + f.val) := by
  show (V m c main_v25 : Vec Ideal S8192x1024 .f32) ((win0_4.rect t).emb (ix2 r f)) = _
  rw [emb_c, V_c, tile_apply, catC_apply]
  exact Spec.cos_at _ _ _ rfl (by show f.val % 256 % 128 = (t.val % 6 * 1024 + f.val) % 128; omega)

theorem iblk_a (t : Fin cfg0.N) (r : Fin 256) (f : Fin 1024) :
    (iblk m c 5 t : Vec Ideal S256x1024 .f32) (ix2 r f)
      = (if f.val % 256 < 128 then -Spec.sinT (sIx t r) (t.val % 6 * 1024 + f.val) else 0 : EReal) := by
  show (V m c main_v28 : Vec Ideal S8192x1024 .f32) ((win0_5.rect t).emb (ix2 r f)) = _
  rw [emb_a, V_a, tile_apply, catA_apply]
  rw [Spec.sin_at _ (sIx t r) (t.val % 6 * 1024 + f.val) (by rfl) (by show f.val % 256 % 128 = (t.val % 6 * 1024 + f.val) % 128; omega)]

theorem iblk_b (t : Fin cfg0.N) (r : Fin 256) (f : Fin 1024) :
    (iblk m c 6 t : Vec Ideal S256x1024 .f32) (ix2 r f)
      = (if f.val % 256 < 128 then 0 else Spec.sinT (sIx t r) (t.val % 6 * 1024 + f.val) : EReal) := by
  show (V m c main_v31 : Vec Ideal S8192x1024 .f32) ((win0_6.rect t).emb (ix2 r f)) = _
  rw [emb_b, V_b, tile_apply, catB_apply]
  rw [Spec.sin_at _ (sIx t r) (t.val % 6 * 1024 + f.val) (by rfl) (by show f.val % 256 % 128 = (t.val % 6 * 1024 + f.val) % 128; omega)]

/-! ## What a grid point writes -/

theorem outs_A (t : Fin cfg0.N) (h0 : t.val % 6 ≤ 1) (h1 : ¬2 ≤ t.val % 6) :
    outsAt0 m c t.val t.isLt = k0_pay2 (grid0.coords t) (iblk m c 0 t) (iblk m c 2 t) (iblk m c 1 t) (iblk m c 3 t) (iblk m c 4 t) (iblk m c 5 t) (iblk m c 6 t) := by
  rw [outsAt0_A m c t h0 h1]; frame_out

theorem outs_B (t : Fin cfg0.N) (h0 : ¬t.val % 6 ≤ 1) (h1 : 2 ≤ t.val % 6) :
    outsAt0 m c t.val t.isLt = k0_pay1 (iblk m c 0 t) (iblk m c 2 t) (iblk m c 1 t) (iblk m c 3 t) := by
  rw [outsAt0_B m c t h0 h1]; frame_out

/-- The block's product is the projected element. -/
theorem z_at (t : Fin cfg0.N) (r : Fin 256) (f : Fin 1024) (g : ℕ) (hg : g = t.val % 6 * 1024 + f.val) :
    k0_pay1 (F := Ideal) (iblk m c 0 t) (iblk m c 2 t) (iblk m c 1 t) (iblk m c 3 t) (ix2 r f)
      = Spec.zz (arg0 m c) (arg1 m c) (arg2 m c) (arg3 m c) (bIx t) (sIx t r) g := by
  subst hg
  rw [pay_z]
  unfold Spec.zz
  refine Finset.sum_congr rfl fun d _ => ?_
  rw [iblk_x, iblk_sc, iblk_sh, iblk_w]
  have hf := f.isLt
  have e : fIx t f = (⟨(t.val % 6 * 1024 + f.val) % 6144, Nat.mod_lt _ (by decide)⟩ : Fin 6144) := Fin.ext (by
    show t.val % 6 * 1024 + f.val = (t.val % 6 * 1024 + f.val) % 6144; omega)
  rw [e]

/-- The result. -/
def outArr : Vec Ideal S16384x6144 .f32 := Cert.ProjReferenceIdeal.Read.val_main_v78 (F := Ideal) (arg0 m c) (arg1 m c) (arg2 m c) (arg3 m c)

theorem out_at (t : Fin cfg0.N) (r : Fin 256) (f : Fin 1024) :
    outArr m c (ix2 (rIx t r) (fIx t f)) = Spec.ref (arg0 m c) (arg1 m c) (arg2 m c) (arg3 m c) (bIx t) (sIx t r) (t.val % 6 * 1024 + f.val) := by
  unfold outArr
  refine (Spec.ref_apply _ _ _ _ (rIx t r) (fIx t f)).trans ?_
  have hr := r.isLt
  have ht : t.val < 384 := t.isLt
  congr 1
  · exact Fin.ext (by show (t.val / 6 * 256 + r.val) / 8192 = t.val / 192; omega)
  · exact Fin.ext (by show (t.val / 6 * 256 + r.val) % 8192 = t.val / 6 % 32 * 256 + r.val; omega)

/-- The turn by the padded tables is the plain turn. -/
theorem turn (z : ℕ → EReal) (cs sn : EReal) (f g : ℕ) :
    (f % 256 < 128 → z g * cs + z (g + 128) * -sn + z (g - 128) * 0 = z g * cs - z (g + 128) * sn)
    ∧ (z g * cs + z (g + 128) * 0 + z (g - 128) * sn = z g * cs + z (g - 128) * sn) := by
  refine ⟨fun _ => ?_, ?_⟩
  · rw [mul_zero, add_zero, mul_neg, sub_eq_add_neg]
  · rw [mul_zero, add_zero]

theorem block_A (t : Fin cfg0.N) (h0 : t.val % 6 ≤ 1) (r : Fin 256) (f : Fin 1024) :
    k0_pay2 (F := Ideal) (grid0.coords t) (iblk m c 0 t) (iblk m c 2 t) (iblk m c 1 t) (iblk m c 3 t) (iblk m c 4 t) (iblk m c 5 t) (iblk m c 6 t) (ix2 r f)
      = Spec.ref (arg0 m c) (arg1 m c) (arg2 m c) (arg3 m c) (bIx t) (sIx t r) (t.val % 6 * 1024 + f.val) := by
  have hf := f.isLt
  rw [pay_rot, iblk_c, iblk_a, iblk_b, z_at m c t r f _ rfl, coord_col]
  have key : (Spec.zz (arg0 m c) (arg1 m c) (arg2 m c) (arg3 m c) (bIx t) (sIx t r) (t.val % 6 * 1024 + f.val) * Spec.cosT (sIx t r) (t.val % 6 * 1024 + f.val)
      + k0_pay1 (F := Ideal) (iblk m c 0 t) (iblk m c 2 t) (iblk m c 1 t) (iblk m c 3 t) (ix2 r (⟨(f.val + 1024 - 896) % 1024, Nat.mod_lt _ (by decide)⟩ : Fin 1024))
        * (if f.val % 256 < 128 then -Spec.sinT (sIx t r) (t.val % 6 * 1024 + f.val) else 0 : EReal)
      + k0_pay1 (F := Ideal) (iblk m c 0 t) (iblk m c 2 t) (iblk m c 1 t) (iblk m c 3 t) (ix2 r (⟨(f.val + 1024 - 128) % 1024, Nat.mod_lt _ (by decide)⟩ : Fin 1024))
        * (if f.val % 256 < 128 then 0 else Spec.sinT (sIx t r) (t.val % 6 * 1024 + f.val) : EReal))
      = Spec.rot (arg0 m c) (arg1 m c) (arg2 m c) (arg3 m c) (bIx t) (sIx t r) (t.val % 6 * 1024 + f.val) := by
    unfold Spec.rot
    by_cases h : f.val % 256 < 128
    · rw [if_pos h, if_pos h, if_pos (by omega),
        z_at m c t r _ (t.val % 6 * 1024 + f.val + 128) (by show _ = t.val % 6 * 1024 + (f.val + 1024 - 896) % 1024; omega)]
      rw [mul_zero, add_zero, mul_neg, sub_eq_add_neg]
    · rw [if_neg h, if_neg h, if_neg (by omega),
        z_at m c t r (⟨(f.val + 1024 - 128) % 1024, Nat.mod_lt _ (by decide)⟩ : Fin 1024) (t.val % 6 * 1024 + f.val - 128)
          (by show _ = t.val % 6 * 1024 + (f.val + 1024 - 128) % 1024; omega)]
      rw [mul_zero, add_zero]
  rw [key]
  unfold Spec.ref
  have hj : t.val % 6 = 0 ∨ t.val % 6 = 1 := by omega
  rcases hj with hj | hj
  · rw [hj, if_pos (by omega)]
    exact mul_one _
  · rw [hj, if_neg (by omega), if_pos (by omega)]
    rfl

theorem block_B (t : Fin cfg0.N) (h1 : 2 ≤ t.val % 6) (r : Fin 256) (f : Fin 1024) :
    k0_pay1 (F := Ideal) (iblk m c 0 t) (iblk m c 2 t) (iblk m c 1 t) (iblk m c 3 t) (ix2 r f)
      = Spec.ref (arg0 m c) (arg1 m c) (arg2 m c) (arg3 m c) (bIx t) (sIx t r) (t.val % 6 * 1024 + f.val) := by
  rw [z_at m c t r f _ rfl]
  unfold Spec.ref
  rw [if_neg (by omega), if_neg (by omega)]

theorem flushed_out (t : Fin cfg0.N) (hf : (cfg0.win 7).flush t = true) :
    (dats m 0 c).flushed 7 t = ((cfg0.win 7).blk t).view.read (Elt Ideal) (outArr m c) := by
  rw [Value.flushed7]
  funext y
  obtain ⟨r, f, rfl⟩ : ∃ (r : Fin 256) (f : Fin 1024), y = ix2 r f := ⟨y 0, y 1, by
    funext a
    fin_cases a <;> rfl⟩
  show (outsAt0 m c t.val t.isLt : Vec Ideal S256x1024 .f32) (ix2 r f) = outArr m c ((win0_7.rect t).emb (ix2 r f))
  rw [emb_out, out_at]
  by_cases h : 2 ≤ t.val % 6
  · rw [outs_B m c t (by omega) h]
    exact block_B m c t h r f
  · rw [outs_A m c t (by omega) h]
    exact block_A m c t (by omega) r f

theorem cover_out (i : S16384x6144.Idx) : ∃ t : Fin cfg0.N, (cfg0.win 7).flush t = true ∧ i ∈ ((cfg0.win 7).blk t).view.set := by
  have h0 : (i 0).val < 16384 := (i 0).isLt
  have h1 : (i 1).val < 6144 := (i 1).isLt
  have hlt : (i 0).val / 256 * 6 + (i 1).val / 1024 < cfg0.N := by show _ < 384; omega
  refine ⟨⟨(i 0).val / 256 * 6 + (i 1).val / 1024, hlt⟩, flush0_7 _, ?_⟩
  have e : ((cfg0.win 7).blk ⟨(i 0).val / 256 * 6 + (i 1).val / 1024, hlt⟩).view.emb
      (ix2 (⟨(i 0).val % 256, Nat.mod_lt _ (by decide)⟩ : Fin 256) (⟨(i 1).val % 1024, Nat.mod_lt _ (by decide)⟩ : Fin 1024)) = i := by
    refine (emb_out ⟨(i 0).val / 256 * 6 + (i 1).val / 1024, hlt⟩ _ _).trans ?_
    funext a
    refine Fin.ext ?_
    fin_cases a
    · show ((i 0).val / 256 * 6 + (i 1).val / 1024) / 6 * 256 + (i 0).val % 256 = (i 0).val; omega
    · show ((i 0).val / 256 * 6 + (i 1).val / 1024) % 6 * 1024 + (i 1).val % 1024 = (i 1).val; omega
  exact Eq.subst (motive := fun z => z ∈ ((cfg0.win 7).blk ⟨(i 0).val / 256 * 6 + (i 1).val / 1024, hlt⟩).view.set) e (View.emb_mem_set _ _)

theorem result_out : (dats m 0 c).arrAt 7 cfg0.N = outArr m c := (dats m 0 c).arrAt_eq_of_cover 7 (outArr m c) (flushed_out m c) cover_out

/-- The program's run: the plain projection, its arguments kept. -/
theorem run_value (ρ : Dev nD → PrngReg) :
    θ_run defs (onTc (τ := τ) (main (F := Ideal))) ⟨m, fun _ => 0, ρ⟩ (fun r => ∀ c : Dev nD,
      r.2.mem ((c : Thread nD τ).loc main_v34) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (result_out m c), (h c).2⟩) (Value.run_blocks m ρ)

end Cert.ProjIdeal.Ret

end
-- ==== Proof.Moba.Spec.lean ====
/- The plain projection of the block-sparse attention, read by index: the modulated rows times the weights, the
first channels of the queries and the keys turned by their positions, and the means of the keys over blocks of rows. -/
module

public import proofs.«01_k».proof.Proof.Gen.MobaReferenceIdeal.Read
public import Idealize.ShloMosaic.Lib.Pointwise

@[expose] public section

set_option maxRecDepth 16384

noncomputable section

namespace Cert.MobaIdeal.Spec

open Cert.MobaReferenceIdeal Cert.MobaReferenceIdeal.Gen Cert.MobaReferenceIdeal.Read
open Idealize.ShloMosaic Idealize.ShloMosaic.TcCoe

/-- The cosine and the sine of a position's angle, by the channel modulo the turned half. -/
def cosT (s : Fin 8192) (f : ℕ) : EReal := val_main_v23 (F := Ideal) (ix2 s ⟨f % 16, Nat.mod_lt _ (by decide)⟩)
def sinT (s : Fin 8192) (f : ℕ) : EReal := val_main_v25 (F := Ideal) (ix2 s ⟨f % 16, Nat.mod_lt _ (by decide)⟩)

theorem one_f32 : Ideal.ofBits .f32 0x3F800000#32 = 1 := by
  simp [Ideal.ofBits, Ideal.ieee, -EReal.coe_mul]
  norm_num

theorem zero_f32 : Ideal.ofBits .f32 0x00000000#32 = 0 := by
  simp [Ideal.ofBits, Ideal.ieee]

section
variable (x0 : Vec Ideal S2x8192x1024 .f32) (x1 x2 : Vec Ideal S2x1x1024 .f32) (x3 : Vec Ideal S1024x3072 .f32)

/-- A projected element, before the turn. -/
def zz (b : Fin 2) (s : Fin 8192) (f : ℕ) : EReal :=
  ∑ d : Fin 1024, (x0 (ix3 b s d) * (1 + x2 (ix3 b 0 d)) + x1 (ix3 b 0 d)) * x3 (ix2 d ⟨f % 3072, Nat.mod_lt _ (by decide)⟩)

/-- A projected element, turned by its position. -/
def rot (b : Fin 2) (s : Fin 8192) (f : ℕ) : EReal :=
  if f % 128 < 16 then zz x0 x1 x2 x3 b s f * cosT s f - zz x0 x1 x2 x3 b s (f + 16) * sinT s f
  else if f % 128 < 32 then zz x0 x1 x2 x3 b s f * cosT s f + zz x0 x1 x2 x3 b s (f - 16) * sinT s f
  else zz x0 x1 x2 x3 b s f

theorem v7_at (i : S2x8192x3072.Idx) (b : Fin 2) (s : Fin 8192) (f : ℕ) (h0 : (i 0).val = b.val) (h1 : (i 1).val = s.val)
    (h2 : (i 2).val = f) : val_main_v7 (F := Ideal) x0 x1 x2 x3 i = zz x0 x1 x2 x3 b s f := by
  obtain ⟨b', s', f', rfl⟩ : ∃ (b' : Fin 2) (s' : Fin 8192) (f' : Fin 3072), i = ix3 b' s' f' := ⟨i 0, i 1, i 2, by
    funext a; fin_cases a <;> rfl⟩
  obtain rfl : b' = b := Fin.ext h0
  obtain rfl : s' = s := Fin.ext h1
  rw [val_main_v7_apply]
  unfold zz
  refine Finset.sum_congr rfl fun d _ => ?_
  have hl : lidx_main_v7 (ix3 b' s' f') d = ix3 b' s' d := by funext a; fin_cases a <;> rfl
  have hr : ridx_main_v7 (ix3 b' s' f') d = ix2 d ⟨f % 3072, Nat.mod_lt _ (by decide)⟩ := by
    have hf : f'.val < 3072 := f'.isLt
    have h2' : f'.val = f := h2
    funext a; fin_cases a
    · rfl
    · refine Fin.ext ?_; show f'.val = f % 3072; omega
  rw [hl, hr, val_main_v6_apply, val_main_v4_apply, val_main_v3_apply, val_main_v2_apply, val_main_v1_apply, val_main_cst_apply,
    val_main_v5_apply]
  have e3 : idx_main_v3 (ix3 b' s' d) = ix3 b' 0 d := by funext a; fin_cases a <;> rfl
  have e5 : idx_main_v5 (ix3 b' s' d) = ix3 b' 0 d := by funext a; fin_cases a <;> rfl
  rw [e3, e5]
  show (x0 (ix3 b' s' d) * (Ideal.ofBits .f32 0x3F800000#32 + x2 (ix3 b' 0 d)) + x1 (ix3 b' 0 d)) * _ = _
  rw [one_f32]

theorem v8_at (i : S2x8192x3x8x128.Idx) (b : Fin 2) (s : Fin 8192) (f : ℕ) (h0 : (i 0).val = b.val) (h1 : (i 1).val = s.val)
    (h2 : (i 2).val * 1024 + (i 3).val * 128 + (i 4).val = f) : val_main_v8 (F := Ideal) x0 x1 x2 x3 i = zz x0 x1 x2 x3 b s f := by
  have l2 : (i 2).val < 3 := (i 2).isLt
  have l3 : (i 3).val < 8 := (i 3).isLt
  have l4 : (i 4).val < 128 := (i 4).isLt
  have lb := b.isLt
  have ls := s.isLt
  rw [val_main_v8_apply]
  refine v7_at x0 x1 x2 x3 _ b s f ?_ ?_ ?_
  · show (((((i 0).val * 8192 + (i 1).val) * 3 + (i 2).val) * 8 + (i 3).val) * 128 + (i 4).val) / 25165824 = b.val; omega
  · show (((((i 0).val * 8192 + (i 1).val) * 3 + (i 2).val) * 8 + (i 3).val) * 128 + (i 4).val) / 3072 % 8192 = s.val; omega
  · show (((((i 0).val * 8192 + (i 1).val) * 3 + (i 2).val) * 8 + (i 3).val) * 128 + (i 4).val) % 3072 = f; omega

theorem v10_at (i : S2x8192x8x128.Idx) (b : Fin 2) (s : Fin 8192) (f : ℕ) (h0 : (i 0).val = b.val) (h1 : (i 1).val = s.val)
    (h2 : 0 + ((i 2).val * 128 + (i 3).val) = f) : val_main_v10 (F := Ideal) x0 x1 x2 x3 i = zz x0 x1 x2 x3 b s f := by
  have l2 : (i 2).val < 8 := (i 2).isLt
  have l3 : (i 3).val < 128 := (i 3).isLt
  have lb := b.isLt
  have ls := s.isLt
  rw [val_main_v10_apply, val_main_v9_apply]
  refine v8_at x0 x1 x2 x3 _ b s f ?_ ?_ ?_
  · show ((((i 0).val * 8192 + (i 1).val) * 8 + (i 2).val) * 128 + (i 3).val) / 8388608 = b.val; omega
  · show ((((i 0).val * 8192 + (i 1).val) * 8 + (i 2).val) * 128 + (i 3).val) / 1024 % 8192 = s.val; omega
  · show 0 * 1024 + ((((i 0).val * 8192 + (i 1).val) * 8 + (i 2).val) * 128 + (i 3).val) / 128 % 8 * 128
      + ((((i 0).val * 8192 + (i 1).val) * 8 + (i 2).val) * 128 + (i 3).val) % 128 = f
    omega

theorem v42_at (i : S2x8192x8x128.Idx) (b : Fin 2) (s : Fin 8192) (f : ℕ) (h0 : (i 0).val = b.val) (h1 : (i 1).val = s.val)
    (h2 : 1024 + ((i 2).val * 128 + (i 3).val) = f) : val_main_v42 (F := Ideal) x0 x1 x2 x3 i = zz x0 x1 x2 x3 b s f := by
  have l2 : (i 2).val < 8 := (i 2).isLt
  have l3 : (i 3).val < 128 := (i 3).isLt
  have lb := b.isLt
  have ls := s.isLt
  rw [val_main_v42_apply, val_main_v41_apply]
  refine v8_at x0 x1 x2 x3 _ b s f ?_ ?_ ?_
  · show ((((i 0).val * 8192 + (i 1).val) * 8 + (i 2).val) * 128 + (i 3).val) / 8388608 = b.val; omega
  · show ((((i 0).val * 8192 + (i 1).val) * 8 + (i 2).val) * 128 + (i 3).val) / 1024 % 8192 = s.val; omega
  · show (1 + 0) * 1024 + ((((i 0).val * 8192 + (i 1).val) * 8 + (i 2).val) * 128 + (i 3).val) / 128 % 8 * 128
      + ((((i 0).val * 8192 + (i 1).val) * 8 + (i 2).val) * 128 + (i 3).val) % 128 = f
    omega

theorem v74_at (i : S2x8192x8x128.Idx) (b : Fin 2) (s : Fin 8192) (f : ℕ) (h0 : (i 0).val = b.val) (h1 : (i 1).val = s.val)
    (h2 : 2048 + ((i 2).val * 128 + (i 3).val) = f) : val_main_v74 (F := Ideal) x0 x1 x2 x3 i = zz x0 x1 x2 x3 b s f := by
  have l2 : (i 2).val < 8 := (i 2).isLt
  have l3 : (i 3).val < 128 := (i 3).isLt
  have lb := b.isLt
  have ls := s.isLt
  rw [val_main_v74_apply, val_main_v73_apply]
  refine v8_at x0 x1 x2 x3 _ b s f ?_ ?_ ?_
  · show ((((i 0).val * 8192 + (i 1).val) * 8 + (i 2).val) * 128 + (i 3).val) / 8388608 = b.val; omega
  · show ((((i 0).val * 8192 + (i 1).val) * 8 + (i 2).val) * 128 + (i 3).val) / 1024 % 8192 = s.val; omega
  · show (2 + 0) * 1024 + ((((i 0).val * 8192 + (i 1).val) * 8 + (i 2).val) * 128 + (i 3).val) / 128 % 8 * 128
      + ((((i 0).val * 8192 + (i 1).val) * 8 + (i 2).val) * 128 + (i 3).val) % 128 = f
    omega

theorem cos_at (i : S8192x16.Idx) (s : Fin 8192) (f : ℕ) (h0 : (i 0).val = s.val) (h1 : (i 1).val = f % 16) :
    val_main_v23 (F := Ideal) i = cosT s f := congrArg _ (funext fun a => Fin.ext (match a with
      | ⟨0, _⟩ => h0
      | ⟨1, _⟩ => h1))

theorem sin_at (i : S8192x16.Idx) (s : Fin 8192) (f : ℕ) (h0 : (i 0).val = s.val) (h1 : (i 1).val = f % 16) :
    val_main_v25 (F := Ideal) i = sinT s f := congrArg _ (funext fun a => Fin.ext (match a with
      | ⟨0, _⟩ => h0
      | ⟨1, _⟩ => h1))

theorem v55_eq : val_main_v55 (F := Ideal) = val_main_v23 (F := Ideal) := rfl
theorem v57_eq : val_main_v57 (F := Ideal) = val_main_v25 (F := Ideal) := rfl

theorem v40_at (b : Fin 2) (s : Fin 8192) (h : Fin 8) (e : Fin 128) :
    val_main_v40 (F := Ideal) x0 x1 x2 x3 (ix4 b s h e) = rot x0 x1 x2 x3 b s (0 + (h.val * 128 + e.val)) := by
  have hh := h.isLt
  have he := e.isLt
  unfold rot val_main_v40
  by_cases hc : e.val < 16
  · rw [if_pos (by omega)]
    rw [concatenate_apply_piece (3 : Fin 4) _ _ (ix4 b s h e) 0 (by show 0 < 3; omega) S2x8192x8x16 (val_main_v33 (F := Ideal) x0 x1 x2 x3) rfl rfl 0 rfl
      (ix4 b s h (⟨e.val, hc⟩ : Fin 16)) (fun a ha => by fin_cases a <;> first | rfl | exact absurd rfl ha) (by show 0 + e.val = e.val; omega)]
    rw [val_main_v33_apply, val_main_v30_apply, val_main_v32_apply, val_main_v27_apply, val_main_v28_apply, val_main_v29_apply,
      val_main_v31_apply, val_main_v24_apply, val_main_v26_apply]
    rw [v10_at x0 x1 x2 x3 _ b s (0 + (h.val * 128 + e.val)) (by rfl) (by rfl) (by rfl),
      v10_at x0 x1 x2 x3 _ b s (0 + (h.val * 128 + e.val) + 16) (by rfl) (by rfl) (by show 0 + (h.val * 128 + (16 + e.val)) = _; omega),
      cos_at _ s (0 + (h.val * 128 + e.val)) (by rfl) (by show e.val = _; omega),
      sin_at _ s (0 + (h.val * 128 + e.val)) (by rfl) (by show e.val = _; omega)]
    rfl
  · rw [if_neg (by omega)]
    by_cases hd : e.val < 32
    · rw [if_pos (by omega)]
      rw [concatenate_apply_piece (3 : Fin 4) _ _ (ix4 b s h e) 1 (by show 1 < 3; omega) S2x8192x8x16 (val_main_v38 (F := Ideal) x0 x1 x2 x3) rfl rfl 16 rfl
        (ix4 b s h (⟨e.val - 16, by omega⟩ : Fin 16)) (fun a ha => by fin_cases a <;> first | rfl | exact absurd rfl ha) (by show 16 + (e.val - 16) = e.val; omega)]
      rw [val_main_v38_apply, val_main_v35_apply, val_main_v37_apply, val_main_v27_apply, val_main_v28_apply, val_main_v34_apply,
        val_main_v36_apply, val_main_v24_apply, val_main_v26_apply]
      rw [v10_at x0 x1 x2 x3 _ b s (0 + (h.val * 128 + e.val)) (by rfl) (by rfl) (by show 0 + (h.val * 128 + (16 + (e.val - 16))) = _; omega),
        v10_at x0 x1 x2 x3 _ b s (0 + (h.val * 128 + e.val) - 16) (by rfl) (by rfl) (by show 0 + (h.val * 128 + (e.val - 16)) = _; omega),
        cos_at _ s (0 + (h.val * 128 + e.val)) (by rfl) (by show e.val - 16 = _; omega),
        sin_at _ s (0 + (h.val * 128 + e.val)) (by rfl) (by show e.val - 16 = _; omega)]
      rfl
    · rw [if_neg (by omega)]
      rw [concatenate_apply_piece (3 : Fin 4) _ _ (ix4 b s h e) 2 (by show 2 < 3; omega) S2x8192x8x96 (val_main_v39 (F := Ideal) x0 x1 x2 x3) rfl rfl 32 rfl
        (ix4 b s h (⟨e.val - 32, by omega⟩ : Fin 96)) (fun a ha => by fin_cases a <;> first | rfl | exact absurd rfl ha) (by show 32 + (e.val - 32) = e.val; omega)]
      rw [val_main_v39_apply]
      exact v10_at x0 x1 x2 x3 _ b s (0 + (h.val * 128 + e.val)) (by rfl) (by rfl) (by show 0 + (h.val * 128 + (32 + (e.val - 32))) = _; omega)

theorem v72_at (b : Fin 2) (s : Fin 8192) (h : Fin 8) (e : Fin 128) :
    val_main_v72 (F := Ideal) x0 x1 x2 x3 (ix4 b s h e) = rot x0 x1 x2 x3 b s (1024 + (h.val * 128 + e.val)) := by
  have hh := h.isLt
  have he := e.isLt
  unfold rot val_main_v72
  by_cases hc : e.val < 16
  · rw [if_pos (by omega)]
    rw [concatenate_apply_piece (3 : Fin 4) _ _ (ix4 b s h e) 0 (by show 0 < 3; omega) S2x8192x8x16 (val_main_v65 (F := Ideal) x0 x1 x2 x3) rfl rfl 0 rfl
      (ix4 b s h (⟨e.val, hc⟩ : Fin 16)) (fun a ha => by fin_cases a <;> first | rfl | exact absurd rfl ha) (by show 0 + e.val = e.val; omega)]
    rw [val_main_v65_apply, val_main_v62_apply, val_main_v64_apply, val_main_v59_apply, val_main_v60_apply, val_main_v61_apply,
      val_main_v63_apply, val_main_v56_apply, val_main_v58_apply, v55_eq, v57_eq]
    rw [v42_at x0 x1 x2 x3 _ b s (1024 + (h.val * 128 + e.val)) (by rfl) (by rfl) (by rfl),
      v42_at x0 x1 x2 x3 _ b s (1024 + (h.val * 128 + e.val) + 16) (by rfl) (by rfl) (by show 1024 + (h.val * 128 + (16 + e.val)) = _; omega),
      cos_at _ s (1024 + (h.val * 128 + e.val)) (by rfl) (by show e.val = _; omega),
      sin_at _ s (1024 + (h.val * 128 + e.val)) (by rfl) (by show e.val = _; omega)]
    rfl
  · rw [if_neg (by omega)]
    by_cases hd : e.val < 32
    · rw [if_pos (by omega)]
      rw [concatenate_apply_piece (3 : Fin 4) _ _ (ix4 b s h e) 1 (by show 1 < 3; omega) S2x8192x8x16 (val_main_v70 (F := Ideal) x0 x1 x2 x3) rfl rfl 16 rfl
        (ix4 b s h (⟨e.val - 16, by omega⟩ : Fin 16)) (fun a ha => by fin_cases a <;> first | rfl | exact absurd rfl ha) (by show 16 + (e.val - 16) = e.val; omega)]
      rw [val_main_v70_apply, val_main_v67_apply, val_main_v69_apply, val_main_v59_apply, val_main_v60_apply, val_main_v66_apply,
        val_main_v68_apply, val_main_v56_apply, val_main_v58_apply, v55_eq, v57_eq]
      rw [v42_at x0 x1 x2 x3 _ b s (1024 + (h.val * 128 + e.val)) (by rfl) (by rfl) (by show 1024 + (h.val * 128 + (16 + (e.val - 16))) = _; omega),
        v42_at x0 x1 x2 x3 _ b s (1024 + (h.val * 128 + e.val) - 16) (by rfl) (by rfl) (by show 1024 + (h.val * 128 + (e.val - 16)) = _; omega),
        cos_at _ s (1024 + (h.val * 128 + e.val)) (by rfl) (by show e.val - 16 = _; omega),
        sin_at _ s (1024 + (h.val * 128 + e.val)) (by rfl) (by show e.val - 16 = _; omega)]
      rfl
    · rw [if_neg (by omega)]
      rw [concatenate_apply_piece (3 : Fin 4) _ _ (ix4 b s h e) 2 (by show 2 < 3; omega) S2x8192x8x96 (val_main_v71 (F := Ideal) x0 x1 x2 x3) rfl rfl 32 rfl
        (ix4 b s h (⟨e.val - 32, by omega⟩ : Fin 96)) (fun a ha => by fin_cases a <;> first | rfl | exact absurd rfl ha) (by show 32 + (e.val - 32) = e.val; omega)]
      rw [val_main_v71_apply]
      exact v42_at x0 x1 x2 x3 _ b s (1024 + (h.val * 128 + e.val)) (by rfl) (by rfl) (by show 1024 + (h.val * 128 + (32 + (e.val - 32))) = _; omega)

/-- The queries, by row and column. -/
theorem q_apply (r : Fin 16384) (f : Fin 1024) :
    val_main_v83 (F := Ideal) x0 x1 x2 x3 (ix2 r f)
      = rot x0 x1 x2 x3 ⟨r.val / 8192, by have := r.isLt; omega⟩ ⟨r.val % 8192, Nat.mod_lt _ (by decide)⟩ f.val := by
  have hr := r.isLt
  have hf := f.isLt
  have e : idx_main_v82 (ix2 r f) = ix4 (⟨r.val / 8192, by omega⟩ : Fin 2) (⟨r.val % 8192, Nat.mod_lt _ (by decide)⟩ : Fin 8192)
      (⟨f.val / 128, by omega⟩ : Fin 8) (⟨f.val % 128, Nat.mod_lt _ (by decide)⟩ : Fin 128) := funext fun a => Fin.ext (match a with
    | ⟨0, _⟩ => by show (r.val * 1024 + f.val) / 8388608 = r.val / 8192; omega
    | ⟨1, _⟩ => by show (r.val * 1024 + f.val) / 1024 % 8192 = r.val % 8192; omega
    | ⟨2, _⟩ => by show (r.val * 1024 + f.val) / 128 % 8 = f.val / 128; omega
    | ⟨3, _⟩ => by show (r.val * 1024 + f.val) % 128 = f.val % 128; omega)
  rw [val_main_v83_apply, val_main_v82_apply, e, v40_at]
  have e2 : 0 + (f.val / 128 * 128 + f.val % 128) = f.val := by omega
  show rot x0 x1 x2 x3 _ _ (0 + (f.val / 128 * 128 + f.val % 128)) = _
  rw [e2]

/-- The keys and the values, by head, position and channel. -/
theorem k_apply (b : Fin 2) (h : Fin 8) (s : Fin 8192) (e : Fin 128) :
    val_main_v80 (F := Ideal) x0 x1 x2 x3 (ix4 b h s e) = rot x0 x1 x2 x3 b s (1024 + (h.val * 128 + e.val)) := by
  rw [val_main_v80_apply]
  have i : idx_main_v80 (ix4 b h s e) = ix4 b s h e := by funext a; fin_cases a <;> rfl
  rw [i, v72_at]

theorem v_apply (b : Fin 2) (h : Fin 8) (s : Fin 8192) (e : Fin 128) :
    val_main_v81 (F := Ideal) x0 x1 x2 x3 (ix4 b h s e) = zz x0 x1 x2 x3 b s (2048 + (h.val * 128 + e.val)) := by
  rw [val_main_v81_apply]
  exact v74_at x0 x1 x2 x3 _ b s _ (by rfl) (by rfl) (by rfl)

theorem kb_apply (b : Fin 2) (h : Fin 8) (s : Fin 8192) (e : Fin 128) :
    val_main_v84 (F := Ideal) x0 x1 x2 x3 (ix4 b h s e) = rot x0 x1 x2 x3 b s (1024 + (h.val * 128 + e.val)) :=
  (val_main_v84_apply x0 x1 x2 x3 _).trans (k_apply x0 x1 x2 x3 b h s e)

theorem vt_apply (b : Fin 2) (h : Fin 8) (e : Fin 128) (s : Fin 8192) :
    val_main_v86 (F := Ideal) x0 x1 x2 x3 (ix4 b h e s) = zz x0 x1 x2 x3 b s (2048 + (h.val * 128 + e.val)) := by
  rw [val_main_v86_apply, val_main_v85_apply]
  have i : idx_main_v85 (ix4 b h e s) = ix4 b h s e := by funext a; fin_cases a <;> rfl
  rw [i]
  exact v_apply x0 x1 x2 x3 b h s e

/-- The mean of a block of keys. -/
theorem km_apply (b : Fin 2) (n : Fin 32) (h : Fin 8) (e : Fin 128) :
    val_main_v87 (F := Ideal) x0 x1 x2 x3 (ix4 b n h e)
      = Ideal.div (∑ k : Fin 256, rot x0 x1 x2 x3 b ⟨n.val * 256 + k.val, by have := n.isLt; have := k.isLt; omega⟩ (1024 + (h.val * 128 + e.val)))
          (Ideal.ofBits .f32 0x43800000#32) := by
  have hn := n.isLt
  have hb := b.isLt
  have hh := h.isLt
  have he := e.isLt
  rw [val_main_v87_apply, val_main_v79_apply, val_main_v77_apply, val_main_v78_apply, val_main_cst_4_apply, val_main_cst_5_apply]
  have s : (∑ k : Fin 256, val_main_v76 (F := Ideal) x0 x1 x2 x3 (idx_main_v77 (idx_main_v87 (ix4 b n h e)) k) : EReal)
      = ∑ k : Fin 256, rot x0 x1 x2 x3 b ⟨n.val * 256 + k.val, by have := n.isLt; have := k.isLt; omega⟩ (1024 + (h.val * 128 + e.val)) := by
    refine Finset.sum_congr rfl fun k _ => ?_
    have hk := k.isLt
    rw [val_main_v76_apply, val_main_v75_apply]
    have i : idx_main_v75 (idx_main_v76 (idx_main_v77 (idx_main_v87 (ix4 b n h e)) k))
        = ix4 b (⟨n.val * 256 + k.val, by omega⟩ : Fin 8192) h e := funext fun a => Fin.ext (match a with
      | ⟨0, _⟩ => by show ((((b.val * 32 + n.val) * 256 + k.val) * 8 + h.val) * 128 + e.val) / 8388608 = b.val; omega
      | ⟨1, _⟩ => by show ((((b.val * 32 + n.val) * 256 + k.val) * 8 + h.val) * 128 + e.val) / 1024 % 8192 = n.val * 256 + k.val; omega
      | ⟨2, _⟩ => by show ((((b.val * 32 + n.val) * 256 + k.val) * 8 + h.val) * 128 + e.val) / 128 % 8 = h.val; omega
      | ⟨3, _⟩ => by show ((((b.val * 32 + n.val) * 256 + k.val) * 8 + h.val) * 128 + e.val) % 128 = e.val; omega)
    rw [i, v72_at]
  rw [s]
  show Ideal.div (Ideal.ofBits .f32 0x00000000#32 + _) _ = _
  rw [zero_f32, zero_add]
  rfl

end

end Cert.MobaIdeal.Spec

end
-- ==== Proof.Moba.Value.lean ====
/- The projection's kernel of the block-sparse attention: what each grid point writes into each of the six results is the
plain projection's block, and the blocks cover the results. -/
module

public import Idealize.ShloMosaic.Lib.Pipeline.ReadBack
public import proofs.«01_k».proof.Proof.Moba.Spec
public import proofs.«01_k».proof.Proof.Gen.MobaIdeal.Value
public import Idealize.ShloMosaic.Lib.Claim
public import Idealize.ShloMosaic.Lib.Pointwise
public import Idealize.ShloMosaic.Lib.Pipeline.ValueKit

@[expose] public section

set_option maxRecDepth 16384

noncomputable section

namespace Cert.MobaIdeal.Ret

open Cert.MobaIdeal Cert.MobaIdeal.Gen
open Idealize.ShloMosaic Idealize.ShloMosaic.TcCoe Idealize.ShloMosaic.Tactic
open Idealize.SL Idealize.SL.Sem
open Idealize.ShloMosaic.Pipeline (Dat Cfg Window)

/-! ## The body, read by index -/

theorem pay_z (x : Vec Ideal S256x1024 .f32) (sc sh : Vec Ideal S1x1x1024 .f32) (w : Vec Ideal S1024x3072 .bf16) (r : Fin 256) (f : Fin 3072) :
    k0_pay1 x sc sh w (ix2 r f) = (∑ d : Fin 1024, (x (ix2 r d) * (1 + sc (ix3 0 0 d)) + sh (ix3 0 0 d)) * w (ix2 d f) : EReal) := by
  pointwise [k0_pay1]
  try simp only [Spec.one_f32]

theorem pay_q (x : Vec Ideal S256x1024 .f32) (sc sh : Vec Ideal S1x1x1024 .f32) (w : Vec Ideal S1024x3072 .bf16)
    (tc ta tb : Vec Ideal S256x1024 .f32) (r : Fin 256) (f : Fin 1024) :
    k0_pay10 (k0_pay5 x sc sh w tc ta tb) (ix2 r f)
      = (k0_pay1 x sc sh w (ix2 r (⟨f.val, by have := f.isLt; omega⟩ : Fin 3072)) * tc (ix2 r f)
          + k0_pay1 x sc sh w (ix2 r (⟨(f.val + 1024 - 1008) % 1024, by omega⟩ : Fin 3072)) * ta (ix2 r f)
          + k0_pay1 x sc sh w (ix2 r (⟨(f.val + 1024 - 16) % 1024, by omega⟩ : Fin 3072)) * tb (ix2 r f) : EReal) := by
  unfold k0_pay10 k0_pay5
  generalize k0_pay1 x sc sh w = z
  pointwise [k0_pay2, k0_pay3, k0_pay4]

theorem pay_k (x : Vec Ideal S256x1024 .f32) (sc sh : Vec Ideal S1x1x1024 .f32) (w : Vec Ideal S1024x3072 .bf16)
    (tc ta tb : Vec Ideal S256x1024 .f32) (r : Fin 256) (f : Fin 1024) :
    addf (k0_pay7 x sc sh w tc ta) (k0_pay8 x sc sh w tb) (ix2 r f)
      = (k0_pay1 x sc sh w (ix2 r (⟨1024 + f.val, by have := f.isLt; omega⟩ : Fin 3072)) * tc (ix2 r f)
          + k0_pay1 x sc sh w (ix2 r (⟨1024 + (f.val + 1024 - 1008) % 1024, by omega⟩ : Fin 3072)) * ta (ix2 r f)
          + k0_pay1 x sc sh w (ix2 r (⟨1024 + (f.val + 1024 - 16) % 1024, by omega⟩ : Fin 3072)) * tb (ix2 r f) : EReal) := by
  unfold k0_pay7 k0_pay8 k0_pay6
  generalize k0_pay1 x sc sh w = z
  pointwise [k0_pay2, k0_pay3, k0_pay4]

/-- The sum of a column. -/
theorem red (v : FVec Ideal S256x128 .f32) (e : Fin 128) :
    multiReduction .add [0] S128 v 0x00000000#32 reduces_S256x128_S128 (.inl rfl) rfl (ix1 e) = (∑ k : Fin 256, v (ix2 k e) : EReal) := by
  pointwise

/-- The sums of the heads' columns. -/
theorem fam (P0 : Vec Ideal S256x1024 .f32) (P1 P2 : Vec Ideal S1x1x1024 .f32) (P3 : Vec Ideal S1024x3072 .bf16) (P4 P5 P6 : Vec Ideal S256x1024 .f32)
    (h : Fin 8) (e : Fin 128) :
    Value.Fam12_0 P0 P1 P2 P3 P4 P5 P6 h (ix1 e)
      = (∑ k : Fin 256, addf (k0_pay7 P0 P1 P2 P3 P4 P5) (k0_pay8 P0 P1 P2 P3 P6) (ix2 k (⟨h.val * 128 + e.val, by have := h.isLt; have := e.isLt; omega⟩ : Fin 1024)) : EReal) :=
  match h with
  | ⟨0, _⟩ => (red _ e).trans (Finset.sum_congr rfl fun k _ => extractStridedSlice_apply ![0, 0] _ _ (ix2 k e)
      (ix2 k (⟨0 * 128 + e.val, by have := e.isLt; omega⟩ : Fin 1024)) (fun a => match a with
        | ⟨0, _⟩ => by show k.val = 0 + k.val; omega
        | ⟨1, _⟩ => by show 0 * 128 + e.val = 0 + e.val; omega))
  | ⟨1, _⟩ => (red _ e).trans (Finset.sum_congr rfl fun k _ => extractStridedSlice_apply ![0, 128] _ _ (ix2 k e)
      (ix2 k (⟨1 * 128 + e.val, by have := e.isLt; omega⟩ : Fin 1024)) (fun a => match a with
        | ⟨0, _⟩ => by show k.val = 0 + k.val; omega
        | ⟨1, _⟩ => by show 1 * 128 + e.val = 128 + e.val; omega))
  | ⟨2, _⟩ => (red _ e).trans (Finset.sum_congr rfl fun k _ => extractStridedSlice_apply ![0, 256] _ _ (ix2 k e)
      (ix2 k (⟨2 * 128 + e.val, by have := e.isLt; omega⟩ : Fin 1024)) (fun a => match a with
        | ⟨0, _⟩ => by show k.val = 0 + k.val; omega
        | ⟨1, _⟩ => by show 2 * 128 + e.val = 256 + e.val; omega))
  | ⟨3, _⟩ => (red _ e).trans (Finset.sum_congr rfl fun k _ => extractStridedSlice_apply ![0, 384] _ _ (ix2 k e)
      (ix2 k (⟨3 * 128 + e.val, by have := e.isLt; omega⟩ : Fin 1024)) (fun a => match a with
        | ⟨0, _⟩ => by show k.val = 0 + k.val; omega
        | ⟨1, _⟩ => by show 3 * 128 + e.val = 384 + e.val; omega))
  | ⟨4, _⟩ => (red _ e).trans (Finset.sum_congr rfl fun k _ => extractStridedSlice_apply ![0, 512] _ _ (ix2 k e)
      (ix2 k (⟨4 * 128 + e.val, by have := e.isLt; omega⟩ : Fin 1024)) (fun a => match a with
        | ⟨0, _⟩ => by show k.val = 0 + k.val; omega
        | ⟨1, _⟩ => by show 4 * 128 + e.val = 512 + e.val; omega))
  | ⟨5, _⟩ => (red _ e).trans (Finset.sum_congr rfl fun k _ => extractStridedSlice_apply ![0, 640] _ _ (ix2 k e)
      (ix2 k (⟨5 * 128 + e.val, by have := e.isLt; omega⟩ : Fin 1024)) (fun a => match a with
        | ⟨0, _⟩ => by show k.val = 0 + k.val; omega
        | ⟨1, _⟩ => by show 5 * 128 + e.val = 640 + e.val; omega))
  | ⟨6, _⟩ => (red _ e).trans (Finset.sum_congr rfl fun k _ => extractStridedSlice_apply ![0, 768] _ _ (ix2 k e)
      (ix2 k (⟨6 * 128 + e.val, by have := e.isLt; omega⟩ : Fin 1024)) (fun a => match a with
        | ⟨0, _⟩ => by show k.val = 0 + k.val; omega
        | ⟨1, _⟩ => by show 6 * 128 + e.val = 768 + e.val; omega))
  | ⟨7, _⟩ => (red _ e).trans (Finset.sum_congr rfl fun k _ => extractStridedSlice_apply ![0, 896] _ _ (ix2 k e)
      (ix2 k (⟨7 * 128 + e.val, by have := e.isLt; omega⟩ : Fin 1024)) (fun a => match a with
        | ⟨0, _⟩ => by show k.val = 0 + k.val; omega
        | ⟨1, _⟩ => by show 7 * 128 + e.val = 896 + e.val; omega))

theorem zero2 : (![0, 0] : Fin 2 → ℕ) = fun _ => 0 := by funext a; fin_cases a <;> rfl
theorem zero3 : (![0, 0, 0] : Fin 3 → ℕ) = fun _ => 0 := by funext a; fin_cases a <;> rfl

section
variable (x0 : Vec Ideal S256x1024 .f32) (x1 x2 : Vec Ideal S1x1x1024 .f32) (x3 : Vec Ideal S1024x3072 .bf16) (x4 x5 x6 : Vec Ideal S256x1024 .f32)

theorem ld_rows (x : Vec Ideal S256x1024 .f32) : View.ld x r0_0 = x := View.ld_unit_zero zero2 _ _
theorem ld_mod (x : Vec Ideal S1x1x1024 .f32) : View.ld x r0_1 = x := View.ld_unit_zero zero3 _ _
theorem ld_w (x : Vec Ideal S1024x3072 .bf16) : View.ld x r0_2 = x := View.ld_unit_zero zero2 _ _

theorem out7_eq : out0_7 x0 x1 x2 x3 x4 x5 x6 = k0_pay10 (k0_pay5 x0 x2 x1 x3 x4 x5 x6) := by
  unfold_out out0_7
  rw [ld_rows, ld_rows, ld_rows, ld_rows, ld_mod, ld_mod, ld_w]
  exact View.canon_unit_zero zero2 _ _

theorem out8_eq (y : S1x8x256x128.Idx) : out0_8 x0 x1 x2 x3 x4 x5 x6 y = Value.E8 x0 x2 x1 x3 x4 x5 x6 y := by
  unfold_out out0_8
  simp only [ld_rows, ld_mod, ld_w]
  exact Value.canon8_eq x0 x2 x1 x3 x4 x5 x6 y

theorem out9_eq (y : S1x8x256x128.Idx) : out0_9 x0 x1 x2 x3 x4 x5 x6 y = Value.E9 x0 x2 x1 x3 y := by
  unfold_out out0_9
  simp only [ld_rows, ld_mod, ld_w]
  exact Value.canon9_eq x0 x2 x1 x3 y

theorem out10_eq (y : S1x8x256x128.Idx) : out0_10 x0 x1 x2 x3 x4 x5 x6 y = Value.E10 x0 x2 x1 x3 x4 x5 x6 y := by
  unfold_out out0_10
  simp only [ld_rows, ld_mod, ld_w]
  exact Value.canon10_eq x0 x2 x1 x3 x4 x5 x6 y

theorem out11_eq (y : S1x8x128x256.Idx) : out0_11 x0 x1 x2 x3 x4 x5 x6 y = Value.E11 x0 x2 x1 x3 y := by
  unfold_out out0_11
  simp only [ld_rows, ld_mod, ld_w]
  exact Value.canon11_eq x0 x2 x1 x3 y

theorem out12_eq (y : S1x1x8x128.Idx) : out0_12 x0 x1 x2 x3 x4 x5 x6 y = Value.E12 x0 x2 x1 x3 x4 x5 x6 y := by
  unfold_out out0_12
  simp only [ld_rows, ld_mod, ld_w]
  exact Value.canon12_eq x0 x2 x1 x3 x4 x5 x6 y
end

/-! ## The blocks -/

theorem index_x : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem index_sh : ∀ t : Fin cfg0.N, cc0_transform_1 (grid0.coords t) 0 = t.val / 32 ∧ cc0_transform_1 (grid0.coords t) 1 = 0 ∧ cc0_transform_1 (grid0.coords t) 2 = 0 :=
  (by decide +kernel : ∀ t : Fin grid0.N, cc0_transform_1 (grid0.coords t) 0 = t.val / 32 ∧ cc0_transform_1 (grid0.coords t) 1 = 0 ∧ cc0_transform_1 (grid0.coords t) 2 = 0)
theorem index_sc : ∀ t : Fin cfg0.N, cc0_transform_2 (grid0.coords t) 0 = t.val / 32 ∧ cc0_transform_2 (grid0.coords t) 1 = 0 ∧ cc0_transform_2 (grid0.coords t) 2 = 0 :=
  (by decide +kernel : ∀ t : Fin grid0.N, cc0_transform_2 (grid0.coords t) 0 = t.val / 32 ∧ cc0_transform_2 (grid0.coords t) 1 = 0 ∧ cc0_transform_2 (grid0.coords t) 2 = 0)
theorem index_w : ∀ t : Fin cfg0.N, cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0)
theorem index_c : ∀ t : Fin cfg0.N, cc0_transform_4 (grid0.coords t) 0 = t.val % 32 ∧ cc0_transform_4 (grid0.coords t) 1 = 0 :=
  (by decide +kernel : ∀ t : Fin grid0.N, cc0_transform_4 (grid0.coords t) 0 = t.val % 32 ∧ cc0_transform_4 (grid0.coords t) 1 = 0)
theorem index_a : ∀ t : Fin cfg0.N, cc0_transform_5 (grid0.coords t) 0 = t.val % 32 ∧ cc0_transform_5 (grid0.coords t) 1 = 0 :=
  (by decide +kernel : ∀ t : Fin grid0.N, cc0_transform_5 (grid0.coords t) 0 = t.val % 32 ∧ cc0_transform_5 (grid0.coords t) 1 = 0)
theorem index_b : ∀ t : Fin cfg0.N, cc0_transform_6 (grid0.coords t) 0 = t.val % 32 ∧ cc0_transform_6 (grid0.coords t) 1 = 0 :=
  (by decide +kernel : ∀ t : Fin grid0.N, cc0_transform_6 (grid0.coords t) 0 = t.val % 32 ∧ cc0_transform_6 (grid0.coords t) 1 = 0)
theorem index_q : ∀ t : Fin cfg0.N, cc0_transform_7 (grid0.coords t) 0 = t.val ∧ cc0_transform_7 (grid0.coords t) 1 = 0 :=
  (by decide +kernel : ∀ t : Fin grid0.N, cc0_transform_7 (grid0.coords t) 0 = t.val ∧ cc0_transform_7 (grid0.coords t) 1 = 0)
theorem index_k : ∀ t : Fin cfg0.N, cc0_transform_8 (grid0.coords t) 0 = t.val / 32 ∧ cc0_transform_8 (grid0.coords t) 1 = 0 ∧ cc0_transform_8 (grid0.coords t) 2 = t.val % 32 ∧ cc0_transform_8 (grid0.coords t) 3 = 0 :=
  (by decide +kernel : ∀ t : Fin grid0.N, cc0_transform_8 (grid0.coords t) 0 = t.val / 32 ∧ cc0_transform_8 (grid0.coords t) 1 = 0 ∧ cc0_transform_8 (grid0.coords t) 2 = t.val % 32 ∧ cc0_transform_8 (grid0.coords t) 3 = 0)
theorem index_v : ∀ t : Fin cfg0.N, cc0_transform_9 (grid0.coords t) 0 = t.val / 32 ∧ cc0_transform_9 (grid0.coords t) 1 = 0 ∧ cc0_transform_9 (grid0.coords t) 2 = t.val % 32 ∧ cc0_transform_9 (grid0.coords t) 3 = 0 :=
  (by decide +kernel : ∀ t : Fin grid0.N, cc0_transform_9 (grid0.coords t) 0 = t.val / 32 ∧ cc0_transform_9 (grid0.coords t) 1 = 0 ∧ cc0_transform_9 (grid0.coords t) 2 = t.val % 32 ∧ cc0_transform_9 (grid0.coords t) 3 = 0)
theorem index_kb : ∀ t : Fin cfg0.N, cc0_transform_10 (grid0.coords t) 0 = t.val / 32 ∧ cc0_transform_10 (grid0.coords t) 1 = 0 ∧ cc0_transform_10 (grid0.coords t) 2 = t.val % 32 ∧ cc0_transform_10 (grid0.coords t) 3 = 0 :=
  (by decide +kernel : ∀ t : Fin grid0.N, cc0_transform_10 (grid0.coords t) 0 = t.val / 32 ∧ cc0_transform_10 (grid0.coords t) 1 = 0 ∧ cc0_transform_10 (grid0.coords t) 2 = t.val % 32 ∧ cc0_transform_10 (grid0.coords t) 3 = 0)
theorem index_vt : ∀ t : Fin cfg0.N, cc0_transform_11 (grid0.coords t) 0 = t.val / 32 ∧ cc0_transform_11 (grid0.coords t) 1 = 0 ∧ cc0_transform_11 (grid0.coords t) 2 = 0 ∧ cc0_transform_11 (grid0.coords t) 3 = t.val % 32 :=
  (by decide +kernel : ∀ t : Fin grid0.N, cc0_transform_11 (grid0.coords t) 0 = t.val / 32 ∧ cc0_transform_11 (grid0.coords t) 1 = 0 ∧ cc0_transform_11 (grid0.coords t) 2 = 0 ∧ cc0_transform_11 (grid0.coords t) 3 = t.val % 32)
theorem index_km : ∀ t : Fin cfg0.N, cc0_transform_12 (grid0.coords t) 0 = t.val / 32 ∧ cc0_transform_12 (grid0.coords t) 1 = t.val % 32 ∧ cc0_transform_12 (grid0.coords t) 2 = 0 ∧ cc0_transform_12 (grid0.coords t) 3 = 0 :=
  (by decide +kernel : ∀ t : Fin grid0.N, cc0_transform_12 (grid0.coords t) 0 = t.val / 32 ∧ cc0_transform_12 (grid0.coords t) 1 = t.val % 32 ∧ cc0_transform_12 (grid0.coords t) 2 = 0 ∧ cc0_transform_12 (grid0.coords t) 3 = 0)

/-- The row, the batch, the block of positions and the position of an element of a grid point's block. -/
abbrev rIx (t : Fin cfg0.N) (r : Fin 256) : Fin 16384 := ⟨t.val * 256 + r.val, by have h : t.val < 64 := t.isLt; omega⟩
abbrev bIx (t : Fin cfg0.N) : Fin 2 := ⟨t.val / 32, by have h : t.val < 64 := t.isLt; omega⟩
abbrev nIx (t : Fin cfg0.N) : Fin 32 := ⟨t.val % 32, by omega⟩
abbrev sIx (t : Fin cfg0.N) (r : Fin 256) : Fin 8192 := ⟨t.val % 32 * 256 + r.val, by have h : t.val < 64 := t.isLt; omega⟩

theorem emb_x (t : Fin cfg0.N) (r : Fin 256) (f : Fin 1024) : (win0_0.rect t).emb (ix2 r f) = ix2 (rIx t r) f := by
  have hi := index_x t
  funext a
  refine Fin.ext ?_
  fin_cases a
  · refine (win0_0.rect_emb_val _ _ 0).trans ?_
    show cc0_transform_0 (grid0.coords t) 0 * 256 + r.val = t.val * 256 + r.val
    have e : (t.val) * 256 + r.val = t.val * 256 + r.val := by omega
    rw [hi.1]; try exact e
  · refine (win0_0.rect_emb_val _ _ 1).trans ?_
    show cc0_transform_0 (grid0.coords t) 1 * 1024 + f.val = f.val
    have e : (0) * 1024 + f.val = f.val := by omega
    rw [hi.2]; try exact e

theorem emb_sh (t : Fin cfg0.N) (d : Fin 1024) : (win0_1.rect t).emb (ix3 (0 : Fin 1) (0 : Fin 1) d) = ix3 (bIx t) (0 : Fin 1) d := by
  have hi := index_sh t
  funext a
  refine Fin.ext ?_
  fin_cases a
  · refine (win0_1.rect_emb_val _ _ 0).trans ?_
    show cc0_transform_1 (grid0.coords t) 0 * 1 + 0 = t.val / 32
    have e : (t.val / 32) * 1 + 0 = t.val / 32 := by omega
    rw [hi.1]; try exact e
  · refine (win0_1.rect_emb_val _ _ 1).trans ?_
    show cc0_transform_1 (grid0.coords t) 1 * 1 + 0 = 0
    have e : (0) * 1 + 0 = 0 := by omega
    rw [hi.2.1]; try exact e
  · refine (win0_1.rect_emb_val _ _ 2).trans ?_
    show cc0_transform_1 (grid0.coords t) 2 * 1024 + d.val = d.val
    have e : (0) * 1024 + d.val = d.val := by omega
    rw [hi.2.2]; try exact e

theorem emb_sc (t : Fin cfg0.N) (d : Fin 1024) : (win0_2.rect t).emb (ix3 (0 : Fin 1) (0 : Fin 1) d) = ix3 (bIx t) (0 : Fin 1) d := by
  have hi := index_sc t
  funext a
  refine Fin.ext ?_
  fin_cases a
  · refine (win0_2.rect_emb_val _ _ 0).trans ?_
    show cc0_transform_2 (grid0.coords t) 0 * 1 + 0 = t.val / 32
    have e : (t.val / 32) * 1 + 0 = t.val / 32 := by omega
    rw [hi.1]; try exact e
  · refine (win0_2.rect_emb_val _ _ 1).trans ?_
    show cc0_transform_2 (grid0.coords t) 1 * 1 + 0 = 0
    have e : (0) * 1 + 0 = 0 := by omega
    rw [hi.2.1]; try exact e
  · refine (win0_2.rect_emb_val _ _ 2).trans ?_
    show cc0_transform_2 (grid0.coords t) 2 * 1024 + d.val = d.val
    have e : (0) * 1024 + d.val = d.val := by omega
    rw [hi.2.2]; try exact e

theorem emb_w (t : Fin cfg0.N) (d : Fin 1024) (f : Fin 3072) : (win0_3.rect t).emb (ix2 d f) = ix2 d f := by
  have hi := index_w t
  funext a
  refine Fin.ext ?_
  fin_cases a
  · refine (win0_3.rect_emb_val _ _ 0).trans ?_
    show cc0_transform_3 (grid0.coords t) 0 * 1024 + d.val = d.val
    have e : (0) * 1024 + d.val = d.val := by omega
    rw [hi.1]; try exact e
  · refine (win0_3.rect_emb_val _ _ 1).trans ?_
    show cc0_transform_3 (grid0.coords t) 1 * 3072 + f.val = f.val
    have e : (0) * 3072 + f.val = f.val := by omega
    rw [hi.2]; try exact e

theorem emb_c (t : Fin cfg0.N) (r : Fin 256) (f : Fin 1024) : (win0_4.rect t).emb (ix2 r f) = ix2 (sIx t r) f := by
  have hi := index_c t
  funext a
  refine Fin.ext ?_
  fin_cases a
  · refine (win0_4.rect_emb_val _ _ 0).trans ?_
    show cc0_transform_4 (grid0.coords t) 0 * 256 + r.val = t.val % 32 * 256 + r.val
    have e : (t.val % 32) * 256 + r.val = t.val % 32 * 256 + r.val := by omega
    rw [hi.1]; try exact e
  · refine (win0_4.rect_emb_val _ _ 1).trans ?_
    show cc0_transform_4 (grid0.coords t) 1 * 1024 + f.val = f.val
    have e : (0) * 1024 + f.val = f.val := by omega
    rw [hi.2]; try exact e

theorem emb_a (t : Fin cfg0.N) (r : Fin 256) (f : Fin 1024) : (win0_5.rect t).emb (ix2 r f) = ix2 (sIx t r) f := by
  have hi := index_a t
  funext a
  refine Fin.ext ?_
  fin_cases a
  · refine (win0_5.rect_emb_val _ _ 0).trans ?_
    show cc0_transform_5 (grid0.coords t) 0 * 256 + r.val = t.val % 32 * 256 + r.val
    have e : (t.val % 32) * 256 + r.val = t.val % 32 * 256 + r.val := by omega
    rw [hi.1]; try exact e
  · refine (win0_5.rect_emb_val _ _ 1).trans ?_
    show cc0_transform_5 (grid0.coords t) 1 * 1024 + f.val = f.val
    have e : (0) * 1024 + f.val = f.val := by omega
    rw [hi.2]; try exact e

theorem emb_b (t : Fin cfg0.N) (r : Fin 256) (f : Fin 1024) : (win0_6.rect t).emb (ix2 r f) = ix2 (sIx t r) f := by
  have hi := index_b t
  funext a
  refine Fin.ext ?_
  fin_cases a
  · refine (win0_6.rect_emb_val _ _ 0).trans ?_
    show cc0_transform_6 (grid0.coords t) 0 * 256 + r.val = t.val % 32 * 256 + r.val
    have e : (t.val % 32) * 256 + r.val = t.val % 32 * 256 + r.val := by omega
    rw [hi.1]; try exact e
  · refine (win0_6.rect_emb_val _ _ 1).trans ?_
    show cc0_transform_6 (grid0.coords t) 1 * 1024 + f.val = f.val
    have e : (0) * 1024 + f.val = f.val := by omega
    rw [hi.2]; try exact e

theorem emb_q (t : Fin cfg0.N) (r : Fin 256) (f : Fin 1024) : (win0_7.rect t).emb (ix2 r f) = ix2 (rIx t r) f := by
  have hi := index_q t
  funext a
  refine Fin.ext ?_
  fin_cases a
  · refine (win0_7.rect_emb_val _ _ 0).trans ?_
    show cc0_transform_7 (grid0.coords t) 0 * 256 + r.val = t.val * 256 + r.val
    have e : (t.val) * 256 + r.val = t.val * 256 + r.val := by omega
    rw [hi.1]; try exact e
  · refine (win0_7.rect_emb_val _ _ 1).trans ?_
    show cc0_transform_7 (grid0.coords t) 1 * 1024 + f.val = f.val
    have e : (0) * 1024 + f.val = f.val := by omega
    rw [hi.2]; try exact e

theorem emb_k (t : Fin cfg0.N) (h : Fin 8) (r : Fin 256) (e : Fin 128) : (win0_8.rect t).emb (ix4 (0 : Fin 1) h r e) = ix4 (bIx t) h (sIx t r) e := by
  have hi := index_k t
  funext a
  refine Fin.ext ?_
  fin_cases a
  · refine (win0_8.rect_emb_val _ _ 0).trans ?_
    show cc0_transform_8 (grid0.coords t) 0 * 1 + 0 = t.val / 32
    have e : (t.val / 32) * 1 + 0 = t.val / 32 := by omega
    rw [hi.1]; try exact e
  · refine (win0_8.rect_emb_val _ _ 1).trans ?_
    show cc0_transform_8 (grid0.coords t) 1 * 8 + h.val = h.val
    have e : (0) * 8 + h.val = h.val := by omega
    rw [hi.2.1]; try exact e
  · refine (win0_8.rect_emb_val _ _ 2).trans ?_
    show cc0_transform_8 (grid0.coords t) 2 * 256 + r.val = t.val % 32 * 256 + r.val
    have e : (t.val % 32) * 256 + r.val = t.val % 32 * 256 + r.val := by omega
    rw [hi.2.2.1]; try exact e
  · refine (win0_8.rect_emb_val _ _ 3).trans ?_
    show cc0_transform_8 (grid0.coords t) 3 * 128 + e.val = e.val
    have e : (0) * 128 + e.val = e.val := by omega
    rw [hi.2.2.2]; try exact e

theorem emb_v (t : Fin cfg0.N) (h : Fin 8) (r : Fin 256) (e : Fin 128) : (win0_9.rect t).emb (ix4 (0 : Fin 1) h r e) = ix4 (bIx t) h (sIx t r) e := by
  have hi := index_v t
  funext a
  refine Fin.ext ?_
  fin_cases a
  · refine (win0_9.rect_emb_val _ _ 0).trans ?_
    show cc0_transform_9 (grid0.coords t) 0 * 1 + 0 = t.val / 32
    have e : (t.val / 32) * 1 + 0 = t.val / 32 := by omega
    rw [hi.1]; try exact e
  · refine (win0_9.rect_emb_val _ _ 1).trans ?_
    show cc0_transform_9 (grid0.coords t) 1 * 8 + h.val = h.val
    have e : (0) * 8 + h.val = h.val := by omega
    rw [hi.2.1]; try exact e
  · refine (win0_9.rect_emb_val _ _ 2).trans ?_
    show cc0_transform_9 (grid0.coords t) 2 * 256 + r.val = t.val % 32 * 256 + r.val
    have e : (t.val % 32) * 256 + r.val = t.val % 32 * 256 + r.val := by omega
    rw [hi.2.2.1]; try exact e
  · refine (win0_9.rect_emb_val _ _ 3).trans ?_
    show cc0_transform_9 (grid0.coords t) 3 * 128 + e.val = e.val
    have e : (0) * 128 + e.val = e.val := by omega
    rw [hi.2.2.2]; try exact e

theorem emb_kb (t : Fin cfg0.N) (h : Fin 8) (r : Fin 256) (e : Fin 128) : (win0_10.rect t).emb (ix4 (0 : Fin 1) h r e) = ix4 (bIx t) h (sIx t r) e := by
  have hi := index_kb t
  funext a
  refine Fin.ext ?_
  fin_cases a
  · refine (win0_10.rect_emb_val _ _ 0).trans ?_
    show cc0_transform_10 (grid0.coords t) 0 * 1 + 0 = t.val / 32
    have e : (t.val / 32) * 1 + 0 = t.val / 32 := by omega
    rw [hi.1]; try exact e
  · refine (win0_10.rect_emb_val _ _ 1).trans ?_
    show cc0_transform_10 (grid0.coords t) 1 * 8 + h.val = h.val
    have e : (0) * 8 + h.val = h.val := by omega
    rw [hi.2.1]; try exact e
  · refine (win0_10.rect_emb_val _ _ 2).trans ?_
    show cc0_transform_10 (grid0.coords t) 2 * 256 + r.val = t.val % 32 * 256 + r.val
    have e : (t.val % 32) * 256 + r.val = t.val % 32 * 256 + r.val := by omega
    rw [hi.2.2.1]; try exact e
  · refine (win0_10.rect_emb_val _ _ 3).trans ?_
    show cc0_transform_10 (grid0.coords t) 3 * 128 + e.val = e.val
    have e : (0) * 128 + e.val = e.val := by omega
    rw [hi.2.2.2]; try exact e

theorem emb_vt (t : Fin cfg0.N) (h : Fin 8) (e : Fin 128) (r : Fin 256) : (win0_11.rect t).emb (ix4 (0 : Fin 1) h e r) = ix4 (bIx t) h e (sIx t r) := by
  have hi := index_vt t
  funext a
  refine Fin.ext ?_
  fin_cases a
  · refine (win0_11.rect_emb_val _ _ 0).trans ?_
    show cc0_transform_11 (grid0.coords t) 0 * 1 + 0 = t.val / 32
    have e : (t.val / 32) * 1 + 0 = t.val / 32 := by omega
    rw [hi.1]; try exact e
  · refine (win0_11.rect_emb_val _ _ 1).trans ?_
    show cc0_transform_11 (grid0.coords t) 1 * 8 + h.val = h.val
    have e : (0) * 8 + h.val = h.val := by omega
    rw [hi.2.1]; try exact e
  · refine (win0_11.rect_emb_val _ _ 2).trans ?_
    show cc0_transform_11 (grid0.coords t) 2 * 128 + e.val = e.val
    have e : (0) * 128 + e.val = e.val := by omega
    rw [hi.2.2.1]; try exact e
  · refine (win0_11.rect_emb_val _ _ 3).trans ?_
    show cc0_transform_11 (grid0.coords t) 3 * 256 + r.val = t.val % 32 * 256 + r.val
    have e : (t.val % 32) * 256 + r.val = t.val % 32 * 256 + r.val := by omega
    rw [hi.2.2.2]; try exact e

theorem emb_km (t : Fin cfg0.N) (h : Fin 8) (e : Fin 128) : (win0_12.rect t).emb (ix4 (0 : Fin 1) (0 : Fin 1) h e) = ix4 (bIx t) (nIx t) h e := by
  have hi := index_km t
  funext a
  refine Fin.ext ?_
  fin_cases a
  · refine (win0_12.rect_emb_val _ _ 0).trans ?_
    show cc0_transform_12 (grid0.coords t) 0 * 1 + 0 = t.val / 32
    have e : (t.val / 32) * 1 + 0 = t.val / 32 := by omega
    rw [hi.1]; try exact e
  · refine (win0_12.rect_emb_val _ _ 1).trans ?_
    show cc0_transform_12 (grid0.coords t) 1 * 1 + 0 = t.val % 32
    have e : (t.val % 32) * 1 + 0 = t.val % 32 := by omega
    rw [hi.2.1]; try exact e
  · refine (win0_12.rect_emb_val _ _ 2).trans ?_
    show cc0_transform_12 (grid0.coords t) 2 * 8 + h.val = h.val
    have e : (0) * 8 + h.val = h.val := by omega
    rw [hi.2.2.1]; try exact e
  · refine (win0_12.rect_emb_val _ _ 3).trans ?_
    show cc0_transform_12 (grid0.coords t) 3 * 128 + e.val = e.val
    have e : (0) * 128 + e.val = e.val := by omega
    rw [hi.2.2.2]; try exact e

/-! ## The launch's operands -/

section
variable {F : FTy → Type} [FloatOps F]

/-- One head's table, repeated over the heads. -/
def tile (x : Vec F S8192x128 .f32) : Vec F S8192x1024 .f32 :=
  shapeCast _ (broadcastInDim S1x8192x8x128 ![0, 1, 2, 3] bcast_S1x8192x1x128_S1x8192x8x128_0_1_2_3 (shapeCast S1x8192x1x128 x shapeCasts_S8192x128_S1x8192x1x128))
    shapeCasts_S1x8192x8x128_S8192x1024

def catC (x : Vec F S8192x16 .f32) : Vec F S8192x128 .f32 :=
  concatenate S8192x128 1 [⟨S8192x16, x⟩, ⟨S8192x16, x⟩, ⟨S8192x96, broadcastInDim S8192x96 ![] bcast_S_S8192x96 (constant S_ .f32 0x3F800000#32)⟩]
    concatenates_S8192x16_S8192x16_S8192x96_S8192x128_d1
def catA (x : Vec F S8192x16 .f32) : Vec F S8192x128 .f32 :=
  concatenate S8192x128 1 [⟨S8192x16, Host.negf x⟩, ⟨S8192x112, broadcastInDim S8192x112 ![] bcast_S_S8192x112 (constant S_ .f32 0x00000000#32)⟩]
    concatenates_S8192x16_S8192x112_S8192x128_d1
def catB (x : Vec F S8192x16 .f32) : Vec F S8192x128 .f32 :=
  concatenate S8192x128 1 [⟨S8192x16, broadcastInDim S8192x16 ![] bcast_S_S8192x16 (constant S_ .f32 0x00000000#32)⟩, ⟨S8192x16, x⟩,
    ⟨S8192x96, broadcastInDim S8192x96 ![] bcast_S_S8192x96 (constant S_ .f32 0x00000000#32)⟩]
    concatenates_S8192x16_S8192x16_S8192x96_S8192x128_d1

variable (m : (ℓ : Loc nD τ sig) → Buf (Elt F) ℓ) (c : Dev nD)

theorem V_x : (V m c main_v32 : Vec F S16384x1024 .f32) = shapeCast _ (m ((c : Thread nD τ).loc main_arg0)) shapeCasts_S2x8192x1024_S16384x1024 := by
  unfold_abbrev_sides
  after_results
  rfl

theorem V_w : (V m c main_v33 : Vec F S1024x3072 .bf16) = truncf .bf16 (m ((c : Thread nD τ).loc main_arg3)) bitsLt_bf16_f32 := by
  unfold_abbrev_sides
  after_results
  try rfl

theorem V_c : (V m c main_v25 : Vec F S8192x1024 .f32) = tile (catC (Cert.MobaReferenceIdeal.Read.val_main_v23 (F := F))) := by
  unfold_abbrev_sides
  after_results
  rfl

theorem V_a : (V m c main_v28 : Vec F S8192x1024 .f32) = tile (catA (Cert.MobaReferenceIdeal.Read.val_main_v25 (F := F))) := by
  unfold_abbrev_sides
  after_results
  rfl

theorem V_b : (V m c main_v31 : Vec F S8192x1024 .f32) = tile (catB (Cert.MobaReferenceIdeal.Read.val_main_v25 (F := F))) := by
  unfold_abbrev_sides
  after_results
  rfl
end

theorem tile_apply (x : Vec Ideal S8192x128 .f32) (s : Fin 8192) (f : Fin 1024) :
    tile x (ix2 s f) = x (ix2 s (⟨f.val % 128, Nat.mod_lt _ (by decide)⟩ : Fin 128)) := by
  have hf := f.isLt
  have hs := s.isLt
  unfold tile
  rw [shapeCast_apply _ shapeCasts_S1x8192x8x128_S8192x1024 (ix2 s f) (ix4 (0 : Fin 1) s (⟨f.val / 128, by omega⟩ : Fin 8) (⟨f.val % 128, Nat.mod_lt _ (by decide)⟩ : Fin 128)) (by
    rewrite [Shape.rowMajor_val_four, Shape.rowMajor_val_two]
    show ((0 * 8192 + s.val) * 8 + f.val / 128) * 128 + f.val % 128 = s.val * 1024 + f.val
    omega)]
  rw [broadcastInDim_apply _ bcast_S1x8192x1x128_S1x8192x8x128_0_1_2_3 _ _ (ix4 (0 : Fin 1) s (0 : Fin 1) (⟨f.val % 128, Nat.mod_lt _ (by decide)⟩ : Fin 128)) (fun a => match a with
    | ⟨0, _⟩ => by show 0 = if (1 : Nat) = 1 then 0 else 0; rfl
    | ⟨1, _⟩ => by show s.val = if (8192 : Nat) = 1 then 0 else s.val; rw [if_neg (by decide)]
    | ⟨2, _⟩ => by show 0 = if (1 : Nat) = 1 then 0 else f.val / 128; rw [if_pos rfl]
    | ⟨3, _⟩ => by show f.val % 128 = if (128 : Nat) = 1 then 0 else f.val % 128; rw [if_neg (by decide)])]
  exact shapeCast_apply _ shapeCasts_S8192x128_S1x8192x1x128 _ (ix2 s (⟨f.val % 128, Nat.mod_lt _ (by decide)⟩ : Fin 128)) (by
    rewrite [Shape.rowMajor_val_four, Shape.rowMajor_val_two]
    show s.val * 128 + f.val % 128 = ((0 * 8192 + s.val) * 1 + 0) * 128 + f.val % 128
    omega)

theorem catC_apply (x : Vec Ideal S8192x16 .f32) (s : Fin 8192) (e : Fin 128) :
    catC x (ix2 s e) = (if e.val < 32 then x (ix2 s (⟨e.val % 16, Nat.mod_lt _ (by decide)⟩ : Fin 16)) else 1 : EReal) := by
  have he := e.isLt
  unfold catC
  by_cases h : e.val < 16
  · rw [if_pos (by omega)]
    exact (concatenate_apply_piece (1 : Fin 2) [⟨S8192x16, x⟩, ⟨S8192x16, x⟩, ⟨S8192x96, (broadcastInDim S8192x96 ![] bcast_S_S8192x96 (constant (F := Ideal) S_ .f32 0x3F800000#32))⟩] _ (ix2 s e) 0 (by show 0 < 3; omega) S8192x16 x rfl rfl 0 rfl
      (ix2 s (⟨e.val % 16, Nat.mod_lt _ (by decide)⟩ : Fin 16)) (fun a ha => by fin_cases a <;> first | rfl | exact absurd rfl ha)
      (by show 0 + (e.val % 16) = e.val; omega))
  · by_cases h' : e.val < 32
    · rw [if_pos h']
      exact (concatenate_apply_piece (1 : Fin 2) [⟨S8192x16, x⟩, ⟨S8192x16, x⟩, ⟨S8192x96, (broadcastInDim S8192x96 ![] bcast_S_S8192x96 (constant (F := Ideal) S_ .f32 0x3F800000#32))⟩] _ (ix2 s e) 1 (by show 1 < 3; omega) S8192x16 x rfl rfl 16 rfl
        (ix2 s (⟨e.val % 16, Nat.mod_lt _ (by decide)⟩ : Fin 16)) (fun a ha => by fin_cases a <;> first | rfl | exact absurd rfl ha)
        (by show 16 + (e.val % 16) = e.val; omega))
    · rw [if_neg h']
      refine (concatenate_apply_piece (1 : Fin 2) [⟨S8192x16, x⟩, ⟨S8192x16, x⟩, ⟨S8192x96, (broadcastInDim S8192x96 ![] bcast_S_S8192x96 (constant (F := Ideal) S_ .f32 0x3F800000#32))⟩] _ (ix2 s e) 2 (by show 2 < 3; omega) S8192x96 (broadcastInDim S8192x96 ![] bcast_S_S8192x96 (constant (F := Ideal) S_ .f32 0x3F800000#32)) rfl rfl 32 rfl
        (ix2 s (⟨e.val - 32, by omega⟩ : Fin 96)) (fun a ha => by fin_cases a <;> first | rfl | exact absurd rfl ha)
        (by show 32 + (e.val - 32) = e.val; omega)).trans Spec.one_f32

theorem catA_apply (x : Vec Ideal S8192x16 .f32) (s : Fin 8192) (e : Fin 128) :
    catA x (ix2 s e) = (if e.val < 16 then -x (ix2 s (⟨e.val % 16, Nat.mod_lt _ (by decide)⟩ : Fin 16)) else 0 : EReal) := by
  have he := e.isLt
  unfold catA
  by_cases h : e.val < 16
  · rw [if_pos h]
    exact (concatenate_apply_piece (1 : Fin 2) [⟨S8192x16, Host.negf x⟩, ⟨S8192x112, (broadcastInDim S8192x112 ![] bcast_S_S8192x112 (constant (F := Ideal) S_ .f32 0x00000000#32))⟩] _ (ix2 s e) 0 (by show 0 < 2; omega) S8192x16 (Host.negf x) rfl rfl 0 rfl
      (ix2 s (⟨e.val % 16, Nat.mod_lt _ (by decide)⟩ : Fin 16)) (fun a ha => by fin_cases a <;> first | rfl | exact absurd rfl ha)
      (by show 0 + (e.val % 16) = e.val; omega))
  · rw [if_neg h]
    refine (concatenate_apply_piece (1 : Fin 2) [⟨S8192x16, Host.negf x⟩, ⟨S8192x112, (broadcastInDim S8192x112 ![] bcast_S_S8192x112 (constant (F := Ideal) S_ .f32 0x00000000#32))⟩] _ (ix2 s e) 1 (by show 1 < 2; omega) S8192x112 (broadcastInDim S8192x112 ![] bcast_S_S8192x112 (constant (F := Ideal) S_ .f32 0x00000000#32)) rfl rfl 16 rfl
      (ix2 s (⟨e.val - 16, by omega⟩ : Fin 112)) (fun a ha => by fin_cases a <;> first | rfl | exact absurd rfl ha)
      (by show 16 + (e.val - 16) = e.val; omega)).trans Spec.zero_f32

theorem catB_apply (x : Vec Ideal S8192x16 .f32) (s : Fin 8192) (e : Fin 128) :
    catB x (ix2 s e) = (if e.val < 16 then 0 else if e.val < 32 then x (ix2 s (⟨e.val % 16, Nat.mod_lt _ (by decide)⟩ : Fin 16)) else 0 : EReal) := by
  have he := e.isLt
  unfold catB
  by_cases h : e.val < 16
  · rw [if_pos h]
    refine (concatenate_apply_piece (1 : Fin 2) [⟨S8192x16, (broadcastInDim S8192x16 ![] bcast_S_S8192x16 (constant (F := Ideal) S_ .f32 0x00000000#32))⟩, ⟨S8192x16, x⟩, ⟨S8192x96, (broadcastInDim S8192x96 ![] bcast_S_S8192x96 (constant (F := Ideal) S_ .f32 0x00000000#32))⟩] _ (ix2 s e) 0 (by show 0 < 3; omega) S8192x16 (broadcastInDim S8192x16 ![] bcast_S_S8192x16 (constant (F := Ideal) S_ .f32 0x00000000#32)) rfl rfl 0 rfl
      (ix2 s (⟨e.val % 16, Nat.mod_lt _ (by decide)⟩ : Fin 16)) (fun a ha => by fin_cases a <;> first | rfl | exact absurd rfl ha)
      (by show 0 + (e.val % 16) = e.val; omega)).trans Spec.zero_f32
  · rw [if_neg h]
    by_cases h' : e.val < 32
    · rw [if_pos h']
      exact (concatenate_apply_piece (1 : Fin 2) [⟨S8192x16, (broadcastInDim S8192x16 ![] bcast_S_S8192x16 (constant (F := Ideal) S_ .f32 0x00000000#32))⟩, ⟨S8192x16, x⟩, ⟨S8192x96, (broadcastInDim S8192x96 ![] bcast_S_S8192x96 (constant (F := Ideal) S_ .f32 0x00000000#32))⟩] _ (ix2 s e) 1 (by show 1 < 3; omega) S8192x16 x rfl rfl 16 rfl
        (ix2 s (⟨e.val % 16, Nat.mod_lt _ (by decide)⟩ : Fin 16)) (fun a ha => by fin_cases a <;> first | rfl | exact absurd rfl ha)
        (by show 16 + (e.val % 16) = e.val; omega))
    · rw [if_neg h']
      refine (concatenate_apply_piece (1 : Fin 2) [⟨S8192x16, (broadcastInDim S8192x16 ![] bcast_S_S8192x16 (constant (F := Ideal) S_ .f32 0x00000000#32))⟩, ⟨S8192x16, x⟩, ⟨S8192x96, (broadcastInDim S8192x96 ![] bcast_S_S8192x96 (constant (F := Ideal) S_ .f32 0x00000000#32))⟩] _ (ix2 s e) 2 (by show 2 < 3; omega) S8192x96 (broadcastInDim S8192x96 ![] bcast_S_S8192x96 (constant (F := Ideal) S_ .f32 0x00000000#32)) rfl rfl 32 rfl
        (ix2 s (⟨e.val - 32, by omega⟩ : Fin 96)) (fun a ha => by fin_cases a <;> first | rfl | exact absurd rfl ha)
        (by show 32 + (e.val - 32) = e.val; omega)).trans Spec.zero_f32

variable (m : (ℓ : Loc nD τ sig) → Buf (Elt Ideal) ℓ) (c : Dev nD)

/-- The rows, the shift, the scale and the weights. -/
abbrev arg0 : Vec Ideal S2x8192x1024 .f32 := m ((c : Thread nD τ).loc main_arg0)
abbrev arg1 : Vec Ideal S2x1x1024 .f32 := m ((c : Thread nD τ).loc main_arg1)
abbrev arg2 : Vec Ideal S2x1x1024 .f32 := m ((c : Thread nD τ).loc main_arg2)
abbrev arg3 : Vec Ideal S1024x3072 .f32 := m ((c : Thread nD τ).loc main_arg3)

theorem iblk_x (t : Fin cfg0.N) (r : Fin 256) (d : Fin 1024) :
    (iblk m c 0 t : Vec Ideal S256x1024 .f32) (ix2 r d) = arg0 m c (ix3 (bIx t) (sIx t r) d) := by
  show (V m c main_v32 : Vec Ideal S16384x1024 .f32) ((win0_0.rect t).emb (ix2 r d)) = _
  rw [emb_x, V_x]
  have hr := r.isLt
  have ht : t.val < 64 := t.isLt
  exact shapeCast_apply _ shapeCasts_S2x8192x1024_S16384x1024 _ (ix3 (bIx t) (sIx t r) d) (by
    rewrite [Shape.rowMajor_val_three, Shape.rowMajor_val_two]
    show (t.val / 32 * 8192 + (t.val % 32 * 256 + r.val)) * 1024 + d.val = (t.val * 256 + r.val) * 1024 + d.val
    omega)

theorem iblk_sh (t : Fin cfg0.N) (d : Fin 1024) : (iblk m c 1 t : Vec Ideal S1x1x1024 .f32) (ix3 0 0 d) = arg1 m c (ix3 (bIx t) 0 d) := by
  show (V m c main_arg1 : Vec Ideal S2x1x1024 .f32) ((win0_1.rect t).emb (ix3 (0 : Fin 1) (0 : Fin 1) d)) = _
  rw [emb_sh, V_main_arg1]

theorem iblk_sc (t : Fin cfg0.N) (d : Fin 1024) : (iblk m c 2 t : Vec Ideal S1x1x1024 .f32) (ix3 0 0 d) = arg2 m c (ix3 (bIx t) 0 d) := by
  show (V m c main_arg2 : Vec Ideal S2x1x1024 .f32) ((win0_2.rect t).emb (ix3 (0 : Fin 1) (0 : Fin 1) d)) = _
  rw [emb_sc, V_main_arg2]

theorem iblk_w (t : Fin cfg0.N) (d : Fin 1024) (f : Fin 3072) : (iblk m c 3 t : Vec Ideal S1024x3072 .bf16) (ix2 d f) = arg3 m c (ix2 d f) := by
  show (V m c main_v33 : Vec Ideal S1024x3072 .bf16) ((win0_3.rect t).emb (ix2 d f)) = _
  rw [emb_w, V_w]
  rfl

theorem iblk_c (t : Fin cfg0.N) (r : Fin 256) (f : Fin 1024) (g : ℕ) (hg : f.val % 128 = g % 128) :
    (iblk m c 4 t : Vec Ideal S256x1024 .f32) (ix2 r f) = (if g % 128 < 32 then Spec.cosT (sIx t r) g else 1 : EReal) := by
  show (V m c main_v25 : Vec Ideal S8192x1024 .f32) ((win0_4.rect t).emb (ix2 r f)) = _
  rw [emb_c, V_c, tile_apply, catC_apply]
  rw [Spec.cos_at _ (sIx t r) g (by rfl) (by show f.val % 128 % 16 = g % 16; omega)]
  show (if f.val % 128 < 32 then _ else _ : EReal) = _
  rw [hg]

theorem iblk_a (t : Fin cfg0.N) (r : Fin 256) (f : Fin 1024) (g : ℕ) (hg : f.val % 128 = g % 128) :
    (iblk m c 5 t : Vec Ideal S256x1024 .f32) (ix2 r f) = (if g % 128 < 16 then -Spec.sinT (sIx t r) g else 0 : EReal) := by
  show (V m c main_v28 : Vec Ideal S8192x1024 .f32) ((win0_5.rect t).emb (ix2 r f)) = _
  rw [emb_a, V_a, tile_apply, catA_apply]
  rw [Spec.sin_at _ (sIx t r) g (by rfl) (by show f.val % 128 % 16 = g % 16; omega)]
  show (if f.val % 128 < 16 then _ else _ : EReal) = _
  rw [hg]

theorem iblk_b (t : Fin cfg0.N) (r : Fin 256) (f : Fin 1024) (g : ℕ) (hg : f.val % 128 = g % 128) :
    (iblk m c 6 t : Vec Ideal S256x1024 .f32) (ix2 r f)
      = (if g % 128 < 16 then 0 else if g % 128 < 32 then Spec.sinT (sIx t r) g else 0 : EReal) := by
  show (V m c main_v31 : Vec Ideal S8192x1024 .f32) ((win0_6.rect t).emb (ix2 r f)) = _
  rw [emb_b, V_b, tile_apply, catB_apply]
  rw [Spec.sin_at _ (sIx t r) g (by rfl) (by show f.val % 128 % 16 = g % 16; omega)]
  show (if f.val % 128 < 16 then _ else if f.val % 128 < 32 then _ else _ : EReal) = _
  rw [hg]

/-! ## What a grid point writes -/

/-- A grid point's projected block. -/
abbrev zB (t : Fin cfg0.N) : FVec Ideal S256x3072 .f32 := k0_pay1 (F := Ideal) (iblk m c 0 t) (iblk m c 2 t) (iblk m c 1 t) (iblk m c 3 t)

theorem z_at (t : Fin cfg0.N) (r : Fin 256) (f : Fin 3072) (g : ℕ) (hg : f.val = g) :
    zB m c t (ix2 r f) = Spec.zz (arg0 m c) (arg1 m c) (arg2 m c) (arg3 m c) (bIx t) (sIx t r) g := by
  subst hg
  refine (pay_z _ _ _ _ r f).trans ?_
  unfold Spec.zz
  refine Finset.sum_congr rfl fun d _ => ?_
  rw [iblk_x, iblk_sc, iblk_sh, iblk_w]
  have hf := f.isLt
  have e : f = (⟨f.val % 3072, Nat.mod_lt _ (by decide)⟩ : Fin 3072) := Fin.ext (by show f.val = f.val % 3072; omega)
  rw [← e]

/-- The turn by the padded tables is the plain turn. -/
theorem turn (t : Fin cfg0.N) (r : Fin 256) (f : Fin 1024) (p : ℕ) (hp : p = 0 ∨ p = 1024) (l : p + f.val < 3072)
    (l1 : p + (f.val + 1024 - 1008) % 1024 < 3072) (l2 : p + (f.val + 1024 - 16) % 1024 < 3072) :
    (zB m c t (ix2 r (⟨p + f.val, l⟩ : Fin 3072)) * (iblk m c 4 t : Vec Ideal S256x1024 .f32) (ix2 r f)
      + zB m c t (ix2 r (⟨p + (f.val + 1024 - 1008) % 1024, l1⟩ : Fin 3072)) * (iblk m c 5 t : Vec Ideal S256x1024 .f32) (ix2 r f)
      + zB m c t (ix2 r (⟨p + (f.val + 1024 - 16) % 1024, l2⟩ : Fin 3072)) * (iblk m c 6 t : Vec Ideal S256x1024 .f32) (ix2 r f) : EReal)
      = Spec.rot (arg0 m c) (arg1 m c) (arg2 m c) (arg3 m c) (bIx t) (sIx t r) (p + f.val) := by
  have hf := f.isLt
  have hm : f.val % 128 = (p + f.val) % 128 := by omega
  rw [iblk_c m c t r f (p + f.val) hm, iblk_a m c t r f (p + f.val) hm, iblk_b m c t r f (p + f.val) hm, z_at m c t r _ (p + f.val) (by rfl)]
  unfold Spec.rot
  by_cases h : (p + f.val) % 128 < 16
  · rw [if_pos h, if_pos (by omega), if_pos h, if_pos h,
      z_at m c t r _ (p + f.val + 16) (by show p + (f.val + 1024 - 1008) % 1024 = p + f.val + 16; omega)]
    rw [mul_zero, add_zero, mul_neg, sub_eq_add_neg]
  · by_cases h' : (p + f.val) % 128 < 32
    · rw [if_neg h, if_pos h', if_neg h, if_pos h', if_neg h, if_pos h',
        z_at m c t r (⟨p + (f.val + 1024 - 16) % 1024, l2⟩ : Fin 3072) (p + f.val - 16)
          (by show p + (f.val + 1024 - 16) % 1024 = p + f.val - 16; omega)]
      rw [mul_zero, add_zero]
    · rw [if_neg h, if_neg h', if_neg h, if_neg h', if_neg h, if_neg h']
      rw [mul_zero, mul_zero, add_zero, add_zero, mul_one]

theorem q_at (t : Fin cfg0.N) (r : Fin 256) (f : Fin 1024) :
    k0_pay10 (F := Ideal) (k0_pay5 (iblk m c 0 t) (iblk m c 2 t) (iblk m c 1 t) (iblk m c 3 t) (iblk m c 4 t) (iblk m c 5 t) (iblk m c 6 t)) (ix2 r f)
      = Spec.rot (arg0 m c) (arg1 m c) (arg2 m c) (arg3 m c) (bIx t) (sIx t r) f.val := by
  have hf := f.isLt
  have h := turn m c t r f 0 (Or.inl rfl) (by omega) (by omega) (by omega)
  simp only [Nat.zero_add] at h
  exact (pay_q _ _ _ _ _ _ _ r f).trans h

theorem k_at (t : Fin cfg0.N) (r : Fin 256) (f : Fin 1024) :
    addf (k0_pay7 (F := Ideal) (iblk m c 0 t) (iblk m c 2 t) (iblk m c 1 t) (iblk m c 3 t) (iblk m c 4 t) (iblk m c 5 t)) (k0_pay8 (iblk m c 0 t) (iblk m c 2 t) (iblk m c 1 t) (iblk m c 3 t) (iblk m c 6 t)) (ix2 r f)
      = Spec.rot (arg0 m c) (arg1 m c) (arg2 m c) (arg3 m c) (bIx t) (sIx t r) (1024 + f.val) := by
  have hf := f.isLt
  exact (pay_k _ _ _ _ _ _ _ r f).trans (turn m c t r f 1024 (Or.inr rfl) (by omega) (by omega) (by omega))

/-- The results. -/
def qArr : Vec Ideal S16384x1024 .bf16 := Cert.MobaReferenceIdeal.Read.val_main_v83 (F := Ideal) (arg0 m c) (arg1 m c) (arg2 m c) (arg3 m c)
def kArr : Vec Ideal S2x8x8192x128 .f32 := Cert.MobaReferenceIdeal.Read.val_main_v80 (F := Ideal) (arg0 m c) (arg1 m c) (arg2 m c) (arg3 m c)
def vArr : Vec Ideal S2x8x8192x128 .f32 := Cert.MobaReferenceIdeal.Read.val_main_v81 (F := Ideal) (arg0 m c) (arg1 m c) (arg2 m c) (arg3 m c)
def kbArr : Vec Ideal S2x8x8192x128 .bf16 := Cert.MobaReferenceIdeal.Read.val_main_v84 (F := Ideal) (arg0 m c) (arg1 m c) (arg2 m c) (arg3 m c)
def vtArr : Vec Ideal S2x8x128x8192 .bf16 := Cert.MobaReferenceIdeal.Read.val_main_v86 (F := Ideal) (arg0 m c) (arg1 m c) (arg2 m c) (arg3 m c)
def kmArr : Vec Ideal S2x32x8x128 .f32 := Cert.MobaReferenceIdeal.Read.val_main_v87 (F := Ideal) (arg0 m c) (arg1 m c) (arg2 m c) (arg3 m c)

theorem flushed_q (t : Fin cfg0.N) (hf : (cfg0.win 7).flush t = true) :
    (dats m 0 c).flushed 7 t = ((cfg0.win 7).blk t).view.read (Elt Ideal) (qArr m c) := by
  rw [Value.flushed7]
  funext y
  obtain ⟨r, f, rfl⟩ : ∃ (r : Fin 256) (f : Fin 1024), y = ix2 r f := ⟨y 0, y 1, by
    funext a
    fin_cases a <;> rfl⟩
  show out0_7 (iblk m c 0 t) (iblk m c 1 t) (iblk m c 2 t) (iblk m c 3 t) (iblk m c 4 t) (iblk m c 5 t) (iblk m c 6 t) (ix2 r f) = qArr m c ((win0_7.rect t).emb (ix2 r f))
  rw [emb_q, out7_eq]
  refine (q_at m c t r f).trans ?_
  unfold qArr
  refine Eq.trans ?_ (Spec.q_apply _ _ _ _ (rIx t r) f).symm
  have hr := r.isLt
  have ht : t.val < 64 := t.isLt
  congr 1
  · exact Fin.ext (by show t.val / 32 = (t.val * 256 + r.val) / 8192; omega)
  · exact Fin.ext (by show t.val % 32 * 256 + r.val = (t.val * 256 + r.val) % 8192; omega)

theorem flushed_k (t : Fin cfg0.N) (hf : (cfg0.win 8).flush t = true) :
    (dats m 0 c).flushed 8 t = ((cfg0.win 8).blk t).view.read (Elt Ideal) (kArr m c) := by
  rw [Value.flushed8]
  funext y
  obtain ⟨h, r, e, rfl⟩ : ∃ (h : Fin 8) (r : Fin 256) (e : Fin 128), y = ix4 (0 : Fin 1) h r e := ⟨y 1, y 2, y 3, by
    funext a
    fin_cases a
    · exact Subsingleton.elim (α := Fin 1) _ _
    · rfl
    · rfl
    · rfl⟩
  show out0_8 (iblk m c 0 t) (iblk m c 1 t) (iblk m c 2 t) (iblk m c 3 t) (iblk m c 4 t) (iblk m c 5 t) (iblk m c 6 t) (ix4 (0 : Fin 1) h r e) = kArr m c ((win0_8.rect t).emb (ix4 (0 : Fin 1) h r e))
  rw [emb_k, out8_eq]
  have hh := h.isLt
  have he := e.isLt
  have e0 : Value.ix8_0 (ix4 (0 : Fin 1) h r e) = ix2 r (⟨h.val * 128 + e.val, by omega⟩ : Fin 1024) := by funext a; fin_cases a <;> rfl
  have e1 : Value.ix8_1 (ix4 (0 : Fin 1) h r e) = ix2 r (⟨h.val * 128 + e.val, by omega⟩ : Fin 1024) := by funext a; fin_cases a <;> rfl
  have s : Value.E8 (F := Ideal) (iblk m c 0 t) (iblk m c 2 t) (iblk m c 1 t) (iblk m c 3 t) (iblk m c 4 t) (iblk m c 5 t) (iblk m c 6 t) (ix4 (0 : Fin 1) h r e)
      = addf (k0_pay7 (F := Ideal) (iblk m c 0 t) (iblk m c 2 t) (iblk m c 1 t) (iblk m c 3 t) (iblk m c 4 t) (iblk m c 5 t)) (k0_pay8 (iblk m c 0 t) (iblk m c 2 t) (iblk m c 1 t) (iblk m c 3 t) (iblk m c 6 t)) (ix2 r (⟨h.val * 128 + e.val, by omega⟩ : Fin 1024)) := by
    unfold Value.E8
    rw [e0, e1]
    rfl
  rw [s, k_at]
  unfold kArr
  exact (Spec.k_apply (arg0 m c) (arg1 m c) (arg2 m c) (arg3 m c) (bIx t) h (sIx t r) e).symm

theorem flushed_kb (t : Fin cfg0.N) (hf : (cfg0.win 10).flush t = true) :
    (dats m 0 c).flushed 10 t = ((cfg0.win 10).blk t).view.read (Elt Ideal) (kbArr m c) := by
  rw [Value.flushed10]
  funext y
  obtain ⟨h, r, e, rfl⟩ : ∃ (h : Fin 8) (r : Fin 256) (e : Fin 128), y = ix4 (0 : Fin 1) h r e := ⟨y 1, y 2, y 3, by
    funext a
    fin_cases a
    · exact Subsingleton.elim (α := Fin 1) _ _
    · rfl
    · rfl
    · rfl⟩
  show out0_10 (iblk m c 0 t) (iblk m c 1 t) (iblk m c 2 t) (iblk m c 3 t) (iblk m c 4 t) (iblk m c 5 t) (iblk m c 6 t) (ix4 (0 : Fin 1) h r e) = kbArr m c ((win0_10.rect t).emb (ix4 (0 : Fin 1) h r e))
  rw [emb_kb, out10_eq]
  have hh := h.isLt
  have he := e.isLt
  have e0 : Value.ix10_0 (ix4 (0 : Fin 1) h r e) = ix2 r (⟨h.val * 128 + e.val, by omega⟩ : Fin 1024) := by funext a; fin_cases a <;> rfl
  have e1 : Value.ix10_1 (ix4 (0 : Fin 1) h r e) = ix2 r (⟨h.val * 128 + e.val, by omega⟩ : Fin 1024) := by funext a; fin_cases a <;> rfl
  have s : Value.E10 (F := Ideal) (iblk m c 0 t) (iblk m c 2 t) (iblk m c 1 t) (iblk m c 3 t) (iblk m c 4 t) (iblk m c 5 t) (iblk m c 6 t) (ix4 (0 : Fin 1) h r e)
      = addf (k0_pay7 (F := Ideal) (iblk m c 0 t) (iblk m c 2 t) (iblk m c 1 t) (iblk m c 3 t) (iblk m c 4 t) (iblk m c 5 t)) (k0_pay8 (iblk m c 0 t) (iblk m c 2 t) (iblk m c 1 t) (iblk m c 3 t) (iblk m c 6 t)) (ix2 r (⟨h.val * 128 + e.val, by omega⟩ : Fin 1024)) := by
    unfold Value.E10
    rw [e0, e1]
    rfl
  rw [s, k_at]
  unfold kbArr
  exact (Spec.kb_apply (arg0 m c) (arg1 m c) (arg2 m c) (arg3 m c) (bIx t) h (sIx t r) e).symm

theorem flushed_v (t : Fin cfg0.N) (hf : (cfg0.win 9).flush t = true) :
    (dats m 0 c).flushed 9 t = ((cfg0.win 9).blk t).view.read (Elt Ideal) (vArr m c) := by
  rw [Value.flushed9]
  funext y
  obtain ⟨h, r, e, rfl⟩ : ∃ (h : Fin 8) (r : Fin 256) (e : Fin 128), y = ix4 (0 : Fin 1) h r e := ⟨y 1, y 2, y 3, by
    funext a
    fin_cases a
    · exact Subsingleton.elim (α := Fin 1) _ _
    · rfl
    · rfl
    · rfl⟩
  show out0_9 (iblk m c 0 t) (iblk m c 1 t) (iblk m c 2 t) (iblk m c 3 t) (iblk m c 4 t) (iblk m c 5 t) (iblk m c 6 t) (ix4 (0 : Fin 1) h r e) = vArr m c ((win0_9.rect t).emb (ix4 (0 : Fin 1) h r e))
  rw [emb_v, out9_eq]
  have hh := h.isLt
  have he := e.isLt
  show zB m c t (ix2 r (⟨h.val * 128 + e.val + 2048, by omega⟩ : Fin 3072)) = vArr m c _
  exact (z_at m c t r (⟨h.val * 128 + e.val + 2048, by omega⟩ : Fin 3072) (2048 + (h.val * 128 + e.val)) (by show h.val * 128 + e.val + 2048 = _; omega)).trans
    (Spec.v_apply (arg0 m c) (arg1 m c) (arg2 m c) (arg3 m c) (bIx t) h (sIx t r) e).symm

theorem flushed_vt (t : Fin cfg0.N) (hf : (cfg0.win 11).flush t = true) :
    (dats m 0 c).flushed 11 t = ((cfg0.win 11).blk t).view.read (Elt Ideal) (vtArr m c) := by
  rw [Value.flushed11]
  funext y
  obtain ⟨h, e, r, rfl⟩ : ∃ (h : Fin 8) (e : Fin 128) (r : Fin 256), y = ix4 (0 : Fin 1) h e r := ⟨y 1, y 2, y 3, by
    funext a
    fin_cases a
    · exact Subsingleton.elim (α := Fin 1) _ _
    · rfl
    · rfl
    · rfl⟩
  show out0_11 (iblk m c 0 t) (iblk m c 1 t) (iblk m c 2 t) (iblk m c 3 t) (iblk m c 4 t) (iblk m c 5 t) (iblk m c 6 t) (ix4 (0 : Fin 1) h e r) = vtArr m c ((win0_11.rect t).emb (ix4 (0 : Fin 1) h e r))
  rw [emb_vt, out11_eq]
  have hh := h.isLt
  have he := e.isLt
  show zB m c t (ix2 r (⟨h.val * 128 + e.val + 2048, by omega⟩ : Fin 3072)) = vtArr m c _
  exact (z_at m c t r (⟨h.val * 128 + e.val + 2048, by omega⟩ : Fin 3072) (2048 + (h.val * 128 + e.val)) (by show h.val * 128 + e.val + 2048 = _; omega)).trans
    (Spec.vt_apply (arg0 m c) (arg1 m c) (arg2 m c) (arg3 m c) (bIx t) h e (sIx t r)).symm

theorem flushed_km (t : Fin cfg0.N) (hf : (cfg0.win 12).flush t = true) :
    (dats m 0 c).flushed 12 t = ((cfg0.win 12).blk t).view.read (Elt Ideal) (kmArr m c) := by
  rw [Value.flushed12]
  funext y
  obtain ⟨h, e, rfl⟩ : ∃ (h : Fin 8) (e : Fin 128), y = ix4 (0 : Fin 1) (0 : Fin 1) h e := ⟨y 2, y 3, by
    funext a
    fin_cases a
    · exact Subsingleton.elim (α := Fin 1) _ _
    · exact Subsingleton.elim (α := Fin 1) _ _
    · rfl
    · rfl⟩
  show out0_12 (iblk m c 0 t) (iblk m c 1 t) (iblk m c 2 t) (iblk m c 3 t) (iblk m c 4 t) (iblk m c 5 t) (iblk m c 6 t) (ix4 (0 : Fin 1) (0 : Fin 1) h e) = kmArr m c ((win0_12.rect t).emb (ix4 (0 : Fin 1) (0 : Fin 1) h e))
  rw [emb_km, out12_eq]
  have hh := h.isLt
  have he := e.isLt
  have e1 : Value.ix12_0 (ix4 (0 : Fin 1) (0 : Fin 1) h e) = ix1 e := by funext a; fin_cases a; rfl
  have e2 : Value.sel12 (ix4 (0 : Fin 1) (0 : Fin 1) h e) = h := rfl
  have s : Value.Fam12_0 (F := Ideal) (iblk m c 0 t) (iblk m c 2 t) (iblk m c 1 t) (iblk m c 3 t) (iblk m c 4 t) (iblk m c 5 t) (iblk m c 6 t) h (ix1 e)
      = (∑ k : Fin 256, Spec.rot (arg0 m c) (arg1 m c) (arg2 m c) (arg3 m c) (bIx t) (sIx t k) (1024 + (h.val * 128 + e.val)) : EReal) :=
    (fam _ _ _ _ _ _ _ h e).trans (Finset.sum_congr rfl fun k _ => k_at m c t k (⟨h.val * 128 + e.val, by omega⟩ : Fin 1024))
  unfold kmArr
  refine Eq.trans ?_ (Spec.km_apply (arg0 m c) (arg1 m c) (arg2 m c) (arg3 m c) (bIx t) (nIx t) h e).symm
  show Ideal.div (Value.Fam12_0 (F := Ideal) (iblk m c 0 t) (iblk m c 2 t) (iblk m c 1 t) (iblk m c 3 t) (iblk m c 4 t) (iblk m c 5 t) (iblk m c 6 t)
    (Value.sel12 (ix4 (0 : Fin 1) (0 : Fin 1) h e)) (Value.ix12_0 (ix4 (0 : Fin 1) (0 : Fin 1) h e))) (Ideal.ofBits .f32 0x43800000#32) = _
  rw [e1, e2, s]

theorem cover_q (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  have hlt : (i 0).val / 256 < cfg0.N := by show _ < 64; omega
  refine ⟨⟨(i 0).val / 256, hlt⟩, flush0_7 _, ?_⟩
  have e : ((cfg0.win 7).blk ⟨(i 0).val / 256, hlt⟩).view.emb
      (ix2 (⟨(i 0).val % 256, Nat.mod_lt _ (by decide)⟩ : Fin 256) (⟨(i 1).val, h1⟩ : Fin 1024)) = i := by
    refine (emb_q ⟨(i 0).val / 256, hlt⟩ _ _).trans ?_
    funext a
    refine Fin.ext ?_
    fin_cases a
    · show (i 0).val / 256 * 256 + (i 0).val % 256 = (i 0).val; omega
    · show (i 1).val = (i 1).val; omega
  exact Eq.subst (motive := fun z => z ∈ ((cfg0.win 7).blk ⟨(i 0).val / 256, hlt⟩).view.set) e (View.emb_mem_set _ _)

theorem cover_k (i : S2x8x8192x128.Idx) : ∃ t : Fin cfg0.N, (cfg0.win 8).flush t = true ∧ i ∈ ((cfg0.win 8).blk t).view.set := by
  have h0 : (i 0).val < 2 := (i 0).isLt
  have h1 : (i 1).val < 8 := (i 1).isLt
  have h2 : (i 2).val < 8192 := (i 2).isLt
  have h3 : (i 3).val < 128 := (i 3).isLt
  have hlt : (i 0).val * 32 + (i 2).val / 256 < cfg0.N := by show _ < 64; omega
  refine ⟨⟨(i 0).val * 32 + (i 2).val / 256, hlt⟩, flush0_8 _, ?_⟩
  have e : ((cfg0.win 8).blk ⟨(i 0).val * 32 + (i 2).val / 256, hlt⟩).view.emb
      (ix4 (0 : Fin 1) (⟨(i 1).val, h1⟩ : Fin 8) (⟨(i 2).val % 256, Nat.mod_lt _ (by decide)⟩ : Fin 256) (⟨(i 3).val, h3⟩ : Fin 128)) = i := by
    refine (emb_k ⟨(i 0).val * 32 + (i 2).val / 256, hlt⟩ _ _ _).trans ?_
    funext a
    refine Fin.ext ?_
    fin_cases a
    · show ((i 0).val * 32 + (i 2).val / 256) / 32 = (i 0).val; omega
    · show (i 1).val = (i 1).val; omega
    · show ((i 0).val * 32 + (i 2).val / 256) % 32 * 256 + (i 2).val % 256 = (i 2).val; omega
    · show (i 3).val = (i 3).val; omega
  exact Eq.subst (motive := fun z => z ∈ ((cfg0.win 8).blk ⟨(i 0).val * 32 + (i 2).val / 256, hlt⟩).view.set) e (View.emb_mem_set _ _)

theorem cover_v (i : S2x8x8192x128.Idx) : ∃ t : Fin cfg0.N, (cfg0.win 9).flush t = true ∧ i ∈ ((cfg0.win 9).blk t).view.set := by
  have h0 : (i 0).val < 2 := (i 0).isLt
  have h1 : (i 1).val < 8 := (i 1).isLt
  have h2 : (i 2).val < 8192 := (i 2).isLt
  have h3 : (i 3).val < 128 := (i 3).isLt
  have hlt : (i 0).val * 32 + (i 2).val / 256 < cfg0.N := by show _ < 64; omega
  refine ⟨⟨(i 0).val * 32 + (i 2).val / 256, hlt⟩, flush0_9 _, ?_⟩
  have e : ((cfg0.win 9).blk ⟨(i 0).val * 32 + (i 2).val / 256, hlt⟩).view.emb
      (ix4 (0 : Fin 1) (⟨(i 1).val, h1⟩ : Fin 8) (⟨(i 2).val % 256, Nat.mod_lt _ (by decide)⟩ : Fin 256) (⟨(i 3).val, h3⟩ : Fin 128)) = i := by
    refine (emb_v ⟨(i 0).val * 32 + (i 2).val / 256, hlt⟩ _ _ _).trans ?_
    funext a
    refine Fin.ext ?_
    fin_cases a
    · show ((i 0).val * 32 + (i 2).val / 256) / 32 = (i 0).val; omega
    · show (i 1).val = (i 1).val; omega
    · show ((i 0).val * 32 + (i 2).val / 256) % 32 * 256 + (i 2).val % 256 = (i 2).val; omega
    · show (i 3).val = (i 3).val; omega
  exact Eq.subst (motive := fun z => z ∈ ((cfg0.win 9).blk ⟨(i 0).val * 32 + (i 2).val / 256, hlt⟩).view.set) e (View.emb_mem_set _ _)

theorem cover_kb (i : S2x8x8192x128.Idx) : ∃ t : Fin cfg0.N, (cfg0.win 10).flush t = true ∧ i ∈ ((cfg0.win 10).blk t).view.set := by
  have h0 : (i 0).val < 2 := (i 0).isLt
  have h1 : (i 1).val < 8 := (i 1).isLt
  have h2 : (i 2).val < 8192 := (i 2).isLt
  have h3 : (i 3).val < 128 := (i 3).isLt
  have hlt : (i 0).val * 32 + (i 2).val / 256 < cfg0.N := by show _ < 64; omega
  refine ⟨⟨(i 0).val * 32 + (i 2).val / 256, hlt⟩, flush0_10 _, ?_⟩
  have e : ((cfg0.win 10).blk ⟨(i 0).val * 32 + (i 2).val / 256, hlt⟩).view.emb
      (ix4 (0 : Fin 1) (⟨(i 1).val, h1⟩ : Fin 8) (⟨(i 2).val % 256, Nat.mod_lt _ (by decide)⟩ : Fin 256) (⟨(i 3).val, h3⟩ : Fin 128)) = i := by
    refine (emb_kb ⟨(i 0).val * 32 + (i 2).val / 256, hlt⟩ _ _ _).trans ?_
    funext a
    refine Fin.ext ?_
    fin_cases a
    · show ((i 0).val * 32 + (i 2).val / 256) / 32 = (i 0).val; omega
    · show (i 1).val = (i 1).val; omega
    · show ((i 0).val * 32 + (i 2).val / 256) % 32 * 256 + (i 2).val % 256 = (i 2).val; omega
    · show (i 3).val = (i 3).val; omega
  exact Eq.subst (motive := fun z => z ∈ ((cfg0.win 10).blk ⟨(i 0).val * 32 + (i 2).val / 256, hlt⟩).view.set) e (View.emb_mem_set _ _)

theorem cover_vt (i : S2x8x128x8192.Idx) : ∃ t : Fin cfg0.N, (cfg0.win 11).flush t = true ∧ i ∈ ((cfg0.win 11).blk t).view.set := by
  have h0 : (i 0).val < 2 := (i 0).isLt
  have h1 : (i 1).val < 8 := (i 1).isLt
  have h2 : (i 2).val < 128 := (i 2).isLt
  have h3 : (i 3).val < 8192 := (i 3).isLt
  have hlt : (i 0).val * 32 + (i 3).val / 256 < cfg0.N := by show _ < 64; omega
  refine ⟨⟨(i 0).val * 32 + (i 3).val / 256, hlt⟩, flush0_11 _, ?_⟩
  have e : ((cfg0.win 11).blk ⟨(i 0).val * 32 + (i 3).val / 256, hlt⟩).view.emb
      (ix4 (0 : Fin 1) (⟨(i 1).val, h1⟩ : Fin 8) (⟨(i 2).val, h2⟩ : Fin 128) (⟨(i 3).val % 256, Nat.mod_lt _ (by decide)⟩ : Fin 256)) = i := by
    refine (emb_vt ⟨(i 0).val * 32 + (i 3).val / 256, hlt⟩ _ _ _).trans ?_
    funext a
    refine Fin.ext ?_
    fin_cases a
    · show ((i 0).val * 32 + (i 3).val / 256) / 32 = (i 0).val; omega
    · show (i 1).val = (i 1).val; omega
    · show (i 2).val = (i 2).val; omega
    · show ((i 0).val * 32 + (i 3).val / 256) % 32 * 256 + (i 3).val % 256 = (i 3).val; omega
  exact Eq.subst (motive := fun z => z ∈ ((cfg0.win 11).blk ⟨(i 0).val * 32 + (i 3).val / 256, hlt⟩).view.set) e (View.emb_mem_set _ _)

theorem cover_km (i : S2x32x8x128.Idx) : ∃ t : Fin cfg0.N, (cfg0.win 12).flush t = true ∧ i ∈ ((cfg0.win 12).blk t).view.set := by
  have h0 : (i 0).val < 2 := (i 0).isLt
  have h1 : (i 1).val < 32 := (i 1).isLt
  have h2 : (i 2).val < 8 := (i 2).isLt
  have h3 : (i 3).val < 128 := (i 3).isLt
  have hlt : (i 0).val * 32 + (i 1).val < cfg0.N := by show _ < 64; omega
  refine ⟨⟨(i 0).val * 32 + (i 1).val, hlt⟩, flush0_12 _, ?_⟩
  have e : ((cfg0.win 12).blk ⟨(i 0).val * 32 + (i 1).val, hlt⟩).view.emb
      (ix4 (0 : Fin 1) (0 : Fin 1) (⟨(i 2).val, h2⟩ : Fin 8) (⟨(i 3).val, h3⟩ : Fin 128)) = i := by
    refine (emb_km ⟨(i 0).val * 32 + (i 1).val, hlt⟩ _ _).trans ?_
    funext a
    refine Fin.ext ?_
    fin_cases a
    · show ((i 0).val * 32 + (i 1).val) / 32 = (i 0).val; omega
    · show ((i 0).val * 32 + (i 1).val) % 32 = (i 1).val; omega
    · show (i 2).val = (i 2).val; omega
    · show (i 3).val = (i 3).val; omega
  exact Eq.subst (motive := fun z => z ∈ ((cfg0.win 12).blk ⟨(i 0).val * 32 + (i 1).val, hlt⟩).view.set) e (View.emb_mem_set _ _)

theorem result_q : (dats m 0 c).arrAt 7 cfg0.N = qArr m c := (dats m 0 c).arrAt_eq_of_cover 7 (qArr m c) (flushed_q m c) cover_q
theorem result_k : (dats m 0 c).arrAt 8 cfg0.N = kArr m c := (dats m 0 c).arrAt_eq_of_cover 8 (kArr m c) (flushed_k m c) cover_k
theorem result_v : (dats m 0 c).arrAt 9 cfg0.N = vArr m c := (dats m 0 c).arrAt_eq_of_cover 9 (vArr m c) (flushed_v m c) cover_v
theorem result_kb : (dats m 0 c).arrAt 10 cfg0.N = kbArr m c := (dats m 0 c).arrAt_eq_of_cover 10 (kbArr m c) (flushed_kb m c) cover_kb
theorem result_vt : (dats m 0 c).arrAt 11 cfg0.N = vtArr m c := (dats m 0 c).arrAt_eq_of_cover 11 (vtArr m c) (flushed_vt m c) cover_vt
theorem result_km : (dats m 0 c).arrAt 12 cfg0.N = kmArr m c := (dats m 0 c).arrAt_eq_of_cover 12 (kmArr m c) (flushed_km m c) cover_km

/-- The program's run: the plain projection's six results, its arguments kept. -/
theorem run_value (ρ : Dev nD → PrngReg) :
    θ_run defs (onTc (τ := τ) (main (F := Ideal))) ⟨m, fun _ => 0, ρ⟩ (fun r => ∀ c : Dev nD,
      r.2.mem ((c : Thread nD τ).loc main_v34_0) = qArr m c
      ∧ r.2.mem ((c : Thread nD τ).loc main_v34_1) = kArr m c
      ∧ r.2.mem ((c : Thread nD τ).loc main_v34_2) = vArr m c
      ∧ r.2.mem ((c : Thread nD τ).loc main_v34_3) = kbArr m c
      ∧ r.2.mem ((c : Thread nD τ).loc main_v34_4) = vtArr m c
      ∧ r.2.mem ((c : Thread nD τ).loc main_v34_5) = kmArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (result_q m c), (h c).2.1.trans (result_k m c), (h c).2.2.1.trans (result_v m c), (h c).2.2.2.1.trans (result_kb m c), (h c).2.2.2.2.1.trans (result_vt m c), (h c).2.2.2.2.2.1.trans (result_km m c), (h c).2.2.2.2.2.2⟩) (Value.run_blocks m ρ)

end Cert.MobaIdeal.Ret

end
-- ==== Proof.Samp.Spec.lean ====
/- The plain projection of the block-sparse attention's next token of each sampled sequence, read by index: the modulated rows
times the weights, the first channels of the queries and the keys turned by the one position. -/
module

public import proofs.«01_k».proof.Proof.Gen.SampReferenceIdeal.Read
public import Idealize.ShloMosaic.Lib.Pointwise

@[expose] public section

set_option maxRecDepth 16384

noncomputable section

namespace Cert.SampIdeal.Spec

open Cert.SampReferenceIdeal Cert.SampReferenceIdeal.Gen Cert.SampReferenceIdeal.Read
open Idealize.ShloMosaic Idealize.ShloMosaic.TcCoe

/-- The cosine and the sine of the position's angle, by the channel modulo the turned half. -/
def cosT (f : ℕ) : EReal := val_main_v24 (F := Ideal) (ix2 0 ⟨f % 16, Nat.mod_lt _ (by decide)⟩)
def sinT (f : ℕ) : EReal := val_main_v26 (F := Ideal) (ix2 0 ⟨f % 16, Nat.mod_lt _ (by decide)⟩)

theorem one_f32 : Ideal.ofBits .f32 0x3F800000#32 = 1 := by
  simp [Ideal.ofBits, Ideal.ieee, -EReal.coe_mul]
  norm_num

theorem zero_f32 : Ideal.ofBits .f32 0x00000000#32 = 0 := by
  simp [Ideal.ofBits, Ideal.ieee]

section
variable (x0 : Vec Ideal S128x1x1024 .f32) (x1 x2 : Vec Ideal S128x1024 .f32) (x3 : Vec Ideal S1024x3072 .f32)

/-- A projected element, before the turn. -/
def zz (b : Fin 128) (f : ℕ) : EReal :=
  ∑ d : Fin 1024, (x0 (ix3 b 0 d) * (1 + x2 (ix2 b d)) + x1 (ix2 b d)) * x3 (ix2 d ⟨f % 3072, Nat.mod_lt _ (by decide)⟩)

/-- A projected element, turned by its position. -/
def rot (b : Fin 128) (f : ℕ) : EReal :=
  if f % 128 < 16 then zz x0 x1 x2 x3 b f * cosT f - zz x0 x1 x2 x3 b (f + 16) * sinT f
  else if f % 128 < 32 then zz x0 x1 x2 x3 b f * cosT f + zz x0 x1 x2 x3 b (f - 16) * sinT f
  else zz x0 x1 x2 x3 b f

theorem v9_at (i : S128x1x3072.Idx) (b : Fin 128) (f : ℕ) (h0 : (i 0).val = b.val) (h2 : (i 2).val = f) :
    val_main_v9 (F := Ideal) x0 x1 x2 x3 i = zz x0 x1 x2 x3 b f := by
  obtain ⟨b', f', rfl⟩ : ∃ (b' : Fin 128) (f' : Fin 3072), i = ix3 b' (0 : Fin 1) f' := ⟨i 0, i 2, by
    funext a
    fin_cases a
    · rfl
    · exact Subsingleton.elim (α := Fin 1) _ _
    · rfl⟩
  obtain rfl : b' = b := Fin.ext h0
  rw [val_main_v9_apply]
  unfold zz
  refine Finset.sum_congr rfl fun d _ => ?_
  have hl : lidx_main_v9 (ix3 b' (0 : Fin 1) f') d = ix3 b' (0 : Fin 1) d := by funext a; fin_cases a <;> rfl
  have hr : ridx_main_v9 (ix3 b' (0 : Fin 1) f') d = ix2 d ⟨f % 3072, Nat.mod_lt _ (by decide)⟩ := by
    have hf : f'.val < 3072 := f'.isLt
    have h2' : f'.val = f := h2
    funext a; fin_cases a
    · rfl
    · refine Fin.ext ?_; show f'.val = f % 3072; omega
  rw [hl, hr, val_main_v8_apply, val_main_v6_apply, val_main_v5_apply, val_main_v4_apply, val_main_v3_apply, val_main_cst_apply,
    val_main_v7_apply]
  have e3 : idx_main_v3 (ix3 b' (0 : Fin 1) d) = ix2 b' d := by funext a; fin_cases a <;> rfl
  have e7 : idx_main_v7 (ix3 b' (0 : Fin 1) d) = ix2 b' d := by funext a; fin_cases a <;> rfl
  rw [e3, e7]
  show (x0 (ix3 b' (0 : Fin 1) d) * (Ideal.ofBits .f32 0x3F800000#32 + x2 (ix2 b' d)) + x1 (ix2 b' d)) * _ = _
  rw [one_f32]

theorem v10_at (i : S128x1x3x8x128.Idx) (b : Fin 128) (f : ℕ) (h0 : (i 0).val = b.val)  (h2 : (i 2).val * 1024 + (i 3).val * 128 + (i 4).val = f) : val_main_v10 (F := Ideal) x0 x1 x2 x3 i = zz x0 x1 x2 x3 b f := by
  have l2 : (i 2).val < 3 := (i 2).isLt
  have l3 : (i 3).val < 8 := (i 3).isLt
  have l4 : (i 4).val < 128 := (i 4).isLt
  have lb := b.isLt
  have l1 : (i 1).val < 1 := (i 1).isLt
  rw [val_main_v10_apply]
  refine v9_at x0 x1 x2 x3 _ b f ?_ ?_
  · show (((((i 0).val * 1 + (i 1).val) * 3 + (i 2).val) * 8 + (i 3).val) * 128 + (i 4).val) / 3072 = b.val; omega
  · show (((((i 0).val * 1 + (i 1).val) * 3 + (i 2).val) * 8 + (i 3).val) * 128 + (i 4).val) % 3072 = f; omega

theorem v12_at (i : S128x1x8x128.Idx) (b : Fin 128) (f : ℕ) (h0 : (i 0).val = b.val)  (h2 : 0 + ((i 2).val * 128 + (i 3).val) = f) : val_main_v12 (F := Ideal) x0 x1 x2 x3 i = zz x0 x1 x2 x3 b f := by
  have l2 : (i 2).val < 8 := (i 2).isLt
  have l3 : (i 3).val < 128 := (i 3).isLt
  have lb := b.isLt
  have l1 : (i 1).val < 1 := (i 1).isLt
  rw [val_main_v12_apply, val_main_v11_apply]
  refine v10_at x0 x1 x2 x3 _ b f ?_ ?_
  · show ((((i 0).val * 1 + (i 1).val) * 8 + (i 2).val) * 128 + (i 3).val) / 1024 = b.val; omega
  · show 0 * 1024 + ((((i 0).val * 1 + (i 1).val) * 8 + (i 2).val) * 128 + (i 3).val) / 128 % 8 * 128
      + ((((i 0).val * 1 + (i 1).val) * 8 + (i 2).val) * 128 + (i 3).val) % 128 = f
    omega

theorem v43_at (i : S128x1x8x128.Idx) (b : Fin 128) (f : ℕ) (h0 : (i 0).val = b.val)  (h2 : 1024 + ((i 2).val * 128 + (i 3).val) = f) : val_main_v43 (F := Ideal) x0 x1 x2 x3 i = zz x0 x1 x2 x3 b f := by
  have l2 : (i 2).val < 8 := (i 2).isLt
  have l3 : (i 3).val < 128 := (i 3).isLt
  have lb := b.isLt
  have l1 : (i 1).val < 1 := (i 1).isLt
  rw [val_main_v43_apply, val_main_v42_apply]
  refine v10_at x0 x1 x2 x3 _ b f ?_ ?_
  · show ((((i 0).val * 1 + (i 1).val) * 8 + (i 2).val) * 128 + (i 3).val) / 1024 = b.val; omega
  · show (1 + 0) * 1024 + ((((i 0).val * 1 + (i 1).val) * 8 + (i 2).val) * 128 + (i 3).val) / 128 % 8 * 128
      + ((((i 0).val * 1 + (i 1).val) * 8 + (i 2).val) * 128 + (i 3).val) % 128 = f
    omega

theorem v74_at (i : S128x1x8x128.Idx) (b : Fin 128) (f : ℕ) (h0 : (i 0).val = b.val)  (h2 : 2048 + ((i 2).val * 128 + (i 3).val) = f) : val_main_v74 (F := Ideal) x0 x1 x2 x3 i = zz x0 x1 x2 x3 b f := by
  have l2 : (i 2).val < 8 := (i 2).isLt
  have l3 : (i 3).val < 128 := (i 3).isLt
  have lb := b.isLt
  have l1 : (i 1).val < 1 := (i 1).isLt
  rw [val_main_v74_apply, val_main_v73_apply]
  refine v10_at x0 x1 x2 x3 _ b f ?_ ?_
  · show ((((i 0).val * 1 + (i 1).val) * 8 + (i 2).val) * 128 + (i 3).val) / 1024 = b.val; omega
  · show (2 + 0) * 1024 + ((((i 0).val * 1 + (i 1).val) * 8 + (i 2).val) * 128 + (i 3).val) / 128 % 8 * 128
      + ((((i 0).val * 1 + (i 1).val) * 8 + (i 2).val) * 128 + (i 3).val) % 128 = f
    omega

theorem cos_at (i : S1x16.Idx) (f : ℕ) (h1 : (i 1).val = f % 16) :
    val_main_v24 (F := Ideal) i = cosT f := congrArg _ (funext fun a => Fin.ext (match a with
      | ⟨0, _⟩ => by have h : (i 0).val < 1 := (i 0).isLt; show (i 0).val = 0; omega
      | ⟨1, _⟩ => h1))

theorem sin_at (i : S1x16.Idx) (f : ℕ) (h1 : (i 1).val = f % 16) :
    val_main_v26 (F := Ideal) i = sinT f := congrArg _ (funext fun a => Fin.ext (match a with
      | ⟨0, _⟩ => by have h : (i 0).val < 1 := (i 0).isLt; show (i 0).val = 0; omega
      | ⟨1, _⟩ => h1))

theorem v55_eq : val_main_v55 (F := Ideal) = val_main_v24 (F := Ideal) := rfl
theorem v57_eq : val_main_v57 (F := Ideal) = val_main_v26 (F := Ideal) := rfl

theorem v41_at (b : Fin 128) (h : Fin 8) (e : Fin 128) :
    val_main_v41 (F := Ideal) x0 x1 x2 x3 (ix4 b (0 : Fin 1) h e) = rot x0 x1 x2 x3 b (0 + (h.val * 128 + e.val)) := by
  have hh := h.isLt
  have he := e.isLt
  unfold rot val_main_v41
  by_cases hc : e.val < 16
  · rw [if_pos (by omega)]
    rw [concatenate_apply_piece (3 : Fin 4) _ _ (ix4 b (0 : Fin 1) h e) 0 (by show 0 < 3; omega) S128x1x8x16 (val_main_v34 (F := Ideal) x0 x1 x2 x3) rfl rfl 0 rfl
      (ix4 b (0 : Fin 1) h (⟨e.val, hc⟩ : Fin 16)) (fun a ha => by fin_cases a <;> first | rfl | exact absurd rfl ha) (by show 0 + e.val = e.val; omega)]
    rw [val_main_v34_apply, val_main_v31_apply, val_main_v33_apply, val_main_v28_apply, val_main_v29_apply, val_main_v30_apply,
      val_main_v32_apply, val_main_v25_apply, val_main_v27_apply]
    rw [v12_at x0 x1 x2 x3 _ b (0 + (h.val * 128 + e.val)) (by rfl) (by rfl),
      v12_at x0 x1 x2 x3 _ b (0 + (h.val * 128 + e.val) + 16) (by rfl) (by show 0 + (h.val * 128 + (16 + e.val)) = _; omega),
      cos_at _ (0 + (h.val * 128 + e.val)) (by show e.val = _; omega),
      sin_at _ (0 + (h.val * 128 + e.val)) (by show e.val = _; omega)]
    rfl
  · rw [if_neg (by omega)]
    by_cases hd : e.val < 32
    · rw [if_pos (by omega)]
      rw [concatenate_apply_piece (3 : Fin 4) _ _ (ix4 b (0 : Fin 1) h e) 1 (by show 1 < 3; omega) S128x1x8x16 (val_main_v39 (F := Ideal) x0 x1 x2 x3) rfl rfl 16 rfl
        (ix4 b (0 : Fin 1) h (⟨e.val - 16, by omega⟩ : Fin 16)) (fun a ha => by fin_cases a <;> first | rfl | exact absurd rfl ha) (by show 16 + (e.val - 16) = e.val; omega)]
      rw [val_main_v39_apply, val_main_v36_apply, val_main_v38_apply, val_main_v28_apply, val_main_v29_apply, val_main_v35_apply,
        val_main_v37_apply, val_main_v25_apply, val_main_v27_apply]
      rw [v12_at x0 x1 x2 x3 _ b (0 + (h.val * 128 + e.val)) (by rfl) (by show 0 + (h.val * 128 + (16 + (e.val - 16))) = _; omega),
        v12_at x0 x1 x2 x3 _ b (0 + (h.val * 128 + e.val) - 16) (by rfl) (by show 0 + (h.val * 128 + (e.val - 16)) = _; omega),
        cos_at _ (0 + (h.val * 128 + e.val)) (by show e.val - 16 = _; omega),
        sin_at _ (0 + (h.val * 128 + e.val)) (by show e.val - 16 = _; omega)]
      rfl
    · rw [if_neg (by omega)]
      rw [concatenate_apply_piece (3 : Fin 4) _ _ (ix4 b (0 : Fin 1) h e) 2 (by show 2 < 3; omega) S128x1x8x96 (val_main_v40 (F := Ideal) x0 x1 x2 x3) rfl rfl 32 rfl
        (ix4 b (0 : Fin 1) h (⟨e.val - 32, by omega⟩ : Fin 96)) (fun a ha => by fin_cases a <;> first | rfl | exact absurd rfl ha) (by show 32 + (e.val - 32) = e.val; omega)]
      rw [val_main_v40_apply]
      exact v12_at x0 x1 x2 x3 _ b (0 + (h.val * 128 + e.val)) (by rfl) (by show 0 + (h.val * 128 + (32 + (e.val - 32))) = _; omega)

theorem v72_at (b : Fin 128) (h : Fin 8) (e : Fin 128) :
    val_main_v72 (F := Ideal) x0 x1 x2 x3 (ix4 b (0 : Fin 1) h e) = rot x0 x1 x2 x3 b (1024 + (h.val * 128 + e.val)) := by
  have hh := h.isLt
  have he := e.isLt
  unfold rot val_main_v72
  by_cases hc : e.val < 16
  · rw [if_pos (by omega)]
    rw [concatenate_apply_piece (3 : Fin 4) _ _ (ix4 b (0 : Fin 1) h e) 0 (by show 0 < 3; omega) S128x1x8x16 (val_main_v65 (F := Ideal) x0 x1 x2 x3) rfl rfl 0 rfl
      (ix4 b (0 : Fin 1) h (⟨e.val, hc⟩ : Fin 16)) (fun a ha => by fin_cases a <;> first | rfl | exact absurd rfl ha) (by show 0 + e.val = e.val; omega)]
    rw [val_main_v65_apply, val_main_v62_apply, val_main_v64_apply, val_main_v59_apply, val_main_v60_apply, val_main_v61_apply,
      val_main_v63_apply, val_main_v56_apply, val_main_v58_apply, v55_eq, v57_eq]
    rw [v43_at x0 x1 x2 x3 _ b (1024 + (h.val * 128 + e.val)) (by rfl) (by rfl),
      v43_at x0 x1 x2 x3 _ b (1024 + (h.val * 128 + e.val) + 16) (by rfl) (by show 1024 + (h.val * 128 + (16 + e.val)) = _; omega),
      cos_at _ (1024 + (h.val * 128 + e.val)) (by show e.val = _; omega),
      sin_at _ (1024 + (h.val * 128 + e.val)) (by show e.val = _; omega)]
    rfl
  · rw [if_neg (by omega)]
    by_cases hd : e.val < 32
    · rw [if_pos (by omega)]
      rw [concatenate_apply_piece (3 : Fin 4) _ _ (ix4 b (0 : Fin 1) h e) 1 (by show 1 < 3; omega) S128x1x8x16 (val_main_v70 (F := Ideal) x0 x1 x2 x3) rfl rfl 16 rfl
        (ix4 b (0 : Fin 1) h (⟨e.val - 16, by omega⟩ : Fin 16)) (fun a ha => by fin_cases a <;> first | rfl | exact absurd rfl ha) (by show 16 + (e.val - 16) = e.val; omega)]
      rw [val_main_v70_apply, val_main_v67_apply, val_main_v69_apply, val_main_v59_apply, val_main_v60_apply, val_main_v66_apply,
        val_main_v68_apply, val_main_v56_apply, val_main_v58_apply, v55_eq, v57_eq]
      rw [v43_at x0 x1 x2 x3 _ b (1024 + (h.val * 128 + e.val)) (by rfl) (by show 1024 + (h.val * 128 + (16 + (e.val - 16))) = _; omega),
        v43_at x0 x1 x2 x3 _ b (1024 + (h.val * 128 + e.val) - 16) (by rfl) (by show 1024 + (h.val * 128 + (e.val - 16)) = _; omega),
        cos_at _ (1024 + (h.val * 128 + e.val)) (by show e.val - 16 = _; omega),
        sin_at _ (1024 + (h.val * 128 + e.val)) (by show e.val - 16 = _; omega)]
      rfl
    · rw [if_neg (by omega)]
      rw [concatenate_apply_piece (3 : Fin 4) _ _ (ix4 b (0 : Fin 1) h e) 2 (by show 2 < 3; omega) S128x1x8x96 (val_main_v71 (F := Ideal) x0 x1 x2 x3) rfl rfl 32 rfl
        (ix4 b (0 : Fin 1) h (⟨e.val - 32, by omega⟩ : Fin 96)) (fun a ha => by fin_cases a <;> first | rfl | exact absurd rfl ha) (by show 32 + (e.val - 32) = e.val; omega)]
      rw [val_main_v71_apply]
      exact v43_at x0 x1 x2 x3 _ b (1024 + (h.val * 128 + e.val)) (by rfl) (by show 1024 + (h.val * 128 + (32 + (e.val - 32))) = _; omega)

/-- The queries, by row and column. -/
theorem q_apply (r : Fin 128) (f : Fin 1024) :
    val_main_v76 (F := Ideal) x0 x1 x2 x3 (ix2 r f) = rot x0 x1 x2 x3 r f.val := by
  have hr := r.isLt
  have hf := f.isLt
  have e : idx_main_v75 (ix2 r f) = ix4 r (0 : Fin 1) (⟨f.val / 128, by omega⟩ : Fin 8)
      (⟨f.val % 128, Nat.mod_lt _ (by decide)⟩ : Fin 128) := funext fun a => Fin.ext (match a with
    | ⟨0, _⟩ => by show (r.val * 1024 + f.val) / 1024 = r.val; omega
    | ⟨1, _⟩ => rfl
    | ⟨2, _⟩ => by show (r.val * 1024 + f.val) / 128 % 8 = f.val / 128; omega
    | ⟨3, _⟩ => by show (r.val * 1024 + f.val) % 128 = f.val % 128; omega)
  rw [val_main_v76_apply, val_main_v75_apply, e, v41_at]
  have e2 : 0 + (f.val / 128 * 128 + f.val % 128) = f.val := by omega
  show rot x0 x1 x2 x3 _ (0 + (f.val / 128 * 128 + f.val % 128)) = _
  rw [e2]

/-- The keys and the values, by head, row and channel. -/
theorem k_apply (h : Fin 8) (r : Fin 128) (e : Fin 128) :
    val_main_v77 (F := Ideal) x0 x1 x2 x3 (ix4 (0 : Fin 1) h r e) = rot x0 x1 x2 x3 r (1024 + (h.val * 128 + e.val)) := by
  rw [val_main_v77_apply]
  have i : idx_main_v77 (ix4 (0 : Fin 1) h r e) = ix4 r (0 : Fin 1) h e := by funext a; fin_cases a <;> rfl
  rw [i, v72_at]

theorem v_apply (h : Fin 8) (r : Fin 128) (e : Fin 128) :
    val_main_v78 (F := Ideal) x0 x1 x2 x3 (ix4 (0 : Fin 1) h r e) = zz x0 x1 x2 x3 r (2048 + (h.val * 128 + e.val)) := by
  rw [val_main_v78_apply]
  exact v74_at x0 x1 x2 x3 _ r _ (by rfl) (by rfl)

end

end Cert.SampIdeal.Spec

end
-- ==== Proof.Samp.Value.lean ====
/- The projection's kernel of the block-sparse attention, at the next token of each sampled sequence: what its one grid point
writes into the queries, the keys and the values is the plain projection. -/
module

public import Idealize.ShloMosaic.Lib.Pipeline.ReadBack
public import proofs.«01_k».proof.Proof.Samp.Spec
public import proofs.«01_k».proof.Proof.Gen.SampIdeal.Value
public import Idealize.ShloMosaic.Lib.Claim
public import Idealize.ShloMosaic.Lib.Pointwise
public import Idealize.ShloMosaic.Lib.Pipeline.ValueKit

@[expose] public section

set_option maxRecDepth 16384

noncomputable section

namespace Cert.SampIdeal.Ret

open Cert.SampIdeal Cert.SampIdeal.Gen
open Idealize.ShloMosaic Idealize.ShloMosaic.TcCoe Idealize.ShloMosaic.Tactic
open Idealize.SL Idealize.SL.Sem
open Idealize.ShloMosaic.Pipeline (Dat Cfg Window)

/-! ## The body, read by index -/

theorem pay_z (x : Vec Ideal S128x1024 .f32) (sc sh : Vec Ideal S1x128x1024 .f32) (w : Vec Ideal S1024x3072 .bf16) (r : Fin 128) (f : Fin 3072) :
    k0_pay2 x sc sh w (ix2 r f) = (∑ d : Fin 1024, (x (ix2 r d) * (1 + sc (ix3 0 r d)) + sh (ix3 0 r d)) * w (ix2 d f) : EReal) := by
  pointwise [k0_pay2]
  try simp only [Spec.one_f32]

theorem pay_q (x : Vec Ideal S128x1024 .f32) (sc sh : Vec Ideal S1x128x1024 .f32) (w : Vec Ideal S1024x3072 .bf16)
    (tc ta tb : Vec Ideal S1x1024 .f32) (r : Fin 128) (f : Fin 1024) :
    k0_pay10 (k0_pay6 x sc sh w tc ta tb) (ix2 r f)
      = (k0_pay2 x sc sh w (ix2 r (⟨f.val, by have := f.isLt; omega⟩ : Fin 3072)) * tc (ix2 0 f)
          + k0_pay2 x sc sh w (ix2 r (⟨(f.val + 1024 - 1008) % 1024, by omega⟩ : Fin 3072)) * ta (ix2 0 f)
          + k0_pay2 x sc sh w (ix2 r (⟨(f.val + 1024 - 16) % 1024, by omega⟩ : Fin 3072)) * tb (ix2 0 f) : EReal) := by
  unfold k0_pay10 k0_pay6
  generalize k0_pay2 x sc sh w = z
  pointwise [k0_pay3, k0_pay4, k0_pay5]

/-- The turned keys of a block. -/
def turnK (x : Vec Ideal S128x1024 .f32) (sc sh : Vec Ideal S1x128x1024 .f32) (w : Vec Ideal S1024x3072 .bf16)
    (tc ta tb : Vec Ideal S1x1024 .f32) : FVec Ideal S128x1024 .f32 :=
  k0_pay9 (shapeCast S1x1024 tb shapeCasts_S1x1024_S1x1024) (extractStridedSlice S128x1024 ![0, 1024] (k0_pay2 x sc sh w) slices_S128x3072_o0_1024_S128x1024)
    (k0_pay8 x sc sh w tc ta)

theorem pay_k (x : Vec Ideal S128x1024 .f32) (sc sh : Vec Ideal S1x128x1024 .f32) (w : Vec Ideal S1024x3072 .bf16)
    (tc ta tb : Vec Ideal S1x1024 .f32) (r : Fin 128) (f : Fin 1024) :
    turnK x sc sh w tc ta tb (ix2 r f)
      = (k0_pay2 x sc sh w (ix2 r (⟨1024 + f.val, by have := f.isLt; omega⟩ : Fin 3072)) * tc (ix2 0 f)
          + k0_pay2 x sc sh w (ix2 r (⟨1024 + (f.val + 1024 - 1008) % 1024, by omega⟩ : Fin 3072)) * ta (ix2 0 f)
          + k0_pay2 x sc sh w (ix2 r (⟨1024 + (f.val + 1024 - 16) % 1024, by omega⟩ : Fin 3072)) * tb (ix2 0 f) : EReal) := by
  unfold turnK k0_pay8 k0_pay7
  generalize k0_pay2 x sc sh w = z
  pointwise [k0_pay9, k0_pay3, k0_pay4]

theorem zero2 : (![0, 0] : Fin 2 → ℕ) = fun _ => 0 := by funext a; fin_cases a <;> rfl
theorem zero3 : (![0, 0, 0] : Fin 3 → ℕ) = fun _ => 0 := by funext a; fin_cases a <;> rfl

section
variable (x0 : Vec Ideal S128x1024 .f32) (x1 x2 : Vec Ideal S1x128x1024 .f32) (x3 : Vec Ideal S1024x3072 .bf16) (x4 x5 x6 : Vec Ideal S1x1024 .f32)

theorem ld_rows (x : Vec Ideal S128x1024 .f32) : View.ld x r0_0 = x := View.ld_unit_zero zero2 _ _
theorem ld_mod (x : Vec Ideal S1x128x1024 .f32) : View.ld x r0_1 = x := View.ld_unit_zero zero3 _ _
theorem ld_w (x : Vec Ideal S1024x3072 .bf16) : View.ld x r0_2 = x := View.ld_unit_zero zero2 _ _
theorem ld_tab (x : Vec Ideal S1x1024 .f32) : View.ld x r0_3 = x := View.ld_unit_zero zero2 _ _

theorem out7_eq : out0_7 x0 x1 x2 x3 x4 x5 x6 = k0_pay10 (k0_pay6 x0 x2 x1 x3 x4 x5 x6) := by
  unfold_out out0_7
  simp only [ld_rows, ld_mod, ld_w, ld_tab]
  exact View.canon_unit_zero zero2 _ _

theorem out8_eq (y : S1x8x128x128.Idx) : out0_8 x0 x1 x2 x3 x4 x5 x6 y = Value.E8 x6 x0 x2 x1 x3 x4 x5 y := by
  unfold_out out0_8
  simp only [ld_rows, ld_mod, ld_w, ld_tab]
  exact Value.canon8_eq x6 x0 x2 x1 x3 x4 x5 y

theorem out9_eq (y : S1x8x128x128.Idx) : out0_9 x0 x1 x2 x3 x4 x5 x6 y = Value.E9 x0 x2 x1 x3 y := by
  unfold_out out0_9
  simp only [ld_rows, ld_mod, ld_w]
  exact Value.canon9_eq x0 x2 x1 x3 y
end

/-! ## The blocks: the whole arrays -/

theorem index_x : ∀ t : Fin cfg0.N, cc0_transform_0 (grid0.coords t) 0 = 0 ∧ cc0_transform_0 (grid0.coords t) 1 = 0 :=
  (by decide +kernel : ∀ t : Fin grid0.N, cc0_transform_0 (grid0.coords t) 0 = 0 ∧ cc0_transform_0 (grid0.coords t) 1 = 0)
theorem index_sh : ∀ t : Fin cfg0.N, cc0_transform_1 (grid0.coords t) 0 = 0 ∧ cc0_transform_1 (grid0.coords t) 1 = 0 ∧ cc0_transform_1 (grid0.coords t) 2 = 0 :=
  (by decide +kernel : ∀ t : Fin grid0.N, cc0_transform_1 (grid0.coords t) 0 = 0 ∧ cc0_transform_1 (grid0.coords t) 1 = 0 ∧ cc0_transform_1 (grid0.coords t) 2 = 0)
theorem index_sc : ∀ t : Fin cfg0.N, cc0_transform_2 (grid0.coords t) 0 = 0 ∧ cc0_transform_2 (grid0.coords t) 1 = 0 ∧ cc0_transform_2 (grid0.coords t) 2 = 0 :=
  (by decide +kernel : ∀ t : Fin grid0.N, cc0_transform_2 (grid0.coords t) 0 = 0 ∧ cc0_transform_2 (grid0.coords t) 1 = 0 ∧ cc0_transform_2 (grid0.coords t) 2 = 0)
theorem index_w : ∀ t : Fin cfg0.N, cc0_transform_3 (grid0.coords t) 0 = 0 ∧ cc0_transform_3 (grid0.coords t) 1 = 0 :=
  (by decide +kernel : ∀ t : Fin grid0.N, cc0_transform_3 (grid0.coords t) 0 = 0 ∧ cc0_transform_3 (grid0.coords t) 1 = 0)
theorem index_c : ∀ t : Fin cfg0.N, cc0_transform_4 (grid0.coords t) 0 = 0 ∧ cc0_transform_4 (grid0.coords t) 1 = 0 :=
  (by decide +kernel : ∀ t : Fin grid0.N, cc0_transform_4 (grid0.coords t) 0 = 0 ∧ cc0_transform_4 (grid0.coords t) 1 = 0)
theorem index_a : ∀ t : Fin cfg0.N, cc0_transform_5 (grid0.coords t) 0 = 0 ∧ cc0_transform_5 (grid0.coords t) 1 = 0 :=
  (by decide +kernel : ∀ t : Fin grid0.N, cc0_transform_5 (grid0.coords t) 0 = 0 ∧ cc0_transform_5 (grid0.coords t) 1 = 0)
theorem index_b : ∀ t : Fin cfg0.N, cc0_transform_6 (grid0.coords t) 0 = 0 ∧ cc0_transform_6 (grid0.coords t) 1 = 0 :=
  (by decide +kernel : ∀ t : Fin grid0.N, cc0_transform_6 (grid0.coords t) 0 = 0 ∧ cc0_transform_6 (grid0.coords t) 1 = 0)
theorem index_q : ∀ t : Fin cfg0.N, cc0_transform_7 (grid0.coords t) 0 = 0 ∧ cc0_transform_7 (grid0.coords t) 1 = 0 :=
  (by decide +kernel : ∀ t : Fin grid0.N, cc0_transform_7 (grid0.coords t) 0 = 0 ∧ cc0_transform_7 (grid0.coords t) 1 = 0)
theorem index_k : ∀ t : Fin cfg0.N, cc0_transform_8 (grid0.coords t) 0 = 0 ∧ cc0_transform_8 (grid0.coords t) 1 = 0 ∧ cc0_transform_8 (grid0.coords t) 2 = 0 ∧ cc0_transform_8 (grid0.coords t) 3 = 0 :=
  (by decide +kernel : ∀ t : Fin grid0.N, cc0_transform_8 (grid0.coords t) 0 = 0 ∧ cc0_transform_8 (grid0.coords t) 1 = 0 ∧ cc0_transform_8 (grid0.coords t) 2 = 0 ∧ cc0_transform_8 (grid0.coords t) 3 = 0)
theorem index_v : ∀ t : Fin cfg0.N, cc0_transform_9 (grid0.coords t) 0 = 0 ∧ cc0_transform_9 (grid0.coords t) 1 = 0 ∧ cc0_transform_9 (grid0.coords t) 2 = 0 ∧ cc0_transform_9 (grid0.coords t) 3 = 0 :=
  (by decide +kernel : ∀ t : Fin grid0.N, cc0_transform_9 (grid0.coords t) 0 = 0 ∧ cc0_transform_9 (grid0.coords t) 1 = 0 ∧ cc0_transform_9 (grid0.coords t) 2 = 0 ∧ cc0_transform_9 (grid0.coords t) 3 = 0)

theorem emb_x (t : Fin cfg0.N) (y : S128x1024.Idx) : (win0_0.rect t).emb y = y := by
  have hi := index_x t
  funext a
  refine Fin.ext ?_
  fin_cases a
  · refine (win0_0.rect_emb_val _ _ 0).trans ?_
    show cc0_transform_0 (grid0.coords t) 0 * 128 + (y 0).val = (y 0).val
    rw [hi.1]
    omega
  · refine (win0_0.rect_emb_val _ _ 1).trans ?_
    show cc0_transform_0 (grid0.coords t) 1 * 1024 + (y 1).val = (y 1).val
    rw [hi.2]
    omega

theorem emb_sh (t : Fin cfg0.N) (y : S1x128x1024.Idx) : (win0_1.rect t).emb y = y := by
  have hi := index_sh t
  funext a
  refine Fin.ext ?_
  fin_cases a
  · refine (win0_1.rect_emb_val _ _ 0).trans ?_
    show cc0_transform_1 (grid0.coords t) 0 * 1 + (y 0).val = (y 0).val
    rw [hi.1]
    omega
  · refine (win0_1.rect_emb_val _ _ 1).trans ?_
    show cc0_transform_1 (grid0.coords t) 1 * 128 + (y 1).val = (y 1).val
    rw [hi.2.1]
    omega
  · refine (win0_1.rect_emb_val _ _ 2).trans ?_
    show cc0_transform_1 (grid0.coords t) 2 * 1024 + (y 2).val = (y 2).val
    rw [hi.2.2]
    omega

theorem emb_sc (t : Fin cfg0.N) (y : S1x128x1024.Idx) : (win0_2.rect t).emb y = y := by
  have hi := index_sc t
  funext a
  refine Fin.ext ?_
  fin_cases a
  · refine (win0_2.rect_emb_val _ _ 0).trans ?_
    show cc0_transform_2 (grid0.coords t) 0 * 1 + (y 0).val = (y 0).val
    rw [hi.1]
    omega
  · refine (win0_2.rect_emb_val _ _ 1).trans ?_
    show cc0_transform_2 (grid0.coords t) 1 * 128 + (y 1).val = (y 1).val
    rw [hi.2.1]
    omega
  · refine (win0_2.rect_emb_val _ _ 2).trans ?_
    show cc0_transform_2 (grid0.coords t) 2 * 1024 + (y 2).val = (y 2).val
    rw [hi.2.2]
    omega

theorem emb_w (t : Fin cfg0.N) (y : S1024x3072.Idx) : (win0_3.rect t).emb y = y := by
  have hi := index_w t
  funext a
  refine Fin.ext ?_
  fin_cases a
  · refine (win0_3.rect_emb_val _ _ 0).trans ?_
    show cc0_transform_3 (grid0.coords t) 0 * 1024 + (y 0).val = (y 0).val
    rw [hi.1]
    omega
  · refine (win0_3.rect_emb_val _ _ 1).trans ?_
    show cc0_transform_3 (grid0.coords t) 1 * 3072 + (y 1).val = (y 1).val
    rw [hi.2]
    omega

theorem emb_c (t : Fin cfg0.N) (y : S1x1024.Idx) : (win0_4.rect t).emb y = y := by
  have hi := index_c t
  funext a
  refine Fin.ext ?_
  fin_cases a
  · refine (win0_4.rect_emb_val _ _ 0).trans ?_
    show cc0_transform_4 (grid0.coords t) 0 * 1 + (y 0).val = (y 0).val
    rw [hi.1]
    omega
  · refine (win0_4.rect_emb_val _ _ 1).trans ?_
    show cc0_transform_4 (grid0.coords t) 1 * 1024 + (y 1).val = (y 1).val
    rw [hi.2]
    omega

theorem emb_a (t : Fin cfg0.N) (y : S1x1024.Idx) : (win0_5.rect t).emb y = y := by
  have hi := index_a t
  funext a
  refine Fin.ext ?_
  fin_cases a
  · refine (win0_5.rect_emb_val _ _ 0).trans ?_
    show cc0_transform_5 (grid0.coords t) 0 * 1 + (y 0).val = (y 0).val
    rw [hi.1]
    omega
  · refine (win0_5.rect_emb_val _ _ 1).trans ?_
    show cc0_transform_5 (grid0.coords t) 1 * 1024 + (y 1).val = (y 1).val
    rw [hi.2]
    omega

theorem emb_b (t : Fin cfg0.N) (y : S1x1024.Idx) : (win0_6.rect t).emb y = y := by
  have hi := index_b t
  funext a
  refine Fin.ext ?_
  fin_cases a
  · refine (win0_6.rect_emb_val _ _ 0).trans ?_
    show cc0_transform_6 (grid0.coords t) 0 * 1 + (y 0).val = (y 0).val
    rw [hi.1]
    omega
  · refine (win0_6.rect_emb_val _ _ 1).trans ?_
    show cc0_transform_6 (grid0.coords t) 1 * 1024 + (y 1).val = (y 1).val
    rw [hi.2]
    omega

theorem emb_q (t : Fin cfg0.N) (y : S128x1024.Idx) : (win0_7.rect t).emb y = y := by
  have hi := index_q t
  funext a
  refine Fin.ext ?_
  fin_cases a
  · refine (win0_7.rect_emb_val _ _ 0).trans ?_
    show cc0_transform_7 (grid0.coords t) 0 * 128 + (y 0).val = (y 0).val
    rw [hi.1]
    omega
  · refine (win0_7.rect_emb_val _ _ 1).trans ?_
    show cc0_transform_7 (grid0.coords t) 1 * 1024 + (y 1).val = (y 1).val
    rw [hi.2]
    omega

theorem emb_k (t : Fin cfg0.N) (y : S1x8x128x128.Idx) : (win0_8.rect t).emb y = y := by
  have hi := index_k t
  funext a
  refine Fin.ext ?_
  fin_cases a
  · refine (win0_8.rect_emb_val _ _ 0).trans ?_
    show cc0_transform_8 (grid0.coords t) 0 * 1 + (y 0).val = (y 0).val
    rw [hi.1]
    omega
  · refine (win0_8.rect_emb_val _ _ 1).trans ?_
    show cc0_transform_8 (grid0.coords t) 1 * 8 + (y 1).val = (y 1).val
    rw [hi.2.1]
    omega
  · refine (win0_8.rect_emb_val _ _ 2).trans ?_
    show cc0_transform_8 (grid0.coords t) 2 * 128 + (y 2).val = (y 2).val
    rw [hi.2.2.1]
    omega
  · refine (win0_8.rect_emb_val _ _ 3).trans ?_
    show cc0_transform_8 (grid0.coords t) 3 * 128 + (y 3).val = (y 3).val
    rw [hi.2.2.2]
    omega

theorem emb_v (t : Fin cfg0.N) (y : S1x8x128x128.Idx) : (win0_9.rect t).emb y = y := by
  have hi := index_v t
  funext a
  refine Fin.ext ?_
  fin_cases a
  · refine (win0_9.rect_emb_val _ _ 0).trans ?_
    show cc0_transform_9 (grid0.coords t) 0 * 1 + (y 0).val = (y 0).val
    rw [hi.1]
    omega
  · refine (win0_9.rect_emb_val _ _ 1).trans ?_
    show cc0_transform_9 (grid0.coords t) 1 * 8 + (y 1).val = (y 1).val
    rw [hi.2.1]
    omega
  · refine (win0_9.rect_emb_val _ _ 2).trans ?_
    show cc0_transform_9 (grid0.coords t) 2 * 128 + (y 2).val = (y 2).val
    rw [hi.2.2.1]
    omega
  · refine (win0_9.rect_emb_val _ _ 3).trans ?_
    show cc0_transform_9 (grid0.coords t) 3 * 128 + (y 3).val = (y 3).val
    rw [hi.2.2.2]
    omega

/-! ## The launch's operands -/

section
variable {F : FTy → Type} [FloatOps F]

/-- One head's table, repeated over the heads. -/
def tile (x : Vec F S1x128 .f32) : Vec F S1x1024 .f32 :=
  shapeCast _ (broadcastInDim S1x1x8x128 ![0, 1, 2, 3] bcast_S1x1x1x128_S1x1x8x128_0_1_2_3 (shapeCast S1x1x1x128 x shapeCasts_S1x128_S1x1x1x128))
    shapeCasts_S1x1x8x128_S1x1024

def catC (x : Vec F S1x16 .f32) : Vec F S1x128 .f32 :=
  concatenate S1x128 1 [⟨S1x16, x⟩, ⟨S1x16, x⟩, ⟨S1x96, broadcastInDim S1x96 ![] bcast_S_S1x96 (constant S_ .f32 0x3F800000#32)⟩]
    concatenates_S1x16_S1x16_S1x96_S1x128_d1
def catA (x : Vec F S1x16 .f32) : Vec F S1x128 .f32 :=
  concatenate S1x128 1 [⟨S1x16, Host.negf x⟩, ⟨S1x112, broadcastInDim S1x112 ![] bcast_S_S1x112 (constant S_ .f32 0x00000000#32)⟩]
    concatenates_S1x16_S1x112_S1x128_d1
def catB (x : Vec F S1x16 .f32) : Vec F S1x128 .f32 :=
  concatenate S1x128 1 [⟨S1x16, broadcastInDim S1x16 ![] bcast_S_S1x16 (constant S_ .f32 0x00000000#32)⟩, ⟨S1x16, x⟩,
    ⟨S1x96, broadcastInDim S1x96 ![] bcast_S_S1x96 (constant S_ .f32 0x00000000#32)⟩]
    concatenates_S1x16_S1x16_S1x96_S1x128_d1

variable (m : (ℓ : Loc nD τ sig) → Buf (Elt F) ℓ) (c : Dev nD)

theorem pos_eq : Cert.SampReferenceIdeal.Read.val_main_v2 (F := F) = Cert.SampReferenceIdeal.Read.val_main_v1 (F := F) := by
  funext i
  have h : (i 0).val = 0 := by have l : (i 0).val < 1 := (i 0).isLt; omega
  rw [Cert.SampReferenceIdeal.Read.val_main_v2_apply, Cert.SampReferenceIdeal.Read.val_main_v0_apply, h]
  rfl

theorem V_x : (V m c main_v31 : Vec F S128x1024 .f32) = shapeCast _ (m ((c : Thread nD τ).loc main_arg0)) shapeCasts_S128x1x1024_S128x1024 := by
  unfold_abbrev_sides
  after_results
  rfl

theorem V_sh : (V m c main_v32 : Vec F S1x128x1024 .f32)
    = broadcastInDim S1x128x1024 ![1, 2] bcast_S128x1024_S1x128x1024_1_2 (m ((c : Thread nD τ).loc main_arg1)) := by
  unfold_abbrev_sides
  after_results
  try rfl

theorem V_sc : (V m c main_v33 : Vec F S1x128x1024 .f32)
    = broadcastInDim S1x128x1024 ![1, 2] bcast_S128x1024_S1x128x1024_1_2 (m ((c : Thread nD τ).loc main_arg2)) := by
  unfold_abbrev_sides
  after_results
  try rfl

theorem V_w : (V m c main_v34 : Vec F S1024x3072 .bf16) = truncf .bf16 (m ((c : Thread nD τ).loc main_arg3)) bitsLt_bf16_f32 := by
  unfold_abbrev_sides
  after_results
  try rfl

theorem ang_eq : Cert.SampReferenceIdeal.Read.val_main_v23 (F := F)
    = mulf (broadcastInDim S1x16 ![0, 1] bcast_S1x1_S1x16_0_1 (broadcastInDim S1x1 ![0] bcast_S1_S1x1_0 (sitofp .f32 (Cert.SampReferenceIdeal.Read.val_main_v1 (F := F)))))
      (Cert.SampReferenceIdeal.Read.val_main_v21 (F := F)) := by
  unfold Cert.SampReferenceIdeal.Read.val_main_v23 Cert.SampReferenceIdeal.Read.val_main_v22 Cert.SampReferenceIdeal.Read.val_main_v20
    Cert.SampReferenceIdeal.Read.val_main_v19
  rw [pos_eq]

theorem V_c : (V m c main_v24 : Vec F S1x1024 .f32) = tile (catC (Cert.SampReferenceIdeal.Read.val_main_v24 (F := F))) := by
  unfold Cert.SampReferenceIdeal.Read.val_main_v24
  rw [ang_eq]
  unfold_abbrev_sides
  after_results
  rfl

theorem V_a : (V m c main_v27 : Vec F S1x1024 .f32) = tile (catA (Cert.SampReferenceIdeal.Read.val_main_v26 (F := F))) := by
  unfold Cert.SampReferenceIdeal.Read.val_main_v26
  rw [ang_eq]
  unfold_abbrev_sides
  after_results
  rfl

theorem V_b : (V m c main_v30 : Vec F S1x1024 .f32) = tile (catB (Cert.SampReferenceIdeal.Read.val_main_v26 (F := F))) := by
  unfold Cert.SampReferenceIdeal.Read.val_main_v26
  rw [ang_eq]
  unfold_abbrev_sides
  after_results
  rfl
end

theorem tile_apply (x : Vec Ideal S1x128 .f32) (s : Fin 1) (f : Fin 1024) :
    tile x (ix2 s f) = x (ix2 s (⟨f.val % 128, Nat.mod_lt _ (by decide)⟩ : Fin 128)) := by
  have hf := f.isLt
  have hs := s.isLt
  unfold tile
  rw [shapeCast_apply _ shapeCasts_S1x1x8x128_S1x1024 (ix2 s f) (ix4 (0 : Fin 1) s (⟨f.val / 128, by omega⟩ : Fin 8) (⟨f.val % 128, Nat.mod_lt _ (by decide)⟩ : Fin 128)) (by
    rewrite [Shape.rowMajor_val_four, Shape.rowMajor_val_two]
    show ((0 * 1 + s.val) * 8 + f.val / 128) * 128 + f.val % 128 = s.val * 1024 + f.val
    omega)]
  rw [broadcastInDim_apply _ bcast_S1x1x1x128_S1x1x8x128_0_1_2_3 _ _ (ix4 (0 : Fin 1) s (0 : Fin 1) (⟨f.val % 128, Nat.mod_lt _ (by decide)⟩ : Fin 128)) (fun a => match a with
    | ⟨0, _⟩ => by show 0 = if (1 : Nat) = 1 then 0 else 0; rfl
    | ⟨1, _⟩ => by show s.val = if (1 : Nat) = 1 then 0 else s.val; rw [if_pos rfl]; omega
    | ⟨2, _⟩ => by show 0 = if (1 : Nat) = 1 then 0 else f.val / 128; rw [if_pos rfl]
    | ⟨3, _⟩ => by show f.val % 128 = if (128 : Nat) = 1 then 0 else f.val % 128; rw [if_neg (by decide)])]
  exact shapeCast_apply _ shapeCasts_S1x128_S1x1x1x128 _ (ix2 s (⟨f.val % 128, Nat.mod_lt _ (by decide)⟩ : Fin 128)) (by
    rewrite [Shape.rowMajor_val_four, Shape.rowMajor_val_two]
    show s.val * 128 + f.val % 128 = ((0 * 1 + s.val) * 1 + 0) * 128 + f.val % 128
    omega)

theorem catC_apply (x : Vec Ideal S1x16 .f32) (s : Fin 1) (e : Fin 128) :
    catC x (ix2 s e) = (if e.val < 32 then x (ix2 s (⟨e.val % 16, Nat.mod_lt _ (by decide)⟩ : Fin 16)) else 1 : EReal) := by
  have he := e.isLt
  unfold catC
  by_cases h : e.val < 16
  · rw [if_pos (by omega)]
    exact (concatenate_apply_piece (1 : Fin 2) [⟨S1x16, x⟩, ⟨S1x16, x⟩, ⟨S1x96, (broadcastInDim S1x96 ![] bcast_S_S1x96 (constant (F := Ideal) S_ .f32 0x3F800000#32))⟩] _ (ix2 s e) 0 (by show 0 < 3; omega) S1x16 x rfl rfl 0 rfl
      (ix2 s (⟨e.val % 16, Nat.mod_lt _ (by decide)⟩ : Fin 16)) (fun a ha => by fin_cases a <;> first | rfl | exact absurd rfl ha)
      (by show 0 + (e.val % 16) = e.val; omega))
  · by_cases h' : e.val < 32
    · rw [if_pos h']
      exact (concatenate_apply_piece (1 : Fin 2) [⟨S1x16, x⟩, ⟨S1x16, x⟩, ⟨S1x96, (broadcastInDim S1x96 ![] bcast_S_S1x96 (constant (F := Ideal) S_ .f32 0x3F800000#32))⟩] _ (ix2 s e) 1 (by show 1 < 3; omega) S1x16 x rfl rfl 16 rfl
        (ix2 s (⟨e.val % 16, Nat.mod_lt _ (by decide)⟩ : Fin 16)) (fun a ha => by fin_cases a <;> first | rfl | exact absurd rfl ha)
        (by show 16 + (e.val % 16) = e.val; omega))
    · rw [if_neg h']
      refine (concatenate_apply_piece (1 : Fin 2) [⟨S1x16, x⟩, ⟨S1x16, x⟩, ⟨S1x96, (broadcastInDim S1x96 ![] bcast_S_S1x96 (constant (F := Ideal) S_ .f32 0x3F800000#32))⟩] _ (ix2 s e) 2 (by show 2 < 3; omega) S1x96 (broadcastInDim S1x96 ![] bcast_S_S1x96 (constant (F := Ideal) S_ .f32 0x3F800000#32)) rfl rfl 32 rfl
        (ix2 s (⟨e.val - 32, by omega⟩ : Fin 96)) (fun a ha => by fin_cases a <;> first | rfl | exact absurd rfl ha)
        (by show 32 + (e.val - 32) = e.val; omega)).trans Spec.one_f32

theorem catA_apply (x : Vec Ideal S1x16 .f32) (s : Fin 1) (e : Fin 128) :
    catA x (ix2 s e) = (if e.val < 16 then -x (ix2 s (⟨e.val % 16, Nat.mod_lt _ (by decide)⟩ : Fin 16)) else 0 : EReal) := by
  have he := e.isLt
  unfold catA
  by_cases h : e.val < 16
  · rw [if_pos h]
    exact (concatenate_apply_piece (1 : Fin 2) [⟨S1x16, Host.negf x⟩, ⟨S1x112, (broadcastInDim S1x112 ![] bcast_S_S1x112 (constant (F := Ideal) S_ .f32 0x00000000#32))⟩] _ (ix2 s e) 0 (by show 0 < 2; omega) S1x16 (Host.negf x) rfl rfl 0 rfl
      (ix2 s (⟨e.val % 16, Nat.mod_lt _ (by decide)⟩ : Fin 16)) (fun a ha => by fin_cases a <;> first | rfl | exact absurd rfl ha)
      (by show 0 + (e.val % 16) = e.val; omega))
  · rw [if_neg h]
    refine (concatenate_apply_piece (1 : Fin 2) [⟨S1x16, Host.negf x⟩, ⟨S1x112, (broadcastInDim S1x112 ![] bcast_S_S1x112 (constant (F := Ideal) S_ .f32 0x00000000#32))⟩] _ (ix2 s e) 1 (by show 1 < 2; omega) S1x112 (broadcastInDim S1x112 ![] bcast_S_S1x112 (constant (F := Ideal) S_ .f32 0x00000000#32)) rfl rfl 16 rfl
      (ix2 s (⟨e.val - 16, by omega⟩ : Fin 112)) (fun a ha => by fin_cases a <;> first | rfl | exact absurd rfl ha)
      (by show 16 + (e.val - 16) = e.val; omega)).trans Spec.zero_f32

theorem catB_apply (x : Vec Ideal S1x16 .f32) (s : Fin 1) (e : Fin 128) :
    catB x (ix2 s e) = (if e.val < 16 then 0 else if e.val < 32 then x (ix2 s (⟨e.val % 16, Nat.mod_lt _ (by decide)⟩ : Fin 16)) else 0 : EReal) := by
  have he := e.isLt
  unfold catB
  by_cases h : e.val < 16
  · rw [if_pos h]
    refine (concatenate_apply_piece (1 : Fin 2) [⟨S1x16, (broadcastInDim S1x16 ![] bcast_S_S1x16 (constant (F := Ideal) S_ .f32 0x00000000#32))⟩, ⟨S1x16, x⟩, ⟨S1x96, (broadcastInDim S1x96 ![] bcast_S_S1x96 (constant (F := Ideal) S_ .f32 0x00000000#32))⟩] _ (ix2 s e) 0 (by show 0 < 3; omega) S1x16 (broadcastInDim S1x16 ![] bcast_S_S1x16 (constant (F := Ideal) S_ .f32 0x00000000#32)) rfl rfl 0 rfl
      (ix2 s (⟨e.val % 16, Nat.mod_lt _ (by decide)⟩ : Fin 16)) (fun a ha => by fin_cases a <;> first | rfl | exact absurd rfl ha)
      (by show 0 + (e.val % 16) = e.val; omega)).trans Spec.zero_f32
  · rw [if_neg h]
    by_cases h' : e.val < 32
    · rw [if_pos h']
      exact (concatenate_apply_piece (1 : Fin 2) [⟨S1x16, (broadcastInDim S1x16 ![] bcast_S_S1x16 (constant (F := Ideal) S_ .f32 0x00000000#32))⟩, ⟨S1x16, x⟩, ⟨S1x96, (broadcastInDim S1x96 ![] bcast_S_S1x96 (constant (F := Ideal) S_ .f32 0x00000000#32))⟩] _ (ix2 s e) 1 (by show 1 < 3; omega) S1x16 x rfl rfl 16 rfl
        (ix2 s (⟨e.val % 16, Nat.mod_lt _ (by decide)⟩ : Fin 16)) (fun a ha => by fin_cases a <;> first | rfl | exact absurd rfl ha)
        (by show 16 + (e.val % 16) = e.val; omega))
    · rw [if_neg h']
      refine (concatenate_apply_piece (1 : Fin 2) [⟨S1x16, (broadcastInDim S1x16 ![] bcast_S_S1x16 (constant (F := Ideal) S_ .f32 0x00000000#32))⟩, ⟨S1x16, x⟩, ⟨S1x96, (broadcastInDim S1x96 ![] bcast_S_S1x96 (constant (F := Ideal) S_ .f32 0x00000000#32))⟩] _ (ix2 s e) 2 (by show 2 < 3; omega) S1x96 (broadcastInDim S1x96 ![] bcast_S_S1x96 (constant (F := Ideal) S_ .f32 0x00000000#32)) rfl rfl 32 rfl
        (ix2 s (⟨e.val - 32, by omega⟩ : Fin 96)) (fun a ha => by fin_cases a <;> first | rfl | exact absurd rfl ha)
        (by show 32 + (e.val - 32) = e.val; omega)).trans Spec.zero_f32

variable (m : (ℓ : Loc nD τ sig) → Buf (Elt Ideal) ℓ) (c : Dev nD)

/-- The rows, the shift, the scale and the weights. -/
abbrev arg0 : Vec Ideal S128x1x1024 .f32 := m ((c : Thread nD τ).loc main_arg0)
abbrev arg1 : Vec Ideal S128x1024 .f32 := m ((c : Thread nD τ).loc main_arg1)
abbrev arg2 : Vec Ideal S128x1024 .f32 := m ((c : Thread nD τ).loc main_arg2)
abbrev arg3 : Vec Ideal S1024x3072 .f32 := m ((c : Thread nD τ).loc main_arg3)

theorem iblk_x (t : Fin cfg0.N) (r : Fin 128) (d : Fin 1024) :
    (iblk m c 0 t : Vec Ideal S128x1024 .f32) (ix2 r d) = arg0 m c (ix3 r 0 d) := by
  show (V m c main_v31 : Vec Ideal S128x1024 .f32) ((win0_0.rect t).emb (ix2 r d)) = _
  rw [emb_x, V_x]
  exact shapeCast_apply _ shapeCasts_S128x1x1024_S128x1024 _ (ix3 r (0 : Fin 1) d) (by
    rewrite [Shape.rowMajor_val_three, Shape.rowMajor_val_two]
    show (r.val * 1 + 0) * 1024 + d.val = r.val * 1024 + d.val
    omega)

theorem lift_apply (x : Vec Ideal S128x1024 .f32) (r : Fin 128) (d : Fin 1024) :
    broadcastInDim S1x128x1024 ![1, 2] bcast_S128x1024_S1x128x1024_1_2 x (ix3 (0 : Fin 1) r d) = x (ix2 r d) :=
  broadcastInDim_apply _ bcast_S128x1024_S1x128x1024_1_2 x _ (ix2 r d) (fun a => match a with
    | ⟨0, _⟩ => by show r.val = if (128 : Nat) = 1 then 0 else r.val; rw [if_neg (by decide)]
    | ⟨1, _⟩ => by show d.val = if (1024 : Nat) = 1 then 0 else d.val; rw [if_neg (by decide)])

theorem iblk_sh (t : Fin cfg0.N) (r : Fin 128) (d : Fin 1024) : (iblk m c 1 t : Vec Ideal S1x128x1024 .f32) (ix3 0 r d) = arg1 m c (ix2 r d) := by
  show (V m c main_v32 : Vec Ideal S1x128x1024 .f32) ((win0_1.rect t).emb (ix3 (0 : Fin 1) r d)) = _
  rw [emb_sh, V_sh, lift_apply]

theorem iblk_sc (t : Fin cfg0.N) (r : Fin 128) (d : Fin 1024) : (iblk m c 2 t : Vec Ideal S1x128x1024 .f32) (ix3 0 r d) = arg2 m c (ix2 r d) := by
  show (V m c main_v33 : Vec Ideal S1x128x1024 .f32) ((win0_2.rect t).emb (ix3 (0 : Fin 1) r d)) = _
  rw [emb_sc, V_sc, lift_apply]

theorem iblk_w (t : Fin cfg0.N) (d : Fin 1024) (f : Fin 3072) : (iblk m c 3 t : Vec Ideal S1024x3072 .bf16) (ix2 d f) = arg3 m c (ix2 d f) := by
  show (V m c main_v34 : Vec Ideal S1024x3072 .bf16) ((win0_3.rect t).emb (ix2 d f)) = _
  rw [emb_w, V_w]
  rfl

theorem iblk_c (t : Fin cfg0.N) (f : Fin 1024) (g : ℕ) (hg : f.val % 128 = g % 128) :
    (iblk m c 4 t : Vec Ideal S1x1024 .f32) (ix2 (0 : Fin 1) f) = (if g % 128 < 32 then Spec.cosT g else 1 : EReal) := by
  show (V m c main_v24 : Vec Ideal S1x1024 .f32) ((win0_4.rect t).emb (ix2 (0 : Fin 1) f)) = _
  rw [emb_c, V_c, tile_apply, catC_apply]
  rw [Spec.cos_at _ g (by show f.val % 128 % 16 = g % 16; omega)]
  show (if f.val % 128 < 32 then _ else _ : EReal) = _
  rw [hg]

theorem iblk_a (t : Fin cfg0.N) (f : Fin 1024) (g : ℕ) (hg : f.val % 128 = g % 128) :
    (iblk m c 5 t : Vec Ideal S1x1024 .f32) (ix2 (0 : Fin 1) f) = (if g % 128 < 16 then -Spec.sinT g else 0 : EReal) := by
  show (V m c main_v27 : Vec Ideal S1x1024 .f32) ((win0_5.rect t).emb (ix2 (0 : Fin 1) f)) = _
  rw [emb_a, V_a, tile_apply, catA_apply]
  rw [Spec.sin_at _ g (by show f.val % 128 % 16 = g % 16; omega)]
  show (if f.val % 128 < 16 then _ else _ : EReal) = _
  rw [hg]

theorem iblk_b (t : Fin cfg0.N) (f : Fin 1024) (g : ℕ) (hg : f.val % 128 = g % 128) :
    (iblk m c 6 t : Vec Ideal S1x1024 .f32) (ix2 (0 : Fin 1) f)
      = (if g % 128 < 16 then 0 else if g % 128 < 32 then Spec.sinT g else 0 : EReal) := by
  show (V m c main_v30 : Vec Ideal S1x1024 .f32) ((win0_6.rect t).emb (ix2 (0 : Fin 1) f)) = _
  rw [emb_b, V_b, tile_apply, catB_apply]
  rw [Spec.sin_at _ g (by show f.val % 128 % 16 = g % 16; omega)]
  show (if f.val % 128 < 16 then _ else if f.val % 128 < 32 then _ else _ : EReal) = _
  rw [hg]

/-! ## What a grid point writes -/

/-- A grid point's projected block. -/
abbrev zB (t : Fin cfg0.N) : FVec Ideal S128x3072 .f32 := k0_pay2 (F := Ideal) (iblk m c 0 t) (iblk m c 2 t) (iblk m c 1 t) (iblk m c 3 t)

theorem z_at (t : Fin cfg0.N) (r : Fin 128) (f : Fin 3072) (g : ℕ) (hg : f.val = g) :
    zB m c t (ix2 r f) = Spec.zz (arg0 m c) (arg1 m c) (arg2 m c) (arg3 m c) r g := by
  subst hg
  refine (pay_z _ _ _ _ r f).trans ?_
  unfold Spec.zz
  refine Finset.sum_congr rfl fun d _ => ?_
  rw [iblk_x, iblk_sc, iblk_sh, iblk_w]
  have hf := f.isLt
  have e : f = (⟨f.val % 3072, Nat.mod_lt _ (by decide)⟩ : Fin 3072) := Fin.ext (by show f.val = f.val % 3072; omega)
  rw [← e]

/-- The turn by the padded tables is the plain turn. -/
theorem turn (t : Fin cfg0.N) (r : Fin 128) (f : Fin 1024) (p : ℕ) (hp : p = 0 ∨ p = 1024) (l : p + f.val < 3072)
    (l1 : p + (f.val + 1024 - 1008) % 1024 < 3072) (l2 : p + (f.val + 1024 - 16) % 1024 < 3072) :
    (zB m c t (ix2 r (⟨p + f.val, l⟩ : Fin 3072)) * (iblk m c 4 t : Vec Ideal S1x1024 .f32) (ix2 (0 : Fin 1) f)
      + zB m c t (ix2 r (⟨p + (f.val + 1024 - 1008) % 1024, l1⟩ : Fin 3072)) * (iblk m c 5 t : Vec Ideal S1x1024 .f32) (ix2 (0 : Fin 1) f)
      + zB m c t (ix2 r (⟨p + (f.val + 1024 - 16) % 1024, l2⟩ : Fin 3072)) * (iblk m c 6 t : Vec Ideal S1x1024 .f32) (ix2 (0 : Fin 1) f) : EReal)
      = Spec.rot (arg0 m c) (arg1 m c) (arg2 m c) (arg3 m c) r (p + f.val) := by
  have hf := f.isLt
  have hm : f.val % 128 = (p + f.val) % 128 := by omega
  rw [iblk_c m c t f (p + f.val) hm, iblk_a m c t f (p + f.val) hm, iblk_b m c t f (p + f.val) hm, z_at m c t r _ (p + f.val) (by rfl)]
  unfold Spec.rot
  by_cases h : (p + f.val) % 128 < 16
  · rw [if_pos h, if_pos (by omega), if_pos h, if_pos h,
      z_at m c t r _ (p + f.val + 16) (by show p + (f.val + 1024 - 1008) % 1024 = p + f.val + 16; omega)]
    rw [mul_zero, add_zero, mul_neg, sub_eq_add_neg]
  · by_cases h' : (p + f.val) % 128 < 32
    · rw [if_neg h, if_pos h', if_neg h, if_pos h', if_neg h, if_pos h',
        z_at m c t r (⟨p + (f.val + 1024 - 16) % 1024, l2⟩ : Fin 3072) (p + f.val - 16)
          (by show p + (f.val + 1024 - 16) % 1024 = p + f.val - 16; omega)]
      rw [mul_zero, add_zero]
    · rw [if_neg h, if_neg h', if_neg h, if_neg h', if_neg h, if_neg h']
      rw [mul_zero, mul_zero, add_zero, add_zero, mul_one]

theorem q_at (t : Fin cfg0.N) (r : Fin 128) (f : Fin 1024) :
    k0_pay10 (F := Ideal) (k0_pay6 (iblk m c 0 t) (iblk m c 2 t) (iblk m c 1 t) (iblk m c 3 t) (iblk m c 4 t) (iblk m c 5 t) (iblk m c 6 t)) (ix2 r f)
      = Spec.rot (arg0 m c) (arg1 m c) (arg2 m c) (arg3 m c) r f.val := by
  have hf := f.isLt
  have h := turn m c t r f 0 (Or.inl rfl) (by omega) (by omega) (by omega)
  simp only [Nat.zero_add] at h
  exact (pay_q _ _ _ _ _ _ _ r f).trans h

theorem k_at (t : Fin cfg0.N) (r : Fin 128) (f : Fin 1024) :
    turnK (iblk m c 0 t) (iblk m c 2 t) (iblk m c 1 t) (iblk m c 3 t) (iblk m c 4 t) (iblk m c 5 t) (iblk m c 6 t) (ix2 r f)
      = Spec.rot (arg0 m c) (arg1 m c) (arg2 m c) (arg3 m c) r (1024 + f.val) := by
  have hf := f.isLt
  exact (pay_k _ _ _ _ _ _ _ r f).trans (turn m c t r f 1024 (Or.inr rfl) (by omega) (by omega) (by omega))

/-- The results. -/
def qArr : Vec Ideal S128x1024 .bf16 := Cert.SampReferenceIdeal.Read.val_main_v76 (F := Ideal) (arg0 m c) (arg1 m c) (arg2 m c) (arg3 m c)
def kArr : Vec Ideal S1x8x128x128 .f32 := Cert.SampReferenceIdeal.Read.val_main_v77 (F := Ideal) (arg0 m c) (arg1 m c) (arg2 m c) (arg3 m c)
def vArr : Vec Ideal S1x8x128x128 .f32 := Cert.SampReferenceIdeal.Read.val_main_v78 (F := Ideal) (arg0 m c) (arg1 m c) (arg2 m c) (arg3 m c)

theorem flushed_q (t : Fin cfg0.N) (hf : (cfg0.win 7).flush t = true) :
    (dats m 0 c).flushed 7 t = ((cfg0.win 7).blk t).view.read (Elt Ideal) (qArr m c) := by
  rw [Value.flushed7]
  funext y
  obtain ⟨r, f, rfl⟩ : ∃ (r : Fin 128) (f : Fin 1024), y = ix2 r f := ⟨y 0, y 1, by
    funext a
    fin_cases a <;> rfl⟩
  show out0_7 (iblk m c 0 t) (iblk m c 1 t) (iblk m c 2 t) (iblk m c 3 t) (iblk m c 4 t) (iblk m c 5 t) (iblk m c 6 t) (ix2 r f) = qArr m c ((win0_7.rect t).emb (ix2 r f))
  rw [emb_q, out7_eq]
  refine (q_at m c t r f).trans ?_
  unfold qArr
  exact (Spec.q_apply (arg0 m c) (arg1 m c) (arg2 m c) (arg3 m c) r f).symm

theorem flushed_k (t : Fin cfg0.N) (hf : (cfg0.win 8).flush t = true) :
    (dats m 0 c).flushed 8 t = ((cfg0.win 8).blk t).view.read (Elt Ideal) (kArr m c) := by
  rw [Value.flushed8]
  funext y
  obtain ⟨h, r, e, rfl⟩ : ∃ (h : Fin 8) (r : Fin 128) (e : Fin 128), y = ix4 (0 : Fin 1) h r e := ⟨y 1, y 2, y 3, by
    funext a
    fin_cases a
    · exact Subsingleton.elim (α := Fin 1) _ _
    · rfl
    · rfl
    · rfl⟩
  show out0_8 (iblk m c 0 t) (iblk m c 1 t) (iblk m c 2 t) (iblk m c 3 t) (iblk m c 4 t) (iblk m c 5 t) (iblk m c 6 t) (ix4 (0 : Fin 1) h r e) = kArr m c ((win0_8.rect t).emb (ix4 (0 : Fin 1) h r e))
  rw [emb_k, out8_eq]
  have hh := h.isLt
  have he := e.isLt
  have e0 : Value.ix8_0 (ix4 (0 : Fin 1) h r e) = ix2 r (⟨h.val * 128 + e.val, by omega⟩ : Fin 1024) := by funext a; fin_cases a <;> rfl
  have s : Value.E8 (F := Ideal) (iblk m c 6 t) (iblk m c 0 t) (iblk m c 2 t) (iblk m c 1 t) (iblk m c 3 t) (iblk m c 4 t) (iblk m c 5 t) (ix4 (0 : Fin 1) h r e)
      = turnK (iblk m c 0 t) (iblk m c 2 t) (iblk m c 1 t) (iblk m c 3 t) (iblk m c 4 t) (iblk m c 5 t) (iblk m c 6 t) (ix2 r (⟨h.val * 128 + e.val, by omega⟩ : Fin 1024)) := by
    unfold Value.E8 turnK
    rw [e0]
  rw [s, k_at]
  unfold kArr
  exact (Spec.k_apply (arg0 m c) (arg1 m c) (arg2 m c) (arg3 m c) h r e).symm

theorem flushed_v (t : Fin cfg0.N) (hf : (cfg0.win 9).flush t = true) :
    (dats m 0 c).flushed 9 t = ((cfg0.win 9).blk t).view.read (Elt Ideal) (vArr m c) := by
  rw [Value.flushed9]
  funext y
  obtain ⟨h, r, e, rfl⟩ : ∃ (h : Fin 8) (r : Fin 128) (e : Fin 128), y = ix4 (0 : Fin 1) h r e := ⟨y 1, y 2, y 3, by
    funext a
    fin_cases a
    · exact Subsingleton.elim (α := Fin 1) _ _
    · rfl
    · rfl
    · rfl⟩
  show out0_9 (iblk m c 0 t) (iblk m c 1 t) (iblk m c 2 t) (iblk m c 3 t) (iblk m c 4 t) (iblk m c 5 t) (iblk m c 6 t) (ix4 (0 : Fin 1) h r e) = vArr m c ((win0_9.rect t).emb (ix4 (0 : Fin 1) h r e))
  rw [emb_v, out9_eq]
  have hh := h.isLt
  have he := e.isLt
  show zB m c t (ix2 r (⟨h.val * 128 + e.val + 2048, by omega⟩ : Fin 3072)) = vArr m c _
  exact (z_at m c t r (⟨h.val * 128 + e.val + 2048, by omega⟩ : Fin 3072) (2048 + (h.val * 128 + e.val)) (by show h.val * 128 + e.val + 2048 = _; omega)).trans
    (Spec.v_apply (arg0 m c) (arg1 m c) (arg2 m c) (arg3 m c) h r e).symm

theorem cover_q (i : S128x1024.Idx) : ∃ t : Fin cfg0.N, (cfg0.win 7).flush t = true ∧ i ∈ ((cfg0.win 7).blk t).view.set := by
  have hlt : 0 < cfg0.N := by show _ < 1; omega
  refine ⟨⟨0, hlt⟩, flush0_7 _, ?_⟩
  have e : ((cfg0.win 7).blk ⟨0, hlt⟩).view.emb i = i := emb_q ⟨0, hlt⟩ i
  exact Eq.subst (motive := fun z => z ∈ ((cfg0.win 7).blk ⟨0, hlt⟩).view.set) e (View.emb_mem_set _ _)

theorem cover_k (i : S1x8x128x128.Idx) : ∃ t : Fin cfg0.N, (cfg0.win 8).flush t = true ∧ i ∈ ((cfg0.win 8).blk t).view.set := by
  have hlt : 0 < cfg0.N := by show _ < 1; omega
  refine ⟨⟨0, hlt⟩, flush0_8 _, ?_⟩
  have e : ((cfg0.win 8).blk ⟨0, hlt⟩).view.emb i = i := emb_k ⟨0, hlt⟩ i
  exact Eq.subst (motive := fun z => z ∈ ((cfg0.win 8).blk ⟨0, hlt⟩).view.set) e (View.emb_mem_set _ _)

theorem cover_v (i : S1x8x128x128.Idx) : ∃ t : Fin cfg0.N, (cfg0.win 9).flush t = true ∧ i ∈ ((cfg0.win 9).blk t).view.set := by
  have hlt : 0 < cfg0.N := by show _ < 1; omega
  refine ⟨⟨0, hlt⟩, flush0_9 _, ?_⟩
  have e : ((cfg0.win 9).blk ⟨0, hlt⟩).view.emb i = i := emb_v ⟨0, hlt⟩ i
  exact Eq.subst (motive := fun z => z ∈ ((cfg0.win 9).blk ⟨0, hlt⟩).view.set) e (View.emb_mem_set _ _)

theorem result_q : (dats m 0 c).arrAt 7 cfg0.N = qArr m c := (dats m 0 c).arrAt_eq_of_cover 7 (qArr m c) (flushed_q m c) cover_q
theorem result_k : (dats m 0 c).arrAt 8 cfg0.N = kArr m c := (dats m 0 c).arrAt_eq_of_cover 8 (kArr m c) (flushed_k m c) cover_k
theorem result_v : (dats m 0 c).arrAt 9 cfg0.N = vArr m c := (dats m 0 c).arrAt_eq_of_cover 9 (vArr m c) (flushed_v m c) cover_v

/-- The program's run: the plain projection's three results, its arguments kept. -/
theorem run_value (ρ : Dev nD → PrngReg) :
    θ_run defs (onTc (τ := τ) (main (F := Ideal))) ⟨m, fun _ => 0, ρ⟩ (fun r => ∀ c : Dev nD,
      r.2.mem ((c : Thread nD τ).loc main_v35_0) = qArr m c
      ∧ r.2.mem ((c : Thread nD τ).loc main_v35_1) = kArr m c
      ∧ r.2.mem ((c : Thread nD τ).loc main_v35_2) = vArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (result_q m c), (h c).2.1.trans (result_k m c), (h c).2.2.1.trans (result_v m c), (h c).2.2.2.2.2.2⟩) (Value.run_blocks m ρ)

end Cert.SampIdeal.Ret

end
-- ==== Proof.Late.Spec.lean ====
/- The plain latent projection of each sampled sequence's next token, read by index: the modulated rows times the weights,
the latent normed by its mean square, the key turned by the one position. -/
module

public import proofs.«01_k».proof.Proof.Gen.LateReferenceIdeal.Read
public import Idealize.ShloMosaic.Lib.Pointwise

@[expose] public section

set_option maxRecDepth 16384

noncomputable section

namespace Cert.LateIdeal.Spec

open Cert.LateReferenceIdeal Cert.LateReferenceIdeal.Gen Cert.LateReferenceIdeal.Read
open Idealize.ShloMosaic Idealize.ShloMosaic.TcCoe

/-- The cosine and the sine of the position's angle, by the channel modulo the turned half. -/
def cosT (f : ℕ) : EReal := val_main_v37 (F := Ideal) (ix2 0 ⟨f % 32, Nat.mod_lt _ (by decide)⟩)
def sinT (f : ℕ) : EReal := val_main_v39 (F := Ideal) (ix2 0 ⟨f % 32, Nat.mod_lt _ (by decide)⟩)

theorem one_f32 : Ideal.ofBits .f32 0x3F800000#32 = 1 := by
  simp [Ideal.ofBits, Ideal.ieee, -EReal.coe_mul]
  norm_num

theorem zero_f32 : Ideal.ofBits .f32 0x00000000#32 = 0 := by
  simp [Ideal.ofBits, Ideal.ieee]

/-- One over the root of a sum of squares' mean. -/
def inv (s : EReal) : EReal := FloatOps.hostUnary (F := Ideal) (φ := .f32) .rsqrt
  (FloatOps.addf (F := Ideal) (φ := .f32) (FloatOps.hostDivf (F := Ideal) (φ := .f32) s (Ideal.ofBits .f32 0x43800000#32)) (Ideal.ofBits .f32 0x358637BD#32))

section
variable (x0 : Vec Ideal S128x1x1024 .f32) (x1 x2 : Vec Ideal S128x1024 .f32) (x3 : Vec Ideal S1024x832 .f32) (x5 : Vec Ideal S256 .f32)

/-- A projected element. -/
def zz (b : Fin 128) (f : ℕ) : EReal :=
  ∑ d : Fin 1024, (x0 (ix3 b 0 d) * (1 + x2 (ix2 b d)) + x1 (ix2 b d)) * x3 (ix2 d ⟨f % 832, Nat.mod_lt _ (by decide)⟩)

/-- An element of the latent. -/
def lat (b : Fin 128) (f : Fin 256) : EReal :=
  zz x0 x1 x2 x3 b (512 + f.val) * inv (∑ k : Fin 256, zz x0 x1 x2 x3 b (512 + k.val) * zz x0 x1 x2 x3 b (512 + k.val)) * x5 (ix1 f)

/-- An element of the turned key. -/
def rot (b : Fin 128) (f : ℕ) : EReal :=
  if f < 32 then zz x0 x1 x2 x3 b (768 + f) * cosT f - zz x0 x1 x2 x3 b (768 + (f + 32)) * sinT f
  else zz x0 x1 x2 x3 b (768 + f) * cosT f + zz x0 x1 x2 x3 b (768 + (f - 32)) * sinT f

theorem v9_at (i : S128x1x832.Idx) (b : Fin 128) (f : ℕ) (h0 : (i 0).val = b.val) (h2 : (i 2).val = f) :
    val_main_v9 (F := Ideal) x0 x1 x2 x3 i = zz x0 x1 x2 x3 b f := by
  obtain ⟨b', f', rfl⟩ : ∃ (b' : Fin 128) (f' : Fin 832), i = ix3 b' (0 : Fin 1) f' := ⟨i 0, i 2, by
    funext a
    fin_cases a
    · rfl
    · exact Subsingleton.elim (α := Fin 1) _ _
    · rfl⟩
  obtain rfl : b' = b := Fin.ext h0
  rw [val_main_v9_apply]
  unfold zz
  refine Finset.sum_congr rfl fun d _ => ?_
  have hl : lidx_main_v9 (ix3 b' (0 : Fin 1) f') d = ix3 b' (0 : Fin 1) d := by funext a; fin_cases a <;> rfl
  have hr : ridx_main_v9 (ix3 b' (0 : Fin 1) f') d = ix2 d ⟨f % 832, Nat.mod_lt _ (by decide)⟩ := by
    have hf : f'.val < 832 := f'.isLt
    have h2' : f'.val = f := h2
    funext a; fin_cases a
    · rfl
    · refine Fin.ext ?_; show f'.val = f % 832; omega
  rw [hl, hr, val_main_v8_apply, val_main_v6_apply, val_main_v5_apply, val_main_v4_apply, val_main_v3_apply, val_main_cst_apply,
    val_main_v7_apply]
  have e3 : idx_main_v3 (ix3 b' (0 : Fin 1) d) = ix2 b' d := by funext a; fin_cases a <;> rfl
  have e7 : idx_main_v7 (ix3 b' (0 : Fin 1) d) = ix2 b' d := by funext a; fin_cases a <;> rfl
  rw [e3, e7]
  show (x0 (ix3 b' (0 : Fin 1) d) * (Ideal.ofBits .f32 0x3F800000#32 + x2 (ix2 b' d)) + x1 (ix2 b' d)) * _ = _
  rw [one_f32]

theorem v10_at (i : S128x1x256.Idx) (b : Fin 128) (f : ℕ) (h0 : (i 0).val = b.val) (h2 : (i 2).val = f) :
    val_main_v10 (F := Ideal) x0 x1 x2 x3 i = zz x0 x1 x2 x3 b (512 + f) := by
  rw [val_main_v10_apply]
  exact v9_at x0 x1 x2 x3 _ b _ h0 (by show 512 + (i 2).val = _; omega)

/-- The latent, by row and channel. -/
theorem ckv_apply (r : Fin 128) (f : Fin 256) : val_main_v56 (F := Ideal) x0 x1 x2 x3 x5 (ix2 r f) = lat x0 x1 x2 x3 x5 r f := by
  have hr := r.isLt
  have hf := f.isLt
  have e : idx_main_v56 (ix2 r f) = ix3 r (0 : Fin 1) f := funext fun a => Fin.ext (match a with
    | ⟨0, _⟩ => by show (r.val * 256 + f.val) / 256 = r.val; omega
    | ⟨1, _⟩ => rfl
    | ⟨2, _⟩ => by show (r.val * 256 + f.val) % 256 = f.val; omega)
  rw [val_main_v56_apply, e, val_main_v23_apply, val_main_v20_apply, val_main_v19_apply, val_main_v18_apply, val_main_v17_apply,
    val_main_v16_apply, val_main_v15_apply, val_main_v14_apply, val_main_v13_apply, val_main_v12_apply, val_main_v22_apply,
    val_main_v21_apply, val_main_cst_0_apply, val_main_cst_1_apply, val_main_cst_2_apply]
  rw [v10_at x0 x1 x2 x3 _ r f.val (by rfl) (by rfl)]
  have es : (FloatOps.ofBits (F := Ideal) .f32 0x00000000#32 : EReal)
      + ∑ k : Fin 256, val_main_v11 (F := Ideal) x0 x1 x2 x3 (idx_main_v12 (idx_main_v13 (idx_main_v19 (ix3 r (0 : Fin 1) f))) k)
      = ∑ k : Fin 256, zz x0 x1 x2 x3 r (512 + k.val) * zz x0 x1 x2 x3 r (512 + k.val) := by
    rw [show (FloatOps.ofBits (F := Ideal) .f32 0x00000000#32 : EReal) = 0 from zero_f32, zero_add]
    refine Finset.sum_congr rfl fun k _ => ?_
    rw [val_main_v11_apply, v10_at x0 x1 x2 x3 _ r k.val (by rfl) (by rfl)]
    rfl
  rw [es]
  have e5 : idx_main_v21 (idx_main_v22 (ix3 r (0 : Fin 1) f)) = ix1 f := by funext a; fin_cases a; rfl
  rw [e5]
  rfl

theorem v25_at (i : S128x1x1x64.Idx) (b : Fin 128) (f : ℕ) (h0 : (i 0).val = b.val) (h3 : (i 3).val = f) :
    val_main_v25 (F := Ideal) x0 x1 x2 x3 i = zz x0 x1 x2 x3 b (768 + f) := by
  rw [val_main_v25_apply, val_main_v24_apply]
  exact v9_at x0 x1 x2 x3 _ b _ h0 (by show 768 + (i 3).val = _; omega)

theorem cos_at (i : S1x32.Idx) (f : ℕ) (h1 : (i 1).val = f % 32) :
    val_main_v37 (F := Ideal) i = cosT f := congrArg _ (funext fun a => Fin.ext (match a with
      | ⟨0, _⟩ => by have h : (i 0).val < 1 := (i 0).isLt; show (i 0).val = 0; omega
      | ⟨1, _⟩ => h1))

theorem sin_at (i : S1x32.Idx) (f : ℕ) (h1 : (i 1).val = f % 32) :
    val_main_v39 (F := Ideal) i = sinT f := congrArg _ (funext fun a => Fin.ext (match a with
      | ⟨0, _⟩ => by have h : (i 0).val < 1 := (i 0).isLt; show (i 0).val = 0; omega
      | ⟨1, _⟩ => h1))

theorem v54_at (b : Fin 128) (e : Fin 64) :
    val_main_v54 (F := Ideal) x0 x1 x2 x3 (ix4 b (0 : Fin 1) (0 : Fin 1) e) = rot x0 x1 x2 x3 b e.val := by
  have he := e.isLt
  unfold rot val_main_v54
  by_cases hc : e.val < 32
  · rw [if_pos hc]
    rw [concatenate_apply_piece (3 : Fin 4) _ _ (ix4 b (0 : Fin 1) (0 : Fin 1) e) 0 (by show 0 < 3; omega) S128x1x1x32 (val_main_v47 (F := Ideal) x0 x1 x2 x3) rfl rfl 0 rfl
      (ix4 b (0 : Fin 1) (0 : Fin 1) (⟨e.val, hc⟩ : Fin 32)) (fun a ha => by fin_cases a <;> first | rfl | exact absurd rfl ha) (by show 0 + e.val = e.val; omega)]
    rw [val_main_v47_apply, val_main_v44_apply, val_main_v46_apply, val_main_v41_apply, val_main_v42_apply, val_main_v43_apply,
      val_main_v45_apply, val_main_v38_apply, val_main_v40_apply]
    rw [v25_at x0 x1 x2 x3 _ b e.val (by rfl) (by rfl),
      v25_at x0 x1 x2 x3 _ b (e.val + 32) (by rfl) (by show 32 + e.val = _; omega),
      cos_at _ e.val (by show e.val = _; omega), sin_at _ e.val (by show e.val = _; omega)]
    rfl
  · rw [if_neg hc]
    rw [concatenate_apply_piece (3 : Fin 4) _ _ (ix4 b (0 : Fin 1) (0 : Fin 1) e) 1 (by show 1 < 3; omega) S128x1x1x32 (val_main_v52 (F := Ideal) x0 x1 x2 x3) rfl rfl 32 rfl
      (ix4 b (0 : Fin 1) (0 : Fin 1) (⟨e.val - 32, by omega⟩ : Fin 32)) (fun a ha => by fin_cases a <;> first | rfl | exact absurd rfl ha) (by show 32 + (e.val - 32) = e.val; omega)]
    rw [val_main_v52_apply, val_main_v49_apply, val_main_v51_apply, val_main_v41_apply, val_main_v42_apply, val_main_v48_apply,
      val_main_v50_apply, val_main_v38_apply, val_main_v40_apply]
    rw [v25_at x0 x1 x2 x3 _ b e.val (by rfl) (by show 32 + (e.val - 32) = _; omega),
      v25_at x0 x1 x2 x3 _ b (e.val - 32) (by rfl) (by rfl),
      cos_at _ e.val (by show e.val - 32 = _; omega), sin_at _ e.val (by show e.val - 32 = _; omega)]
    rfl

/-- The turned key, by row and channel. -/
theorem kpe_apply (r : Fin 128) (f : Fin 64) : val_main_v57 (F := Ideal) x0 x1 x2 x3 (ix2 r f) = rot x0 x1 x2 x3 r f.val := by
  have hr := r.isLt
  have hf := f.isLt
  have e : idx_main_v55 (idx_main_v57 (ix2 r f)) = ix4 r (0 : Fin 1) (0 : Fin 1) f := funext fun a => Fin.ext (match a with
    | ⟨0, _⟩ => by show (((r.val * 64 + f.val) / 64 * 1 + 0) * 64 + (r.val * 64 + f.val) % 64) / 64 = r.val; omega
    | ⟨1, _⟩ => rfl
    | ⟨2, _⟩ => rfl
    | ⟨3, _⟩ => by show (((r.val * 64 + f.val) / 64 * 1 + 0) * 64 + (r.val * 64 + f.val) % 64) % 64 = f.val; omega)
  rw [val_main_v57_apply, val_main_v55_apply, e, v54_at]

end

end Cert.LateIdeal.Spec

end
-- ==== Proof.Late.Value.lean ====
/- The latent projection's kernel, at the next token of each sampled sequence: what its one grid point writes into the latent
and the turned key is the plain projection. -/
module

public import Idealize.ShloMosaic.Lib.Pipeline.ReadBack
public import proofs.«01_k».proof.Proof.Late.Spec
public import proofs.«01_k».proof.Proof.Gen.LateIdeal.Value
public import Idealize.ShloMosaic.Lib.Claim
public import Idealize.ShloMosaic.Lib.KernelVsHost
public import Idealize.ShloMosaic.Lib.Pointwise
public import Idealize.ShloMosaic.Lib.Pipeline.ValueKit

@[expose] public section

set_option maxRecDepth 16384

noncomputable section

namespace Cert.LateIdeal.Ret

open Cert.LateIdeal Cert.LateIdeal.Gen
open Idealize.ShloMosaic Idealize.ShloMosaic.TcCoe Idealize.ShloMosaic.Tactic
open Idealize.SL Idealize.SL.Sem
open Idealize.ShloMosaic.Pipeline (Dat Cfg Window)

/-! ## The body, read by index -/

theorem pay_z (x : Vec Ideal S128x1024 .f32) (sc sh : Vec Ideal S1x128x1024 .f32) (w : Vec Ideal S1024x896 .bf16) (r : Fin 128) (f : Fin 896) :
    k0_pay5 x sc sh w (ix2 r f) = (∑ d : Fin 1024, (x (ix2 r d) * (1 + sc (ix3 0 r d)) + sh (ix3 0 r d)) * w (ix2 d f) : EReal) := by
  pointwise [k0_pay5]
  try simp only [Spec.one_f32]

theorem pay_s (x : Vec Ideal S128x1024 .f32) (sc sh : Vec Ideal S1x128x1024 .f32) (w : Vec Ideal S1024x896 .bf16) (r : Fin 128) (f : Fin 256) :
    k0_pay8 x sc sh w (ix2 r f) = Spec.inv (∑ k : Fin 256, (k0_pay7 x sc sh w (ix2 r k) * k0_pay7 x sc sh w (ix2 r k) : EReal)) := by
  unfold k0_pay8 Spec.inv
  generalize k0_pay7 x sc sh w = z
  pointwise
  try rfl

theorem pay_n (x : Vec Ideal S128x1024 .f32) (sc sh : Vec Ideal S1x128x1024 .f32) (w : Vec Ideal S1024x896 .bf16) (r : Fin 128) (f : Fin 256) :
    k0_pay7 x sc sh w (ix2 r f) = k0_pay5 x sc sh w (ix2 r (⟨512 + f.val, by have := f.isLt; omega⟩ : Fin 896)) := by
  unfold k0_pay7
  generalize k0_pay5 x sc sh w = z
  pointwise

theorem pay_c (z s : FVec Ideal S128x256 .f32) (g : Vec Ideal S1x256 .f32) (r : Fin 128) (f : Fin 256) :
    k0_pay9 z s g (ix2 r f) = (z (ix2 r f) * s (ix2 r f) * g (ix2 0 f) : EReal) := by
  pointwise [k0_pay9]

theorem pay_k (z : FVec Ideal S128x896 .f32) (tc ta tb : Vec Ideal S1x128 .f32) (r : Fin 128) (f : Fin 64) :
    k0_pay11 z tc ta tb (ix2 r f)
      = (z (ix2 r (⟨768 + f.val, by have := f.isLt; omega⟩ : Fin 896)) * tc (ix2 0 (⟨f.val, by have := f.isLt; omega⟩ : Fin 128))
          + z (ix2 r (⟨768 + (f.val + 128 - 96) % 128, by omega⟩ : Fin 896)) * ta (ix2 0 (⟨f.val, by have := f.isLt; omega⟩ : Fin 128))
          + z (ix2 r (⟨768 + (f.val + 128 - 32) % 128, by omega⟩ : Fin 896)) * tb (ix2 0 (⟨f.val, by have := f.isLt; omega⟩ : Fin 128)) : EReal) := by
  pointwise [k0_pay11, k0_pay10]

/-! ## The blocks: the whole arrays -/

theorem index_x : ∀ (t : Fin cfg0.N) (a : Fin S128x1024.rank), win0_0.index t a = 0 :=
  (by decide +kernel : ∀ (t : Fin grid0.N) (a : Fin S128x1024.rank), win0_0.index t a = 0)

theorem emb_x (t : Fin cfg0.N) (y : S128x1024.Idx) : (win0_0.rect t).emb y = y := funext fun a => Fin.ext (by
  refine (win0_0.rect_emb_val _ _ a).trans ?_
  rw [index_x t a, Nat.zero_mul, Nat.zero_add])

theorem index_sh : ∀ (t : Fin cfg0.N) (a : Fin S1x128x1024.rank), win0_1.index t a = 0 :=
  (by decide +kernel : ∀ (t : Fin grid0.N) (a : Fin S1x128x1024.rank), win0_1.index t a = 0)

theorem emb_sh (t : Fin cfg0.N) (y : S1x128x1024.Idx) : (win0_1.rect t).emb y = y := funext fun a => Fin.ext (by
  refine (win0_1.rect_emb_val _ _ a).trans ?_
  rw [index_sh t a, Nat.zero_mul, Nat.zero_add])

theorem index_sc : ∀ (t : Fin cfg0.N) (a : Fin S1x128x1024.rank), win0_2.index t a = 0 :=
  (by decide +kernel : ∀ (t : Fin grid0.N) (a : Fin S1x128x1024.rank), win0_2.index t a = 0)

theorem emb_sc (t : Fin cfg0.N) (y : S1x128x1024.Idx) : (win0_2.rect t).emb y = y := funext fun a => Fin.ext (by
  refine (win0_2.rect_emb_val _ _ a).trans ?_
  rw [index_sc t a, Nat.zero_mul, Nat.zero_add])

theorem index_w : ∀ (t : Fin cfg0.N) (a : Fin S1024x896.rank), win0_3.index t a = 0 :=
  (by decide +kernel : ∀ (t : Fin grid0.N) (a : Fin S1024x896.rank), win0_3.index t a = 0)

theorem emb_w (t : Fin cfg0.N) (y : S1024x896.Idx) : (win0_3.rect t).emb y = y := funext fun a => Fin.ext (by
  refine (win0_3.rect_emb_val _ _ a).trans ?_
  rw [index_w t a, Nat.zero_mul, Nat.zero_add])

theorem index_g : ∀ (t : Fin cfg0.N) (a : Fin S1x256.rank), win0_5.index t a = 0 :=
  (by decide +kernel : ∀ (t : Fin grid0.N) (a : Fin S1x256.rank), win0_5.index t a = 0)

theorem emb_g (t : Fin cfg0.N) (y : S1x256.Idx) : (win0_5.rect t).emb y = y := funext fun a => Fin.ext (by
  refine (win0_5.rect_emb_val _ _ a).trans ?_
  rw [index_g t a, Nat.zero_mul, Nat.zero_add])

theorem index_c : ∀ (t : Fin cfg0.N) (a : Fin S1x128.rank), win0_11.index t a = 0 :=
  (by decide +kernel : ∀ (t : Fin grid0.N) (a : Fin S1x128.rank), win0_11.index t a = 0)

theorem emb_c (t : Fin cfg0.N) (y : S1x128.Idx) : (win0_11.rect t).emb y = y := funext fun a => Fin.ext (by
  refine (win0_11.rect_emb_val _ _ a).trans ?_
  rw [index_c t a, Nat.zero_mul, Nat.zero_add])

theorem index_a : ∀ (t : Fin cfg0.N) (a : Fin S1x128.rank), win0_12.index t a = 0 :=
  (by decide +kernel : ∀ (t : Fin grid0.N) (a : Fin S1x128.rank), win0_12.index t a = 0)

theorem emb_a (t : Fin cfg0.N) (y : S1x128.Idx) : (win0_12.rect t).emb y = y := funext fun a => Fin.ext (by
  refine (win0_12.rect_emb_val _ _ a).trans ?_
  rw [index_a t a, Nat.zero_mul, Nat.zero_add])

theorem index_b : ∀ (t : Fin cfg0.N) (a : Fin S1x128.rank), win0_13.index t a = 0 :=
  (by decide +kernel : ∀ (t : Fin grid0.N) (a : Fin S1x128.rank), win0_13.index t a = 0)

theorem emb_b (t : Fin cfg0.N) (y : S1x128.Idx) : (win0_13.rect t).emb y = y := funext fun a => Fin.ext (by
  refine (win0_13.rect_emb_val _ _ a).trans ?_
  rw [index_b t a, Nat.zero_mul, Nat.zero_add])

theorem index_ckv : ∀ (t : Fin cfg0.N) (a : Fin S128x256.rank), win0_14.index t a = 0 :=
  (by decide +kernel : ∀ (t : Fin grid0.N) (a : Fin S128x256.rank), win0_14.index t a = 0)

theorem emb_ckv (t : Fin cfg0.N) (y : S128x256.Idx) : (win0_14.rect t).emb y = y := funext fun a => Fin.ext (by
  refine (win0_14.rect_emb_val _ _ a).trans ?_
  rw [index_ckv t a, Nat.zero_mul, Nat.zero_add])

theorem index_kpe : ∀ (t : Fin cfg0.N) (a : Fin S128x64.rank), win0_15.index t a = 0 :=
  (by decide +kernel : ∀ (t : Fin grid0.N) (a : Fin S128x64.rank), win0_15.index t a = 0)

theorem emb_kpe (t : Fin cfg0.N) (y : S128x64.Idx) : (win0_15.rect t).emb y = y := funext fun a => Fin.ext (by
  refine (win0_15.rect_emb_val _ _ a).trans ?_
  rw [index_kpe t a, Nat.zero_mul, Nat.zero_add])

/-! ## The launch's operands -/

section
variable {F : FTy → Type} [FloatOps F]

/-- One head's table, repeated once. -/
def tile (x : Vec F S1x128 .f32) : Vec F S1x128 .f32 :=
  shapeCast _ (broadcastInDim S1x1x1x128 ![0, 1, 2, 3] bcast_S1x1x1x128_S1x1x1x128_0_1_2_3 (shapeCast S1x1x1x128 x shapeCasts_S1x128_S1x1x1x128))
    shapeCasts_S1x1x1x128_S1x128

def catC (x : Vec F S1x32 .f32) : Vec F S1x128 .f32 :=
  concatenate S1x128 1 [⟨S1x32, x⟩, ⟨S1x32, x⟩, ⟨S1x64, broadcastInDim S1x64 ![] bcast_S_S1x64 (constant S_ .f32 0x3F800000#32)⟩]
    concatenates_S1x32_S1x32_S1x64_S1x128_d1
def catA (x : Vec F S1x32 .f32) : Vec F S1x128 .f32 :=
  concatenate S1x128 1 [⟨S1x32, Host.negf x⟩, ⟨S1x96, broadcastInDim S1x96 ![] bcast_S_S1x96 (constant S_ .f32 0x00000000#32)⟩]
    concatenates_S1x32_S1x96_S1x128_d1
def catB (x : Vec F S1x32 .f32) : Vec F S1x128 .f32 :=
  concatenate S1x128 1 [⟨S1x32, broadcastInDim S1x32 ![] bcast_S_S1x32 (constant S_ .f32 0x00000000#32)⟩, ⟨S1x32, x⟩,
    ⟨S1x64, broadcastInDim S1x64 ![] bcast_S_S1x64 (constant S_ .f32 0x00000000#32)⟩]
    concatenates_S1x32_S1x32_S1x64_S1x128_d1

variable (m : (ℓ : Loc nD τ sig) → Buf (Elt F) ℓ) (c : Dev nD)

theorem pos_eq : Cert.LateReferenceIdeal.Read.val_main_v2 (F := F) = Cert.LateReferenceIdeal.Read.val_main_v1 (F := F) := by
  funext i
  have h : (i 0).val = 0 := by have l : (i 0).val < 1 := (i 0).isLt; omega
  rw [Cert.LateReferenceIdeal.Read.val_main_v2_apply, Cert.LateReferenceIdeal.Read.val_main_v0_apply, h]
  rfl

theorem ang_eq : Cert.LateReferenceIdeal.Read.val_main_v36 (F := F)
    = mulf (broadcastInDim S1x32 ![0, 1] bcast_S1x1_S1x32_0_1 (broadcastInDim S1x1 ![0] bcast_S1_S1x1_0 (sitofp .f32 (Cert.LateReferenceIdeal.Read.val_main_v1 (F := F)))))
      (Cert.LateReferenceIdeal.Read.val_main_v34 (F := F)) := by
  unfold Cert.LateReferenceIdeal.Read.val_main_v36 Cert.LateReferenceIdeal.Read.val_main_v35 Cert.LateReferenceIdeal.Read.val_main_v33
    Cert.LateReferenceIdeal.Read.val_main_v32
  rw [pos_eq]

theorem V_x : (V m c main_v74 : Vec F S128x1024 .f32) = shapeCast _ (m ((c : Thread nD τ).loc main_arg0)) shapeCasts_S128x1x1024_S128x1024 := by
  unfold_abbrev_sides
  rfl

theorem V_sh : (V m c main_v75 : Vec F S1x128x1024 .f32)
    = broadcastInDim S1x128x1024 ![1, 2] bcast_S128x1024_S1x128x1024_1_2 (m ((c : Thread nD τ).loc main_arg1)) := by
  unfold_abbrev_sides
  after_results
  try rfl

theorem V_sc : (V m c main_v76 : Vec F S1x128x1024 .f32)
    = broadcastInDim S1x128x1024 ![1, 2] bcast_S128x1024_S1x128x1024_1_2 (m ((c : Thread nD τ).loc main_arg2)) := by
  unfold_abbrev_sides
  after_results
  try rfl

theorem V_w : (V m c main_v1 : Vec F S1024x896 .bf16)
    = truncf .bf16 (pad S1024x896 ![0, 0] ![0, 64] ![0, 0] (m ((c : Thread nD τ).loc main_arg3)) (sitofp .f32 (constantI S_ 32 0#32))
      pads_S1024x832_S1024x896_000_0640 h_S_) bitsLt_bf16_f32 := by
  unfold_abbrev_sides
  rfl

theorem V_g : (V m c main_v9 : Vec F S1x256 .f32) = broadcastInDim S1x256 ![1] bcast_S256_S1x256_1 (m ((c : Thread nD τ).loc main_arg5)) := by
  unfold_abbrev_sides
  after_results
  try rfl

set_option maxHeartbeats 2000000 in
theorem V_c : (V m c main_v67 : Vec F S1x128 .f32) = tile (catC (Cert.LateReferenceIdeal.Read.val_main_v37 (F := F))) := by
  unfold Cert.LateReferenceIdeal.Read.val_main_v37
  rw [ang_eq]
  unfold_abbrev_sides
  after_results
  rfl

theorem V_a : (V m c main_v70 : Vec F S1x128 .f32) = tile (catA (Cert.LateReferenceIdeal.Read.val_main_v39 (F := F))) := by
  unfold Cert.LateReferenceIdeal.Read.val_main_v39
  rw [ang_eq]
  unfold_abbrev_sides
  after_results
  rfl

set_option maxHeartbeats 2000000 in
theorem V_b : (V m c main_v73 : Vec F S1x128 .f32) = tile (catB (Cert.LateReferenceIdeal.Read.val_main_v39 (F := F))) := by
  unfold Cert.LateReferenceIdeal.Read.val_main_v39
  rw [ang_eq]
  unfold_abbrev_sides
  after_results
  rfl
end

theorem tile_apply (x : Vec Ideal S1x128 .f32) (f : Fin 128) : tile x (ix2 (0 : Fin 1) f) = x (ix2 (0 : Fin 1) f) := by
  unfold tile
  rw [shapeCast_apply _ shapeCasts_S1x1x1x128_S1x128 (ix2 (0 : Fin 1) f) (ix4 (0 : Fin 1) (0 : Fin 1) (0 : Fin 1) f) (by
    rewrite [Shape.rowMajor_val_four, Shape.rowMajor_val_two]
    show ((0 * 1 + 0) * 1 + 0) * 128 + f.val = 0 * 128 + f.val
    omega)]
  rw [broadcastInDim_apply _ bcast_S1x1x1x128_S1x1x1x128_0_1_2_3 _ _ (ix4 (0 : Fin 1) (0 : Fin 1) (0 : Fin 1) f) (fun a => match a with
    | ⟨0, _⟩ => by show 0 = if (1 : Nat) = 1 then 0 else 0; rfl
    | ⟨1, _⟩ => by show 0 = if (1 : Nat) = 1 then 0 else 0; rfl
    | ⟨2, _⟩ => by show 0 = if (1 : Nat) = 1 then 0 else 0; rfl
    | ⟨3, _⟩ => by show f.val = if (128 : Nat) = 1 then 0 else f.val; rw [if_neg (by decide)])]
  exact shapeCast_apply _ shapeCasts_S1x128_S1x1x1x128 _ (ix2 (0 : Fin 1) f) (by
    rewrite [Shape.rowMajor_val_four, Shape.rowMajor_val_two]
    show 0 * 128 + f.val = ((0 * 1 + 0) * 1 + 0) * 128 + f.val
    omega)

/-- The turned half's index of a channel. -/
abbrev hf (e : ℕ) : Fin 32 := ⟨e % 32, Nat.mod_lt _ (by decide)⟩

theorem catC_apply (x : Vec Ideal S1x32 .f32) (e : Fin 128) (he : e.val < 64) : catC x (ix2 (0 : Fin 1) e) = x (ix2 (0 : Fin 1) (hf e.val)) := by
  unfold catC
  by_cases h : e.val < 32
  · exact concatenate_apply_piece (1 : Fin 2) [⟨S1x32, x⟩, ⟨S1x32, x⟩, ⟨S1x64, (broadcastInDim S1x64 ![] bcast_S_S1x64 (constant (F := Ideal) S_ .f32 0x3F800000#32))⟩] _ (ix2 (0 : Fin 1) e) 0 (by show 0 < 3; omega) S1x32 x rfl rfl 0 rfl
      (ix2 (0 : Fin 1) (hf e.val)) (fun a ha => by fin_cases a <;> first | rfl | exact absurd rfl ha) (by show 0 + (e.val % 32) = e.val; omega)
  · exact concatenate_apply_piece (1 : Fin 2) [⟨S1x32, x⟩, ⟨S1x32, x⟩, ⟨S1x64, (broadcastInDim S1x64 ![] bcast_S_S1x64 (constant (F := Ideal) S_ .f32 0x3F800000#32))⟩] _ (ix2 (0 : Fin 1) e) 1 (by show 1 < 3; omega) S1x32 x rfl rfl 32 rfl
      (ix2 (0 : Fin 1) (hf e.val)) (fun a ha => by fin_cases a <;> first | rfl | exact absurd rfl ha) (by show 32 + (e.val % 32) = e.val; omega)

theorem catA_apply (x : Vec Ideal S1x32 .f32) (e : Fin 128) :
    catA x (ix2 (0 : Fin 1) e) = (if e.val < 32 then -x (ix2 (0 : Fin 1) (hf e.val)) else 0 : EReal) := by
  have he := e.isLt
  unfold catA
  by_cases h : e.val < 32
  · rw [if_pos h]
    exact (concatenate_apply_piece (1 : Fin 2) [⟨S1x32, Host.negf x⟩, ⟨S1x96, (broadcastInDim S1x96 ![] bcast_S_S1x96 (constant (F := Ideal) S_ .f32 0x00000000#32))⟩] _ (ix2 (0 : Fin 1) e) 0 (by show 0 < 2; omega) S1x32 (Host.negf x) rfl rfl 0 rfl
      (ix2 (0 : Fin 1) (hf e.val)) (fun a ha => by fin_cases a <;> first | rfl | exact absurd rfl ha) (by show 0 + (e.val % 32) = e.val; omega))
  · rw [if_neg h]
    refine (concatenate_apply_piece (1 : Fin 2) [⟨S1x32, Host.negf x⟩, ⟨S1x96, (broadcastInDim S1x96 ![] bcast_S_S1x96 (constant (F := Ideal) S_ .f32 0x00000000#32))⟩] _ (ix2 (0 : Fin 1) e) 1 (by show 1 < 2; omega) S1x96 (broadcastInDim S1x96 ![] bcast_S_S1x96 (constant (F := Ideal) S_ .f32 0x00000000#32)) rfl rfl 32 rfl
      (ix2 (0 : Fin 1) (⟨e.val - 32, by omega⟩ : Fin 96)) (fun a ha => by fin_cases a <;> first | rfl | exact absurd rfl ha)
      (by show 32 + (e.val - 32) = e.val; omega)).trans Spec.zero_f32

theorem catB_apply (x : Vec Ideal S1x32 .f32) (e : Fin 128) (he : e.val < 64) :
    catB x (ix2 (0 : Fin 1) e) = (if e.val < 32 then 0 else x (ix2 (0 : Fin 1) (hf e.val)) : EReal) := by
  unfold catB
  by_cases h : e.val < 32
  · rw [if_pos h]
    refine (concatenate_apply_piece (1 : Fin 2) [⟨S1x32, (broadcastInDim S1x32 ![] bcast_S_S1x32 (constant (F := Ideal) S_ .f32 0x00000000#32))⟩, ⟨S1x32, x⟩, ⟨S1x64, (broadcastInDim S1x64 ![] bcast_S_S1x64 (constant (F := Ideal) S_ .f32 0x00000000#32))⟩] _ (ix2 (0 : Fin 1) e) 0 (by show 0 < 3; omega) S1x32 (broadcastInDim S1x32 ![] bcast_S_S1x32 (constant (F := Ideal) S_ .f32 0x00000000#32)) rfl rfl 0 rfl
      (ix2 (0 : Fin 1) (hf e.val)) (fun a ha => by fin_cases a <;> first | rfl | exact absurd rfl ha) (by show 0 + (e.val % 32) = e.val; omega)).trans Spec.zero_f32
  · rw [if_neg h]
    exact concatenate_apply_piece (1 : Fin 2) [⟨S1x32, (broadcastInDim S1x32 ![] bcast_S_S1x32 (constant (F := Ideal) S_ .f32 0x00000000#32))⟩, ⟨S1x32, x⟩, ⟨S1x64, (broadcastInDim S1x64 ![] bcast_S_S1x64 (constant (F := Ideal) S_ .f32 0x00000000#32))⟩] _ (ix2 (0 : Fin 1) e) 1 (by show 1 < 3; omega) S1x32 x rfl rfl 32 rfl
      (ix2 (0 : Fin 1) (hf e.val)) (fun a ha => by fin_cases a <;> first | rfl | exact absurd rfl ha) (by show 32 + (e.val % 32) = e.val; omega)

variable (m : (ℓ : Loc nD τ sig) → Buf (Elt Ideal) ℓ) (c : Dev nD)

/-- The rows, the shift, the scale, the weights and the latent's gain. -/
abbrev arg0 : Vec Ideal S128x1x1024 .f32 := m ((c : Thread nD τ).loc main_arg0)
abbrev arg1 : Vec Ideal S128x1024 .f32 := m ((c : Thread nD τ).loc main_arg1)
abbrev arg2 : Vec Ideal S128x1024 .f32 := m ((c : Thread nD τ).loc main_arg2)
abbrev arg3 : Vec Ideal S1024x832 .f32 := m ((c : Thread nD τ).loc main_arg3)
abbrev arg5 : Vec Ideal S256 .f32 := m ((c : Thread nD τ).loc main_arg5)

theorem iblk_x (t : Fin cfg0.N) (r : Fin 128) (d : Fin 1024) :
    (iblk m c 0 t : Vec Ideal S128x1024 .f32) (ix2 r d) = arg0 m c (ix3 r 0 d) := by
  show (V m c main_v74 : Vec Ideal S128x1024 .f32) ((win0_0.rect t).emb (ix2 r d)) = _
  rw [emb_x, V_x]
  exact shapeCast_apply _ shapeCasts_S128x1x1024_S128x1024 _ (ix3 r (0 : Fin 1) d) (by
    rewrite [Shape.rowMajor_val_three, Shape.rowMajor_val_two]
    show (r.val * 1 + 0) * 1024 + d.val = r.val * 1024 + d.val
    omega)

theorem lift_apply (x : Vec Ideal S128x1024 .f32) (r : Fin 128) (d : Fin 1024) :
    broadcastInDim S1x128x1024 ![1, 2] bcast_S128x1024_S1x128x1024_1_2 x (ix3 (0 : Fin 1) r d) = x (ix2 r d) :=
  broadcastInDim_apply _ bcast_S128x1024_S1x128x1024_1_2 x _ (ix2 r d) (fun a => match a with
    | ⟨0, _⟩ => by show r.val = if (128 : Nat) = 1 then 0 else r.val; rw [if_neg (by decide)]
    | ⟨1, _⟩ => by show d.val = if (1024 : Nat) = 1 then 0 else d.val; rw [if_neg (by decide)])

theorem iblk_sh (t : Fin cfg0.N) (r : Fin 128) (d : Fin 1024) : (iblk m c 1 t : Vec Ideal S1x128x1024 .f32) (ix3 0 r d) = arg1 m c (ix2 r d) := by
  show (V m c main_v75 : Vec Ideal S1x128x1024 .f32) ((win0_1.rect t).emb (ix3 (0 : Fin 1) r d)) = _
  rw [emb_sh, V_sh, lift_apply]

theorem iblk_sc (t : Fin cfg0.N) (r : Fin 128) (d : Fin 1024) : (iblk m c 2 t : Vec Ideal S1x128x1024 .f32) (ix3 0 r d) = arg2 m c (ix2 r d) := by
  show (V m c main_v76 : Vec Ideal S1x128x1024 .f32) ((win0_2.rect t).emb (ix3 (0 : Fin 1) r d)) = _
  rw [emb_sc, V_sc, lift_apply]

/-- Within the weights' own columns the padding is not read. -/
theorem iblk_w (t : Fin cfg0.N) (d : Fin 1024) (f : Fin 896) (h : f.val < 832) :
    (iblk m c 3 t : Vec Ideal S1024x896 .bf16) (ix2 d f) = arg3 m c (ix2 d (⟨f.val % 832, Nat.mod_lt _ (by decide)⟩ : Fin 832)) := by
  show (V m c main_v1 : Vec Ideal S1024x896 .bf16) ((win0_3.rect t).emb (ix2 d f)) = _
  rw [emb_w, V_w]
  refine pad_apply_of_inside ![0, 0] ![0, 64] ![0, 0] (arg3 m c) _ pads_S1024x832_S1024x896_000_0640 h_S_ (ix2 d f) _ (fun a => ?_)
  match a with
  | ⟨0, _⟩ => show d.val = 0 + d.val * (0 + 1); omega
  | ⟨1, _⟩ => show f.val = 0 + f.val % 832 * (0 + 1); omega

theorem iblk_g (t : Fin cfg0.N) (f : Fin 256) : (iblk m c 5 t : Vec Ideal S1x256 .f32) (ix2 (0 : Fin 1) f) = arg5 m c (ix1 f) := by
  show (V m c main_v9 : Vec Ideal S1x256 .f32) ((win0_5.rect t).emb (ix2 (0 : Fin 1) f)) = _
  rw [emb_g, V_g]
  exact broadcastInDim_apply _ bcast_S256_S1x256_1 _ _ (ix1 f) (fun a => match a with
    | ⟨0, _⟩ => by show f.val = if (256 : Nat) = 1 then 0 else f.val; rw [if_neg (by decide)])

theorem iblk_c (t : Fin cfg0.N) (f : Fin 128) (h : f.val < 64) : (iblk m c 11 t : Vec Ideal S1x128 .f32) (ix2 (0 : Fin 1) f) = Spec.cosT f.val := by
  show (V m c main_v67 : Vec Ideal S1x128 .f32) ((win0_11.rect t).emb (ix2 (0 : Fin 1) f)) = _
  rw [emb_c, V_c, tile_apply, catC_apply _ f h]
  rfl

theorem iblk_a (t : Fin cfg0.N) (f : Fin 128) :
    (iblk m c 12 t : Vec Ideal S1x128 .f32) (ix2 (0 : Fin 1) f) = (if f.val < 32 then -Spec.sinT f.val else 0 : EReal) := by
  show (V m c main_v70 : Vec Ideal S1x128 .f32) ((win0_12.rect t).emb (ix2 (0 : Fin 1) f)) = _
  rw [emb_a, V_a, tile_apply, catA_apply]
  rfl

theorem iblk_b (t : Fin cfg0.N) (f : Fin 128) (h : f.val < 64) :
    (iblk m c 13 t : Vec Ideal S1x128 .f32) (ix2 (0 : Fin 1) f) = (if f.val < 32 then 0 else Spec.sinT f.val : EReal) := by
  show (V m c main_v73 : Vec Ideal S1x128 .f32) ((win0_13.rect t).emb (ix2 (0 : Fin 1) f)) = _
  rw [emb_b, V_b, tile_apply, catB_apply _ f h]
  rfl

/-! ## What the grid point writes -/

/-- The projected block. -/
abbrev zB (t : Fin cfg0.N) : FVec Ideal S128x896 .f32 := k0_pay5 (F := Ideal) (iblk m c 0 t) (iblk m c 2 t) (iblk m c 1 t) (iblk m c 3 t)

theorem z_at (t : Fin cfg0.N) (r : Fin 128) (f : Fin 896) (g : ℕ) (hg : f.val = g) (h : g < 832) :
    zB m c t (ix2 r f) = Spec.zz (arg0 m c) (arg1 m c) (arg2 m c) (arg3 m c) r g := by
  subst hg
  refine (pay_z _ _ _ _ r f).trans ?_
  unfold Spec.zz
  refine Finset.sum_congr rfl fun d _ => ?_
  rw [iblk_x, iblk_sc, iblk_sh, iblk_w m c t d f h]

theorem n_at (t : Fin cfg0.N) (r : Fin 128) (f : Fin 256) :
    k0_pay7 (F := Ideal) (iblk m c 0 t) (iblk m c 2 t) (iblk m c 1 t) (iblk m c 3 t) (ix2 r f)
      = Spec.zz (arg0 m c) (arg1 m c) (arg2 m c) (arg3 m c) r (512 + f.val) := by
  have h := f.isLt
  exact (pay_n _ _ _ _ r f).trans (z_at m c t r _ (512 + f.val) (by rfl) (by omega))

theorem outs_ckv (t : Fin cfg0.N) : (outsAt0 m c t).1
    = k0_pay9 (k0_pay7 (iblk m c 0 t) (iblk m c 2 t) (iblk m c 1 t) (iblk m c 3 t)) (k0_pay8 (iblk m c 0 t) (iblk m c 2 t) (iblk m c 1 t) (iblk m c 3 t)) (iblk m c 5 t) := by
  simp only [outsAt0]
  frame_out

theorem outs_kpe (t : Fin cfg0.N) : (outsAt0 m c t).2.1 = k0_pay11 (zB m c t) (iblk m c 11 t) (iblk m c 12 t) (iblk m c 13 t) := by
  simp only [outsAt0]
  frame_out

theorem ckv_at (t : Fin cfg0.N) (r : Fin 128) (f : Fin 256) :
    (outsAt0 m c t).1 (ix2 r f) = Spec.lat (arg0 m c) (arg1 m c) (arg2 m c) (arg3 m c) (arg5 m c) r f := by
  rw [outs_ckv]
  refine (pay_c _ _ _ r f).trans ?_
  rw [pay_s, n_at, iblk_g]
  unfold Spec.lat
  simp only [n_at]

theorem kpe_at (t : Fin cfg0.N) (r : Fin 128) (f : Fin 64) :
    (outsAt0 m c t).2.1 (ix2 r f) = Spec.rot (arg0 m c) (arg1 m c) (arg2 m c) (arg3 m c) r f.val := by
  have h := f.isLt
  rw [outs_kpe]
  refine (pay_k _ _ _ _ r f).trans ?_
  rw [iblk_c m c t _ (by show f.val < 64; omega), iblk_a, iblk_b m c t _ (by show f.val < 64; omega), z_at m c t r _ (768 + f.val) (by rfl) (by omega)]
  unfold Spec.rot
  by_cases h' : f.val < 32
  · rw [if_pos h', if_pos h', if_pos h',
      z_at m c t r _ (768 + (f.val + 32)) (by show 768 + (f.val + 128 - 96) % 128 = _; omega) (by omega)]
    rw [mul_zero, add_zero, mul_neg, sub_eq_add_neg]
  · rw [if_neg h', if_neg h', if_neg h',
      z_at m c t r (⟨768 + (f.val + 128 - 32) % 128, by omega⟩ : Fin 896) (768 + (f.val - 32)) (by show 768 + (f.val + 128 - 32) % 128 = _; omega) (by omega)]
    rw [mul_zero, add_zero]

/-- The results. -/
def ckvArr : Vec Ideal S128x256 .f32 := Cert.LateReferenceIdeal.Read.val_main_v56 (F := Ideal) (arg0 m c) (arg1 m c) (arg2 m c) (arg3 m c) (arg5 m c)
def kpeArr : Vec Ideal S128x64 .f32 := Cert.LateReferenceIdeal.Read.val_main_v57 (F := Ideal) (arg0 m c) (arg1 m c) (arg2 m c) (arg3 m c)

theorem flushed_ckv (t : Fin cfg0.N) (hf : (cfg0.win 14).flush t = true) :
    (dats m 0 c).flushed 14 t = ((cfg0.win 14).blk t).view.read (Elt Ideal) (ckvArr m c) := by
  rw [Value.flushed14]
  funext y
  obtain ⟨r, f, rfl⟩ : ∃ (r : Fin 128) (f : Fin 256), y = ix2 r f := ⟨y 0, y 1, by
    funext a
    fin_cases a <;> rfl⟩
  show ((outsAt0 m c t).1 : Vec Ideal S128x256 .f32) (ix2 r f) = ckvArr m c ((win0_14.rect t).emb (ix2 r f))
  rw [emb_ckv, ckv_at]
  exact (Spec.ckv_apply (arg0 m c) (arg1 m c) (arg2 m c) (arg3 m c) (arg5 m c) r f).symm

theorem flushed_kpe (t : Fin cfg0.N) (hf : (cfg0.win 15).flush t = true) :
    (dats m 0 c).flushed 15 t = ((cfg0.win 15).blk t).view.read (Elt Ideal) (kpeArr m c) := by
  rw [Value.flushed15]
  funext y
  obtain ⟨r, f, rfl⟩ : ∃ (r : Fin 128) (f : Fin 64), y = ix2 r f := ⟨y 0, y 1, by
    funext a
    fin_cases a <;> rfl⟩
  show ((outsAt0 m c t).2.1 : Vec Ideal S128x64 .f32) (ix2 r f) = kpeArr m c ((win0_15.rect t).emb (ix2 r f))
  rw [emb_kpe, kpe_at]
  exact (Spec.kpe_apply (arg0 m c) (arg1 m c) (arg2 m c) (arg3 m c) r f).symm

theorem cover_ckv (i : S128x256.Idx) : ∃ t : Fin cfg0.N, (cfg0.win 14).flush t = true ∧ i ∈ ((cfg0.win 14).blk t).view.set := by
  have hlt : 0 < cfg0.N := by show _ < 1; omega
  refine ⟨⟨0, hlt⟩, flush0_14 _, ?_⟩
  have e : ((cfg0.win 14).blk ⟨0, hlt⟩).view.emb i = i := emb_ckv ⟨0, hlt⟩ i
  exact Eq.subst (motive := fun z => z ∈ ((cfg0.win 14).blk ⟨0, hlt⟩).view.set) e (View.emb_mem_set _ _)

theorem cover_kpe (i : S128x64.Idx) : ∃ t : Fin cfg0.N, (cfg0.win 15).flush t = true ∧ i ∈ ((cfg0.win 15).blk t).view.set := by
  have hlt : 0 < cfg0.N := by show _ < 1; omega
  refine ⟨⟨0, hlt⟩, flush0_15 _, ?_⟩
  have e : ((cfg0.win 15).blk ⟨0, hlt⟩).view.emb i = i := emb_kpe ⟨0, hlt⟩ i
  exact Eq.subst (motive := fun z => z ∈ ((cfg0.win 15).blk ⟨0, hlt⟩).view.set) e (View.emb_mem_set _ _)

theorem result_ckv : (dats m 0 c).arrAt 14 cfg0.N = ckvArr m c := (dats m 0 c).arrAt_eq_of_cover 14 (ckvArr m c) (flushed_ckv m c) cover_ckv
theorem result_kpe : (dats m 0 c).arrAt 15 cfg0.N = kpeArr m c := (dats m 0 c).arrAt_eq_of_cover 15 (kpeArr m c) (flushed_kpe m c) cover_kpe

/-- The program's run: the plain projection's latent and turned key, its arguments kept. -/
theorem run_value (ρ : Dev nD → PrngReg) :
    θ_run defs (onTc (τ := τ) (main (F := Ideal))) ⟨m, fun _ => 0, ρ⟩ (fun r => ∀ c : Dev nD,
      r.2.mem ((c : Thread nD τ).loc main_v77_0) = ckvArr m c
      ∧ r.2.mem ((c : Thread nD τ).loc main_v77_1) = kpeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1.trans (result_ckv m c), (h c).2.1.trans (result_kpe m c), (h c).2.2.2.2.2⟩) (Value.run_blocks m ρ)

end Cert.LateIdeal.Ret

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Chunks
public import proofs.«01_k».proof.Proof.Gen.Chunks.Skeleton
public import proofs.«01_k».proof.Proof.Gen.Chunks.Launch
public import proofs.«01_k».proof.Proof.Gen.Chunks.Points
public import proofs.«01_k».proof.Proof.Gen.Chunks.Frame
public import proofs.«01_k».proof.Proof.Gen.ChunksIdeal
public import proofs.«01_k».proof.Proof.Gen.ChunksIdeal.Skeleton
public import proofs.«01_k».proof.Proof.Gen.ChunksIdeal.Launch
public import proofs.«01_k».proof.Proof.Gen.ChunksIdeal.Points
public import proofs.«01_k».proof.Proof.Gen.ChunksIdeal.Frame
public import proofs.«01_k».proof.Proof.Gen.ChunksIdeal.Value
public import proofs.«01_k».proof.Proof.Gen.ChunksReferenceIdeal
public import proofs.«01_k».proof.Proof.Gen.ChunksReferenceIdeal.Run
public import proofs.«01_k».proof.Proof.Gen.ChunksReferenceIdeal.Step
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepReferenceIdeal
public import proofs.«01_k».proof.Proof.Gen.StepReferenceIdeal.Run
public import proofs.«01_k».proof.Proof.Gen.StepReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaIdeal.Value
public import proofs.«01_k».proof.Proof.Gen.MobaReferenceIdeal
public import proofs.«01_k».proof.Proof.Gen.MobaReferenceIdeal.Run
public import proofs.«01_k».proof.Proof.Gen.MobaReferenceIdeal.Read
public import proofs.«01_k».proof.Proof.Gen.Samp
public import proofs.«01_k».proof.Proof.Gen.Samp.Skeleton
public import proofs.«01_k».proof.Proof.Gen.Samp.Launch
public import proofs.«01_k».proof.Proof.Gen.Samp.Points
public import proofs.«01_k».proof.Proof.Gen.Samp.Frame
public import proofs.«01_k».proof.Proof.Gen.SampIdeal
public import proofs.«01_k».proof.Proof.Gen.SampIdeal.Skeleton
public import proofs.«01_k».proof.Proof.Gen.SampIdeal.Launch
public import proofs.«01_k».proof.Proof.Gen.SampIdeal.Points
public import proofs.«01_k».proof.Proof.Gen.SampIdeal.Frame
public import proofs.«01_k».proof.Proof.Gen.SampIdeal.Value
public import proofs.«01_k».proof.Proof.Gen.SampReferenceIdeal
public import proofs.«01_k».proof.Proof.Gen.SampReferenceIdeal.Run
public import proofs.«01_k».proof.Proof.Gen.SampReferenceIdeal.Read
public import proofs.«01_k».proof.Proof.Gen.Late
public import proofs.«01_k».proof.Proof.Gen.Late.Skeleton
public import proofs.«01_k».proof.Proof.Gen.Late.Launch
public import proofs.«01_k».proof.Proof.Gen.Late.Points
public import proofs.«01_k».proof.Proof.Gen.Late.Frame
public import proofs.«01_k».proof.Proof.Gen.LateIdeal
public import proofs.«01_k».proof.Proof.Gen.LateIdeal.Skeleton
public import proofs.«01_k».proof.Proof.Gen.LateIdeal.Launch
public import proofs.«01_k».proof.Proof.Gen.LateIdeal.Points
public import proofs.«01_k».proof.Proof.Gen.LateIdeal.Frame
public import proofs.«01_k».proof.Proof.Gen.LateIdeal.Value
public import proofs.«01_k».proof.Proof.Gen.LateReferenceIdeal
public import proofs.«01_k».proof.Proof.Gen.LateReferenceIdeal.Run
public import proofs.«01_k».proof.Proof.Gen.LateReferenceIdeal.Read
public import proofs.«01_k».proof.Proof.Ideal.Frame
public import proofs.«01_k».proof.Proof.Ideal.Result
public import proofs.«01_k».proof.Proof.Bits.Frame
public import proofs.«01_k».proof.Proof.Chunks.Trips
public import proofs.«01_k».proof.Proof.Chunks.Value
public import proofs.«01_k».proof.Proof.Step.Value
public import proofs.«01_k».proof.Proof.Proj.Value
public import proofs.«01_k».proof.Proof.Moba.Value
public import proofs.«01_k».proof.Proof.Samp.Value
public import proofs.«01_k».proof.Proof.Late.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to its end, leaves its arguments as they were and every semaphore at zero. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The side conditions of the precondition's broadcasts. -/
theorem pre_facts : Cert.Pre_finite.Facts := ⟨by decide, by decide, by decide, by decide⟩

/-- On arguments that are numbers the kernel's result is the plain program's. -/
theorem value : Cert.algebraic_KernelIdeal_ReferenceIdeal_pre_finite
    (hKernelIdeal := Cert.KernelIdeal.Gen.facts) (hReferenceIdeal := Cert.ReferenceIdeal.Gen.facts) (hPre_finite := pre_facts) := by
  intro m g m' g' hpre hargs
  refine ⟨fun c => Cert.KernelIdeal.Flash.attnOut m c, Cert.KernelIdeal.Flash.run_value m g fun c => ?_, ?_⟩
  · obtain ⟨h0, h1, h2, h3⟩ := hpre c
    exact Cert.KernelIdeal.Flash.realScores m c (Cert.KernelIdeal.Flash.isReal_of_lt _ _ h0)
      (Cert.KernelIdeal.Flash.isReal_of_lt _ _ h1) (Cert.KernelIdeal.Flash.isReal_of_lt _ _ h2)
      (Cert.KernelIdeal.Flash.isReal_of_lt _ _ h3)
  · refine (θ_run Cert.ReferenceIdeal.defs _ _).mono (fun r h c => ⟨(h c).1.trans ?_, (h c).2⟩)
      (Cert.ReferenceIdeal.Value.run (F := Ideal) m' g')
    obtain ⟨a0, a1, a2, a3⟩ := hargs c
    rw [Cert.ReferenceIdeal.Read.val_main_v28_eq, a0, a1, a2, a3]
    rfl

/-- The scan over the chunks: its reference's run, with the states the scan goes through. -/
theorem run_cri (m : (ℓ : Loc Cert.ChunksReferenceIdeal.nD Cert.ChunksReferenceIdeal.τ Cert.ChunksReferenceIdeal.sig) → Buf (Elt Ideal) ℓ)
    (ρ : Dev Cert.ChunksReferenceIdeal.nD → PrngReg) :
    θ_run (Cert.ChunksReferenceIdeal.defs (F := Ideal)) (onTc (τ := Cert.ChunksReferenceIdeal.τ) (Cert.ChunksReferenceIdeal.main (F := Ideal)))
      ⟨m, fun _ => 0, ρ⟩ fun r => ∀ c : Dev Cert.ChunksReferenceIdeal.nD,
      r.2.mem ((c.tc : Thread Cert.ChunksReferenceIdeal.nD Cert.ChunksReferenceIdeal.τ).loc Cert.ChunksReferenceIdeal.main_v16)
        = Cert.ChunksReferenceIdeal.Step.R_main_v16 (Cert.ChunksIdeal.Spec.itr
            (m ((c.tc : Thread Cert.ChunksReferenceIdeal.nD Cert.ChunksReferenceIdeal.τ).loc Cert.ChunksReferenceIdeal.main_arg0)) 64)
      ∧ r.2.mem ((c.tc : Thread Cert.ChunksReferenceIdeal.nD Cert.ChunksReferenceIdeal.τ).loc Cert.ChunksReferenceIdeal.main_v14_4)
        = (Cert.ChunksIdeal.Spec.itr
            (m ((c.tc : Thread Cert.ChunksReferenceIdeal.nD Cert.ChunksReferenceIdeal.τ).loc Cert.ChunksReferenceIdeal.main_arg0)) 64).main_v14_4
      ∧ r.2.mem ((c.tc : Thread Cert.ChunksReferenceIdeal.nD Cert.ChunksReferenceIdeal.τ).loc Cert.ChunksReferenceIdeal.main_arg0)
        = m ((c.tc : Thread Cert.ChunksReferenceIdeal.nD Cert.ChunksReferenceIdeal.τ).loc Cert.ChunksReferenceIdeal.main_arg0) :=
  Cert.ChunksReferenceIdeal.Trips.run_iter (F := Ideal) m ρ
    (fun c n => Cert.ChunksIdeal.Spec.itr (m ((c.tc : Thread Cert.ChunksReferenceIdeal.nD Cert.ChunksReferenceIdeal.τ).loc Cert.ChunksReferenceIdeal.main_arg0)) n)
    (fun _ => rfl) (fun _ _ => rfl)

/-- The scan's reference runs to its end, leaves its argument as it was and every semaphore at zero. -/
theorem frame_cri : Cert.quiescent_ChunksReferenceIdeal := fun m ρ _ =>
  (θ_run Cert.ChunksReferenceIdeal.defs _ _).mono
    (fun r h => ⟨fun c => (h c).2.2, Idealize.ShloMosaic.sem_eq_zero_of_no_sems (by decide) r.2⟩)
    (run_cri m ρ)

/-- The chunks' output and last state are the plain scan's. -/
theorem value_chunks : Cert.algebraic_ChunksIdeal_ChunksReferenceIdeal
    (hChunksIdeal := Cert.ChunksIdeal.Gen.facts) (hChunksReferenceIdeal := Cert.ChunksReferenceIdeal.Gen.facts) := by
  intro m g m' g' _ hargs
  refine ⟨fun c => Cert.ChunksIdeal.Ret.outArr m c, fun c => Cert.ChunksIdeal.Ret.stateArr m c,
    Cert.ChunksIdeal.Ret.run_value m g, ?_⟩
  refine (θ_run Cert.ChunksReferenceIdeal.defs _ _).mono
    (fun r h c => ⟨(h c).1.trans ?_, (h c).2.1.trans ?_, (h c).2.2⟩) (run_cri m' g')
  · exact congrArg (fun z => Cert.ChunksReferenceIdeal.Step.R_main_v16 (Cert.ChunksIdeal.Spec.itr z 64)) (hargs c)
  · exact congrArg (fun z => (Cert.ChunksIdeal.Spec.itr z 64).main_v14_4) (hargs c)

/-- The retention step's reference runs to its end, leaves its arguments as they were and every semaphore at zero. -/
theorem frame_tri : Cert.quiescent_StepReferenceIdeal := fun m ρ _ =>
  (θ_run Cert.StepReferenceIdeal.defs _ _).mono
    (fun r h => ⟨fun c => (h c).2.2, Idealize.ShloMosaic.sem_eq_zero_of_no_sems (by decide) r.2⟩)
    (Cert.StepReferenceIdeal.Value.run (F := Ideal) m ρ)

/-- The retention step's output and new state are the plain program's. -/
theorem value_step : Cert.algebraic_StepIdeal_StepReferenceIdeal
    (hStepIdeal := Cert.StepIdeal.Gen.facts) (hStepReferenceIdeal := Cert.StepReferenceIdeal.Gen.facts) := by
  intro m g m' g' _ hargs
  refine ⟨fun c => Cert.StepIdeal.Ret.outArr m c, fun c => Cert.StepIdeal.Ret.stateArr m c,
    Cert.StepIdeal.Ret.run_value m g, ?_⟩
  refine (θ_run Cert.StepReferenceIdeal.defs _ _).mono
    (fun r h c => ⟨(h c).1.trans ?_, (h c).2.1.trans ?_, (h c).2.2⟩)
    (Cert.StepReferenceIdeal.Value.run (F := Ideal) m' g')
  · obtain ⟨a0, a1⟩ := hargs c
    rw [Cert.StepReferenceIdeal.Read.val_main_v65_eq, a0, a1]
    rfl
  · obtain ⟨a0, a1⟩ := hargs c
    rw [Cert.StepReferenceIdeal.Read.val_main_v64_eq, a0, a1]
    rfl

/-- The projection's reference runs to its end, leaves its arguments as they were and every semaphore at zero. -/
theorem frame_jri : Cert.quiescent_ProjReferenceIdeal := fun m ρ _ =>
  (θ_run Cert.ProjReferenceIdeal.defs _ _).mono
    (fun r h => ⟨fun c => (h c).2, Idealize.ShloMosaic.sem_eq_zero_of_no_sems (by decide) r.2⟩)
    (Cert.ProjReferenceIdeal.Value.run (F := Ideal) m ρ)

/-- The projection's queries, keys, values and gate are the plain program's. -/
theorem value_proj : Cert.algebraic_ProjIdeal_ProjReferenceIdeal
    (hProjIdeal := Cert.ProjIdeal.Gen.facts) (hProjReferenceIdeal := Cert.ProjReferenceIdeal.Gen.facts) := by
  intro m g m' g' _ hargs
  refine ⟨fun c => Cert.ProjIdeal.Ret.outArr m c, Cert.ProjIdeal.Ret.run_value m g, ?_⟩
  refine (θ_run Cert.ProjReferenceIdeal.defs _ _).mono (fun r h c => ⟨(h c).1.trans ?_, (h c).2⟩)
    (Cert.ProjReferenceIdeal.Value.run (F := Ideal) m' g')
  obtain ⟨a0, a1, a2, a3⟩ := hargs c
  rw [Cert.ProjReferenceIdeal.Read.val_main_v78_eq, a0, a1, a2, a3]
  rfl

/-- The block-sparse projection's reference runs to its end, leaves its arguments as they were and every semaphore at zero. -/
theorem frame_mri : Cert.quiescent_MobaReferenceIdeal := fun m ρ _ =>
  (θ_run Cert.MobaReferenceIdeal.defs _ _).mono
    (fun r h => ⟨fun c => (h c).2.2.2.2.2.2, Idealize.ShloMosaic.sem_eq_zero_of_no_sems (by decide) r.2⟩)
    (Cert.MobaReferenceIdeal.Value.run (F := Ideal) m ρ)

/-- The block-sparse projection's queries, keys, values and blocks' means are the plain program's. -/
theorem value_moba : Cert.algebraic_MobaIdeal_MobaReferenceIdeal
    (hMobaIdeal := Cert.MobaIdeal.Gen.facts) (hMobaReferenceIdeal := Cert.MobaReferenceIdeal.Gen.facts) := by
  intro m g m' g' _ hargs
  refine ⟨fun c => Cert.MobaIdeal.Ret.qArr m c, fun c => Cert.MobaIdeal.Ret.kArr m c, fun c => Cert.MobaIdeal.Ret.vArr m c, fun c => Cert.MobaIdeal.Ret.kbArr m c, fun c => Cert.MobaIdeal.Ret.vtArr m c, fun c => Cert.MobaIdeal.Ret.kmArr m c,
    Cert.MobaIdeal.Ret.run_value m g, ?_⟩
  refine (θ_run Cert.MobaReferenceIdeal.defs _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.MobaReferenceIdeal.Value.run (F := Ideal) m' g')
  · obtain ⟨a0, a1, a2, a3⟩ := hargs c
    rw [Cert.MobaReferenceIdeal.Read.val_main_v83_eq, a0, a1, a2, a3]
    rfl
  · obtain ⟨a0, a1, a2, a3⟩ := hargs c
    rw [Cert.MobaReferenceIdeal.Read.val_main_v80_eq, a0, a1, a2, a3]
    rfl
  · obtain ⟨a0, a1, a2, a3⟩ := hargs c
    rw [Cert.MobaReferenceIdeal.Read.val_main_v81_eq, a0, a1, a2, a3]
    rfl
  · obtain ⟨a0, a1, a2, a3⟩ := hargs c
    rw [Cert.MobaReferenceIdeal.Read.val_main_v84_eq, a0, a1, a2, a3]
    rfl
  · obtain ⟨a0, a1, a2, a3⟩ := hargs c
    rw [Cert.MobaReferenceIdeal.Read.val_main_v86_eq, a0, a1, a2, a3]
    rfl
  · obtain ⟨a0, a1, a2, a3⟩ := hargs c
    rw [Cert.MobaReferenceIdeal.Read.val_main_v87_eq, a0, a1, a2, a3]
    rfl

/-- The sampled sequences' block-sparse projection's reference runs to its end, leaves its arguments as they were and every
semaphore at zero. -/
theorem frame_nri : Cert.quiescent_SampReferenceIdeal := fun m ρ _ =>
  (θ_run Cert.SampReferenceIdeal.defs _ _).mono
    (fun r h => ⟨fun c => (h c).2.2.2, Idealize.ShloMosaic.sem_eq_zero_of_no_sems (by decide) r.2⟩)
    (Cert.SampReferenceIdeal.Value.run (F := Ideal) m ρ)

/-- The sampled sequences' queries, keys and values are the plain program's. -/
theorem value_samp : Cert.algebraic_SampIdeal_SampReferenceIdeal
    (hSampIdeal := Cert.SampIdeal.Gen.facts) (hSampReferenceIdeal := Cert.SampReferenceIdeal.Gen.facts) := by
  intro m g m' g' _ hargs
  refine ⟨fun c => Cert.SampIdeal.Ret.qArr m c, fun c => Cert.SampIdeal.Ret.kArr m c, fun c => Cert.SampIdeal.Ret.vArr m c,
    Cert.SampIdeal.Ret.run_value m g, ?_⟩
  refine (θ_run Cert.SampReferenceIdeal.defs _ _).mono
    (fun r h c => ⟨(h c).1.trans ?_, (h c).2.1.trans ?_, (h c).2.2.1.trans ?_, (h c).2.2.2⟩)
    (Cert.SampReferenceIdeal.Value.run (F := Ideal) m' g')
  · obtain ⟨a0, a1, a2, a3⟩ := hargs c
    rw [Cert.SampReferenceIdeal.Read.val_main_v76_eq, a0, a1, a2, a3]
    rfl
  · obtain ⟨a0, a1, a2, a3⟩ := hargs c
    rw [Cert.SampReferenceIdeal.Read.val_main_v77_eq, a0, a1, a2, a3]
    rfl
  · obtain ⟨a0, a1, a2, a3⟩ := hargs c
    rw [Cert.SampReferenceIdeal.Read.val_main_v78_eq, a0, a1, a2, a3]
    rfl

/-- The sampled sequences' latent projection's reference runs to its end, leaves its arguments as they were and every
semaphore at zero. -/
theorem frame_lri : Cert.quiescent_LateReferenceIdeal := fun m ρ _ =>
  (θ_run Cert.LateReferenceIdeal.defs _ _).mono
    (fun r h => ⟨fun c => (h c).2.2, Idealize.ShloMosaic.sem_eq_zero_of_no_sems (by decide) r.2⟩)
    (Cert.LateReferenceIdeal.Value.run (F := Ideal) m ρ)

/-- The sampled sequences' latent and turned key are the plain program's. -/
theorem value_late : Cert.algebraic_LateIdeal_LateReferenceIdeal
    (hLateIdeal := Cert.LateIdeal.Gen.facts) (hLateReferenceIdeal := Cert.LateReferenceIdeal.Gen.facts) := by
  intro m g m' g' _ hargs
  refine ⟨fun c => Cert.LateIdeal.Ret.ckvArr m c, fun c => Cert.LateIdeal.Ret.kpeArr m c, Cert.LateIdeal.Ret.run_value m g, ?_⟩
  refine (θ_run Cert.LateReferenceIdeal.defs _ _).mono
    (fun r h c => ⟨(h c).1.trans ?_, (h c).2.1.trans ?_, (h c).2.2⟩)
    (Cert.LateReferenceIdeal.Value.run (F := Ideal) m' g')
  · obtain ⟨a0, a1, a2, a3, a4, a5, a6, a7⟩ := hargs c
    rw [Cert.LateReferenceIdeal.Read.val_main_v56_eq, a0, a1, a2, a3, a5]
    rfl
  · obtain ⟨a0, a1, a2, a3, a4, a5, a6, a7⟩ := hargs c
    rw [Cert.LateReferenceIdeal.Read.val_main_v57_eq, a0, a1, a2, a3]
    rfl

theorem claim : Cert.Claim := ⟨Cert.Kernel.Gen.facts, Cert.KernelIdeal.Gen.facts, Cert.ReferenceIdeal.Gen.facts,
  Cert.Chunks.Gen.facts, Cert.ChunksIdeal.Gen.facts, Cert.ChunksReferenceIdeal.Gen.facts,
  Cert.Step.Gen.facts, Cert.StepIdeal.Gen.facts, Cert.StepReferenceIdeal.Gen.facts,
  Cert.Proj.Gen.facts, Cert.ProjIdeal.Gen.facts, Cert.ProjReferenceIdeal.Gen.facts,
  Cert.Moba.Gen.facts, Cert.MobaIdeal.Gen.facts, Cert.MobaReferenceIdeal.Gen.facts,
  Cert.Samp.Gen.facts, Cert.SampIdeal.Gen.facts, Cert.SampReferenceIdeal.Gen.facts,
  Cert.Late.Gen.facts, Cert.LateIdeal.Gen.facts, Cert.LateReferenceIdeal.Gen.facts, pre_facts,
  fun m g _ => Cert.Kernel.Flash.frame m g,
  fun m g _ => Cert.KernelIdeal.Flash.frame m g,
  fun m g _ => Cert.KernelIdeal.Flash.frame m g,
  frame_ri,
  fun m g _ => frame_ri m g trivial,
  fun m g _ => Cert.Chunks.Gen.frame m g,
  fun m g _ => Cert.ChunksIdeal.Gen.frame m g,
  frame_cri,
  fun m g _ => Cert.Step.Gen.frame m g,
  fun m g _ => Cert.StepIdeal.Gen.frame m g,
  frame_tri,
  fun m g _ => Cert.Proj.Gen.frame m g,
  fun m g _ => Cert.ProjIdeal.Gen.frame m g,
  frame_jri,
  fun m g _ => Cert.Moba.Gen.frame m g,
  fun m g _ => Cert.MobaIdeal.Gen.frame m g,
  frame_mri,
  fun m g _ => Cert.Samp.Gen.frame m g,
  fun m g _ => Cert.SampIdeal.Gen.frame m g,
  frame_nri,
  fun m g _ => Cert.Late.Gen.frame m g,
  fun m g _ => Cert.LateIdeal.Gen.frame m g,
  frame_lri,
  IdealRules.named_const.statement Cert.KernelIdeal.κ "mask" .f32 0xF149F2CA#32 ⊥ rfl,
  value,
  trivial,
  value_chunks,
  trivial,
  value_step,
  trivial,
  value_proj,
  trivial,
  value_moba,
  trivial,
  value_samp,
  trivial,
  value_late⟩

end Cert.Proof

end
